-- ==== Defs.lean ====
def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mixin [hPre_finite_mixin : Cert.Pre_finite_mixin.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mixin [hPre_finite_mixin : Cert.Pre_finite_mixin.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_XattnBwd (m : (ℓ : Loc Cert.XattnBwd.nD Cert.XattnBwd.τ Cert.XattnBwd.sig) → Buf (Elt Bits) ℓ) : Prop :=
  True

def Pre_XattnBwdIdeal (m : (ℓ : Loc Cert.XattnBwdIdeal.nD Cert.XattnBwdIdeal.τ Cert.XattnBwdIdeal.sig) → Buf (Elt Ideal) ℓ) : Prop :=
  True

def Pre_XattnBwdIdeal_finite_xattn [hPre_finite_xattn : Cert.Pre_finite_xattn.Facts] (m : (ℓ : Loc Cert.XattnBwdIdeal.nD Cert.XattnBwdIdeal.τ Cert.XattnBwdIdeal.sig) → Buf (Elt Ideal) ℓ) : Prop :=
  ∀ c : Dev Cert.XattnBwdIdeal.nD,
    (Cert.Pre_finite_xattn.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2)) (m ((c.tc : Thread Cert.XattnBwdIdeal.nD Cert.XattnBwdIdeal.τ).loc Cert.XattnBwdIdeal.main_arg3)) (m ((c.tc : Thread Cert.XattnBwdIdeal.nD Cert.XattnBwdIdeal.τ).loc Cert.XattnBwdIdeal.main_arg4)) (m ((c.tc : Thread Cert.XattnBwdIdeal.nD Cert.XattnBwdIdeal.τ).loc Cert.XattnBwdIdeal.main_arg5)) (m ((c.tc : Thread Cert.XattnBwdIdeal.nD Cert.XattnBwdIdeal.τ).loc Cert.XattnBwdIdeal.main_arg6))) = (fun _ => 1#1)

def Pre_XattnBwdRefIdeal (m : (ℓ : Loc Cert.XattnBwdRefIdeal.nD Cert.XattnBwdRefIdeal.τ Cert.XattnBwdRefIdeal.sig) → Buf (Elt Ideal) ℓ) : Prop :=
  True

def Pre_XattnBwdRefIdeal_finite_xattn [hPre_finite_xattn : Cert.Pre_finite_xattn.Facts] (m : (ℓ : Loc Cert.XattnBwdRefIdeal.nD Cert.XattnBwdRefIdeal.τ Cert.XattnBwdRefIdeal.sig) → Buf (Elt Ideal) ℓ) : Prop :=
  ∀ c : Dev Cert.XattnBwdRefIdeal.nD,
    (Cert.Pre_finite_xattn.fn (F := Ideal) (m ((c.tc : Thread Cert.XattnBwdRefIdeal.nD Cert.XattnBwdRefIdeal.τ).loc Cert.XattnBwdRefIdeal.main_arg0)) (m ((c.tc : Thread Cert.XattnBwdRefIdeal.nD Cert.XattnBwdRefIdeal.τ).loc Cert.XattnBwdRefIdeal.main_arg1)) (m ((c.tc : Thread Cert.XattnBwdRefIdeal.nD Cert.XattnBwdRefIdeal.τ).loc Cert.XattnBwdRefIdeal.main_arg2)) (m ((c.tc : Thread Cert.XattnBwdRefIdeal.nD Cert.XattnBwdRefIdeal.τ).loc Cert.XattnBwdRefIdeal.main_arg3)) (m ((c.tc : Thread Cert.XattnBwdRefIdeal.nD Cert.XattnBwdRefIdeal.τ).loc Cert.XattnBwdRefIdeal.main_arg4)) (m ((c.tc : Thread Cert.XattnBwdRefIdeal.nD Cert.XattnBwdRefIdeal.τ).loc Cert.XattnBwdRefIdeal.main_arg5)) (m ((c.tc : Thread Cert.XattnBwdRefIdeal.nD Cert.XattnBwdRefIdeal.τ).loc Cert.XattnBwdRefIdeal.main_arg6))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_loss [hPre_finite_loss : Cert.Pre_finite_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))) = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite_loss [hPre_finite_loss : Cert.Pre_finite_loss.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))) = (fun _ => 1#1)

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_FfnHidden (m : (ℓ : Loc Cert.FfnHidden.nD Cert.FfnHidden.τ Cert.FfnHidden.sig) → Buf (Elt Bits) ℓ) : Prop :=
  True

def Pre_FfnHiddenIdeal (m : (ℓ : Loc Cert.FfnHiddenIdeal.nD Cert.FfnHiddenIdeal.τ Cert.FfnHiddenIdeal.sig) → Buf (Elt Ideal) ℓ) : Prop :=
  True

def Pre_FfnHiddenRefIdeal (m : (ℓ : Loc Cert.FfnHiddenRefIdeal.nD Cert.FfnHiddenRefIdeal.τ Cert.FfnHiddenRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_mixin [hMixInIdeal : Cert.MixInIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mixin m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_mixin [hMixInRefIdeal : Cert.MixInRefIdeal.Facts] [hPre_finite_mixin : Cert.Pre_finite_mixin.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mixin m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_XattnBwd [hXattnBwd : Cert.XattnBwd.Facts] : Prop :=
  ∀ (m : (ℓ : Loc Cert.XattnBwd.nD Cert.XattnBwd.τ Cert.XattnBwd.sig) → Buf (Elt Bits) ℓ) (g : Dev Cert.XattnBwd.nD → PrngReg), Pre_XattnBwd m →
    θ_run (Cert.XattnBwd.defs (F := Bits)) (onTc (τ := Cert.XattnBwd.τ) (Cert.XattnBwd.main (F := Bits))) ⟨m, fun _ => 0, g⟩ (fun r => (∀ c : Dev Cert.XattnBwd.nD,
      r.2.mem ((c.tc : Thread Cert.XattnBwd.nD Cert.XattnBwd.τ).loc Cert.XattnBwd.main_arg0) = m ((c.tc : Thread Cert.XattnBwd.nD Cert.XattnBwd.τ).loc Cert.XattnBwd.main_arg0)
      ∧ r.2.mem ((c.tc : Thread Cert.XattnBwd.nD Cert.XattnBwd.τ).loc Cert.XattnBwd.main_arg1) = m ((c.tc : Thread Cert.XattnBwd.nD Cert.XattnBwd.τ).loc Cert.XattnBwd.main_arg1)
      ∧ r.2.mem ((c.tc : Thread Cert.XattnBwd.nD Cert.XattnBwd.τ).loc Cert.XattnBwd.main_arg2) = m ((c.tc : Thread Cert.XattnBwd.nD Cert.XattnBwd.τ).loc Cert.XattnBwd.main_arg2)
      ∧ r.2.mem ((c.tc : Thread Cert.XattnBwd.nD Cert.XattnBwd.τ).loc Cert.XattnBwd.main_arg3) = m ((c.tc : Thread Cert.XattnBwd.nD Cert.XattnBwd.τ).loc Cert.XattnBwd.main_arg3)
      ∧ r.2.mem ((c.tc : Thread Cert.XattnBwd.nD Cert.XattnBwd.τ).loc Cert.XattnBwd.main_arg4) = m ((c.tc : Thread Cert.XattnBwd.nD Cert.XattnBwd.τ).loc Cert.XattnBwd.main_arg4)
      ∧ r.2.mem ((c.tc : Thread Cert.XattnBwd.nD Cert.XattnBwd.τ).loc Cert.XattnBwd.main_arg5) = m ((c.tc : Thread Cert.XattnBwd.nD Cert.XattnBwd.τ).loc Cert.XattnBwd.main_arg5)
      ∧ r.2.mem ((c.tc : Thread Cert.XattnBwd.nD Cert.XattnBwd.τ).loc Cert.XattnBwd.main_arg6) = m ((c.tc : Thread Cert.XattnBwd.nD Cert.XattnBwd.τ).loc Cert.XattnBwd.main_arg6))
      ∧ r.2.sem = fun _ => 0)

def quiescent_XattnBwdIdeal [hXattnBwdIdeal : Cert.XattnBwdIdeal.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
      ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3)
      ∧ r.2.mem ((c.tc : Thread Cert.XattnBwdIdeal.nD Cert.XattnBwdIdeal.τ).loc Cert.XattnBwdIdeal.main_arg4) = m ((c.tc : Thread Cert.XattnBwdIdeal.nD Cert.XattnBwdIdeal.τ).loc Cert.XattnBwdIdeal.main_arg4)
      ∧ r.2.mem ((c.tc : Thread Cert.XattnBwdIdeal.nD Cert.XattnBwdIdeal.τ).loc Cert.XattnBwdIdeal.main_arg5) = m ((c.tc : Thread Cert.XattnBwdIdeal.nD Cert.XattnBwdIdeal.τ).loc Cert.XattnBwdIdeal.main_arg5)
      ∧ r.2.mem ((c.tc : Thread Cert.XattnBwdIdeal.nD Cert.XattnBwdIdeal.τ).loc Cert.XattnBwdIdeal.main_arg6) = m ((c.tc : Thread Cert.XattnBwdIdeal.nD Cert.XattnBwdIdeal.τ).loc Cert.XattnBwdIdeal.main_arg6))
      ∧ r.2.sem = fun _ => 0)

def quiescent_XattnBwdIdeal_pre_finite_xattn [hXattnBwdIdeal : Cert.XattnBwdIdeal.Facts] [hPre_finite_xattn : Cert.Pre_finite_xattn.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal_finite_xattn m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
      ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3)
      ∧ r.2.mem ((c.tc : Thread Cert.XattnBwdIdeal.nD Cert.XattnBwdIdeal.τ).loc Cert.XattnBwdIdeal.main_arg4) = m ((c.tc : Thread Cert.XattnBwdIdeal.nD Cert.XattnBwdIdeal.τ).loc Cert.XattnBwdIdeal.main_arg4)
      ∧ r.2.mem ((c.tc : Thread Cert.XattnBwdIdeal.nD Cert.XattnBwdIdeal.τ).loc Cert.XattnBwdIdeal.main_arg5) = m ((c.tc : Thread Cert.XattnBwdIdeal.nD Cert.XattnBwdIdeal.τ).loc Cert.XattnBwdIdeal.main_arg5)
      ∧ r.2.mem ((c.tc : Thread Cert.XattnBwdIdeal.nD Cert.XattnBwdIdeal.τ).loc Cert.XattnBwdIdeal.main_arg6) = m ((c.tc : Thread Cert.XattnBwdIdeal.nD Cert.XattnBwdIdeal.τ).loc Cert.XattnBwdIdeal.main_arg6))
      ∧ r.2.sem = fun _ => 0)

def quiescent_XattnBwdRefIdeal [hXattnBwdRefIdeal : Cert.XattnBwdRefIdeal.Facts] : Prop :=
  ∀ (m : (ℓ : Loc Cert.XattnBwdRefIdeal.nD Cert.XattnBwdRefIdeal.τ Cert.XattnBwdRefIdeal.sig) → Buf (Elt Ideal) ℓ) (g : Dev Cert.XattnBwdRefIdeal.nD → PrngReg), Pre_XattnBwdRefIdeal m →
    θ_run (Cert.XattnBwdRefIdeal.defs (F := Ideal)) (onTc (τ := Cert.XattnBwdRefIdeal.τ) (Cert.XattnBwdRefIdeal.main (F := Ideal))) ⟨m, fun _ => 0, g⟩ (fun r => (∀ c : Dev Cert.XattnBwdRefIdeal.nD,
      r.2.mem ((c.tc : Thread Cert.XattnBwdRefIdeal.nD Cert.XattnBwdRefIdeal.τ).loc Cert.XattnBwdRefIdeal.main_arg0) = m ((c.tc : Thread Cert.XattnBwdRefIdeal.nD Cert.XattnBwdRefIdeal.τ).loc Cert.XattnBwdRefIdeal.main_arg0)
      ∧ r.2.mem ((c.tc : Thread Cert.XattnBwdRefIdeal.nD Cert.XattnBwdRefIdeal.τ).loc Cert.XattnBwdRefIdeal.main_arg1) = m ((c.tc : Thread Cert.XattnBwdRefIdeal.nD Cert.XattnBwdRefIdeal.τ).loc Cert.XattnBwdRefIdeal.main_arg1)
      ∧ r.2.mem ((c.tc : Thread Cert.XattnBwdRefIdeal.nD Cert.XattnBwdRefIdeal.τ).loc Cert.XattnBwdRefIdeal.main_arg2) = m ((c.tc : Thread Cert.XattnBwdRefIdeal.nD Cert.XattnBwdRefIdeal.τ).loc Cert.XattnBwdRefIdeal.main_arg2)
      ∧ r.2.mem ((c.tc : Thread Cert.XattnBwdRefIdeal.nD Cert.XattnBwdRefIdeal.τ).loc Cert.XattnBwdRefIdeal.main_arg3) = m ((c.tc : Thread Cert.XattnBwdRefIdeal.nD Cert.XattnBwdRefIdeal.τ).loc Cert.XattnBwdRefIdeal.main_arg3)
      ∧ r.2.mem ((c.tc : Thread Cert.XattnBwdRefIdeal.nD Cert.XattnBwdRefIdeal.τ).loc Cert.XattnBwdRefIdeal.main_arg4) = m ((c.tc : Thread Cert.XattnBwdRefIdeal.nD Cert.XattnBwdRefIdeal.τ).loc Cert.XattnBwdRefIdeal.main_arg4)
      ∧ r.2.mem ((c.tc : Thread Cert.XattnBwdRefIdeal.nD Cert.XattnBwdRefIdeal.τ).loc Cert.XattnBwdRefIdeal.main_arg5) = m ((c.tc : Thread Cert.XattnBwdRefIdeal.nD Cert.XattnBwdRefIdeal.τ).loc Cert.XattnBwdRefIdeal.main_arg5)
      ∧ r.2.mem ((c.tc : Thread Cert.XattnBwdRefIdeal.nD Cert.XattnBwdRefIdeal.τ).loc Cert.XattnBwdRefIdeal.main_arg6) = m ((c.tc : Thread Cert.XattnBwdRefIdeal.nD Cert.XattnBwdRefIdeal.τ).loc Cert.XattnBwdRefIdeal.main_arg6))
      ∧ r.2.sem = fun _ => 0)

def quiescent_XattnBwdRefIdeal_pre_finite_xattn [hXattnBwdRefIdeal : Cert.XattnBwdRefIdeal.Facts] [hPre_finite_xattn : Cert.Pre_finite_xattn.Facts] : Prop :=
  ∀ (m : (ℓ : Loc Cert.XattnBwdRefIdeal.nD Cert.XattnBwdRefIdeal.τ Cert.XattnBwdRefIdeal.sig) → Buf (Elt Ideal) ℓ) (g : Dev Cert.XattnBwdRefIdeal.nD → PrngReg), Pre_XattnBwdRefIdeal_finite_xattn m →
    θ_run (Cert.XattnBwdRefIdeal.defs (F := Ideal)) (onTc (τ := Cert.XattnBwdRefIdeal.τ) (Cert.XattnBwdRefIdeal.main (F := Ideal))) ⟨m, fun _ => 0, g⟩ (fun r => (∀ c : Dev Cert.XattnBwdRefIdeal.nD,
      r.2.mem ((c.tc : Thread Cert.XattnBwdRefIdeal.nD Cert.XattnBwdRefIdeal.τ).loc Cert.XattnBwdRefIdeal.main_arg0) = m ((c.tc : Thread Cert.XattnBwdRefIdeal.nD Cert.XattnBwdRefIdeal.τ).loc Cert.XattnBwdRefIdeal.main_arg0)
      ∧ r.2.mem ((c.tc : Thread Cert.XattnBwdRefIdeal.nD Cert.XattnBwdRefIdeal.τ).loc Cert.XattnBwdRefIdeal.main_arg1) = m ((c.tc : Thread Cert.XattnBwdRefIdeal.nD Cert.XattnBwdRefIdeal.τ).loc Cert.XattnBwdRefIdeal.main_arg1)
      ∧ r.2.mem ((c.tc : Thread Cert.XattnBwdRefIdeal.nD Cert.XattnBwdRefIdeal.τ).loc Cert.XattnBwdRefIdeal.main_arg2) = m ((c.tc : Thread Cert.XattnBwdRefIdeal.nD Cert.XattnBwdRefIdeal.τ).loc Cert.XattnBwdRefIdeal.main_arg2)
      ∧ r.2.mem ((c.tc : Thread Cert.XattnBwdRefIdeal.nD Cert.XattnBwdRefIdeal.τ).loc Cert.XattnBwdRefIdeal.main_arg3) = m ((c.tc : Thread Cert.XattnBwdRefIdeal.nD Cert.XattnBwdRefIdeal.τ).loc Cert.XattnBwdRefIdeal.main_arg3)
      ∧ r.2.mem ((c.tc : Thread Cert.XattnBwdRefIdeal.nD Cert.XattnBwdRefIdeal.τ).loc Cert.XattnBwdRefIdeal.main_arg4) = m ((c.tc : Thread Cert.XattnBwdRefIdeal.nD Cert.XattnBwdRefIdeal.τ).loc Cert.XattnBwdRefIdeal.main_arg4)
      ∧ r.2.mem ((c.tc : Thread Cert.XattnBwdRefIdeal.nD Cert.XattnBwdRefIdeal.τ).loc Cert.XattnBwdRefIdeal.main_arg5) = m ((c.tc : Thread Cert.XattnBwdRefIdeal.nD Cert.XattnBwdRefIdeal.τ).loc Cert.XattnBwdRefIdeal.main_arg5)
      ∧ r.2.mem ((c.tc : Thread Cert.XattnBwdRefIdeal.nD Cert.XattnBwdRefIdeal.τ).loc Cert.XattnBwdRefIdeal.main_arg6) = m ((c.tc : Thread Cert.XattnBwdRefIdeal.nD Cert.XattnBwdRefIdeal.τ).loc Cert.XattnBwdRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossIdeal_pre_finite_loss [hFfnLossIdeal : Cert.FfnLossIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_FfnLossRefIdeal_pre_finite_loss [hFfnLossRefIdeal : Cert.FfnLossRefIdeal.Facts] [hPre_finite_loss : Cert.Pre_finite_loss.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite_loss m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1)
      ∧ r.2.mem ((c.tc : Thread Cert.XattnFwd.nD Cert.XattnFwd.τ).loc Cert.XattnFwd.main_arg2) = m ((c.tc : Thread Cert.XattnFwd.nD Cert.XattnFwd.τ).loc Cert.XattnFwd.main_arg2)
      ∧ r.2.mem ((c.tc : Thread Cert.XattnFwd.nD Cert.XattnFwd.τ).loc Cert.XattnFwd.main_arg3) = m ((c.tc : Thread Cert.XattnFwd.nD Cert.XattnFwd.τ).loc Cert.XattnFwd.main_arg3)
      ∧ r.2.mem ((c.tc : Thread Cert.XattnFwd.nD Cert.XattnFwd.τ).loc Cert.XattnFwd.main_arg4) = m ((c.tc : Thread Cert.XattnFwd.nD Cert.XattnFwd.τ).loc Cert.XattnFwd.main_arg4)
      ∧ r.2.mem ((c.tc : Thread Cert.XattnFwd.nD Cert.XattnFwd.τ).loc Cert.XattnFwd.main_arg5) = m ((c.tc : Thread Cert.XattnFwd.nD Cert.XattnFwd.τ).loc Cert.XattnFwd.main_arg5))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
      ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
      ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3)
      ∧ r.2.mem ((c.tc : Thread Cert.XattnFwdIdeal.nD Cert.XattnFwdIdeal.τ).loc Cert.XattnFwdIdeal.main_arg4) = m ((c.tc : Thread Cert.XattnFwdIdeal.nD Cert.XattnFwdIdeal.τ).loc Cert.XattnFwdIdeal.main_arg4)
      ∧ r.2.mem ((c.tc : Thread Cert.XattnFwdIdeal.nD Cert.XattnFwdIdeal.τ).loc Cert.XattnFwdIdeal.main_arg5) = m ((c.tc : Thread Cert.XattnFwdIdeal.nD Cert.XattnFwdIdeal.τ).loc Cert.XattnFwdIdeal.main_arg5))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1)
      ∧ r.2.mem ((c.tc : Thread Cert.XattnFwdRefIdeal.nD Cert.XattnFwdRefIdeal.τ).loc Cert.XattnFwdRefIdeal.main_arg2) = m ((c.tc : Thread Cert.XattnFwdRefIdeal.nD Cert.XattnFwdRefIdeal.τ).loc Cert.XattnFwdRefIdeal.main_arg2)
      ∧ r.2.mem ((c.tc : Thread Cert.XattnFwdRefIdeal.nD Cert.XattnFwdRefIdeal.τ).loc Cert.XattnFwdRefIdeal.main_arg3) = m ((c.tc : Thread Cert.XattnFwdRefIdeal.nD Cert.XattnFwdRefIdeal.τ).loc Cert.XattnFwdRefIdeal.main_arg3)
      ∧ r.2.mem ((c.tc : Thread Cert.XattnFwdRefIdeal.nD Cert.XattnFwdRefIdeal.τ).loc Cert.XattnFwdRefIdeal.main_arg4) = m ((c.tc : Thread Cert.XattnFwdRefIdeal.nD Cert.XattnFwdRefIdeal.τ).loc Cert.XattnFwdRefIdeal.main_arg4)
      ∧ r.2.mem ((c.tc : Thread Cert.XattnFwdRefIdeal.nD Cert.XattnFwdRefIdeal.τ).loc Cert.XattnFwdRefIdeal.main_arg5) = m ((c.tc : Thread Cert.XattnFwdRefIdeal.nD Cert.XattnFwdRefIdeal.τ).loc Cert.XattnFwdRefIdeal.main_arg5))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_FfnHidden [hFfnHidden : Cert.FfnHidden.Facts] : Prop :=
  ∀ (m : (ℓ : Loc Cert.FfnHidden.nD Cert.FfnHidden.τ Cert.FfnHidden.sig) → Buf (Elt Bits) ℓ) (g : Dev Cert.FfnHidden.nD → PrngReg), Pre_FfnHidden m →
    θ_run (Cert.FfnHidden.defs (F := Bits)) (onTc (τ := Cert.FfnHidden.τ) (Cert.FfnHidden.main (F := Bits))) ⟨m, fun _ => 0, g⟩ (fun r => (∀ c : Dev Cert.FfnHidden.nD,
      r.2.mem ((c.tc : Thread Cert.FfnHidden.nD Cert.FfnHidden.τ).loc Cert.FfnHidden.main_arg0) = m ((c.tc : Thread Cert.FfnHidden.nD Cert.FfnHidden.τ).loc Cert.FfnHidden.main_arg0)
      ∧ r.2.mem ((c.tc : Thread Cert.FfnHidden.nD Cert.FfnHidden.τ).loc Cert.FfnHidden.main_arg1) = m ((c.tc : Thread Cert.FfnHidden.nD Cert.FfnHidden.τ).loc Cert.FfnHidden.main_arg1)
      ∧ r.2.mem ((c.tc : Thread Cert.FfnHidden.nD Cert.FfnHidden.τ).loc Cert.FfnHidden.main_arg2) = m ((c.tc : Thread Cert.FfnHidden.nD Cert.FfnHidden.τ).loc Cert.FfnHidden.main_arg2))
      ∧ r.2.sem = fun _ => 0)

def quiescent_FfnHiddenIdeal [hFfnHiddenIdeal : Cert.FfnHiddenIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2))
      ∧ r.2.sem = fun _ => 0)

def quiescent_FfnHiddenRefIdeal [hFfnHiddenRefIdeal : Cert.FfnHiddenRefIdeal.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13)
      ∧ r.2.mem ((c.tc : Thread Cert.MixFwd.nD Cert.MixFwd.τ).loc Cert.MixFwd.main_arg14) = m ((c.tc : Thread Cert.MixFwd.nD Cert.MixFwd.τ).loc Cert.MixFwd.main_arg14))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12)
      ∧ r.2.mem ((c.tc : Thread Cert.MixBwd.nD Cert.MixBwd.τ).loc Cert.MixBwd.main_arg13) = m ((c.tc : Thread Cert.MixBwd.nD Cert.MixBwd.τ).loc Cert.MixBwd.main_arg13)
      ∧ r.2.mem ((c.tc : Thread Cert.MixBwd.nD Cert.MixBwd.τ).loc Cert.MixBwd.main_arg14) = m ((c.tc : Thread Cert.MixBwd.nD Cert.MixBwd.τ).loc Cert.MixBwd.main_arg14)
      ∧ r.2.mem ((c.tc : Thread Cert.MixBwd.nD Cert.MixBwd.τ).loc Cert.MixBwd.main_arg15) = m ((c.tc : Thread Cert.MixBwd.nD Cert.MixBwd.τ).loc Cert.MixBwd.main_arg15))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
      ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
      ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
      ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12)
      ∧ r.2.mem ((c.tc : Thread Cert.MixBwdRefIdeal.nD Cert.MixBwdRefIdeal.τ).loc Cert.MixBwdRefIdeal.main_arg13) = m ((c.tc : Thread Cert.MixBwdRefIdeal.nD Cert.MixBwdRefIdeal.τ).loc Cert.MixBwdRefIdeal.main_arg13)
      ∧ r.2.mem ((c.tc : Thread Cert.MixBwdRefIdeal.nD Cert.MixBwdRefIdeal.τ).loc Cert.MixBwdRefIdeal.main_arg14) = m ((c.tc : Thread Cert.MixBwdRefIdeal.nD Cert.MixBwdRefIdeal.τ).loc Cert.MixBwdRefIdeal.main_arg14)
      ∧ r.2.mem ((c.tc : Thread Cert.MixBwdRefIdeal.nD Cert.MixBwdRefIdeal.τ).loc Cert.MixBwdRefIdeal.main_arg15) = m ((c.tc : Thread Cert.MixBwdRefIdeal.nD Cert.MixBwdRefIdeal.τ).loc Cert.MixBwdRefIdeal.main_arg15))
      ∧ r.2.sem = fun _ => 0)

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)
      ∧ m' ((c.tc : Thread Cert.KvBwdRefIdeal.nD Cert.KvBwdRefIdeal.τ).loc Cert.KvBwdRefIdeal.main_arg4) = m ((c.tc : Thread Cert.KvBwdIdeal.nD Cert.KvBwdIdeal.τ).loc Cert.KvBwdIdeal.main_arg4)) →
    ∃ (v0 : (c : Dev Cert.KvBwdIdeal.nD) → Buf (Elt Ideal) ((c.tc : Thread Cert.KvBwdIdeal.nD Cert.KvBwdIdeal.τ).loc Cert.KvBwdIdeal.main_v17_0)) (v1 : (c : Dev Cert.KvBwdIdeal.nD) → Buf (Elt Ideal) ((c.tc : Thread Cert.KvBwdIdeal.nD Cert.KvBwdIdeal.τ).loc Cert.KvBwdIdeal.main_v17_1)) (v2 : (c : Dev Cert.KvBwdIdeal.nD) → Buf (Elt Ideal) ((c.tc : Thread Cert.KvBwdIdeal.nD Cert.KvBwdIdeal.τ).loc Cert.KvBwdIdeal.main_v17_2)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v17_0) = v0 c
          ∧ r.2.mem ((c.tc : Thread Cert.KvBwdIdeal.nD Cert.KvBwdIdeal.τ).loc Cert.KvBwdIdeal.main_v17_1) = v1 c
          ∧ r.2.mem ((c.tc : Thread Cert.KvBwdIdeal.nD Cert.KvBwdIdeal.τ).loc Cert.KvBwdIdeal.main_v17_2) = v2 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v30) = v0 c
          ∧ r.2.mem ((c.tc : Thread Cert.KvBwdRefIdeal.nD Cert.KvBwdRefIdeal.τ).loc Cert.KvBwdRefIdeal.main_v31) = v1 c
          ∧ r.2.mem ((c.tc : Thread Cert.KvBwdRefIdeal.nD Cert.KvBwdRefIdeal.τ).loc Cert.KvBwdRefIdeal.main_v27) = v2 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3)
          ∧ r.2.mem ((c.tc : Thread Cert.KvBwdRefIdeal.nD Cert.KvBwdRefIdeal.τ).loc Cert.KvBwdRefIdeal.main_arg4) = m' ((c.tc : Thread Cert.KvBwdRefIdeal.nD Cert.KvBwdRefIdeal.τ).loc Cert.KvBwdRefIdeal.main_arg4))

def preserves_MixIn_MixInIdeal : Prop :=
  True

def algebraic_MixInIdeal_MixInRefIdeal_pre_finite_mixin [hMixInIdeal : Cert.MixInIdeal.Facts] [hMixInRefIdeal : Cert.MixInRefIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mixin m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v5_0)) (v1 : (c : Dev Cert.MixInIdeal.nD) → Buf (Elt Ideal) ((c.tc : Thread Cert.MixInIdeal.nD Cert.MixInIdeal.τ).loc Cert.MixInIdeal.main_v5_1)) (v2 : (c : Dev Cert.MixInIdeal.nD) → Buf (Elt Ideal) ((c.tc : Thread Cert.MixInIdeal.nD Cert.MixInIdeal.τ).loc Cert.MixInIdeal.main_v5_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v5_0) = v0 c
          ∧ r.2.mem ((c.tc : Thread Cert.MixInIdeal.nD Cert.MixInIdeal.τ).loc Cert.MixInIdeal.main_v5_1) = v1 c
          ∧ r.2.mem ((c.tc : Thread Cert.MixInIdeal.nD Cert.MixInIdeal.τ).loc Cert.MixInIdeal.main_v5_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v50) = v0 c
          ∧ r.2.mem ((c.tc : Thread Cert.MixInRefIdeal.nD Cert.MixInRefIdeal.τ).loc Cert.MixInRefIdeal.main_v51) = v1 c
          ∧ r.2.mem ((c.tc : Thread Cert.MixInRefIdeal.nD Cert.MixInRefIdeal.τ).loc Cert.MixInRefIdeal.main_v28) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_XattnBwd_XattnBwdIdeal : Prop :=
  True

def algebraic_XattnBwdIdeal_XattnBwdRefIdeal_pre_finite_xattn [hXattnBwdIdeal : Cert.XattnBwdIdeal.Facts] [hXattnBwdRefIdeal : Cert.XattnBwdRefIdeal.Facts] [hPre_finite_xattn : Cert.Pre_finite_xattn.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg)
    (m' : (ℓ : Loc Cert.XattnBwdRefIdeal.nD Cert.XattnBwdRefIdeal.τ Cert.XattnBwdRefIdeal.sig) → Buf (Elt Ideal) ℓ) (g' : Dev Cert.XattnBwdRefIdeal.nD → PrngReg), Pre_XattnBwdIdeal_finite_xattn m →
    (∀ c : Dev Cert.XattnBwdIdeal.nD,
      m' ((c.tc : Thread Cert.XattnBwdRefIdeal.nD Cert.XattnBwdRefIdeal.τ).loc Cert.XattnBwdRefIdeal.main_arg0) = m ((c.tc : Thread Cert.XattnBwdIdeal.nD Cert.XattnBwdIdeal.τ).loc Cert.XattnBwdIdeal.main_arg0)
      ∧ m' ((c.tc : Thread Cert.XattnBwdRefIdeal.nD Cert.XattnBwdRefIdeal.τ).loc Cert.XattnBwdRefIdeal.main_arg1) = m ((c.tc : Thread Cert.XattnBwdIdeal.nD Cert.XattnBwdIdeal.τ).loc Cert.XattnBwdIdeal.main_arg1)
      ∧ m' ((c.tc : Thread Cert.XattnBwdRefIdeal.nD Cert.XattnBwdRefIdeal.τ).loc Cert.XattnBwdRefIdeal.main_arg2) = m ((c.tc : Thread Cert.XattnBwdIdeal.nD Cert.XattnBwdIdeal.τ).loc Cert.XattnBwdIdeal.main_arg2)
      ∧ m' ((c.tc : Thread Cert.XattnBwdRefIdeal.nD Cert.XattnBwdRefIdeal.τ).loc Cert.XattnBwdRefIdeal.main_arg3) = m ((c.tc : Thread Cert.XattnBwdIdeal.nD Cert.XattnBwdIdeal.τ).loc Cert.XattnBwdIdeal.main_arg3)
      ∧ m' ((c.tc : Thread Cert.XattnBwdRefIdeal.nD Cert.XattnBwdRefIdeal.τ).loc Cert.XattnBwdRefIdeal.main_arg4) = m ((c.tc : Thread Cert.XattnBwdIdeal.nD Cert.XattnBwdIdeal.τ).loc Cert.XattnBwdIdeal.main_arg4)
      ∧ m' ((c.tc : Thread Cert.XattnBwdRefIdeal.nD Cert.XattnBwdRefIdeal.τ).loc Cert.XattnBwdRefIdeal.main_arg5) = m ((c.tc : Thread Cert.XattnBwdIdeal.nD Cert.XattnBwdIdeal.τ).loc Cert.XattnBwdIdeal.main_arg5)
      ∧ m' ((c.tc : Thread Cert.XattnBwdRefIdeal.nD Cert.XattnBwdRefIdeal.τ).loc Cert.XattnBwdRefIdeal.main_arg6) = m ((c.tc : Thread Cert.XattnBwdIdeal.nD Cert.XattnBwdIdeal.τ).loc Cert.XattnBwdIdeal.main_arg6)) →
    ∃ (v0 : (c : Dev Cert.XattnBwdIdeal.nD) → Buf (Elt Ideal) ((c.tc : Thread Cert.XattnBwdIdeal.nD Cert.XattnBwdIdeal.τ).loc Cert.XattnBwdIdeal.main_v6_0)) (v1 : (c : Dev Cert.XattnBwdIdeal.nD) → Buf (Elt Ideal) ((c.tc : Thread Cert.XattnBwdIdeal.nD Cert.XattnBwdIdeal.τ).loc Cert.XattnBwdIdeal.main_v6_1)) (v2 : (c : Dev Cert.XattnBwdIdeal.nD) → Buf (Elt Ideal) ((c.tc : Thread Cert.XattnBwdIdeal.nD Cert.XattnBwdIdeal.τ).loc Cert.XattnBwdIdeal.main_v6_2)) (v3 : (c : Dev Cert.XattnBwdIdeal.nD) → Buf (Elt Ideal) ((c.tc : Thread Cert.XattnBwdIdeal.nD Cert.XattnBwdIdeal.τ).loc Cert.XattnBwdIdeal.main_v6_3)) (v4 : (c : Dev Cert.XattnBwdIdeal.nD) → Buf (Elt Ideal) ((c.tc : Thread Cert.XattnBwdIdeal.nD Cert.XattnBwdIdeal.τ).loc Cert.XattnBwdIdeal.main_v6_4)) (v5 : (c : Dev Cert.XattnBwdIdeal.nD) → Buf (Elt Ideal) ((c.tc : Thread Cert.XattnBwdIdeal.nD Cert.XattnBwdIdeal.τ).loc Cert.XattnBwdIdeal.main_v6_5)) (v6 : (c : Dev Cert.XattnBwdIdeal.nD) → Buf (Elt Ideal) ((c.tc : Thread Cert.XattnBwdIdeal.nD Cert.XattnBwdIdeal.τ).loc Cert.XattnBwdIdeal.main_v6_6)) (v7 : (c : Dev Cert.XattnBwdIdeal.nD) → Buf (Elt Ideal) ((c.tc : Thread Cert.XattnBwdIdeal.nD Cert.XattnBwdIdeal.τ).loc Cert.XattnBwdIdeal.main_v6_7)),
      θ_run (Cert.XattnBwdIdeal.defs (F := Ideal)) (onTc (τ := Cert.XattnBwdIdeal.τ) (Cert.XattnBwdIdeal.main (F := Ideal))) ⟨m, fun _ => 0, g⟩ (fun r => ∀ c : Dev Cert.XattnBwdIdeal.nD,
          r.2.mem ((c.tc : Thread Cert.XattnBwdIdeal.nD Cert.XattnBwdIdeal.τ).loc Cert.XattnBwdIdeal.main_v6_0) = v0 c
          ∧ r.2.mem ((c.tc : Thread Cert.XattnBwdIdeal.nD Cert.XattnBwdIdeal.τ).loc Cert.XattnBwdIdeal.main_v6_1) = v1 c
          ∧ r.2.mem ((c.tc : Thread Cert.XattnBwdIdeal.nD Cert.XattnBwdIdeal.τ).loc Cert.XattnBwdIdeal.main_v6_2) = v2 c
          ∧ r.2.mem ((c.tc : Thread Cert.XattnBwdIdeal.nD Cert.XattnBwdIdeal.τ).loc Cert.XattnBwdIdeal.main_v6_3) = v3 c
          ∧ r.2.mem ((c.tc : Thread Cert.XattnBwdIdeal.nD Cert.XattnBwdIdeal.τ).loc Cert.XattnBwdIdeal.main_v6_4) = v4 c
          ∧ r.2.mem ((c.tc : Thread Cert.XattnBwdIdeal.nD Cert.XattnBwdIdeal.τ).loc Cert.XattnBwdIdeal.main_v6_5) = v5 c
          ∧ r.2.mem ((c.tc : Thread Cert.XattnBwdIdeal.nD Cert.XattnBwdIdeal.τ).loc Cert.XattnBwdIdeal.main_v6_6) = v6 c
          ∧ r.2.mem ((c.tc : Thread Cert.XattnBwdIdeal.nD Cert.XattnBwdIdeal.τ).loc Cert.XattnBwdIdeal.main_v6_7) = v7 c
          ∧ r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
          ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
          ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
          ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3)
          ∧ r.2.mem ((c.tc : Thread Cert.XattnBwdIdeal.nD Cert.XattnBwdIdeal.τ).loc Cert.XattnBwdIdeal.main_arg4) = m ((c.tc : Thread Cert.XattnBwdIdeal.nD Cert.XattnBwdIdeal.τ).loc Cert.XattnBwdIdeal.main_arg4)
          ∧ r.2.mem ((c.tc : Thread Cert.XattnBwdIdeal.nD Cert.XattnBwdIdeal.τ).loc Cert.XattnBwdIdeal.main_arg5) = m ((c.tc : Thread Cert.XattnBwdIdeal.nD Cert.XattnBwdIdeal.τ).loc Cert.XattnBwdIdeal.main_arg5)
          ∧ r.2.mem ((c.tc : Thread Cert.XattnBwdIdeal.nD Cert.XattnBwdIdeal.τ).loc Cert.XattnBwdIdeal.main_arg6) = m ((c.tc : Thread Cert.XattnBwdIdeal.nD Cert.XattnBwdIdeal.τ).loc Cert.XattnBwdIdeal.main_arg6))
      ∧ θ_run (Cert.XattnBwdRefIdeal.defs (F := Ideal)) (onTc (τ := Cert.XattnBwdRefIdeal.τ) (Cert.XattnBwdRefIdeal.main (F := Ideal))) ⟨m', fun _ => 0, g'⟩ (fun r => ∀ c : Dev Cert.XattnBwdRefIdeal.nD,
          r.2.mem ((c.tc : Thread Cert.XattnBwdRefIdeal.nD Cert.XattnBwdRefIdeal.τ).loc Cert.XattnBwdRefIdeal.main_v110) = v0 c
          ∧ r.2.mem ((c.tc : Thread Cert.XattnBwdRefIdeal.nD Cert.XattnBwdRefIdeal.τ).loc Cert.XattnBwdRefIdeal.main_v112) = v1 c
          ∧ r.2.mem ((c.tc : Thread Cert.XattnBwdRefIdeal.nD Cert.XattnBwdRefIdeal.τ).loc Cert.XattnBwdRefIdeal.main_v113) = v2 c
          ∧ r.2.mem ((c.tc : Thread Cert.XattnBwdRefIdeal.nD Cert.XattnBwdRefIdeal.τ).loc Cert.XattnBwdRefIdeal.main_v114) = v3 c
          ∧ r.2.mem ((c.tc : Thread Cert.XattnBwdRefIdeal.nD Cert.XattnBwdRefIdeal.τ).loc Cert.XattnBwdRefIdeal.main_v115) = v4 c
          ∧ r.2.mem ((c.tc : Thread Cert.XattnBwdRefIdeal.nD Cert.XattnBwdRefIdeal.τ).loc Cert.XattnBwdRefIdeal.main_v87) = v5 c
          ∧ r.2.mem ((c.tc : Thread Cert.XattnBwdRefIdeal.nD Cert.XattnBwdRefIdeal.τ).loc Cert.XattnBwdRefIdeal.main_v86) = v6 c
          ∧ r.2.mem ((c.tc : Thread Cert.XattnBwdRefIdeal.nD Cert.XattnBwdRefIdeal.τ).loc Cert.XattnBwdRefIdeal.main_v111) = v7 c
          ∧ r.2.mem ((c.tc : Thread Cert.XattnBwdRefIdeal.nD Cert.XattnBwdRefIdeal.τ).loc Cert.XattnBwdRefIdeal.main_arg0) = m' ((c.tc : Thread Cert.XattnBwdRefIdeal.nD Cert.XattnBwdRefIdeal.τ).loc Cert.XattnBwdRefIdeal.main_arg0)
          ∧ r.2.mem ((c.tc : Thread Cert.XattnBwdRefIdeal.nD Cert.XattnBwdRefIdeal.τ).loc Cert.XattnBwdRefIdeal.main_arg1) = m' ((c.tc : Thread Cert.XattnBwdRefIdeal.nD Cert.XattnBwdRefIdeal.τ).loc Cert.XattnBwdRefIdeal.main_arg1)
          ∧ r.2.mem ((c.tc : Thread Cert.XattnBwdRefIdeal.nD Cert.XattnBwdRefIdeal.τ).loc Cert.XattnBwdRefIdeal.main_arg2) = m' ((c.tc : Thread Cert.XattnBwdRefIdeal.nD Cert.XattnBwdRefIdeal.τ).loc Cert.XattnBwdRefIdeal.main_arg2)
          ∧ r.2.mem ((c.tc : Thread Cert.XattnBwdRefIdeal.nD Cert.XattnBwdRefIdeal.τ).loc Cert.XattnBwdRefIdeal.main_arg3) = m' ((c.tc : Thread Cert.XattnBwdRefIdeal.nD Cert.XattnBwdRefIdeal.τ).loc Cert.XattnBwdRefIdeal.main_arg3)
          ∧ r.2.mem ((c.tc : Thread Cert.XattnBwdRefIdeal.nD Cert.XattnBwdRefIdeal.τ).loc Cert.XattnBwdRefIdeal.main_arg4) = m' ((c.tc : Thread Cert.XattnBwdRefIdeal.nD Cert.XattnBwdRefIdeal.τ).loc Cert.XattnBwdRefIdeal.main_arg4)
          ∧ r.2.mem ((c.tc : Thread Cert.XattnBwdRefIdeal.nD Cert.XattnBwdRefIdeal.τ).loc Cert.XattnBwdRefIdeal.main_arg5) = m' ((c.tc : Thread Cert.XattnBwdRefIdeal.nD Cert.XattnBwdRefIdeal.τ).loc Cert.XattnBwdRefIdeal.main_arg5)
          ∧ r.2.mem ((c.tc : Thread Cert.XattnBwdRefIdeal.nD Cert.XattnBwdRefIdeal.τ).loc Cert.XattnBwdRefIdeal.main_arg6) = m' ((c.tc : Thread Cert.XattnBwdRefIdeal.nD Cert.XattnBwdRefIdeal.τ).loc Cert.XattnBwdRefIdeal.main_arg6))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v21_0)) (v1 : (c : Dev Cert.FfnBwdIdeal.nD) → Buf (Elt Ideal) ((c.tc : Thread Cert.FfnBwdIdeal.nD Cert.FfnBwdIdeal.τ).loc Cert.FfnBwdIdeal.main_v21_1)) (v2 : (c : Dev Cert.FfnBwdIdeal.nD) → Buf (Elt Ideal) ((c.tc : Thread Cert.FfnBwdIdeal.nD Cert.FfnBwdIdeal.τ).loc Cert.FfnBwdIdeal.main_v21_2)) (v3 : (c : Dev Cert.FfnBwdIdeal.nD) → Buf (Elt Ideal) ((c.tc : Thread Cert.FfnBwdIdeal.nD Cert.FfnBwdIdeal.τ).loc Cert.FfnBwdIdeal.main_v21_3)) (v4 : (c : Dev Cert.FfnBwdIdeal.nD) → Buf (Elt Ideal) ((c.tc : Thread Cert.FfnBwdIdeal.nD Cert.FfnBwdIdeal.τ).loc Cert.FfnBwdIdeal.main_v21_4)) (v5 : (c : Dev Cert.FfnBwdIdeal.nD) → Buf (Elt Ideal) ((c.tc : Thread Cert.FfnBwdIdeal.nD Cert.FfnBwdIdeal.τ).loc Cert.FfnBwdIdeal.main_v21_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v21_0) = v0 c
          ∧ r.2.mem ((c.tc : Thread Cert.FfnBwdIdeal.nD Cert.FfnBwdIdeal.τ).loc Cert.FfnBwdIdeal.main_v21_1) = v1 c
          ∧ r.2.mem ((c.tc : Thread Cert.FfnBwdIdeal.nD Cert.FfnBwdIdeal.τ).loc Cert.FfnBwdIdeal.main_v21_2) = v2 c
          ∧ r.2.mem ((c.tc : Thread Cert.FfnBwdIdeal.nD Cert.FfnBwdIdeal.τ).loc Cert.FfnBwdIdeal.main_v21_3) = v3 c
          ∧ r.2.mem ((c.tc : Thread Cert.FfnBwdIdeal.nD Cert.FfnBwdIdeal.τ).loc Cert.FfnBwdIdeal.main_v21_4) = v4 c
          ∧ r.2.mem ((c.tc : Thread Cert.FfnBwdIdeal.nD Cert.FfnBwdIdeal.τ).loc Cert.FfnBwdIdeal.main_v21_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v90) = v0 c
          ∧ r.2.mem ((c.tc : Thread Cert.FfnBwdRefIdeal.nD Cert.FfnBwdRefIdeal.τ).loc Cert.FfnBwdRefIdeal.main_v92) = v1 c
          ∧ r.2.mem ((c.tc : Thread Cert.FfnBwdRefIdeal.nD Cert.FfnBwdRefIdeal.τ).loc Cert.FfnBwdRefIdeal.main_v93) = v2 c
          ∧ r.2.mem ((c.tc : Thread Cert.FfnBwdRefIdeal.nD Cert.FfnBwdRefIdeal.τ).loc Cert.FfnBwdRefIdeal.main_v94) = v3 c
          ∧ r.2.mem ((c.tc : Thread Cert.FfnBwdRefIdeal.nD Cert.FfnBwdRefIdeal.τ).loc Cert.FfnBwdRefIdeal.main_v97) = v4 c
          ∧ r.2.mem ((c.tc : Thread Cert.FfnBwdRefIdeal.nD Cert.FfnBwdRefIdeal.τ).loc Cert.FfnBwdRefIdeal.main_v91) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_FfnLoss_FfnLossIdeal : Prop :=
  True

def algebraic_FfnLossIdeal_FfnLossRefIdeal_pre_finite_loss [hFfnLossIdeal : Cert.FfnLossIdeal.Facts] [hFfnLossRefIdeal : Cert.FfnLossRefIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite_loss m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)) →
    ∃ (v0 : (c : Dev Cert.FfnLossIdeal.nD) → Buf (Elt Ideal) ((c.tc : Thread Cert.FfnLossIdeal.nD Cert.FfnLossIdeal.τ).loc Cert.FfnLossIdeal.main_v7_0)) (v1 : (c : Dev Cert.FfnLossIdeal.nD) → Buf (Elt Ideal) ((c.tc : Thread Cert.FfnLossIdeal.nD Cert.FfnLossIdeal.τ).loc Cert.FfnLossIdeal.main_v7_1)) (v2 : (c : Dev Cert.FfnLossIdeal.nD) → Buf (Elt Ideal) ((c.tc : Thread Cert.FfnLossIdeal.nD Cert.FfnLossIdeal.τ).loc Cert.FfnLossIdeal.main_v7_2)) (v3 : (c : Dev Cert.FfnLossIdeal.nD) → Buf (Elt Ideal) ((c.tc : Thread Cert.FfnLossIdeal.nD Cert.FfnLossIdeal.τ).loc Cert.FfnLossIdeal.main_v7_3)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v7_0) = v0 c
          ∧ r.2.mem ((c.tc : Thread Cert.FfnLossIdeal.nD Cert.FfnLossIdeal.τ).loc Cert.FfnLossIdeal.main_v7_1) = v1 c
          ∧ r.2.mem ((c.tc : Thread Cert.FfnLossIdeal.nD Cert.FfnLossIdeal.τ).loc Cert.FfnLossIdeal.main_v7_2) = v2 c
          ∧ r.2.mem ((c.tc : Thread Cert.FfnLossIdeal.nD Cert.FfnLossIdeal.τ).loc Cert.FfnLossIdeal.main_v7_3) = v3 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v75) = v0 c
          ∧ r.2.mem ((c.tc : Thread Cert.FfnLossRefIdeal.nD Cert.FfnLossRefIdeal.τ).loc Cert.FfnLossRefIdeal.main_v92) = v1 c
          ∧ r.2.mem ((c.tc : Thread Cert.FfnLossRefIdeal.nD Cert.FfnLossRefIdeal.τ).loc Cert.FfnLossRefIdeal.main_v93) = v2 c
          ∧ r.2.mem ((c.tc : Thread Cert.FfnLossRefIdeal.nD Cert.FfnLossRefIdeal.τ).loc Cert.FfnLossRefIdeal.main_v94) = v3 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)
      ∧ m' ((c.tc : Thread Cert.XattnFwdRefIdeal.nD Cert.XattnFwdRefIdeal.τ).loc Cert.XattnFwdRefIdeal.main_arg2) = m ((c.tc : Thread Cert.XattnFwdIdeal.nD Cert.XattnFwdIdeal.τ).loc Cert.XattnFwdIdeal.main_arg2)
      ∧ m' ((c.tc : Thread Cert.XattnFwdRefIdeal.nD Cert.XattnFwdRefIdeal.τ).loc Cert.XattnFwdRefIdeal.main_arg3) = m ((c.tc : Thread Cert.XattnFwdIdeal.nD Cert.XattnFwdIdeal.τ).loc Cert.XattnFwdIdeal.main_arg3)
      ∧ m' ((c.tc : Thread Cert.XattnFwdRefIdeal.nD Cert.XattnFwdRefIdeal.τ).loc Cert.XattnFwdRefIdeal.main_arg4) = m ((c.tc : Thread Cert.XattnFwdIdeal.nD Cert.XattnFwdIdeal.τ).loc Cert.XattnFwdIdeal.main_arg4)
      ∧ m' ((c.tc : Thread Cert.XattnFwdRefIdeal.nD Cert.XattnFwdRefIdeal.τ).loc Cert.XattnFwdRefIdeal.main_arg5) = m ((c.tc : Thread Cert.XattnFwdIdeal.nD Cert.XattnFwdIdeal.τ).loc Cert.XattnFwdIdeal.main_arg5)) →
    ∃ (v0 : (c : Dev Cert.XattnFwdIdeal.nD) → Buf (Elt Ideal) ((c.tc : Thread Cert.XattnFwdIdeal.nD Cert.XattnFwdIdeal.τ).loc Cert.XattnFwdIdeal.main_v6)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v6) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
          ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
          ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3)
          ∧ r.2.mem ((c.tc : Thread Cert.XattnFwdIdeal.nD Cert.XattnFwdIdeal.τ).loc Cert.XattnFwdIdeal.main_arg4) = m ((c.tc : Thread Cert.XattnFwdIdeal.nD Cert.XattnFwdIdeal.τ).loc Cert.XattnFwdIdeal.main_arg4)
          ∧ r.2.mem ((c.tc : Thread Cert.XattnFwdIdeal.nD Cert.XattnFwdIdeal.τ).loc Cert.XattnFwdIdeal.main_arg5) = m ((c.tc : Thread Cert.XattnFwdIdeal.nD Cert.XattnFwdIdeal.τ).loc Cert.XattnFwdIdeal.main_arg5))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v38) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1)
          ∧ r.2.mem ((c.tc : Thread Cert.XattnFwdRefIdeal.nD Cert.XattnFwdRefIdeal.τ).loc Cert.XattnFwdRefIdeal.main_arg2) = m' ((c.tc : Thread Cert.XattnFwdRefIdeal.nD Cert.XattnFwdRefIdeal.τ).loc Cert.XattnFwdRefIdeal.main_arg2)
          ∧ r.2.mem ((c.tc : Thread Cert.XattnFwdRefIdeal.nD Cert.XattnFwdRefIdeal.τ).loc Cert.XattnFwdRefIdeal.main_arg3) = m' ((c.tc : Thread Cert.XattnFwdRefIdeal.nD Cert.XattnFwdRefIdeal.τ).loc Cert.XattnFwdRefIdeal.main_arg3)
          ∧ r.2.mem ((c.tc : Thread Cert.XattnFwdRefIdeal.nD Cert.XattnFwdRefIdeal.τ).loc Cert.XattnFwdRefIdeal.main_arg4) = m' ((c.tc : Thread Cert.XattnFwdRefIdeal.nD Cert.XattnFwdRefIdeal.τ).loc Cert.XattnFwdRefIdeal.main_arg4)
          ∧ r.2.mem ((c.tc : Thread Cert.XattnFwdRefIdeal.nD Cert.XattnFwdRefIdeal.τ).loc Cert.XattnFwdRefIdeal.main_arg5) = m' ((c.tc : Thread Cert.XattnFwdRefIdeal.nD Cert.XattnFwdRefIdeal.τ).loc Cert.XattnFwdRefIdeal.main_arg5))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v4_0)) (v1 : (c : Dev Cert.KvProjIdeal.nD) → Buf (Elt Ideal) ((c.tc : Thread Cert.KvProjIdeal.nD Cert.KvProjIdeal.τ).loc Cert.KvProjIdeal.main_v4_1)) (v2 : (c : Dev Cert.KvProjIdeal.nD) → Buf (Elt Ideal) ((c.tc : Thread Cert.KvProjIdeal.nD Cert.KvProjIdeal.τ).loc Cert.KvProjIdeal.main_v4_2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v4_0) = v0 c
          ∧ r.2.mem ((c.tc : Thread Cert.KvProjIdeal.nD Cert.KvProjIdeal.τ).loc Cert.KvProjIdeal.main_v4_1) = v1 c
          ∧ r.2.mem ((c.tc : Thread Cert.KvProjIdeal.nD Cert.KvProjIdeal.τ).loc Cert.KvProjIdeal.main_v4_2) = v2 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v18) = v0 c
          ∧ r.2.mem ((c.tc : Thread Cert.KvProjRefIdeal.nD Cert.KvProjRefIdeal.τ).loc Cert.KvProjRefIdeal.main_v19) = v1 c
          ∧ r.2.mem ((c.tc : Thread Cert.KvProjRefIdeal.nD Cert.KvProjRefIdeal.τ).loc Cert.KvProjRefIdeal.main_v20) = v2 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_FfnHidden_FfnHiddenIdeal : Prop :=
  True

def algebraic_FfnHiddenIdeal_FfnHiddenRefIdeal [hFfnHiddenIdeal : Cert.FfnHiddenIdeal.Facts] [hFfnHiddenRefIdeal : Cert.FfnHiddenRefIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg)
    (m' : (ℓ : Loc Cert.FfnHiddenRefIdeal.nD Cert.FfnHiddenRefIdeal.τ Cert.FfnHiddenRefIdeal.sig) → Buf (Elt Ideal) ℓ) (g' : Dev Cert.FfnHiddenRefIdeal.nD → PrngReg), Pre_FfnHiddenIdeal m →
    (∀ c : Dev Cert.FfnHiddenIdeal.nD,
      m' ((c.tc : Thread Cert.FfnHiddenRefIdeal.nD Cert.FfnHiddenRefIdeal.τ).loc Cert.FfnHiddenRefIdeal.main_arg0) = m ((c.tc : Thread Cert.FfnHiddenIdeal.nD Cert.FfnHiddenIdeal.τ).loc Cert.FfnHiddenIdeal.main_arg0)
      ∧ m' ((c.tc : Thread Cert.FfnHiddenRefIdeal.nD Cert.FfnHiddenRefIdeal.τ).loc Cert.FfnHiddenRefIdeal.main_arg1) = m ((c.tc : Thread Cert.FfnHiddenIdeal.nD Cert.FfnHiddenIdeal.τ).loc Cert.FfnHiddenIdeal.main_arg1)
      ∧ m' ((c.tc : Thread Cert.FfnHiddenRefIdeal.nD Cert.FfnHiddenRefIdeal.τ).loc Cert.FfnHiddenRefIdeal.main_arg2) = m ((c.tc : Thread Cert.FfnHiddenIdeal.nD Cert.FfnHiddenIdeal.τ).loc Cert.FfnHiddenIdeal.main_arg2)) →
    ∃ (v0 : (c : Dev Cert.FfnHiddenIdeal.nD) → Buf (Elt Ideal) ((c.tc : Thread Cert.FfnHiddenIdeal.nD Cert.FfnHiddenIdeal.τ).loc Cert.FfnHiddenIdeal.main_v4_0)) (v1 : (c : Dev Cert.FfnHiddenIdeal.nD) → Buf (Elt Ideal) ((c.tc : Thread Cert.FfnHiddenIdeal.nD Cert.FfnHiddenIdeal.τ).loc Cert.FfnHiddenIdeal.main_v4_1)),
      θ_run (Cert.FfnHiddenIdeal.defs (F := Ideal)) (onTc (τ := Cert.FfnHiddenIdeal.τ) (Cert.FfnHiddenIdeal.main (F := Ideal))) ⟨m, fun _ => 0, g⟩ (fun r => ∀ c : Dev Cert.FfnHiddenIdeal.nD,
          r.2.mem ((c.tc : Thread Cert.FfnHiddenIdeal.nD Cert.FfnHiddenIdeal.τ).loc Cert.FfnHiddenIdeal.main_v4_0) = v0 c
          ∧ r.2.mem ((c.tc : Thread Cert.FfnHiddenIdeal.nD Cert.FfnHiddenIdeal.τ).loc Cert.FfnHiddenIdeal.main_v4_1) = v1 c
          ∧ r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
          ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
          ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2))
      ∧ θ_run (Cert.FfnHiddenRefIdeal.defs (F := Ideal)) (onTc (τ := Cert.FfnHiddenRefIdeal.τ) (Cert.FfnHiddenRefIdeal.main (F := Ideal))) ⟨m', fun _ => 0, g'⟩ (fun r => ∀ c : Dev Cert.FfnHiddenRefIdeal.nD,
          r.2.mem ((c.tc : Thread Cert.FfnHiddenRefIdeal.nD Cert.FfnHiddenRefIdeal.τ).loc Cert.FfnHiddenRefIdeal.main_v18) = v0 c
          ∧ r.2.mem ((c.tc : Thread Cert.FfnHiddenRefIdeal.nD Cert.FfnHiddenRefIdeal.τ).loc Cert.FfnHiddenRefIdeal.main_v21) = v1 c
          ∧ r.2.mem ((c.tc : Thread Cert.FfnHiddenRefIdeal.nD Cert.FfnHiddenRefIdeal.τ).loc Cert.FfnHiddenRefIdeal.main_arg0) = m' ((c.tc : Thread Cert.FfnHiddenRefIdeal.nD Cert.FfnHiddenRefIdeal.τ).loc Cert.FfnHiddenRefIdeal.main_arg0)
          ∧ r.2.mem ((c.tc : Thread Cert.FfnHiddenRefIdeal.nD Cert.FfnHiddenRefIdeal.τ).loc Cert.FfnHiddenRefIdeal.main_arg1) = m' ((c.tc : Thread Cert.FfnHiddenRefIdeal.nD Cert.FfnHiddenRefIdeal.τ).loc Cert.FfnHiddenRefIdeal.main_arg1)
          ∧ r.2.mem ((c.tc : Thread Cert.FfnHiddenRefIdeal.nD Cert.FfnHiddenRefIdeal.τ).loc Cert.FfnHiddenRefIdeal.main_arg2) = m' ((c.tc : Thread Cert.FfnHiddenRefIdeal.nD Cert.FfnHiddenRefIdeal.τ).loc Cert.FfnHiddenRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)
      ∧ m' ((c.tc : Thread Cert.MixFwdRefIdeal.nD Cert.MixFwdRefIdeal.τ).loc Cert.MixFwdRefIdeal.main_arg13) = m ((c.tc : Thread Cert.MixFwdIdeal.nD Cert.MixFwdIdeal.τ).loc Cert.MixFwdIdeal.main_arg13)
      ∧ m' ((c.tc : Thread Cert.MixFwdRefIdeal.nD Cert.MixFwdRefIdeal.τ).loc Cert.MixFwdRefIdeal.main_arg14) = m ((c.tc : Thread Cert.MixFwdIdeal.nD Cert.MixFwdIdeal.τ).loc Cert.MixFwdIdeal.main_arg14)) →
    ∃ (v0 : (c : Dev Cert.MixFwdIdeal.nD) → Buf (Elt Ideal) ((c.tc : Thread Cert.MixFwdIdeal.nD Cert.MixFwdIdeal.τ).loc Cert.MixFwdIdeal.main_v22_0)) (v1 : (c : Dev Cert.MixFwdIdeal.nD) → Buf (Elt Ideal) ((c.tc : Thread Cert.MixFwdIdeal.nD Cert.MixFwdIdeal.τ).loc Cert.MixFwdIdeal.main_v22_1)) (v2 : (c : Dev Cert.MixFwdIdeal.nD) → Buf (Elt Ideal) ((c.tc : Thread Cert.MixFwdIdeal.nD Cert.MixFwdIdeal.τ).loc Cert.MixFwdIdeal.main_v22_2)) (v3 : (c : Dev Cert.MixFwdIdeal.nD) → Buf (Elt Ideal) ((c.tc : Thread Cert.MixFwdIdeal.nD Cert.MixFwdIdeal.τ).loc Cert.MixFwdIdeal.main_v22_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v22_0) = v0 c
          ∧ r.2.mem ((c.tc : Thread Cert.MixFwdIdeal.nD Cert.MixFwdIdeal.τ).loc Cert.MixFwdIdeal.main_v22_1) = v1 c
          ∧ r.2.mem ((c.tc : Thread Cert.MixFwdIdeal.nD Cert.MixFwdIdeal.τ).loc Cert.MixFwdIdeal.main_v22_2) = v2 c
          ∧ r.2.mem ((c.tc : Thread Cert.MixFwdIdeal.nD Cert.MixFwdIdeal.τ).loc Cert.MixFwdIdeal.main_v22_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
          ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v369) = v0 c
          ∧ r.2.mem ((c.tc : Thread Cert.MixFwdRefIdeal.nD Cert.MixFwdRefIdeal.τ).loc Cert.MixFwdRefIdeal.main_v370) = v1 c
          ∧ r.2.mem ((c.tc : Thread Cert.MixFwdRefIdeal.nD Cert.MixFwdRefIdeal.τ).loc Cert.MixFwdRefIdeal.main_v371) = v2 c
          ∧ r.2.mem ((c.tc : Thread Cert.MixFwdRefIdeal.nD Cert.MixFwdRefIdeal.τ).loc Cert.MixFwdRefIdeal.main_v257) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12)
          ∧ r.2.mem ((c.tc : Thread Cert.MixFwdRefIdeal.nD Cert.MixFwdRefIdeal.τ).loc Cert.MixFwdRefIdeal.main_arg13) = m' ((c.tc : Thread Cert.MixFwdRefIdeal.nD Cert.MixFwdRefIdeal.τ).loc Cert.MixFwdRefIdeal.main_arg13)
          ∧ r.2.mem ((c.tc : Thread Cert.MixFwdRefIdeal.nD Cert.MixFwdRefIdeal.τ).loc Cert.MixFwdRefIdeal.main_arg14) = m' ((c.tc : Thread Cert.MixFwdRefIdeal.nD Cert.MixFwdRefIdeal.τ).loc Cert.MixFwdRefIdeal.main_arg14))

def preserves_MixBwd_MixBwdIdeal : Prop :=
  IdealRules.named_const.Statement Cert.MixBwdIdeal.κ "gelu_c2" .f32 0x3DDB33B6#32 ((241015141496493 / 2251799813685248 : ℝ) : EReal)

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)
      ∧ m' ((c.tc : Thread Cert.MixBwdRefIdeal.nD Cert.MixBwdRefIdeal.τ).loc Cert.MixBwdRefIdeal.main_arg11) = m ((c.tc : Thread Cert.MixBwdIdeal.nD Cert.MixBwdIdeal.τ).loc Cert.MixBwdIdeal.main_arg11)
      ∧ m' ((c.tc : Thread Cert.MixBwdRefIdeal.nD Cert.MixBwdRefIdeal.τ).loc Cert.MixBwdRefIdeal.main_arg12) = m ((c.tc : Thread Cert.MixBwdIdeal.nD Cert.MixBwdIdeal.τ).loc Cert.MixBwdIdeal.main_arg12)
      ∧ m' ((c.tc : Thread Cert.MixBwdRefIdeal.nD Cert.MixBwdRefIdeal.τ).loc Cert.MixBwdRefIdeal.main_arg13) = m ((c.tc : Thread Cert.MixBwdIdeal.nD Cert.MixBwdIdeal.τ).loc Cert.MixBwdIdeal.main_arg13)
      ∧ m' ((c.tc : Thread Cert.MixBwdRefIdeal.nD Cert.MixBwdRefIdeal.τ).loc Cert.MixBwdRefIdeal.main_arg14) = m ((c.tc : Thread Cert.MixBwdIdeal.nD Cert.MixBwdIdeal.τ).loc Cert.MixBwdIdeal.main_arg14)
      ∧ m' ((c.tc : Thread Cert.MixBwdRefIdeal.nD Cert.MixBwdRefIdeal.τ).loc Cert.MixBwdRefIdeal.main_arg15) = m ((c.tc : Thread Cert.MixBwdIdeal.nD Cert.MixBwdIdeal.τ).loc Cert.MixBwdIdeal.main_arg15)) →
    ∃ (v0 : (c : Dev Cert.MixBwdIdeal.nD) → Buf (Elt Ideal) ((c.tc : Thread Cert.MixBwdIdeal.nD Cert.MixBwdIdeal.τ).loc Cert.MixBwdIdeal.main_v272_2)) (v1 : (c : Dev Cert.MixBwdIdeal.nD) → Buf (Elt Ideal) ((c.tc : Thread Cert.MixBwdIdeal.nD Cert.MixBwdIdeal.τ).loc Cert.MixBwdIdeal.main_v272_3)) (v2 : (c : Dev Cert.MixBwdIdeal.nD) → Buf (Elt Ideal) ((c.tc : Thread Cert.MixBwdIdeal.nD Cert.MixBwdIdeal.τ).loc Cert.MixBwdIdeal.main_v272_4)) (v3 : (c : Dev Cert.MixBwdIdeal.nD) → Buf (Elt Ideal) ((c.tc : Thread Cert.MixBwdIdeal.nD Cert.MixBwdIdeal.τ).loc Cert.MixBwdIdeal.main_v272_5)) (v4 : (c : Dev Cert.MixBwdIdeal.nD) → Buf (Elt Ideal) ((c.tc : Thread Cert.MixBwdIdeal.nD Cert.MixBwdIdeal.τ).loc Cert.MixBwdIdeal.main_v272_6)) (v5 : (c : Dev Cert.MixBwdIdeal.nD) → Buf (Elt Ideal) ((c.tc : Thread Cert.MixBwdIdeal.nD Cert.MixBwdIdeal.τ).loc Cert.MixBwdIdeal.main_v272_7)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v272_2) = v0 c
          ∧ r.2.mem ((c.tc : Thread Cert.MixBwdIdeal.nD Cert.MixBwdIdeal.τ).loc Cert.MixBwdIdeal.main_v272_3) = v1 c
          ∧ r.2.mem ((c.tc : Thread Cert.MixBwdIdeal.nD Cert.MixBwdIdeal.τ).loc Cert.MixBwdIdeal.main_v272_4) = v2 c
          ∧ r.2.mem ((c.tc : Thread Cert.MixBwdIdeal.nD Cert.MixBwdIdeal.τ).loc Cert.MixBwdIdeal.main_v272_5) = v3 c
          ∧ r.2.mem ((c.tc : Thread Cert.MixBwdIdeal.nD Cert.MixBwdIdeal.τ).loc Cert.MixBwdIdeal.main_v272_6) = v4 c
          ∧ r.2.mem ((c.tc : Thread Cert.MixBwdIdeal.nD Cert.MixBwdIdeal.τ).loc Cert.MixBwdIdeal.main_v272_7) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
          ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
          ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
          ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
          ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v376) = v0 c
          ∧ r.2.mem ((c.tc : Thread Cert.MixBwdRefIdeal.nD Cert.MixBwdRefIdeal.τ).loc Cert.MixBwdRefIdeal.main_v377) = v1 c
          ∧ r.2.mem ((c.tc : Thread Cert.MixBwdRefIdeal.nD Cert.MixBwdRefIdeal.τ).loc Cert.MixBwdRefIdeal.main_v378) = v2 c
          ∧ r.2.mem ((c.tc : Thread Cert.MixBwdRefIdeal.nD Cert.MixBwdRefIdeal.τ).loc Cert.MixBwdRefIdeal.main_v379) = v3 c
          ∧ r.2.mem ((c.tc : Thread Cert.MixBwdRefIdeal.nD Cert.MixBwdRefIdeal.τ).loc Cert.MixBwdRefIdeal.main_v380) = v4 c
          ∧ r.2.mem ((c.tc : Thread Cert.MixBwdRefIdeal.nD Cert.MixBwdRefIdeal.τ).loc Cert.MixBwdRefIdeal.main_v381) = v5 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10)
          ∧ r.2.mem ((c.tc : Thread Cert.MixBwdRefIdeal.nD Cert.MixBwdRefIdeal.τ).loc Cert.MixBwdRefIdeal.main_arg11) = m' ((c.tc : Thread Cert.MixBwdRefIdeal.nD Cert.MixBwdRefIdeal.τ).loc Cert.MixBwdRefIdeal.main_arg11)
          ∧ r.2.mem ((c.tc : Thread Cert.MixBwdRefIdeal.nD Cert.MixBwdRefIdeal.τ).loc Cert.MixBwdRefIdeal.main_arg12) = m' ((c.tc : Thread Cert.MixBwdRefIdeal.nD Cert.MixBwdRefIdeal.τ).loc Cert.MixBwdRefIdeal.main_arg12)
          ∧ r.2.mem ((c.tc : Thread Cert.MixBwdRefIdeal.nD Cert.MixBwdRefIdeal.τ).loc Cert.MixBwdRefIdeal.main_arg13) = m' ((c.tc : Thread Cert.MixBwdRefIdeal.nD Cert.MixBwdRefIdeal.τ).loc Cert.MixBwdRefIdeal.main_arg13)
          ∧ r.2.mem ((c.tc : Thread Cert.MixBwdRefIdeal.nD Cert.MixBwdRefIdeal.τ).loc Cert.MixBwdRefIdeal.main_arg14) = m' ((c.tc : Thread Cert.MixBwdRefIdeal.nD Cert.MixBwdRefIdeal.τ).loc Cert.MixBwdRefIdeal.main_arg14)
          ∧ r.2.mem ((c.tc : Thread Cert.MixBwdRefIdeal.nD Cert.MixBwdRefIdeal.τ).loc Cert.MixBwdRefIdeal.main_arg15) = m' ((c.tc : Thread Cert.MixBwdRefIdeal.nD Cert.MixBwdRefIdeal.τ).loc Cert.MixBwdRefIdeal.main_arg15))

def Claim : Prop :=
  ∃ (hKvBwd : Cert.KvBwd.Facts) (hKvBwdIdeal : Cert.KvBwdIdeal.Facts) (hKvBwdRefIdeal : Cert.KvBwdRefIdeal.Facts) (hMixIn : Cert.MixIn.Facts) (hMixInIdeal : Cert.MixInIdeal.Facts) (hMixInRefIdeal : Cert.MixInRefIdeal.Facts) (hXattnBwd : Cert.XattnBwd.Facts) (hXattnBwdIdeal : Cert.XattnBwdIdeal.Facts) (hXattnBwdRefIdeal : Cert.XattnBwdRefIdeal.Facts) (hFfnBwd : Cert.FfnBwd.Facts) (hFfnBwdIdeal : Cert.FfnBwdIdeal.Facts) (hFfnBwdRefIdeal : Cert.FfnBwdRefIdeal.Facts) (hFfnLoss : Cert.FfnLoss.Facts) (hFfnLossIdeal : Cert.FfnLossIdeal.Facts) (hFfnLossRefIdeal : Cert.FfnLossRefIdeal.Facts) (hXattnFwd : Cert.XattnFwd.Facts) (hXattnFwdIdeal : Cert.XattnFwdIdeal.Facts) (hXattnFwdRefIdeal : Cert.XattnFwdRefIdeal.Facts) (hKvProj : Cert.KvProj.Facts) (hKvProjIdeal : Cert.KvProjIdeal.Facts) (hKvProjRefIdeal : Cert.KvProjRefIdeal.Facts) (hFfnHidden : Cert.FfnHidden.Facts) (hFfnHiddenIdeal : Cert.FfnHiddenIdeal.Facts) (hFfnHiddenRefIdeal : Cert.FfnHiddenRefIdeal.Facts) (hMixFwd : Cert.MixFwd.Facts) (hMixFwdIdeal : Cert.MixFwdIdeal.Facts) (hMixFwdRefIdeal : Cert.MixFwdRefIdeal.Facts) (hMixBwd : Cert.MixBwd.Facts) (hMixBwdIdeal : Cert.MixBwdIdeal.Facts) (hMixBwdRefIdeal : Cert.MixBwdRefIdeal.Facts) (hPre_finite_mixin : Cert.Pre_finite_mixin.Facts) (hPre_finite_xattn : Cert.Pre_finite_xattn.Facts) (hPre_finite_ffn : Cert.Pre_finite_ffn.Facts) (hPre_finite_loss : Cert.Pre_finite_loss.Facts),
    quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_MixIn (hMixIn := hMixIn)
    ∧ quiescent_MixInIdeal (hMixInIdeal := hMixInIdeal)
    ∧ quiescent_MixInIdeal_pre_finite_mixin (hMixInIdeal := hMixInIdeal) (hPre_finite_mixin := hPre_finite_mixin)
    ∧ quiescent_MixInRefIdeal (hMixInRefIdeal := hMixInRefIdeal)
    ∧ quiescent_MixInRefIdeal_pre_finite_mixin (hMixInRefIdeal := hMixInRefIdeal) (hPre_finite_mixin := hPre_finite_mixin)
    ∧ quiescent_XattnBwd (hXattnBwd := hXattnBwd)
    ∧ quiescent_XattnBwdIdeal (hXattnBwdIdeal := hXattnBwdIdeal)
    ∧ quiescent_XattnBwdIdeal_pre_finite_xattn (hXattnBwdIdeal := hXattnBwdIdeal) (hPre_finite_xattn := hPre_finite_xattn)
    ∧ quiescent_XattnBwdRefIdeal (hXattnBwdRefIdeal := hXattnBwdRefIdeal)
    ∧ quiescent_XattnBwdRefIdeal_pre_finite_xattn (hXattnBwdRefIdeal := hXattnBwdRefIdeal) (hPre_finite_xattn := hPre_finite_xattn)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_FfnLoss (hFfnLoss := hFfnLoss)
    ∧ quiescent_FfnLossIdeal (hFfnLossIdeal := hFfnLossIdeal)
    ∧ quiescent_FfnLossIdeal_pre_finite_loss (hFfnLossIdeal := hFfnLossIdeal) (hPre_finite_loss := hPre_finite_loss)
    ∧ quiescent_FfnLossRefIdeal (hFfnLossRefIdeal := hFfnLossRefIdeal)
    ∧ quiescent_FfnLossRefIdeal_pre_finite_loss (hFfnLossRefIdeal := hFfnLossRefIdeal) (hPre_finite_loss := hPre_finite_loss)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_FfnHidden (hFfnHidden := hFfnHidden)
    ∧ quiescent_FfnHiddenIdeal (hFfnHiddenIdeal := hFfnHiddenIdeal)
    ∧ quiescent_FfnHiddenRefIdeal (hFfnHiddenRefIdeal := hFfnHiddenRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ preserves_KvBwd_KvBwdIdeal
    ∧ algebraic_KvBwdIdeal_KvBwdRefIdeal (hKvBwdIdeal := hKvBwdIdeal) (hKvBwdRefIdeal := hKvBwdRefIdeal)
    ∧ preserves_MixIn_MixInIdeal
    ∧ algebraic_MixInIdeal_MixInRefIdeal_pre_finite_mixin (hMixInIdeal := hMixInIdeal) (hMixInRefIdeal := hMixInRefIdeal) (hPre_finite_mixin := hPre_finite_mixin)
    ∧ preserves_XattnBwd_XattnBwdIdeal
    ∧ algebraic_XattnBwdIdeal_XattnBwdRefIdeal_pre_finite_xattn (hXattnBwdIdeal := hXattnBwdIdeal) (hXattnBwdRefIdeal := hXattnBwdRefIdeal) (hPre_finite_xattn := hPre_finite_xattn)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_FfnLoss_FfnLossIdeal
    ∧ algebraic_FfnLossIdeal_FfnLossRefIdeal_pre_finite_loss (hFfnLossIdeal := hFfnLossIdeal) (hFfnLossRefIdeal := hFfnLossRefIdeal) (hPre_finite_loss := hPre_finite_loss)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_KvProj_KvProjIdeal
    ∧ algebraic_KvProjIdeal_KvProjRefIdeal (hKvProjIdeal := hKvProjIdeal) (hKvProjRefIdeal := hKvProjRefIdeal)
    ∧ preserves_FfnHidden_FfnHiddenIdeal
    ∧ algebraic_FfnHiddenIdeal_FfnHiddenRefIdeal (hFfnHiddenIdeal := hFfnHiddenIdeal) (hFfnHiddenRefIdeal := hFfnHiddenRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MixBwd_MixBwdIdeal
    ∧ algebraic_MixBwdIdeal_MixBwdRefIdeal (hMixBwdIdeal := hMixBwdIdeal) (hMixBwdRefIdeal := hMixBwdRefIdeal)
-- ==== Pre_finite_ffn.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_v13 : IVec S_ 1) (main_v16 : IVec S1x1024x5632 1) : IVec S_ 1 :=
  let main_c_5 : IVec S_ 1 := constantI S_ 1 1#1
  let main_v17 : IVec S_ 1 := (fun x v => Host.reduce IntOp.andi x v reducesTo_S1x1024x5632_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F7FFFFF#32
  let main_v20 : FVec F S1x2816x1024 .f32 := broadcastInDim S1x2816x1024 ![] bcast_S_S1x2816x1024 main_cst_6
  let main_v21 : IVec S1x2816x1024 1 := cmpf .ole main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1x1024 .f32) (main_arg3 : FVec F S1x1024x5632 .f32) (main_arg4 : FVec F S1x2816x1024 .f32) : IVec S_ 1 :=
  let main_v0 : FVec F S16384x1024 .f32 := Host.absf main_arg0
  let main_cst : FVec F S_ .f32 := constant S_ .f32 0x7F7FFFFF#32
  let main_v1 : FVec F S16384x1024 .f32 := broadcastInDim S16384x1024 ![] bcast_S_S16384x1024 main_cst
  let main_v2 : IVec S16384x1024 1 := cmpf .ole main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F7FFFFF#32
  let main_v5 : FVec F S16384x1024 .f32 := broadcastInDim S16384x1024 ![] bcast_S_S16384x1024 main_cst_0
  let main_v6 : IVec S16384x1024 1 := cmpf .ole main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F7FFFFF#32
  let main_v10 : FVec F S1x1024 .f32 := broadcastInDim S1x1024 ![] bcast_S_S1x1024 main_cst_2
  let main_v11 : IVec S1x1024 1 := cmpf .ole main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x5632 .f32 := Host.absf main_arg3
  let main_cst_4 : FVec F S_ .f32 := constant S_ .f32 0x7F7FFFFF#32
  let main_v15 : FVec F S1x1024x5632 .f32 := broadcastInDim S1x1024x5632 ![] bcast_S_S1x1024x5632 main_cst_4
  let main_v16 : IVec S1x1024x5632 1 := cmpf .ole main_v14 main_v15
  fn_part1 (F := F) main_arg4 main_v13 main_v16
-- ==== Pre_finite_loss.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S16384x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F7FFFFF#32
  let main_v20 : FVec F S1024 .f32 := broadcastInDim S1024 ![] bcast_S_S1024 main_cst_6
  let main_v21 : IVec S1024 1 := cmpf .ole main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384x1024 .f32 := Host.absf main_arg5
  let main_cst_8 : FVec F S_ .f32 := constant S_ .f32 0x7F7FFFFF#32
  let main_v25 : FVec F S16384x1024 .f32 := broadcastInDim S16384x1024 ![] bcast_S_S16384x1024 main_cst_8
  let main_v26 : IVec S16384x1024 1 := cmpf .ole main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1x1024 .f32) (main_arg2 : FVec F S1x1024x5632 .f32) (main_arg3 : FVec F S1x2816x1024 .f32) (main_arg4 : FVec F S1024 .f32) (main_arg5 : FVec F S16384x1024 .f32) : IVec S_ 1 :=
  let main_v0 : FVec F S16384x1024 .f32 := Host.absf main_arg0
  let main_cst : FVec F S_ .f32 := constant S_ .f32 0x7F7FFFFF#32
  let main_v1 : FVec F S16384x1024 .f32 := broadcastInDim S16384x1024 ![] bcast_S_S16384x1024 main_cst
  let main_v2 : IVec S16384x1024 1 := cmpf .ole main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F7FFFFF#32
  let main_v5 : FVec F S1x1024 .f32 := broadcastInDim S1x1024 ![] bcast_S_S1x1024 main_cst_0
  let main_v6 : IVec S1x1024 1 := cmpf .ole main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F7FFFFF#32
  let main_v10 : FVec F S1x1024x5632 .f32 := broadcastInDim S1x1024x5632 ![] bcast_S_S1x1024x5632 main_cst_2
  let main_v11 : IVec S1x1024x5632 1 := cmpf .ole main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x2816x1024 .f32 := Host.absf main_arg3
  let main_cst_4 : FVec F S_ .f32 := constant S_ .f32 0x7F7FFFFF#32
  let main_v15 : FVec F S1x2816x1024 .f32 := broadcastInDim S1x2816x1024 ![] bcast_S_S1x2816x1024 main_cst_4
  let main_v16 : IVec S1x2816x1024 1 := cmpf .ole main_v14 main_v15
  fn_part1 (F := F) main_arg4 main_arg5 main_v13 main_v16
-- ==== Pre_finite_mixin.lean ====
abbrev S16384x1024 : Shape := ⟨2, ![16384, 1024]⟩
abbrev S16384x6144 : Shape := ⟨2, ![16384, 6144]⟩
abbrev S1x1024 : Shape := ⟨2, ![1, 1024]⟩
abbrev S1x1024x6144 : Shape := ⟨3, ![1, 1024, 6144]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x6144 : S_.BroadcastsInDim S16384x6144 (![] : Fin 0 → Fin S16384x6144.rank)
  reducesTo_S16384x6144_S_d0_1 : S16384x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn_part1 {F : FTy → Type} [FloatOps F] (main_v13 : IVec S_ 1) (main_v16 : IVec S1x1024x6144 1) : IVec S_ 1 :=
  let main_c_5 : IVec S_ 1 := constantI S_ 1 1#1
  let main_v17 : IVec S_ 1 := (fun x v => Host.reduce IntOp.andi x v reducesTo_S1x1024x6144_S_d0_1_2 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x6144 .f32) (main_arg3 : FVec F S1x1024 .f32) (main_arg4 : FVec F S1x1024x6144 .f32) : IVec S_ 1 :=
  let main_v0 : FVec F S16384x1024 .f32 := Host.absf main_arg0
  let main_cst : FVec F S_ .f32 := constant S_ .f32 0x7F7FFFFF#32
  let main_v1 : FVec F S16384x1024 .f32 := broadcastInDim S16384x1024 ![] bcast_S_S16384x1024 main_cst
  let main_v2 : IVec S16384x1024 1 := cmpf .ole main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x6144 .f32 := Host.absf main_arg2
  let main_cst_0 : FVec F S_ .f32 := constant S_ .f32 0x7F7FFFFF#32
  let main_v5 : FVec F S16384x6144 .f32 := broadcastInDim S16384x6144 ![] bcast_S_S16384x6144 main_cst_0
  let main_v6 : IVec S16384x6144 1 := cmpf .ole main_v4 main_v5
  let main_c_1 : IVec S_ 1 := constantI S_ 1 1#1
  let main_v7 : IVec S_ 1 := (fun x v => Host.reduce IntOp.andi x v reducesTo_S16384x6144_S_d0_1 h_S_) main_v6 main_c_1
  let main_v8 : IVec S_ 1 := andi main_v3 main_v7
  let main_v9 : FVec F S1x1024 .f32 := Host.absf main_arg3
  let main_cst_2 : FVec F S_ .f32 := constant S_ .f32 0x7F7FFFFF#32
  let main_v10 : FVec F S1x1024 .f32 := broadcastInDim S1x1024 ![] bcast_S_S1x1024 main_cst_2
  let main_v11 : IVec S1x1024 1 := cmpf .ole main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x6144 .f32 := Host.absf main_arg4
  let main_cst_4 : FVec F S_ .f32 := constant S_ .f32 0x7F7FFFFF#32
  let main_v15 : FVec F S1x1024x6144 .f32 := broadcastInDim S1x1024x6144 ![] bcast_S_S1x1024x6144 main_cst_4
  let main_v16 : IVec S1x1024x6144 1 := cmpf .ole main_v14 main_v15
  fn_part1 (F := F) main_v13 main_v16
-- ==== Pre_finite_xattn.lean ====
abbrev S16384x1024 : Shape := ⟨2, ![16384, 1024]⟩
abbrev S1x1024 : Shape := ⟨2, ![1, 1024]⟩
abbrev S1x1024x1024 : Shape := ⟨3, ![1, 1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S256x1024 .f32) (main_arg6 : FVec F S1x1024x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S256x1024 .f32 := Host.absf main_arg4
  let main_cst_6 : FVec F S_ .f32 := constant S_ .f32 0x7F7FFFFF#32
  let main_v20 : FVec F S256x1024 .f32 := broadcastInDim S256x1024 ![] bcast_S_S256x1024 main_cst_6
  let main_v21 : IVec S256x1024 1 := cmpf .ole main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F7FFFFF#32
  let main_v25 : FVec F S256x1024 .f32 := broadcastInDim S256x1024 ![] bcast_S_S256x1024 main_cst_8
  let main_v26 : IVec S256x1024 1 := cmpf .ole main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1x1024x1024 .f32 := Host.absf main_arg6
  let main_cst_10 : FVec F S_ .f32 := constant S_ .f32 0x7F7FFFFF#32
  let main_v30 : FVec F S1x1024x1024 .f32 := broadcastInDim S1x1024x1024 ![] bcast_S_S1x1024x1024 main_cst_10
  let main_v31 : IVec S1x1024x1024 1 := cmpf .ole main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S1x1024 .f32) (main_arg3 : FVec F S1x1024x1024 .f32) (main_arg4 : FVec F S256x1024 .f32) (main_arg5 : FVec F S256x1024 .f32) (main_arg6 : FVec F S1x1024x1024 .f32) : IVec S_ 1 :=
  let main_v0 : FVec F S16384x1024 .f32 := Host.absf main_arg0
  let main_cst : FVec F S_ .f32 := constant S_ .f32 0x7F7FFFFF#32
  let main_v1 : FVec F S16384x1024 .f32 := broadcastInDim S16384x1024 ![] bcast_S_S16384x1024 main_cst
  let main_v2 : IVec S16384x1024 1 := cmpf .ole main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F7FFFFF#32
  let main_v5 : FVec F S16384x1024 .f32 := broadcastInDim S16384x1024 ![] bcast_S_S16384x1024 main_cst_0
  let main_v6 : IVec S16384x1024 1 := cmpf .ole main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F7FFFFF#32
  let main_v10 : FVec F S1x1024 .f32 := broadcastInDim S1x1024 ![] bcast_S_S1x1024 main_cst_2
  let main_v11 : IVec S1x1024 1 := cmpf .ole main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x1024 .f32 := Host.absf main_arg3
  let main_cst_4 : FVec F S_ .f32 := constant S_ .f32 0x7F7FFFFF#32
  let main_v15 : FVec F S1x1024x1024 .f32 := broadcastInDim S1x1024x1024 ![] bcast_S_S1x1024x1024 main_cst_4
  let main_v16 : IVec S1x1024x1024 1 := cmpf .ole main_v14 main_v15
  fn_part1 (F := F) main_arg4 main_arg5 main_arg6 main_v13 main_v16
-- ==== KvBwd.lean ====
abbrev S256x1024 : Shape := ⟨2, ![256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S_ : Shape := ⟨0, ![]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩
abbrev S1x1024x512 : Shape := ⟨3, ![1, 1024, 512]⟩
abbrev S1024 : Shape := ⟨1, ![1024]⟩

abbrev nBuf : Space → Nat
  | .hbm => 28
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S256x1024, .f32⟩
  | .hbm, ⟨5, _⟩ => ⟨S1024x2048, .f32⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .bf16⟩
  | .hbm, ⟨25, _⟩ => ⟨S4x1024x512, .f32⟩
  | .hbm, ⟨26, _⟩ => ⟨S4x1024x512, .bf16⟩
  | .hbm, ⟨27, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S4x1024x512, .bf16⟩
  | .local _ .vmem, ⟨4, _⟩ => ⟨S256x1024, .f32⟩
  | .local _ .vmem, ⟨5, _⟩ => ⟨S256x1024, .f32⟩
  | .local _ .vmem, ⟨6, _⟩ => ⟨S4x1024x512, .f32⟩
  | .local _ .vmem, ⟨7, _⟩ => ⟨S4x1024x512, .bf16⟩
  | .local _ .vmem, ⟨8, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KvBwdRefIdeal.lean ====
abbrev S256x1024 : Shape := ⟨2, ![256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 42
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S1024x2048, .f32⟩
  | .hbm, ⟨23, _⟩ => ⟨S256x2048, .f32⟩
  | .hbm, ⟨24, _⟩ => ⟨S256x1024, .f32⟩
  | .hbm, ⟨25, _⟩ => ⟨S256x1024, .f32⟩
  | .hbm, ⟨26, _⟩ => ⟨S256x2048, .f32⟩
  | .hbm, ⟨27, _⟩ => ⟨S2048x1024, .f32⟩
  | .hbm, ⟨28, _⟩ => ⟨S1024x2048, .f32⟩
  | .hbm, ⟨29, _⟩ => ⟨S256x1024, .f32⟩
  | .hbm, ⟨30, _⟩ => ⟨S1x1024x2048, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1024x2048, .f32⟩
  | .hbm, ⟨39, _⟩ => ⟨S1024x4x512, .f32⟩
  | .hbm, ⟨40, _⟩ => ⟨S4x1024x512, .f32⟩
  | .hbm, ⟨41, _⟩ => ⟨S4x1024x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MixIn.lean ====
abbrev S16384x1024 : Shape := ⟨2, ![16384, 1024]⟩
abbrev S16384x6144 : Shape := ⟨2, ![16384, 6144]⟩
abbrev S1x1024 : Shape := ⟨2, ![1, 1024]⟩
abbrev S1x1024x6144 : Shape := ⟨3, ![1, 1024, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x6144 : Shape := ⟨2, ![1, 6144]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x1024x1536 : Shape := ⟨3, ![1, 1024, 1536]⟩
abbrev S1024x1536 : Shape := ⟨2, ![1024, 1536]⟩
abbrev S1x1536 : Shape := ⟨2, ![1, 1536]⟩
abbrev S1536 : Shape := ⟨1, ![1536]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x6144, .f32⟩
  | .hbm, ⟨3, _⟩ => ⟨S1x1024, .f32⟩
  | .hbm, ⟨4, _⟩ => ⟨S1x1024x6144, .f32⟩
  | .hbm, ⟨5, _⟩ => ⟨S16384x6144, .bf16⟩
  | .hbm, ⟨6, _⟩ => ⟨S1024x6144, .f32⟩
  | .hbm, ⟨7, _⟩ => ⟨S1024x6144, .bf16⟩
  | .hbm, ⟨8, _⟩ => ⟨S1024x4x1536, .bf16⟩
  | .hbm, ⟨9, _⟩ => ⟨S4x1024x1536, .bf16⟩
  | .hbm, ⟨10, _⟩ => ⟨S16384x1024, .f32⟩
  | .hbm, ⟨11, _⟩ => ⟨S1x1024, .f32⟩
  | .hbm, ⟨12, _⟩ => ⟨S1x6144, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x6144, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInRefIdeal.lean ====
abbrev S16384x1024 : Shape := ⟨2, ![16384, 1024]⟩
abbrev S16384x6144 : Shape := ⟨2, ![16384, 6144]⟩
abbrev S1x1024 : Shape := ⟨2, ![1, 1024]⟩
abbrev S1x1024x6144 : Shape := ⟨3, ![1, 1024, 6144]⟩
abbrev S_ : Shape := ⟨0, ![]⟩
abbrev S1x6144 : Shape := ⟨2, ![1, 6144]⟩
abbrev S1024 : Shape := ⟨1, ![1024]⟩
abbrev S16384 : Shape := ⟨1, ![16384]⟩
abbrev S16384x1 : Shape := ⟨2, ![16384, 1]⟩
abbrev S1024x6144 : Shape := ⟨2, ![1024, 6144]⟩
abbrev S6144 : Shape := ⟨1, ![6144]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x6144, .f32⟩
  | .hbm, ⟨3, _⟩ => ⟨S1x1024, .f32⟩
  | .hbm, ⟨4, _⟩ => ⟨S1x1024x6144, .f32⟩
  | .hbm, ⟨5, _⟩ => ⟨S_, .f32⟩
  | .hbm, ⟨6, _⟩ => ⟨S1x6144, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x6144, .f32⟩
  | .hbm, ⟨29, _⟩ => ⟨S16384x6144, .f32⟩
  | .hbm, ⟨30, _⟩ => ⟨S6144, .f32⟩
  | .hbm, ⟨31, _⟩ => ⟨S1x6144, .f32⟩
  | .hbm, ⟨32, _⟩ => ⟨S16384x6144, .f32⟩
  | .hbm, ⟨33, _⟩ => ⟨S16384x6144, .f32⟩
  | .hbm, ⟨34, _⟩ => ⟨S16384x6144, .f32⟩
  | .hbm, ⟨35, _⟩ => ⟨S_, .f32⟩
  | .hbm, ⟨36, _⟩ => ⟨S6144, .f32⟩
  | .hbm, ⟨37, _⟩ => ⟨S1x6144, .f32⟩
  | .hbm, ⟨38, _⟩ => ⟨S_, .f32⟩
  | .hbm, ⟨39, _⟩ => ⟨S6144, .f32⟩
  | .hbm, ⟨40, _⟩ => ⟨S1x6144, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== XattnBwd.lean ====
abbrev S16384x1024 : Shape := ⟨2, ![16384, 1024]⟩
abbrev S1x1024 : Shape := ⟨2, ![1, 1024]⟩
abbrev S1x1024x1024 : Shape := ⟨3, ![1, 1024, 1024]⟩
abbrev S256x1024 : Shape := ⟨2, ![256, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1024 : Shape := ⟨1, ![1024]⟩

abbrev nBuf : Space → Nat
  | .hbm => 21
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024x1024, .f32⟩
  | .hbm, ⟨4, _⟩ => ⟨S256x1024, .f32⟩
  | .hbm, ⟨5, _⟩ => ⟨S256x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S256x1024, .bf16⟩
  | .hbm, ⟨10, _⟩ => ⟨S256x1024, .bf16⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16384x1024, .bf16⟩
  | .hbm, ⟨18, _⟩ => ⟨S256x1024, .f32⟩
  | .hbm, ⟨19, _⟩ => ⟨S256x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== XattnBwdRefIdeal.lean ====
abbrev S16384x1024 : Shape := ⟨2, ![16384, 1024]⟩
abbrev S1x1024 : Shape := ⟨2, ![1, 1024]⟩
abbrev S1x1024x1024 : Shape := ⟨3, ![1, 1024, 1024]⟩
abbrev S256x1024 : Shape := ⟨2, ![256, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1024x1024 : Shape := ⟨2, ![1024, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S1x1024x1024, .f32⟩
  | 4 => ⟨S256x1024, .f32⟩
  | 5 => ⟨S256x1024, .f32⟩
  | 6 => ⟨S1x1024x1024, .f32⟩
  | 7 => ⟨S_, .f32⟩
  | 8 => ⟨S16384x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S1024x1024, .f32⟩
  | 31 => ⟨S16384x1024, .f32⟩
  | 32 => ⟨S16384x1024, .f32⟩
  | 33 => ⟨S16384x4x256, .f32⟩
  | 34 => ⟨S256x4x256, .f32⟩
  | 35 => ⟨S256x4x256, .f32⟩
  | 36 => ⟨S4x16384x256, .f32⟩
  | 37 => ⟨S_, .f32⟩
  | 38 => ⟨S4x16384x256, .f32⟩
  | 39 => ⟨S4x16384x256, .f32⟩
  | 40 => ⟨S_, .f32⟩
  | 41 => ⟨S4x16384, .f32⟩
  | 42 => ⟨S4x16384x1, .f32⟩
  | 43 => ⟨S4x16384x256, .f32⟩
  | 44 => ⟨S4x16384x256, .i1⟩
  | 45 => ⟨S4x16384x256, .f32⟩
  | 46 => ⟨S_, .f32⟩
  | 47 => ⟨S4x16384, .f32⟩
  | 48 => ⟨S_, .f32⟩
  | 49 => ⟨S4x16384, .f32⟩
  | 50 => ⟨S4x16384, .f32⟩
  | 51 => ⟨S_, .f32⟩
  | 52 => ⟨S4x16384, .f32⟩
  | 53 => ⟨S4x16384, .i1⟩
  | 54 => ⟨S_, .f32⟩
  | 55 => ⟨S4x16384, .f32⟩
  | 56 => ⟨S4x16384, .i1⟩
  | 57 => ⟨S_, .f32⟩
  | 58 => ⟨S4x16384, .f32⟩
  | 59 => ⟨S_, .f32⟩
  | 60 => ⟨S4x16384, .f32⟩
  | 61 => ⟨S_, .f32⟩
  | 62 => ⟨S4x16384, .f32⟩
  | 63 => ⟨S4x16384, .f32⟩
  | 64 => ⟨S4x16384, .f32⟩
  | 65 => ⟨S4x16384x1, .f32⟩
  | 66 => ⟨S4x16384x256, .f32⟩
  | 67 => ⟨S4x16384x256, .f32⟩
  | 68 => ⟨S4x16384x256, .f32⟩
  | 69 => ⟨S_, .f32⟩
  | 70 => ⟨S4x16384, .f32⟩
  | 71 => ⟨S4x16384x1, .f32⟩
  | 72 => ⟨S4x16384x256, .f32⟩
  | 73 => ⟨S4x16384x256, .f32⟩
  | 74 => ⟨S4x16384x1, .f32⟩
  | 75 => ⟨S_, .f32⟩
  | 76 => ⟨S4x16384x1, .f32⟩
  | 77 => ⟨S4x16384x1, .f32⟩
  | 78 => ⟨S4x256x16384, .f32⟩
  | 79 => ⟨S16384x4x256, .f32⟩
  | 80 => ⟨S16384x1024, .f32⟩
  | 81 => ⟨S1024x1024, .f32⟩
  | 82 => ⟨S16384x1024, .f32⟩
  | 83 => ⟨S16384x1024, .f32⟩
  | 84 => ⟨S16384x1024, .f32⟩
  | 85 => ⟨S16384x1024, .f32⟩
  | 86 => ⟨S16384x4x256, .f32⟩
  | 87 => ⟨S4x256x16384, .f32⟩
  | 88 => ⟨S4x16384x256, .f32⟩
  | 89 => ⟨S4x256x256, .f32⟩
  | 90 => ⟨S256x4x256, .f32⟩
  | 91 => ⟨S4x16384x256, .f32⟩
  | 92 => ⟨S4x16384x256, .f32⟩
  | 93 => ⟨S4x16384x256, .f32⟩
  | 94 => ⟨S_, .f32⟩
  | 95 => ⟨S4x16384, .f32⟩
  | 96 => ⟨S4x16384x1, .f32⟩
  | 97 => ⟨S4x16384x1, .f32⟩
  | 98 => ⟨S4x16384x256, .f32⟩
  | 99 => ⟨S4x16384x256, .f32⟩
  | 100 => ⟨S_, .f32⟩
  | 101 => ⟨S4x16384, .f32⟩
  | 102 => ⟨S4x16384x256, .f32⟩
  | 103 => ⟨S4x16384x256, .f32⟩
  | 104 => ⟨S4x16384x256, .f32⟩
  | 105 => ⟨S_, .f32⟩
  | 106 => ⟨S4x16384x256, .f32⟩
  | 107 => ⟨S4x16384x256, .f32⟩
  | 108 => ⟨S4x256x256, .f32⟩
  | 109 => ⟨S256x4x256, .f32⟩
  | 110 => ⟨S4x16384x256, .f32⟩
  | 111 => ⟨S16384x4x256, .f32⟩
  | 112 => ⟨S256x1024, .f32⟩
  | 113 => ⟨S256x1024, .f32⟩
  | 114 => ⟨S16384x1024, .f32⟩
  | 115 => ⟨S16384x1024, .f32⟩
  | 116 => ⟨S16384x1024, .f32⟩
  | 117 => ⟨S_, .f32⟩
  | 118 => ⟨S1024, .f32⟩
  | 119 => ⟨S1x1024, .f32⟩
  | 120 => ⟨S16384x1024, .f32⟩
  | 121 => ⟨S16384x1024, .f32⟩
  | 122 => ⟨S_, .f32⟩
  | 123 => ⟨S1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1, .f32⟩
  | 4 => ⟨S_, .f32⟩
  | 5 => ⟨S16384x1, .f32⟩
  | 6 => ⟨S16384x1, .f32⟩
  | 7 => ⟨S_, .f32⟩
  | 8 => ⟨S16384, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S1x1024, .f32⟩
  | 15 => ⟨S16384x1024, .bf16⟩
  | 16 => ⟨S16384x1024, .bf16⟩
  | 17 => ⟨S16384x1024, .bf16⟩
  | 18 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_21 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== FfnBwd.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x5632, .f32⟩
  | .hbm, ⟨27, _⟩ => ⟨S16384x5632, .f32⟩
  | .hbm, ⟨28, _⟩ => ⟨S16384x5632, .bf16⟩
  | .hbm, ⟨29, _⟩ => ⟨S16384x1024, .f32⟩
  | .hbm, ⟨30, _⟩ => ⟨S16384x1024, .bf16⟩
  | .hbm, ⟨31, _⟩ => ⟨S16384x2816, .bf16⟩
  | .hbm, ⟨32, _⟩ => ⟨S16384x5632, .bf16⟩
  | .hbm, ⟨33, _⟩ => ⟨S16384x1024, .bf16⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x1024x1408, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnBwdRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S1x1024x5632, .f32⟩
  | 4 => ⟨S1x2816x1024, .f32⟩
  | 5 => ⟨S1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1024x5632, .f32⟩
  | 23 => ⟨S16384x5632, .f32⟩
  | 24 => ⟨S16384x2816, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S16384x2816, .f32⟩
  | 37 => ⟨S16384x2816, .f32⟩
  | 38 => ⟨S16384x2816, .f32⟩
  | 39 => ⟨S16384x2816, .f32⟩
  | 40 => ⟨S2816x1024, .f32⟩
  | 41 => ⟨S16384x1024, .f32⟩
  | 42 => ⟨S_, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S16384x2816, .f32⟩
  | 49 => ⟨S16384x2816, .f32⟩
  | 50 => ⟨S16384x2816, .f32⟩
  | 51 => ⟨S_, .f32⟩
  | 52 => ⟨S16384x5632, .f32⟩
  | 53 => ⟨S16384x2816, .f32⟩
  | 54 => ⟨S16384x2816, .f32⟩
  | 55 => ⟨S16384x2816, .f32⟩
  | 56 => ⟨S16384x2816, .f32⟩
  | 57 => ⟨S_, .f32⟩
  | 58 => ⟨S16384x5632, .f32⟩
  | 59 => ⟨S16384x5632, .f32⟩
  | 60 => ⟨S1024, .f32⟩
  | 61 => ⟨S16384x1024, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x1024, .f32⟩
  | 77 => ⟨S16384x1024, .f32⟩
  | 78 => ⟨S1x1024, .f32⟩
  | 79 => ⟨S16384x1024, .f32⟩
  | 80 => ⟨S16384x1024, .f32⟩
  | 81 => ⟨S1024x5632, .f32⟩
  | 82 => ⟨S2816x1024, .f32⟩
  | 83 => ⟨S16384x5632, .f32⟩
  | 84 => ⟨S16384x2816, .f32⟩
  | 85 => ⟨S16384x2816, .f32⟩
  | 86 => ⟨S16384x2816, .f32⟩
  | 87 => ⟨S16384x2816, .f32⟩
  | 88 => ⟨S_, .f32⟩
  | 89 => ⟨S16384x2816, .f32⟩
  | 90 => ⟨S16384x2816, .f32⟩
  | 91 => ⟨S_, .f32⟩
  | 92 => ⟨S16384x2816, .f32⟩
  | 93 => ⟨S16384x2816, .f32⟩
  | 94 => ⟨S_, .f32⟩
  | 95 => ⟨S16384x2816, .f32⟩
  | 96 => ⟨S16384x2816, .f32⟩
  | 97 => ⟨S16384x2816, .f32⟩
  | 98 => ⟨S16384x2816, .f32⟩
  | 99 => ⟨S16384x2816, .f32⟩
  | 100 => ⟨S16384x1024, .f32⟩
  | 101 => ⟨S_, .f32⟩
  | 102 => ⟨S16384x1024, .f32⟩
  | 103 => ⟨S16384x1024, .f32⟩
  | 104 => ⟨S16384x1024, .f32⟩
  | 105 => ⟨S16384x1024, .f32⟩
  | 106 => ⟨S_, .f32⟩
  | 107 => ⟨S16384x1024, .f32⟩
  | 108 => ⟨S16384x1024, .f32⟩
  | 109 => ⟨S16384x2816, .f32⟩
  | 110 => ⟨S16384x2816, .f32⟩
  | 111 => ⟨S16384x2816, .f32⟩
  | 112 => ⟨S16384x2816, .f32⟩
  | 113 => ⟨S16384x2816, .f32⟩
  | 114 => ⟨S16384x2816, .f32⟩
  | 115 => ⟨S16384x2816, .f32⟩
  | 116 => ⟨S16384x5632, .f32⟩
  | 117 => ⟨S16384x1024, .f32⟩
  | 118 => ⟨S16384x1024, .f32⟩
  | 119 => ⟨S_, .f32⟩
  | 120 => ⟨S1024, .f32⟩
  | 121 => ⟨S1x1024, .f32⟩
  | 122 => ⟨S16384x1024, .f32⟩
  | 123 => ⟨S16384x1024, .f32⟩
  | 124 => ⟨S_, .f32⟩
  | 125 => ⟨S1024, .f32⟩
  | 126 => ⟨S16384x1024, .f32⟩
  | 127 => ⟨S_, .f32⟩
  | _ => ⟨S16384x1024, .f32⟩

abbrev hbmTy0_1 (i : Nat) : BufTy := match i % 128 with
  | 0 => ⟨S16384, .f32⟩
  | 1 => ⟨S16384x1, .f32⟩
  | 2 => ⟨S16384x1024, .f32⟩
  | 3 => ⟨S16384x1024, .f32⟩
  | 4 => ⟨S16384x1024, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384, .f32⟩
  | 11 => ⟨S16384x1024, .f32⟩
  | 12 => ⟨S16384x1024, .f32⟩
  | 13 => ⟨S16384x1024, .f32⟩
  | 14 => ⟨S16384x1024, .f32⟩
  | 15 => ⟨S16384x1024, .f32⟩
  | 16 => ⟨S1x1024, .f32⟩
  | 17 => ⟨S16384x1024, .bf16⟩
  | 18 => ⟨S16384x2816, .bf16⟩
  | 19 => ⟨S16384x5632, .bf16⟩
  | 20 => ⟨S_, .f32⟩
  | 21 => ⟨S16384x1024, .f32⟩
  | 22 => ⟨S16384x1024, .f32⟩
  | 23 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_v55_2 : Ref sig .tc := ⟨.hbm, 93, rfl⟩
abbrev main_call2_cst_1 : Ref sig .tc := ⟨.hbm, 94, rfl⟩
abbrev main_call2_v6 : Ref sig .tc := ⟨.hbm, 95, rfl⟩
abbrev main_call2_v7 : Ref sig .tc := ⟨.hbm, 96, rfl⟩
abbrev main_v55_1 : Ref sig .tc := ⟨.hbm, 97, rfl⟩
abbrev main_v55_0 : Ref sig .tc := ⟨.hbm, 98, rfl⟩
abbrev main_v56 : Ref sig .tc := ⟨.hbm, 99, rfl⟩
abbrev main_v57 : Ref sig .tc := ⟨.hbm, 100, rfl⟩
abbrev main_cst_10 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_11 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_13 : Ref sig .tc := ⟨.hbm, 124, rfl⟩
abbrev main_v75 : Ref sig .tc := ⟨.hbm, 125, rfl⟩
abbrev main_v76 : Ref sig .tc := ⟨.hbm, 126, rfl⟩
abbrev main_cst_14 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_15 : Ref sig .tc := ⟨.hbm, 134, rfl⟩
abbrev main_v83 : Ref sig .tc := ⟨.hbm, 135, rfl⟩
abbrev main_v84 : Ref sig .tc := ⟨.hbm, 136, rfl⟩
abbrev main_cst_16 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_17 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩

abbrev nD : Nat := 1
abbrev τ : Topo := Topo.v7x

variable {F : FTy → Type} [FloatOps F]
-- ==== FfnLoss.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S16384x5632 : Shape := ⟨2, ![16384, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S1024x5632, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S16384x1024, .f32⟩
  | .hbm, ⟨14, _⟩ => ⟨S16384x5632, .bf16⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x5632, .bf16⟩
  | .local _ .vmem, ⟨11, _⟩ => ⟨S512x5632, .bf16⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnLossRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 134
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x5632, .f32⟩
  | 3 => ⟨S1x2816x1024, .f32⟩
  | 4 => ⟨S1024, .f32⟩
  | 5 => ⟨S16384x1024, .f32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1024x5632, .f32⟩
  | 24 => ⟨S16384x5632, .f32⟩
  | 25 => ⟨S16384x2816, .f32⟩
  | 26 => ⟨S16384x2816, .f32⟩
  | 27 => ⟨S16384x2816, .f32⟩
  | 28 => ⟨S16384x2816, .f32⟩
  | 29 => ⟨S_, .f32⟩
  | 30 => ⟨S16384x2816, .f32⟩
  | 31 => ⟨S16384x2816, .f32⟩
  | 32 => ⟨S_, .f32⟩
  | 33 => ⟨S16384x2816, .f32⟩
  | 34 => ⟨S16384x2816, .f32⟩
  | 35 => ⟨S16384x2816, .f32⟩
  | 36 => ⟨S16384x2816, .f32⟩
  | 37 => ⟨S2816x1024, .f32⟩
  | 38 => ⟨S16384x1024, .f32⟩
  | 39 => ⟨S_, .f32⟩
  | 40 => ⟨S16384x1024, .f32⟩
  | 41 => ⟨S16384x1024, .f32⟩
  | 42 => ⟨S16384x1024, .f32⟩
  | 43 => ⟨S16384x1024, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S_, .f32⟩
  | 69 => ⟨S16384, .f32⟩
  | 70 => ⟨S_, .f32⟩
  | 71 => ⟨S16384, .f32⟩
  | 72 => ⟨S16384, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x1024, .f32⟩
  | 85 => ⟨S16384x1024, .f32⟩
  | 86 => ⟨S16384x1024, .f32⟩
  | 87 => ⟨S_, .f32⟩
  | 88 => ⟨S1024, .f32⟩
  | 89 => ⟨S1x1024, .f32⟩
  | 90 => ⟨S16384x1024, .f32⟩
  | 91 => ⟨S16384x1024, .f32⟩
  | 92 => ⟨S_, .f32⟩
  | 93 => ⟨S1024, .f32⟩
  | 94 => ⟨S16384x1024, .f32⟩
  | 95 => ⟨S_, .f32⟩
  | 96 => ⟨S16384, .f32⟩
  | 97 => ⟨S16384x1, .f32⟩
  | 98 => ⟨S16384x1024, .f32⟩
  | 99 => ⟨S16384x1024, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S16384x1, .f32⟩
  | 122 => ⟨S16384x1024, .f32⟩
  | 123 => ⟨S16384x1024, .f32⟩
  | 124 => ⟨S1x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S1024, .f32⟩
  | 3 => ⟨S16384x5632, .bf16⟩
  | 4 => ⟨S1x1024, .f32⟩
  | 5 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_cst_12 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_v78 : Ref sig .tc := ⟨.hbm, 114, rfl⟩
abbrev main_cst_21 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_23 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== XattnFwd.lean ====
abbrev S16384x1024 : Shape := ⟨2, ![16384, 1024]⟩
abbrev S1x1024 : Shape := ⟨2, ![1, 1024]⟩
abbrev S1x1024x1024 : Shape := ⟨3, ![1, 1024, 1024]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x1024, .f32⟩
  | .hbm, ⟨3, _⟩ => ⟨S256x1024, .f32⟩
  | .hbm, ⟨4, _⟩ => ⟨S256x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1024x1024, .f32⟩
  | .hbm, ⟨11, _⟩ => ⟨S1024x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== XattnFwdRefIdeal.lean ====
abbrev S16384x1024 : Shape := ⟨2, ![16384, 1024]⟩
abbrev S1x1024 : Shape := ⟨2, ![1, 1024]⟩
abbrev S1x1024x1024 : Shape := ⟨3, ![1, 1024, 1024]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x1024, .f32⟩
  | .hbm, ⟨3, _⟩ => ⟨S256x1024, .f32⟩
  | .hbm, ⟨4, _⟩ => ⟨S256x1024, .f32⟩
  | .hbm, ⟨5, _⟩ => ⟨S1x1024x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x4x256, .f32⟩
  | .hbm, ⟨26, _⟩ => ⟨S256x4x256, .f32⟩
  | .hbm, ⟨27, _⟩ => ⟨S256x4x256, .f32⟩
  | .hbm, ⟨28, _⟩ => ⟨S4x16384x256, .f32⟩
  | .hbm, ⟨29, _⟩ => ⟨S_, .f32⟩
  | .hbm, ⟨30, _⟩ => ⟨S4x16384x256, .f32⟩
  | .hbm, ⟨31, _⟩ => ⟨S4x16384x256, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384x1, .f32⟩
  | .hbm, ⟨38, _⟩ => ⟨S4x16384x256, .f32⟩
  | .hbm, ⟨39, _⟩ => ⟨S4x16384x256, .f32⟩
  | .hbm, ⟨40, _⟩ => ⟨S4x16384x256, .f32⟩
  | .hbm, ⟨41, _⟩ => ⟨S_, .f32⟩
  | .hbm, ⟨42, _⟩ => ⟨S4x16384, .f32⟩
  | .hbm, ⟨43, _⟩ => ⟨S4x16384x1, .f32⟩
  | .hbm, ⟨44, _⟩ => ⟨S4x16384x256, .f32⟩
  | .hbm, ⟨45, _⟩ => ⟨S4x16384x256, .f32⟩
  | .hbm, ⟨46, _⟩ => ⟨S4x256x16384, .f32⟩
  | .hbm, ⟨47, _⟩ => ⟨S16384x4x256, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KvProj.lean ====
abbrev S256x1024 : Shape := ⟨2, ![256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S256x1024, .bf16⟩
  | .hbm, ⟨8, _⟩ => ⟨S256x1024, .bf16⟩
  | .hbm, ⟨9, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KvProjRefIdeal.lean ====
abbrev S256x1024 : Shape := ⟨2, ![256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S1024x2048, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S256x1024, .bf16⟩
  | .hbm, ⟨25, _⟩ => ⟨S256x1024, .bf16⟩
  | .hbm, ⟨26, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== FfnHidden.lean ====
abbrev S16384x1024 : Shape := ⟨2, ![16384, 1024]⟩
abbrev S1x1024 : Shape := ⟨2, ![1, 1024]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1024x5632, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S16384x5632, .bf16⟩
  | .hbm, ⟨8, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x2816, .bf16⟩
  | .local _ .vmem, ⟨7, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnHiddenRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x5632, .bf16⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== MixFwd.lean ====
abbrev S16384x1024 : Shape := ⟨2, ![16384, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S31x1024 : Shape := ⟨2, ![31, 1024]⟩
abbrev S32x1024 : Shape := ⟨2, ![32, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1024x1024 : Shape := ⟨2, ![1024, 1024]⟩
abbrev S16384x6144 : Shape := ⟨2, ![16384, 6144]⟩
abbrev S256x1024 : Shape := ⟨2, ![256, 1024]⟩
abbrev S256x6144 : Shape := ⟨2, ![256, 6144]⟩
abbrev S288x1024 : Shape := ⟨2, ![288, 1024]⟩
abbrev S7x280x128 : Shape := ⟨3, ![7, 280, 128]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536 : Shape := ⟨2, ![1, 1536]⟩
abbrev S256x512 : Shape := ⟨2, ![256, 512]⟩
abbrev S280x128 : Shape := ⟨2, ![280, 128]⟩
abbrev S1x280x128 : Shape := ⟨3, ![1, 280, 128]⟩
abbrev S1x128 : Shape := ⟨2, ![1, 128]⟩
abbrev S128x256 : Shape := ⟨2, ![128, 256]⟩

abbrev nBuf : Space → Nat
  | .hbm => 56
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x6144, .f32⟩
  | .hbm, ⟨3, _⟩ => ⟨S1x6144, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x4x128x128, .f32⟩
  | .hbm, ⟨12, _⟩ => ⟨S1x4x128, .f32⟩
  | .hbm, ⟨13, _⟩ => ⟨S1x1024x1024, .f32⟩
  | .hbm, ⟨14, _⟩ => ⟨S1x1024x1024, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S1x128x128, .i1⟩
  | .hbm, ⟨27, _⟩ => ⟨S4x128x128, .f32⟩
  | .hbm, ⟨28, _⟩ => ⟨S_, .f32⟩
  | .hbm, ⟨29, _⟩ => ⟨S_, .f32⟩
  | .hbm, ⟨30, _⟩ => ⟨S4x128x128, .i1⟩
  | .hbm, ⟨31, _⟩ => ⟨S4x128x128, .f32⟩
  | .hbm, ⟨32, _⟩ => ⟨S4x128x128, .f32⟩
  | .hbm, ⟨33, _⟩ => ⟨S4x128x128, .bf16⟩
  | .hbm, ⟨34, _⟩ => ⟨S4x128, .f32⟩
  | .hbm, ⟨35, _⟩ => ⟨S128x4, .f32⟩
  | .hbm, ⟨36, _⟩ => ⟨S128x4x256, .f32⟩
  | .hbm, ⟨37, _⟩ => ⟨S128x1024, .f32⟩
  | .hbm, ⟨38, _⟩ => ⟨S31x1024, .f32⟩
  | .hbm, ⟨39, _⟩ => ⟨S_, .i32⟩
  | .hbm, ⟨40, _⟩ => ⟨S_, .f32⟩
  | .hbm, ⟨41, _⟩ => ⟨S32x1024, .f32⟩
  | .hbm, ⟨42, _⟩ => ⟨S1024x6144, .f32⟩
  | .hbm, ⟨43, _⟩ => ⟨S1024x6144, .bf16⟩
  | .hbm, ⟨44, _⟩ => ⟨S1024x4x1536, .bf16⟩
  | .hbm, ⟨45, _⟩ => ⟨S4x1024x1536, .bf16⟩
  | .hbm, ⟨46, _⟩ => ⟨S1024x1024, .f32⟩
  | .hbm, ⟨47, _⟩ => ⟨S1024x1024, .bf16⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S16384x1024, .f32⟩
  | .hbm, ⟨53, _⟩ => ⟨S16384x6144, .bf16⟩
  | .hbm, ⟨54, _⟩ => ⟨S16384x1024, .bf16⟩
  | .hbm, ⟨55, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1536, .bf16⟩
  | .local _ .vmem, ⟨4, _⟩ => ⟨S1x6144, .f32⟩
  | .local _ .vmem, ⟨5, _⟩ => ⟨S32x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S4x128x128, .bf16⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x6144, .bf16⟩
  | .local _ .vmem, ⟨19, _⟩ => ⟨S256x6144, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S288x1024, .f32⟩
  | .local _ .vmem, ⟨25, _⟩ => ⟨S256x1024, .f32⟩
  | .local _ .vmem, ⟨26, _⟩ => ⟨S7x280x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_call2_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev main_v22_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x6144 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixFwdRefIdeal.lean ====
abbrev S16384x1024 : Shape := ⟨2, ![16384, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S6144 : Shape := ⟨1, ![6144]⟩
abbrev S31x1024 : Shape := ⟨2, ![31, 1024]⟩
abbrev S30x1024 : Shape := ⟨2, ![30, 1024]⟩
abbrev S16414x1024 : Shape := ⟨2, ![16414, 1024]⟩
abbrev S1024x1024 : Shape := ⟨2, ![1024, 1024]⟩
abbrev S4x128x128 : Shape := ⟨3, ![4, 128, 128]⟩
abbrev S4x128 : Shape := ⟨2, ![4, 128]⟩
abbrev S128x128x4x256 : Shape := ⟨4, ![128, 128, 4, 256]⟩
abbrev S128x128 : Shape := ⟨2, ![128, 128]⟩
abbrev S1x128x128 : Shape := ⟨3, ![1, 128, 128]⟩
abbrev S4x128x256x128 : Shape := ⟨4, ![4, 128, 256, 128]⟩
abbrev S128x4 : Shape := ⟨2, ![128, 4]⟩
abbrev S1x128x4x1 : Shape := ⟨4, ![1, 128, 4, 1]⟩

abbrev nBuf : Space → Nat
  | .hbm => 437
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x6144, .f32⟩
  | 3 => ⟨S1x6144, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1024, .f32⟩
  | 11 => ⟨S1x4x128x128, .f32⟩
  | 12 => ⟨S1x4x128, .f32⟩
  | 13 => ⟨S1x1024x1024, .f32⟩
  | 14 => ⟨S1x1024x1024, .f32⟩
  | 15 => ⟨S1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1024x6144, .f32⟩
  | 33 => ⟨S16384x6144, .f32⟩
  | 34 => ⟨S6144, .f32⟩
  | 35 => ⟨S1x6144, .f32⟩
  | 36 => ⟨S16384x6144, .f32⟩
  | 37 => ⟨S16384x6144, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S31x1024, .f32⟩
  | 54 => ⟨S1024, .f32⟩
  | 55 => ⟨S_, .f32⟩
  | 56 => ⟨S30x1024, .f32⟩
  | 57 => ⟨S16414x1024, .f32⟩
  | 58 => ⟨S1x1024, .f32⟩
  | 59 => ⟨S1024, .f32⟩
  | 60 => ⟨S16384x1024, .f32⟩
  | 61 => ⟨S1x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S1x1024, .f32⟩
  | 68 => ⟨S1024, .f32⟩
  | 69 => ⟨S16384x1024, .f32⟩
  | 70 => ⟨S1x1024, .f32⟩
  | 71 => ⟨S16384x1024, .f32⟩
  | 72 => ⟨S16384x1024, .f32⟩
  | 73 => ⟨S16384x1024, .f32⟩
  | 74 => ⟨S1x1024, .f32⟩
  | 75 => ⟨S1024, .f32⟩
  | 76 => ⟨S16384x1024, .f32⟩
  | 77 => ⟨S1x1024, .f32⟩
  | 78 => ⟨S16384x1024, .f32⟩
  | 79 => ⟨S16384x1024, .f32⟩
  | 80 => ⟨S16384x1024, .f32⟩
  | 81 => ⟨S1x1024, .f32⟩
  | 82 => ⟨S1024, .f32⟩
  | 83 => ⟨S16384x1024, .f32⟩
  | 84 => ⟨S1x1024, .f32⟩
  | 85 => ⟨S16384x1024, .f32⟩
  | 86 => ⟨S16384x1024, .f32⟩
  | 87 => ⟨S16384x1024, .f32⟩
  | 88 => ⟨S1x1024, .f32⟩
  | 89 => ⟨S1024, .f32⟩
  | 90 => ⟨S16384x1024, .f32⟩
  | 91 => ⟨S1x1024, .f32⟩
  | 92 => ⟨S16384x1024, .f32⟩
  | 93 => ⟨S16384x1024, .f32⟩
  | 94 => ⟨S16384x1024, .f32⟩
  | 95 => ⟨S1x1024, .f32⟩
  | 96 => ⟨S1024, .f32⟩
  | 97 => ⟨S16384x1024, .f32⟩
  | 98 => ⟨S1x1024, .f32⟩
  | 99 => ⟨S16384x1024, .f32⟩
  | 100 => ⟨S16384x1024, .f32⟩
  | 101 => ⟨S16384x1024, .f32⟩
  | 102 => ⟨S1x1024, .f32⟩
  | 103 => ⟨S1024, .f32⟩
  | 104 => ⟨S16384x1024, .f32⟩
  | 105 => ⟨S1x1024, .f32⟩
  | 106 => ⟨S16384x1024, .f32⟩
  | 107 => ⟨S16384x1024, .f32⟩
  | 108 => ⟨S16384x1024, .f32⟩
  | 109 => ⟨S1x1024, .f32⟩
  | 110 => ⟨S1024, .f32⟩
  | 111 => ⟨S16384x1024, .f32⟩
  | 112 => ⟨S1x1024, .f32⟩
  | 113 => ⟨S16384x1024, .f32⟩
  | 114 => ⟨S16384x1024, .f32⟩
  | 115 => ⟨S16384x1024, .f32⟩
  | 116 => ⟨S1x1024, .f32⟩
  | 117 => ⟨S1024, .f32⟩
  | 118 => ⟨S16384x1024, .f32⟩
  | 119 => ⟨S1x1024, .f32⟩
  | 120 => ⟨S16384x1024, .f32⟩
  | 121 => ⟨S16384x1024, .f32⟩
  | 122 => ⟨S16384x1024, .f32⟩
  | 123 => ⟨S1x1024, .f32⟩
  | 124 => ⟨S1024, .f32⟩
  | 125 => ⟨S16384x1024, .f32⟩
  | 126 => ⟨S1x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024, .f32⟩
  | 3 => ⟨S1024, .f32⟩
  | 4 => ⟨S16384x1024, .f32⟩
  | 5 => ⟨S1x1024, .f32⟩
  | 6 => ⟨S16384x1024, .f32⟩
  | 7 => ⟨S16384x1024, .f32⟩
  | 8 => ⟨S16384x1024, .f32⟩
  | 9 => ⟨S1x1024, .f32⟩
  | 10 => ⟨S1024, .f32⟩
  | 11 => ⟨S16384x1024, .f32⟩
  | 12 => ⟨S1x1024, .f32⟩
  | 13 => ⟨S16384x1024, .f32⟩
  | 14 => ⟨S16384x1024, .f32⟩
  | 15 => ⟨S16384x1024, .f32⟩
  | 16 => ⟨S1x1024, .f32⟩
  | 17 => ⟨S1024, .f32⟩
  | 18 => ⟨S16384x1024, .f32⟩
  | 19 => ⟨S1x1024, .f32⟩
  | 20 => ⟨S16384x1024, .f32⟩
  | 21 => ⟨S16384x1024, .f32⟩
  | 22 => ⟨S16384x1024, .f32⟩
  | 23 => ⟨S1x1024, .f32⟩
  | 24 => ⟨S1024, .f32⟩
  | 25 => ⟨S16384x1024, .f32⟩
  | 26 => ⟨S1x1024, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S16384x1024, .f32⟩
  | 33 => ⟨S1x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S16384x1024, .f32⟩
  | 40 => ⟨S1x1024, .f32⟩
  | 41 => ⟨S16384x1024, .f32⟩
  | 42 => ⟨S16384x1024, .f32⟩
  | 43 => ⟨S16384x1024, .f32⟩
  | 44 => ⟨S1x1024, .f32⟩
  | 45 => ⟨S1024, .f32⟩
  | 46 => ⟨S16384x1024, .f32⟩
  | 47 => ⟨S1x1024, .f32⟩
  | 48 => ⟨S16384x1024, .f32⟩
  | 49 => ⟨S16384x1024, .f32⟩
  | 50 => ⟨S16384x1024, .f32⟩
  | 51 => ⟨S1x1024, .f32⟩
  | 52 => ⟨S1024, .f32⟩
  | 53 => ⟨S16384x1024, .f32⟩
  | 54 => ⟨S1x1024, .f32⟩
  | 55 => ⟨S16384x1024, .f32⟩
  | 56 => ⟨S16384x1024, .f32⟩
  | 57 => ⟨S16384x1024, .f32⟩
  | 58 => ⟨S1x1024, .f32⟩
  | 59 => ⟨S1024, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S1x1024, .f32⟩
  | 66 => ⟨S1024, .f32⟩
  | 67 => ⟨S16384x1024, .f32⟩
  | 68 => ⟨S1x1024, .f32⟩
  | 69 => ⟨S16384x1024, .f32⟩
  | 70 => ⟨S16384x1024, .f32⟩
  | 71 => ⟨S16384x1024, .f32⟩
  | 72 => ⟨S1x1024, .f32⟩
  | 73 => ⟨S1024, .f32⟩
  | 74 => ⟨S16384x1024, .f32⟩
  | 75 => ⟨S1x1024, .f32⟩
  | 76 => ⟨S16384x1024, .f32⟩
  | 77 => ⟨S16384x1024, .f32⟩
  | 78 => ⟨S16384x1024, .f32⟩
  | 79 => ⟨S1x1024, .f32⟩
  | 80 => ⟨S1024, .f32⟩
  | 81 => ⟨S16384x1024, .f32⟩
  | 82 => ⟨S1x1024, .f32⟩
  | 83 => ⟨S16384x1024, .f32⟩
  | 84 => ⟨S16384x1024, .f32⟩
  | 85 => ⟨S16384x1024, .f32⟩
  | 86 => ⟨S1x1024, .f32⟩
  | 87 => ⟨S1024, .f32⟩
  | 88 => ⟨S16384x1024, .f32⟩
  | 89 => ⟨S1x1024, .f32⟩
  | 90 => ⟨S16384x1024, .f32⟩
  | 91 => ⟨S16384x1024, .f32⟩
  | 92 => ⟨S16384x1024, .f32⟩
  | 93 => ⟨S1x1024, .f32⟩
  | 94 => ⟨S1024, .f32⟩
  | 95 => ⟨S16384x1024, .f32⟩
  | 96 => ⟨S1x1024, .f32⟩
  | 97 => ⟨S16384x1024, .f32⟩
  | 98 => ⟨S16384x1024, .f32⟩
  | 99 => ⟨S16384x1024, .f32⟩
  | 100 => ⟨S1x1024, .f32⟩
  | 101 => ⟨S1024, .f32⟩
  | 102 => ⟨S16384x1024, .f32⟩
  | 103 => ⟨S1x1024, .f32⟩
  | 104 => ⟨S16384x1024, .f32⟩
  | 105 => ⟨S16384x1024, .f32⟩
  | 106 => ⟨S16384x1024, .f32⟩
  | 107 => ⟨S1x1024, .f32⟩
  | 108 => ⟨S1024, .f32⟩
  | 109 => ⟨S16384x1024, .f32⟩
  | 110 => ⟨S1x1024, .f32⟩
  | 111 => ⟨S16384x1024, .f32⟩
  | 112 => ⟨S16384x1024, .f32⟩
  | 113 => ⟨S16384x1024, .f32⟩
  | 114 => ⟨S1x1024, .f32⟩
  | 115 => ⟨S1024, .f32⟩
  | 116 => ⟨S16384x1024, .f32⟩
  | 117 => ⟨S1x1024, .f32⟩
  | 118 => ⟨S16384x1024, .f32⟩
  | 119 => ⟨S16384x1024, .f32⟩
  | 120 => ⟨S16384x1024, .f32⟩
  | 121 => ⟨S1x1024, .f32⟩
  | 122 => ⟨S1024, .f32⟩
  | 123 => ⟨S16384x1024, .f32⟩
  | 124 => ⟨S1x1024, .f32⟩
  | 125 => ⟨S16384x1024, .f32⟩
  | 126 => ⟨S16384x1024, .f32⟩
  | 127 => ⟨S16384x1024, .f32⟩
  | _ => ⟨S16384x1024, .f32⟩

abbrev hbmTy0_2 (i : Nat) : BufTy := match i % 128 with
  | 0 => ⟨S1x1024, .f32⟩
  | 1 => ⟨S1024, .f32⟩
  | 2 => ⟨S16384x1024, .f32⟩
  | 3 => ⟨S1x1024, .f32⟩
  | 4 => ⟨S16384x1024, .f32⟩
  | 5 => ⟨S16384x1024, .f32⟩
  | 6 => ⟨S16384x1024, .f32⟩
  | 7 => ⟨S1x1024, .f32⟩
  | 8 => ⟨S1024, .f32⟩
  | 9 => ⟨S16384x1024, .f32⟩
  | 10 => ⟨S1x1024, .f32⟩
  | 11 => ⟨S16384x1024, .f32⟩
  | 12 => ⟨S16384x1024, .f32⟩
  | 13 => ⟨S16384x1024, .f32⟩
  | 14 => ⟨S1x1024, .f32⟩
  | 15 => ⟨S1024, .f32⟩
  | 16 => ⟨S16384x1024, .f32⟩
  | 17 => ⟨S1x1024, .f32⟩
  | 18 => ⟨S16384x1024, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1024, .f32⟩
  | 25 => ⟨S1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x1024, .f32⟩
  | 46 => ⟨S16384x1024, .f32⟩
  | 47 => ⟨S1x1024, .f32⟩
  | 48 => ⟨S16384x1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S1024x1024, .f32⟩
  | 63 => ⟨S16384x1024, .f32⟩
  | 64 => ⟨S1024, .f32⟩
  | 65 => ⟨S1024, .f32⟩
  | 66 => ⟨S4x128x128, .f32⟩
  | 67 => ⟨S4x128, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S_, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S_, .f32⟩
  | 92 => ⟨S16384x1024, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x1024, .f32⟩
  | 122 => ⟨S16384x1024, .f32⟩
  | 123 => ⟨S1x1024, .f32⟩
  | 124 => ⟨S16384x1024, .f32⟩
  | 125 => ⟨S16384x1024, .f32⟩
  | 126 => ⟨S1x1024, .f32⟩
  | 127 => ⟨S16384x1024, .f32⟩
  | _ => ⟨S16384x1024, .f32⟩

abbrev hbmTy0_3 (i : Nat) : BufTy := match i % 128 with
  | 0 => ⟨S16384x1024, .f32⟩
  | 1 => ⟨S128x128x4x256, .f32⟩
  | 2 => ⟨S_, .i1⟩
  | 3 => ⟨S128x128, .i1⟩
  | 4 => ⟨S128x128, .i32⟩
  | 5 => ⟨S_, .i32⟩
  | 6 => ⟨S128x128, .i32⟩
  | 7 => ⟨S128x128, .i32⟩
  | 8 => ⟨S128x128, .i32⟩
  | 9 => ⟨S128x128, .i1⟩
  | 10 => ⟨S_, .i1⟩
  | 11 => ⟨S128x128, .i1⟩
  | 12 => ⟨S128x128, .i1⟩
  | 13 => ⟨S1x128x128, .i1⟩
  | 14 => ⟨S_, .f32⟩
  | 15 => ⟨S_, .f32⟩
  | 16 => ⟨S4x128x128, .i1⟩
  | 17 => ⟨S4x128x128, .f32⟩
  | 18 => ⟨S4x128x128, .f32⟩
  | 19 => ⟨S4x128x256x128, .f32⟩
  | 20 => ⟨S128x128x4x256, .f32⟩
  | 21 => ⟨S128x4, .f32⟩
  | 22 => ⟨S1x128x4x1, .f32⟩
  | 23 => ⟨S128x128x4x256, .f32⟩
  | 24 => ⟨S128x128x4x256, .f32⟩
  | 25 => ⟨S16384x1024, .f32⟩
  | 26 => ⟨S16384x1024, .f32⟩
  | 27 => ⟨S1024x1024, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S16384x1024, .f32⟩
  | 48 => ⟨S1024x1024, .f32⟩
  | 49 => ⟨S16384x1024, .f32⟩
  | 50 => ⟨S16384x1024, .f32⟩
  | 51 => ⟨S16384x6144, .bf16⟩
  | 52 => ⟨S16384x1024, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_cst_6 : Ref sig .tc := ⟨.hbm, 282, rfl⟩
abbrev main_v260 : Ref sig .tc := ⟨.hbm, 283, rfl⟩
abbrev main_v261 : Ref sig .tc := ⟨.hbm, 284, rfl⟩
abbrev main_cst_7 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_cst_8 : Ref sig .tc := ⟨.hbm, 291, rfl⟩
abbrev main_v267 : Ref sig .tc := ⟨.hbm, 292, rfl⟩
abbrev main_v268 : Ref sig .tc := ⟨.hbm, 293, rfl⟩
abbrev main_cst_9 : Ref sig .tc := ⟨.hbm, 294, rfl⟩
abbrev main_v269 : Ref sig .tc := ⟨.hbm, 295, rfl⟩
abbrev main_v270 : Ref sig .tc := ⟨.hbm, 296, rfl⟩
abbrev main_cst_10 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_call0_v0 : Ref sig .tc := ⟨.hbm, 309, rfl⟩
abbrev main_call0_v1 : Ref sig .tc := ⟨.hbm, 310, rfl⟩
abbrev main_call0_cst : Ref sig .tc := ⟨.hbm, 311, rfl⟩
abbrev main_call0_v2 : Ref sig .tc := ⟨.hbm, 312, rfl⟩
abbrev main_call0_v3 : Ref sig .tc := ⟨.hbm, 313, rfl⟩
abbrev main_call0_cst_0 : Ref sig .tc := ⟨.hbm, 314, rfl⟩
abbrev main_call0_v4 : Ref sig .tc := ⟨.hbm, 315, rfl⟩
abbrev main_call0_v5 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_cst_11 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_cst_12 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_cst_13 : Ref sig .tc := ⟨.hbm, 334, rfl⟩
abbrev main_v297 : Ref sig .tc := ⟨.hbm, 335, rfl⟩
abbrev main_v298 : Ref sig .tc := ⟨.hbm, 336, rfl⟩
abbrev main_cst_14 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_cst_15 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_cst_16 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_cst_17 : Ref sig .tc := ⟨.hbm, 351, rfl⟩
abbrev main_v310 : Ref sig .tc := ⟨.hbm, 352, rfl⟩
abbrev main_v311 : Ref sig .tc := ⟨.hbm, 353, rfl⟩
abbrev main_cst_18 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_cst_19 : Ref sig .tc := ⟨.hbm, 358, rfl⟩
abbrev main_v315 : Ref sig .tc := ⟨.hbm, 359, rfl⟩
abbrev main_v316 : Ref sig .tc := ⟨.hbm, 360, rfl⟩
abbrev main_cst_20 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_cst_21 : Ref sig .tc := ⟨.hbm, 367, rfl⟩
abbrev main_v322 : Ref sig .tc := ⟨.hbm, 368, rfl⟩
abbrev main_v323 : Ref sig .tc := ⟨.hbm, 369, rfl⟩
abbrev main_cst_22 : Ref sig .tc := ⟨.hbm, 370, rfl⟩
abbrev main_v324 : Ref sig .tc := ⟨.hbm, 371, rfl⟩
abbrev main_v325 : Ref sig .tc := ⟨.hbm, 372, rfl⟩
abbrev main_cst_23 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_c : Ref sig .tc := ⟨.hbm, 386, rfl⟩
abbrev main_v338 : Ref sig .tc := ⟨.hbm, 387, rfl⟩
abbrev main_call1_v0 : Ref sig .tc := ⟨.hbm, 388, rfl⟩
abbrev main_call1_c : Ref sig .tc := ⟨.hbm, 389, rfl⟩
abbrev main_call1_v1 : Ref sig .tc := ⟨.hbm, 390, rfl⟩
abbrev main_call1_v2 : Ref sig .tc := ⟨.hbm, 391, rfl⟩
abbrev main_call1_v3 : Ref sig .tc := ⟨.hbm, 392, rfl⟩
abbrev main_call1_v4 : Ref sig .tc := ⟨.hbm, 393, rfl⟩
abbrev main_call1_c_0 : Ref sig .tc := ⟨.hbm, 394, rfl⟩
abbrev main_call1_v5 : Ref sig .tc := ⟨.hbm, 395, rfl⟩
abbrev main_v339 : Ref sig .tc := ⟨.hbm, 396, rfl⟩
abbrev main_v340 : Ref sig .tc := ⟨.hbm, 397, rfl⟩
abbrev main_cst_24 : Ref sig .tc := ⟨.hbm, 398, rfl⟩
abbrev main_call2_v0 : Ref sig .tc := ⟨.hbm, 399, rfl⟩
abbrev main_call2_v1 : Ref sig .tc := ⟨.hbm, 400, rfl⟩
abbrev main_call2_v2 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_cst_25 : Ref sig .tc := ⟨.hbm, 415, rfl⟩
abbrev main_v354 : Ref sig .tc := ⟨.hbm, 416, rfl⟩
abbrev main_v355 : Ref sig .tc := ⟨.hbm, 417, rfl⟩
abbrev main_cst_26 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_cst_27 : Ref sig .tc := ⟨.hbm, 424, rfl⟩
abbrev main_v361 : Ref sig .tc := ⟨.hbm, 425, rfl⟩
abbrev main_v362 : Ref sig .tc := ⟨.hbm, 426, rfl⟩
abbrev main_cst_28 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩

abbrev nD : Nat := 1
abbrev τ : Topo := Topo.v7x

variable {F : FTy → Type} [FloatOps F]
-- ==== MixBwd.lean ====
abbrev S16384x1024 : Shape := ⟨2, ![16384, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S6144 : Shape := ⟨1, ![6144]⟩
abbrev S31x1024 : Shape := ⟨2, ![31, 1024]⟩
abbrev S30x1024 : Shape := ⟨2, ![30, 1024]⟩
abbrev S16414x1024 : Shape := ⟨2, ![16414, 1024]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S1024x1024 : Shape := ⟨2, ![1024, 1024]⟩
abbrev S256x6144 : Shape := ⟨2, ![256, 6144]⟩
abbrev S256x1024 : Shape := ⟨2, ![256, 1024]⟩
abbrev S256 : Shape := ⟨1, ![256]⟩
abbrev S256x1 : Shape := ⟨2, ![256, 1]⟩
abbrev S128x256 : Shape := ⟨2, ![128, 256]⟩
abbrev S256x2048 : Shape := ⟨2, ![256, 2048]⟩
abbrev S128 : Shape := ⟨1, ![128]⟩
abbrev S128x1 : Shape := ⟨2, ![128, 1]⟩

abbrev nBuf : Space → Nat
  | .hbm => 322
  | .vmem => 42
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S1x1024x6144, .f32⟩
  | 4 => ⟨S1x6144, .f32⟩
  | 5 => ⟨S1x31x1024, .f32⟩
  | 6 => ⟨S1x1024, .f32⟩
  | 7 => ⟨S1x1024, .f32⟩
  | 8 => ⟨S1x1024, .f32⟩
  | 9 => ⟨S1x1024x1024, .f32⟩
  | 10 => ⟨S1x1024, .f32⟩
  | 11 => ⟨S1x1024, .f32⟩
  | 12 => ⟨S1x4x128x128, .f32⟩
  | 13 => ⟨S1x4x128, .f32⟩
  | 14 => ⟨S1x1024x1024, .f32⟩
  | 15 => ⟨S1x1024x1024, .f32⟩
  | 16 => ⟨S1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S1024x6144, .f32⟩
  | 34 => ⟨S16384x6144, .f32⟩
  | 35 => ⟨S6144, .f32⟩
  | 36 => ⟨S1x6144, .f32⟩
  | 37 => ⟨S16384x6144, .f32⟩
  | 38 => ⟨S16384x6144, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S31x1024, .f32⟩
  | 51 => ⟨S1024, .f32⟩
  | 52 => ⟨S_, .f32⟩
  | 53 => ⟨S30x1024, .f32⟩
  | 54 => ⟨S16414x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S1x1024, .f32⟩
  | 65 => ⟨S1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S1x1024, .f32⟩
  | 79 => ⟨S1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S1x1024, .f32⟩
  | 86 => ⟨S1024, .f32⟩
  | 87 => ⟨S16384x1024, .f32⟩
  | 88 => ⟨S1x1024, .f32⟩
  | 89 => ⟨S16384x1024, .f32⟩
  | 90 => ⟨S16384x1024, .f32⟩
  | 91 => ⟨S16384x1024, .f32⟩
  | 92 => ⟨S1x1024, .f32⟩
  | 93 => ⟨S1024, .f32⟩
  | 94 => ⟨S16384x1024, .f32⟩
  | 95 => ⟨S1x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S1x1024, .f32⟩
  | 103 => ⟨S16384x1024, .f32⟩
  | 104 => ⟨S16384x1024, .f32⟩
  | 105 => ⟨S16384x1024, .f32⟩
  | 106 => ⟨S1x1024, .f32⟩
  | 107 => ⟨S1024, .f32⟩
  | 108 => ⟨S16384x1024, .f32⟩
  | 109 => ⟨S1x1024, .f32⟩
  | 110 => ⟨S16384x1024, .f32⟩
  | 111 => ⟨S16384x1024, .f32⟩
  | 112 => ⟨S16384x1024, .f32⟩
  | 113 => ⟨S1x1024, .f32⟩
  | 114 => ⟨S1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S1x1024, .f32⟩
  | 121 => ⟨S1024, .f32⟩
  | 122 => ⟨S16384x1024, .f32⟩
  | 123 => ⟨S1x1024, .f32⟩
  | 124 => ⟨S16384x1024, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S1024, .f32⟩
  | 1 => ⟨S16384x1024, .f32⟩
  | 2 => ⟨S1x1024, .f32⟩
  | 3 => ⟨S16384x1024, .f32⟩
  | 4 => ⟨S16384x1024, .f32⟩
  | 5 => ⟨S16384x1024, .f32⟩
  | 6 => ⟨S1x1024, .f32⟩
  | 7 => ⟨S1024, .f32⟩
  | 8 => ⟨S16384x1024, .f32⟩
  | 9 => ⟨S1x1024, .f32⟩
  | 10 => ⟨S16384x1024, .f32⟩
  | 11 => ⟨S16384x1024, .f32⟩
  | 12 => ⟨S16384x1024, .f32⟩
  | 13 => ⟨S1x1024, .f32⟩
  | 14 => ⟨S1024, .f32⟩
  | 15 => ⟨S16384x1024, .f32⟩
  | 16 => ⟨S1x1024, .f32⟩
  | 17 => ⟨S16384x1024, .f32⟩
  | 18 => ⟨S16384x1024, .f32⟩
  | 19 => ⟨S16384x1024, .f32⟩
  | 20 => ⟨S1x1024, .f32⟩
  | 21 => ⟨S1024, .f32⟩
  | 22 => ⟨S16384x1024, .f32⟩
  | 23 => ⟨S1x1024, .f32⟩
  | 24 => ⟨S16384x1024, .f32⟩
  | 25 => ⟨S16384x1024, .f32⟩
  | 26 => ⟨S16384x1024, .f32⟩
  | 27 => ⟨S1x1024, .f32⟩
  | 28 => ⟨S1024, .f32⟩
  | 29 => ⟨S16384x1024, .f32⟩
  | 30 => ⟨S1x1024, .f32⟩
  | 31 => ⟨S16384x1024, .f32⟩
  | 32 => ⟨S16384x1024, .f32⟩
  | 33 => ⟨S16384x1024, .f32⟩
  | 34 => ⟨S1x1024, .f32⟩
  | 35 => ⟨S1024, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S16384x1024, .f32⟩
  | 44 => ⟨S1x1024, .f32⟩
  | 45 => ⟨S16384x1024, .f32⟩
  | 46 => ⟨S16384x1024, .f32⟩
  | 47 => ⟨S16384x1024, .f32⟩
  | 48 => ⟨S1x1024, .f32⟩
  | 49 => ⟨S1024, .f32⟩
  | 50 => ⟨S16384x1024, .f32⟩
  | 51 => ⟨S1x1024, .f32⟩
  | 52 => ⟨S16384x1024, .f32⟩
  | 53 => ⟨S16384x1024, .f32⟩
  | 54 => ⟨S16384x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S16384x1024, .f32⟩
  | 62 => ⟨S1x1024, .f32⟩
  | 63 => ⟨S1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S1x1024, .f32⟩
  | 70 => ⟨S1024, .f32⟩
  | 71 => ⟨S16384x1024, .f32⟩
  | 72 => ⟨S1x1024, .f32⟩
  | 73 => ⟨S16384x1024, .f32⟩
  | 74 => ⟨S16384x1024, .f32⟩
  | 75 => ⟨S16384x1024, .f32⟩
  | 76 => ⟨S1x1024, .f32⟩
  | 77 => ⟨S1024, .f32⟩
  | 78 => ⟨S16384x1024, .f32⟩
  | 79 => ⟨S1x1024, .f32⟩
  | 80 => ⟨S16384x1024, .f32⟩
  | 81 => ⟨S16384x1024, .f32⟩
  | 82 => ⟨S16384x1024, .f32⟩
  | 83 => ⟨S1x1024, .f32⟩
  | 84 => ⟨S1024, .f32⟩
  | 85 => ⟨S16384x1024, .f32⟩
  | 86 => ⟨S1x1024, .f32⟩
  | 87 => ⟨S16384x1024, .f32⟩
  | 88 => ⟨S16384x1024, .f32⟩
  | 89 => ⟨S16384x1024, .f32⟩
  | 90 => ⟨S1x1024, .f32⟩
  | 91 => ⟨S1024, .f32⟩
  | 92 => ⟨S16384x1024, .f32⟩
  | 93 => ⟨S1x1024, .f32⟩
  | 94 => ⟨S16384x1024, .f32⟩
  | 95 => ⟨S16384x1024, .f32⟩
  | 96 => ⟨S16384x1024, .f32⟩
  | 97 => ⟨S1x1024, .f32⟩
  | 98 => ⟨S1024, .f32⟩
  | 99 => ⟨S16384x1024, .f32⟩
  | 100 => ⟨S1x1024, .f32⟩
  | 101 => ⟨S16384x1024, .f32⟩
  | 102 => ⟨S16384x1024, .f32⟩
  | 103 => ⟨S16384x1024, .f32⟩
  | 104 => ⟨S1x1024, .f32⟩
  | 105 => ⟨S1024, .f32⟩
  | 106 => ⟨S16384x1024, .f32⟩
  | 107 => ⟨S1x1024, .f32⟩
  | 108 => ⟨S16384x1024, .f32⟩
  | 109 => ⟨S16384x1024, .f32⟩
  | 110 => ⟨S16384x1024, .f32⟩
  | 111 => ⟨S1x1024, .f32⟩
  | 112 => ⟨S1024, .f32⟩
  | 113 => ⟨S16384x1024, .f32⟩
  | 114 => ⟨S1x1024, .f32⟩
  | 115 => ⟨S16384x1024, .f32⟩
  | 116 => ⟨S16384x1024, .f32⟩
  | 117 => ⟨S16384x1024, .f32⟩
  | 118 => ⟨S1x1024, .f32⟩
  | 119 => ⟨S1024, .f32⟩
  | 120 => ⟨S16384x1024, .f32⟩
  | 121 => ⟨S1x1024, .f32⟩
  | 122 => ⟨S16384x1024, .f32⟩
  | 123 => ⟨S16384x1024, .f32⟩
  | 124 => ⟨S16384x1024, .f32⟩
  | 125 => ⟨S1x1024, .f32⟩
  | 126 => ⟨S1024, .f32⟩
  | 127 => ⟨S16384x1024, .f32⟩
  | _ => ⟨S16384x1024, .f32⟩

abbrev hbmTy0_2 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S1x1024, .f32⟩
  | 5 => ⟨S1024, .f32⟩
  | 6 => ⟨S16384x1024, .f32⟩
  | 7 => ⟨S1x1024, .f32⟩
  | 8 => ⟨S16384x1024, .f32⟩
  | 9 => ⟨S16384x1024, .f32⟩
  | 10 => ⟨S16384x1024, .f32⟩
  | 11 => ⟨S1x1024, .f32⟩
  | 12 => ⟨S1024, .f32⟩
  | 13 => ⟨S16384x1024, .f32⟩
  | 14 => ⟨S1x1024, .f32⟩
  | 15 => ⟨S16384x1024, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S_, .i1⟩
  | 22 => ⟨S128x128, .i1⟩
  | 23 => ⟨S128x128, .i32⟩
  | 24 => ⟨S_, .i32⟩
  | 25 => ⟨S128x128, .i32⟩
  | 26 => ⟨S128x128, .i32⟩
  | 27 => ⟨S128x128, .i32⟩
  | 28 => ⟨S128x128, .i1⟩
  | 29 => ⟨S_, .i1⟩
  | 30 => ⟨S128x128, .i1⟩
  | 31 => ⟨S128x128, .i1⟩
  | 32 => ⟨S1x128x128, .i1⟩
  | 33 => ⟨S4x128x128, .f32⟩
  | 34 => ⟨S_, .f32⟩
  | 35 => ⟨S_, .f32⟩
  | 36 => ⟨S4x128x128, .i1⟩
  | 37 => ⟨S4x128x128, .f32⟩
  | 38 => ⟨S4x128x128, .f32⟩
  | 39 => ⟨S4x128x128, .bf16⟩
  | 40 => ⟨S4x128x128, .bf16⟩
  | 41 => ⟨S4x128, .f32⟩
  | 42 => ⟨S128x4, .f32⟩
  | 43 => ⟨S128x4x256, .f32⟩
  | 44 => ⟨S128x1024, .f32⟩
  | 45 => ⟨S16384x6144, .bf16⟩
  | 46 => ⟨S1024x1024, .f32⟩
  | 47 => ⟨S1024x1024, .bf16⟩
  | 48 => ⟨S1024x1024, .f32⟩
  | 49 => ⟨S1024x1024, .bf16⟩
  | 50 => ⟨S1024x1024, .f32⟩
  | 51 => ⟨S1024x1024, .bf16⟩
  | 52 => ⟨S16384x1024, .f32⟩
  | 53 => ⟨S16384x6144, .bf16⟩
  | 54 => ⟨S16384x1024, .bf16⟩
  | 55 => ⟨S16384x1024, .bf16⟩
  | 56 => ⟨S16384x1024, .bf16⟩
  | 57 => ⟨S16384x1024, .bf16⟩
  | 58 => ⟨S16384x1024, .bf16⟩
  | 59 => ⟨S16384x1024, .bf16⟩
  | 60 => ⟨S4x128x128, .f32⟩
  | 61 => ⟨S128x128, .f32⟩
  | 62 => ⟨S1x1024, .f32⟩
  | 63 => ⟨S1x1024, .f32⟩
  | 64 => ⟨S1x1024, .f32⟩
  | 65 => ⟨S1x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | .local _ .vmem, ⟨0, _⟩ => ⟨S256x6144, .bf16⟩
  | .local _ .vmem, ⟨1, _⟩ => ⟨S256x6144, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S4x128x128, .bf16⟩
  | .local _ .vmem, ⟨12, _⟩ => ⟨S4x128x128, .bf16⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x6144, .bf16⟩
  | .local _ .vmem, ⟨19, _⟩ => ⟨S256x6144, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S4x128x128, .f32⟩
  | .local _ .vmem, ⟨33, _⟩ => ⟨S128x128, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S256x1024, .f32⟩
  | .local _ .vmem, ⟨39, _⟩ => ⟨S256x1024, .bf16⟩
  | .local _ .vmem, ⟨40, _⟩ => ⟨S256x1024, .f32⟩
  | .local _ .vmem, ⟨41, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_c : Ref sig .tc := ⟨.hbm, 277, rfl⟩
abbrev main_v254 : Ref sig .tc := ⟨.hbm, 278, rfl⟩
abbrev main_call0_v0 : Ref sig .tc := ⟨.hbm, 279, rfl⟩
abbrev main_call0_c : Ref sig .tc := ⟨.hbm, 280, rfl⟩
abbrev main_call0_v1 : Ref sig .tc := ⟨.hbm, 281, rfl⟩
abbrev main_call0_v2 : Ref sig .tc := ⟨.hbm, 282, rfl⟩
abbrev main_call0_v3 : Ref sig .tc := ⟨.hbm, 283, rfl⟩
abbrev main_call0_v4 : Ref sig .tc := ⟨.hbm, 284, rfl⟩
abbrev main_call0_c_0 : Ref sig .tc := ⟨.hbm, 285, rfl⟩
abbrev main_call0_v5 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_cst_6 : Ref sig .tc := ⟨.hbm, 290, rfl⟩
abbrev main_call1_v0 : Ref sig .tc := ⟨.hbm, 291, rfl⟩
abbrev main_call1_v1 : Ref sig .tc := ⟨.hbm, 292, rfl⟩
abbrev main_call1_v2 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272_0 : Ref sig .tc := ⟨.hbm, 308, rfl⟩
abbrev main_v272_1 : Ref sig .tc := ⟨.hbm, 309, rfl⟩
abbrev main_v272_2 : Ref sig .tc := ⟨.hbm, 310, rfl⟩
abbrev main_v272_3 : Ref sig .tc := ⟨.hbm, 311, rfl⟩
abbrev main_v272_4 : Ref sig .tc := ⟨.hbm, 312, rfl⟩
abbrev main_v272_5 : Ref sig .tc := ⟨.hbm, 313, rfl⟩
abbrev main_v272_6 : Ref sig .tc := ⟨.hbm, 314, rfl⟩
abbrev main_v272_7 : Ref sig .tc := ⟨.hbm, 315, rfl⟩
abbrev main_v272_8 : Ref sig .tc := ⟨.hbm, 316, rfl⟩
abbrev main_v272_9 : Ref sig .tc := ⟨.hbm, 317, rfl⟩
abbrev main_v272_10 : Ref sig .tc := ⟨.hbm, 318, rfl⟩
abbrev main_v272_11 : Ref sig .tc := ⟨.hbm, 319, rfl⟩
abbrev main_v272_12 : Ref sig .tc := ⟨.hbm, 320, rfl⟩
abbrev main_v272_13 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v478 : BitVec 1 := Scalar.cmpi .eq arg0 c63_i32
  let v479 : BitVec 32 := Scalar.extui v478
  let c0_i32_310 : BitVec 32 := 0#32
  let v480 : BitVec 1 := Scalar.cmpi .ne v479 c0_i32_310
  v480

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixBwdIdeal.lean ====
variable {F : FTy → Type} [FloatOps F] [Named F]
def κ : String → Option EReal := fun
  | "gelu_c2" => some ((241015141496493 / 2251799813685248 : ℝ) : EReal)
  | _ => none
-- ==== MixBwdRefIdeal.lean ====
abbrev S16384x1024 : Shape := ⟨2, ![16384, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S6144 : Shape := ⟨1, ![6144]⟩
abbrev S31x1024 : Shape := ⟨2, ![31, 1024]⟩
abbrev S30x1024 : Shape := ⟨2, ![30, 1024]⟩
abbrev S16414x1024 : Shape := ⟨2, ![16414, 1024]⟩
abbrev S4x128x128 : Shape := ⟨3, ![4, 128, 128]⟩
abbrev S4x128 : Shape := ⟨2, ![4, 128]⟩
abbrev S128x128x4x256 : Shape := ⟨4, ![128, 128, 4, 256]⟩
abbrev S128x128 : Shape := ⟨2, ![128, 128]⟩
abbrev S1x128x128 : Shape := ⟨3, ![1, 128, 128]⟩
abbrev S4x128x256x128 : Shape := ⟨4, ![4, 128, 256, 128]⟩
abbrev S128x4 : Shape := ⟨2, ![128, 4]⟩
abbrev S1x128x4x1 : Shape := ⟨4, ![1, 128, 4, 1]⟩
abbrev S1024x1024 : Shape := ⟨2, ![1024, 1024]⟩

abbrev nBuf : Space → Nat
  | .hbm => 448
  | .vmem => 0
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S1x1024x6144, .f32⟩
  | 4 => ⟨S1x6144, .f32⟩
  | 5 => ⟨S1x31x1024, .f32⟩
  | 6 => ⟨S1x1024, .f32⟩
  | 7 => ⟨S1x1024, .f32⟩
  | 8 => ⟨S1x1024, .f32⟩
  | 9 => ⟨S1x1024x1024, .f32⟩
  | 10 => ⟨S1x1024, .f32⟩
  | 11 => ⟨S1x1024, .f32⟩
  | 12 => ⟨S1x4x128x128, .f32⟩
  | 13 => ⟨S1x4x128, .f32⟩
  | 14 => ⟨S1x1024x1024, .f32⟩
  | 15 => ⟨S1x1024x1024, .f32⟩
  | 16 => ⟨S1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S1024x6144, .f32⟩
  | 34 => ⟨S16384x6144, .f32⟩
  | 35 => ⟨S6144, .f32⟩
  | 36 => ⟨S1x6144, .f32⟩
  | 37 => ⟨S16384x6144, .f32⟩
  | 38 => ⟨S16384x6144, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S31x1024, .f32⟩
  | 51 => ⟨S1024, .f32⟩
  | 52 => ⟨S_, .f32⟩
  | 53 => ⟨S30x1024, .f32⟩
  | 54 => ⟨S16414x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S1x1024, .f32⟩
  | 65 => ⟨S1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S1x1024, .f32⟩
  | 79 => ⟨S1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S1x1024, .f32⟩
  | 86 => ⟨S1024, .f32⟩
  | 87 => ⟨S16384x1024, .f32⟩
  | 88 => ⟨S1x1024, .f32⟩
  | 89 => ⟨S16384x1024, .f32⟩
  | 90 => ⟨S16384x1024, .f32⟩
  | 91 => ⟨S16384x1024, .f32⟩
  | 92 => ⟨S1x1024, .f32⟩
  | 93 => ⟨S1024, .f32⟩
  | 94 => ⟨S16384x1024, .f32⟩
  | 95 => ⟨S1x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S1x1024, .f32⟩
  | 103 => ⟨S16384x1024, .f32⟩
  | 104 => ⟨S16384x1024, .f32⟩
  | 105 => ⟨S16384x1024, .f32⟩
  | 106 => ⟨S1x1024, .f32⟩
  | 107 => ⟨S1024, .f32⟩
  | 108 => ⟨S16384x1024, .f32⟩
  | 109 => ⟨S1x1024, .f32⟩
  | 110 => ⟨S16384x1024, .f32⟩
  | 111 => ⟨S16384x1024, .f32⟩
  | 112 => ⟨S16384x1024, .f32⟩
  | 113 => ⟨S1x1024, .f32⟩
  | 114 => ⟨S1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S1x1024, .f32⟩
  | 121 => ⟨S1024, .f32⟩
  | 122 => ⟨S16384x1024, .f32⟩
  | 123 => ⟨S1x1024, .f32⟩
  | 124 => ⟨S16384x1024, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S1024, .f32⟩
  | 1 => ⟨S16384x1024, .f32⟩
  | 2 => ⟨S1x1024, .f32⟩
  | 3 => ⟨S16384x1024, .f32⟩
  | 4 => ⟨S16384x1024, .f32⟩
  | 5 => ⟨S16384x1024, .f32⟩
  | 6 => ⟨S1x1024, .f32⟩
  | 7 => ⟨S1024, .f32⟩
  | 8 => ⟨S16384x1024, .f32⟩
  | 9 => ⟨S1x1024, .f32⟩
  | 10 => ⟨S16384x1024, .f32⟩
  | 11 => ⟨S16384x1024, .f32⟩
  | 12 => ⟨S16384x1024, .f32⟩
  | 13 => ⟨S1x1024, .f32⟩
  | 14 => ⟨S1024, .f32⟩
  | 15 => ⟨S16384x1024, .f32⟩
  | 16 => ⟨S1x1024, .f32⟩
  | 17 => ⟨S16384x1024, .f32⟩
  | 18 => ⟨S16384x1024, .f32⟩
  | 19 => ⟨S16384x1024, .f32⟩
  | 20 => ⟨S1x1024, .f32⟩
  | 21 => ⟨S1024, .f32⟩
  | 22 => ⟨S16384x1024, .f32⟩
  | 23 => ⟨S1x1024, .f32⟩
  | 24 => ⟨S16384x1024, .f32⟩
  | 25 => ⟨S16384x1024, .f32⟩
  | 26 => ⟨S16384x1024, .f32⟩
  | 27 => ⟨S1x1024, .f32⟩
  | 28 => ⟨S1024, .f32⟩
  | 29 => ⟨S16384x1024, .f32⟩
  | 30 => ⟨S1x1024, .f32⟩
  | 31 => ⟨S16384x1024, .f32⟩
  | 32 => ⟨S16384x1024, .f32⟩
  | 33 => ⟨S16384x1024, .f32⟩
  | 34 => ⟨S1x1024, .f32⟩
  | 35 => ⟨S1024, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S16384x1024, .f32⟩
  | 44 => ⟨S1x1024, .f32⟩
  | 45 => ⟨S16384x1024, .f32⟩
  | 46 => ⟨S16384x1024, .f32⟩
  | 47 => ⟨S16384x1024, .f32⟩
  | 48 => ⟨S1x1024, .f32⟩
  | 49 => ⟨S1024, .f32⟩
  | 50 => ⟨S16384x1024, .f32⟩
  | 51 => ⟨S1x1024, .f32⟩
  | 52 => ⟨S16384x1024, .f32⟩
  | 53 => ⟨S16384x1024, .f32⟩
  | 54 => ⟨S16384x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S16384x1024, .f32⟩
  | 62 => ⟨S1x1024, .f32⟩
  | 63 => ⟨S1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S1x1024, .f32⟩
  | 70 => ⟨S1024, .f32⟩
  | 71 => ⟨S16384x1024, .f32⟩
  | 72 => ⟨S1x1024, .f32⟩
  | 73 => ⟨S16384x1024, .f32⟩
  | 74 => ⟨S16384x1024, .f32⟩
  | 75 => ⟨S16384x1024, .f32⟩
  | 76 => ⟨S1x1024, .f32⟩
  | 77 => ⟨S1024, .f32⟩
  | 78 => ⟨S16384x1024, .f32⟩
  | 79 => ⟨S1x1024, .f32⟩
  | 80 => ⟨S16384x1024, .f32⟩
  | 81 => ⟨S16384x1024, .f32⟩
  | 82 => ⟨S16384x1024, .f32⟩
  | 83 => ⟨S1x1024, .f32⟩
  | 84 => ⟨S1024, .f32⟩
  | 85 => ⟨S16384x1024, .f32⟩
  | 86 => ⟨S1x1024, .f32⟩
  | 87 => ⟨S16384x1024, .f32⟩
  | 88 => ⟨S16384x1024, .f32⟩
  | 89 => ⟨S16384x1024, .f32⟩
  | 90 => ⟨S1x1024, .f32⟩
  | 91 => ⟨S1024, .f32⟩
  | 92 => ⟨S16384x1024, .f32⟩
  | 93 => ⟨S1x1024, .f32⟩
  | 94 => ⟨S16384x1024, .f32⟩
  | 95 => ⟨S16384x1024, .f32⟩
  | 96 => ⟨S16384x1024, .f32⟩
  | 97 => ⟨S1x1024, .f32⟩
  | 98 => ⟨S1024, .f32⟩
  | 99 => ⟨S16384x1024, .f32⟩
  | 100 => ⟨S1x1024, .f32⟩
  | 101 => ⟨S16384x1024, .f32⟩
  | 102 => ⟨S16384x1024, .f32⟩
  | 103 => ⟨S16384x1024, .f32⟩
  | 104 => ⟨S1x1024, .f32⟩
  | 105 => ⟨S1024, .f32⟩
  | 106 => ⟨S16384x1024, .f32⟩
  | 107 => ⟨S1x1024, .f32⟩
  | 108 => ⟨S16384x1024, .f32⟩
  | 109 => ⟨S16384x1024, .f32⟩
  | 110 => ⟨S16384x1024, .f32⟩
  | 111 => ⟨S1x1024, .f32⟩
  | 112 => ⟨S1024, .f32⟩
  | 113 => ⟨S16384x1024, .f32⟩
  | 114 => ⟨S1x1024, .f32⟩
  | 115 => ⟨S16384x1024, .f32⟩
  | 116 => ⟨S16384x1024, .f32⟩
  | 117 => ⟨S16384x1024, .f32⟩
  | 118 => ⟨S1x1024, .f32⟩
  | 119 => ⟨S1024, .f32⟩
  | 120 => ⟨S16384x1024, .f32⟩
  | 121 => ⟨S1x1024, .f32⟩
  | 122 => ⟨S16384x1024, .f32⟩
  | 123 => ⟨S16384x1024, .f32⟩
  | 124 => ⟨S16384x1024, .f32⟩
  | 125 => ⟨S1x1024, .f32⟩
  | 126 => ⟨S1024, .f32⟩
  | 127 => ⟨S16384x1024, .f32⟩
  | _ => ⟨S16384x1024, .f32⟩

abbrev hbmTy0_2 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S1x1024, .f32⟩
  | 5 => ⟨S1024, .f32⟩
  | 6 => ⟨S16384x1024, .f32⟩
  | 7 => ⟨S1x1024, .f32⟩
  | 8 => ⟨S16384x1024, .f32⟩
  | 9 => ⟨S16384x1024, .f32⟩
  | 10 => ⟨S16384x1024, .f32⟩
  | 11 => ⟨S1x1024, .f32⟩
  | 12 => ⟨S1024, .f32⟩
  | 13 => ⟨S16384x1024, .f32⟩
  | 14 => ⟨S1x1024, .f32⟩
  | 15 => ⟨S16384x1024, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S1024, .f32⟩
  | 28 => ⟨S1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S16384x1, .f32⟩
  | 48 => ⟨S16384x1024, .f32⟩
  | 49 => ⟨S16384x1024, .f32⟩
  | 50 => ⟨S1x1024, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S1024, .f32⟩
  | 66 => ⟨S1024, .f32⟩
  | 67 => ⟨S4x128x128, .f32⟩
  | 68 => ⟨S4x128, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S16384x1, .f32⟩
  | 122 => ⟨S16384x1024, .f32⟩
  | 123 => ⟨S16384x1024, .f32⟩
  | 124 => ⟨S1x1024, .f32⟩
  | 125 => ⟨S16384x1024, .f32⟩
  | 126 => ⟨S16384x1024, .f32⟩
  | 127 => ⟨S1x1024, .f32⟩
  | _ => ⟨S16384x1024, .f32⟩

abbrev hbmTy0_3 (i : Nat) : BufTy := match i % 128 with
  | 0 => ⟨S16384x1024, .f32⟩
  | 1 => ⟨S16384x1024, .f32⟩
  | 2 => ⟨S128x128x4x256, .f32⟩
  | 3 => ⟨S_, .i1⟩
  | 4 => ⟨S128x128, .i1⟩
  | 5 => ⟨S128x128, .i32⟩
  | 6 => ⟨S_, .i32⟩
  | 7 => ⟨S128x128, .i32⟩
  | 8 => ⟨S128x128, .i32⟩
  | 9 => ⟨S128x128, .i32⟩
  | 10 => ⟨S128x128, .i1⟩
  | 11 => ⟨S_, .i1⟩
  | 12 => ⟨S128x128, .i1⟩
  | 13 => ⟨S128x128, .i1⟩
  | 14 => ⟨S1x128x128, .i1⟩
  | 15 => ⟨S_, .f32⟩
  | 16 => ⟨S_, .f32⟩
  | 17 => ⟨S4x128x128, .i1⟩
  | 18 => ⟨S4x128x128, .f32⟩
  | 19 => ⟨S4x128x128, .f32⟩
  | 20 => ⟨S4x128x256x128, .f32⟩
  | 21 => ⟨S128x128x4x256, .f32⟩
  | 22 => ⟨S128x4, .f32⟩
  | 23 => ⟨S1x128x4x1, .f32⟩
  | 24 => ⟨S128x128x4x256, .f32⟩
  | 25 => ⟨S128x128x4x256, .f32⟩
  | 26 => ⟨S16384x1024, .f32⟩
  | 27 => ⟨S16384x1024, .f32⟩
  | 28 => ⟨S1024x1024, .f32⟩
  | 29 => ⟨S16384x1024, .f32⟩
  | 30 => ⟨S1024x1024, .f32⟩
  | 31 => ⟨S16384x1024, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x1024, .f32⟩
  | 52 => ⟨S16384x1024, .f32⟩
  | 53 => ⟨S1024x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .bf16⟩
  | 59 => ⟨S16384x1024, .bf16⟩
  | 60 => ⟨S16384x1024, .bf16⟩
  | 61 => ⟨S16384x1024, .bf16⟩
  | 62 => ⟨S16384x1024, .bf16⟩
  | 63 => ⟨S16384x1024, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_cst_6 : Ref sig .tc := ⟨.hbm, 285, rfl⟩
abbrev main_v262 : Ref sig .tc := ⟨.hbm, 286, rfl⟩
abbrev main_v263 : Ref sig .tc := ⟨.hbm, 287, rfl⟩
abbrev main_cst_7 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_cst_8 : Ref sig .tc := ⟨.hbm, 294, rfl⟩
abbrev main_v269 : Ref sig .tc := ⟨.hbm, 295, rfl⟩
abbrev main_v270 : Ref sig .tc := ⟨.hbm, 296, rfl⟩
abbrev main_cst_9 : Ref sig .tc := ⟨.hbm, 297, rfl⟩
abbrev main_v271 : Ref sig .tc := ⟨.hbm, 298, rfl⟩
abbrev main_v272 : Ref sig .tc := ⟨.hbm, 299, rfl⟩
abbrev main_cst_10 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_call0_v0 : Ref sig .tc := ⟨.hbm, 312, rfl⟩
abbrev main_call0_v1 : Ref sig .tc := ⟨.hbm, 313, rfl⟩
abbrev main_call0_cst : Ref sig .tc := ⟨.hbm, 314, rfl⟩
abbrev main_call0_v2 : Ref sig .tc := ⟨.hbm, 315, rfl⟩
abbrev main_call0_v3 : Ref sig .tc := ⟨.hbm, 316, rfl⟩
abbrev main_call0_cst_0 : Ref sig .tc := ⟨.hbm, 317, rfl⟩
abbrev main_call0_v4 : Ref sig .tc := ⟨.hbm, 318, rfl⟩
abbrev main_call0_v5 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_cst_11 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_cst_12 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_cst_13 : Ref sig .tc := ⟨.hbm, 335, rfl⟩
abbrev main_v297 : Ref sig .tc := ⟨.hbm, 336, rfl⟩
abbrev main_v298 : Ref sig .tc := ⟨.hbm, 337, rfl⟩
abbrev main_cst_14 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_cst_15 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_cst_16 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_cst_17 : Ref sig .tc := ⟨.hbm, 352, rfl⟩
abbrev main_v310 : Ref sig .tc := ⟨.hbm, 353, rfl⟩
abbrev main_v311 : Ref sig .tc := ⟨.hbm, 354, rfl⟩
abbrev main_cst_18 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_cst_19 : Ref sig .tc := ⟨.hbm, 359, rfl⟩
abbrev main_v315 : Ref sig .tc := ⟨.hbm, 360, rfl⟩
abbrev main_v316 : Ref sig .tc := ⟨.hbm, 361, rfl⟩
abbrev main_cst_20 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_cst_21 : Ref sig .tc := ⟨.hbm, 368, rfl⟩
abbrev main_v322 : Ref sig .tc := ⟨.hbm, 369, rfl⟩
abbrev main_v323 : Ref sig .tc := ⟨.hbm, 370, rfl⟩
abbrev main_cst_22 : Ref sig .tc := ⟨.hbm, 371, rfl⟩
abbrev main_v324 : Ref sig .tc := ⟨.hbm, 372, rfl⟩
abbrev main_v325 : Ref sig .tc := ⟨.hbm, 373, rfl⟩
abbrev main_cst_23 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_c : Ref sig .tc := ⟨.hbm, 387, rfl⟩
abbrev main_v338 : Ref sig .tc := ⟨.hbm, 388, rfl⟩
abbrev main_call1_v0 : Ref sig .tc := ⟨.hbm, 389, rfl⟩
abbrev main_call1_c : Ref sig .tc := ⟨.hbm, 390, rfl⟩
abbrev main_call1_v1 : Ref sig .tc := ⟨.hbm, 391, rfl⟩
abbrev main_call1_v2 : Ref sig .tc := ⟨.hbm, 392, rfl⟩
abbrev main_call1_v3 : Ref sig .tc := ⟨.hbm, 393, rfl⟩
abbrev main_call1_v4 : Ref sig .tc := ⟨.hbm, 394, rfl⟩
abbrev main_call1_c_0 : Ref sig .tc := ⟨.hbm, 395, rfl⟩
abbrev main_call1_v5 : Ref sig .tc := ⟨.hbm, 396, rfl⟩
abbrev main_v339 : Ref sig .tc := ⟨.hbm, 397, rfl⟩
abbrev main_v340 : Ref sig .tc := ⟨.hbm, 398, rfl⟩
abbrev main_cst_24 : Ref sig .tc := ⟨.hbm, 399, rfl⟩
abbrev main_call2_v0 : Ref sig .tc := ⟨.hbm, 400, rfl⟩
abbrev main_call2_v1 : Ref sig .tc := ⟨.hbm, 401, rfl⟩
abbrev main_call2_v2 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_cst_25 : Ref sig .tc := ⟨.hbm, 419, rfl⟩
abbrev main_v357 : Ref sig .tc := ⟨.hbm, 420, rfl⟩
abbrev main_v358 : Ref sig .tc := ⟨.hbm, 421, rfl⟩
abbrev main_cst_26 : Ref sig .tc := ⟨.hbm, 422, rfl⟩
abbrev main_v359 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_cst_27 : Ref sig .tc := ⟨.hbm, 429, rfl⟩
abbrev main_v365 : Ref sig .tc := ⟨.hbm, 430, rfl⟩
abbrev main_v366 : Ref sig .tc := ⟨.hbm, 431, rfl⟩
abbrev main_cst_28 : Ref sig .tc := ⟨.hbm, 432, rfl⟩
abbrev main_v367 : Ref sig .tc := ⟨.hbm, 433, rfl⟩
abbrev main_v368 : Ref sig .tc := ⟨.hbm, 434, rfl⟩
abbrev main_v369 : Ref sig .tc := ⟨.hbm, 435, rfl⟩
abbrev main_v370 : Ref sig .tc := ⟨.hbm, 436, rfl⟩
abbrev main_v371 : Ref sig .tc := ⟨.hbm, 437, rfl⟩
abbrev main_v372 : Ref sig .tc := ⟨.hbm, 438, rfl⟩
abbrev main_v373 : Ref sig .tc := ⟨.hbm, 439, rfl⟩
abbrev main_v374 : Ref sig .tc := ⟨.hbm, 440, rfl⟩
abbrev main_v375 : Ref sig .tc := ⟨.hbm, 441, rfl⟩
abbrev main_v376 : Ref sig .tc := ⟨.hbm, 442, rfl⟩
abbrev main_v377 : Ref sig .tc := ⟨.hbm, 443, rfl⟩
abbrev main_v378 : Ref sig .tc := ⟨.hbm, 444, rfl⟩
abbrev main_v379 : Ref sig .tc := ⟨.hbm, 445, rfl⟩
abbrev main_v380 : Ref sig .tc := ⟨.hbm, 446, rfl⟩
abbrev main_v381 : Ref sig .tc := ⟨.hbm, 447, rfl⟩

abbrev nD : Nat := 1
abbrev τ : Topo := Topo.v7x

variable {F : FTy → Type} [FloatOps F]
-- ==== Proof.GateFrame.lean ====
/- The gating backward call: the kernel as printed. One run of the body at a generic grid point, and from it the frame:
   every fair run ends, the argument arrays are unchanged and no semaphore count is left over. Nothing is said of
   what the outputs hold. -/
module

public import proofs.«01_k».proof.Proof.Gen.MixBwd.Frame.Runs
public import Idealize.ShloMosaic.Lib.Claim

@[expose] public section

set_option maxRecDepth 16384

noncomputable section

namespace Cert.MixBwd.Gate

open Cert.MixBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body at a generic point -/

section Body

variable (c : Dev nD) (i : grid0.Coords)
  (arg1 : Memref sig .tc .vmem S256x6144 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S4x128x128 .bf16) (harg9 : arg9.IsWhole)
  (arg10 : Memref sig .tc .vmem S4x128x128 .bf16) (harg10 : arg10.IsWhole)
  (arg11 : Memref sig .tc .vmem S128x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S256x1024 .f32) (harg14 : arg14.IsWhole)
  (arg15 : Memref sig .tc .vmem S256x6144 .bf16) (harg15 : arg15.IsWhole)
  (arg16 : Memref sig .tc .vmem S256x1024 .bf16) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .bf16) (harg21 : arg21.IsWhole)
  (arg22 : Memref sig .tc .vmem S4x128x128 .f32) (harg22 : arg22.IsWhole)
  (arg23 : Memref sig .tc .vmem S128x128 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)
  (arg28 : Memref sig .tc .vmem S256x1024 .f32) (harg28 : arg28.IsWhole)
  (arg29 : Memref sig .tc .vmem S256x1024 .bf16) (harg29 : arg29.IsWhole)
  (arg30 : Memref sig .tc .vmem S256x1024 .f32) (harg30 : arg30.IsWhole)
  (arg31 : Memref sig .tc .vmem S128x1024 .f32) (harg31 : arg31.IsWhole)
  (x0 : Vec F S256x6144 .bf16) (x1 : Vec F S256x1024 .f32) (x2 : Vec F S256x1024 .f32) (x3 : Vec F S1x1024 .f32) (x4 : Vec F S1x1024 .f32) (x5 : Vec F S1024x1024 .bf16) (x6 : Vec F S1x1024 .f32) (x7 : Vec F S1x1024 .f32) (x8 : Vec F S4x128x128 .bf16) (x9 : Vec F S4x128x128 .bf16) (x10 : Vec F S128x1024 .f32) (x11 : Vec F S1024x1024 .bf16) (x12 : Vec F S1024x1024 .bf16)

/-- The buffers of the body: the thirteen inputs at their contents, the fourteen outputs and the four scratch buffers at
    anything. -/
def held : sProp (MT nD τ sig Unit (Elt F) ℕ (UR sig nD τ) ℕ) :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare d)
    ∗ (∃ d, owns (c : Thread nD τ) arg31 fullShare d))

set_option maxHeartbeats 0 in
/-- The body keeps its buffers, whichever of its two conditionals are taken (never both: one is the first point, the other
    the last). -/
theorem body_run (hne : cond0_0 i → ¬cond0_1 i) (E : Set ℕ) (K : PUnit → sProp (MT nD τ sig Unit (Elt F) ℕ (UR sig nD τ) ℕ)) :
    iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 x0 x1 x2 x3 x4 x5 x6 x7 x8 x9 x10 x11 x12 ∗ (held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 x0 x1 x2 x3 x4 x5 x6 x7 x8 x9 x10 x11 x12 -∗ K ⟨⟩))
      ⊢ wp frame (wpE (defs₀ (F := F)) Variants.none c none) E (cc0_mix_bwd_branches i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  unfold held
  simp only [cc0_mix_bwd_branches_eq_skeleton]; unfold cc0_mix_bwd_branches_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain ⟨hc0, hc1⟩ | ⟨hc0, hc1⟩ | ⟨hc0, hc1⟩ : (cond0_0 i ∧ ¬cond0_1 i) ∨ (¬cond0_0 i ∧ cond0_1 i) ∨ (¬cond0_0 i ∧ ¬cond0_1 i) := by
    by_cases h : cond0_0 i
    · exact .inl ⟨h, hne h⟩
    · by_cases h' : cond0_1 i
      · exact .inr (.inl ⟨h, h'⟩)
      · exact .inr (.inr ⟨h, h'⟩)
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    iexists _, _; isplitr; swap; · iexact H30
    ipureintro; rfl

end Body

/-! ## The proof data of the pipeline -/

variable (m : (ℓ : Loc nD τ sig) → Buf (Elt F) ℓ) (ρ : Dev nD → PrngReg)

/-- The outputs: nothing is said of what they hold. -/
def forgotten : Fin 27 → Bool := fun w => decide (13 ≤ w.val)

/-- Inputs keep their blocks, outputs are left unnamed, and between points the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Dat.unnamed (cfg := cfg0) ⟨13, h⟩ t
    | ⟨14, h⟩ => Dat.unnamed (cfg := cfg0) ⟨14, h⟩ t
    | ⟨15, h⟩ => Dat.unnamed (cfg := cfg0) ⟨15, h⟩ t
    | ⟨16, h⟩ => Dat.unnamed (cfg := cfg0) ⟨16, h⟩ t
    | ⟨17, h⟩ => Dat.unnamed (cfg := cfg0) ⟨17, h⟩ t
    | ⟨18, h⟩ => Dat.unnamed (cfg := cfg0) ⟨18, h⟩ t
    | ⟨19, h⟩ => Dat.unnamed (cfg := cfg0) ⟨19, h⟩ t
    | ⟨20, h⟩ => Dat.unnamed (cfg := cfg0) ⟨20, h⟩ t
    | ⟨21, h⟩ => Dat.unnamed (cfg := cfg0) ⟨21, h⟩ t
    | ⟨22, h⟩ => Dat.unnamed (cfg := cfg0) ⟨22, h⟩ t
    | ⟨23, h⟩ => Dat.unnamed (cfg := cfg0) ⟨23, h⟩ t
    | ⟨24, h⟩ => Dat.unnamed (cfg := cfg0) ⟨24, h⟩ t
    | ⟨25, h⟩ => Dat.unnamed (cfg := cfg0) ⟨25, h⟩ t
    | ⟨26, h⟩ => Dat.unnamed (cfg := cfg0) ⟨26, h⟩ t
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem keep0 (c : Dev nD) (t : Fin cfg0.N) : (dats m 0 c).after 0 t = iblk m c 0 t := by dsimp only [dats]
theorem keep1 (c : Dev nD) (t : Fin cfg0.N) : (dats m 0 c).after 1 t = iblk m c 1 t := by dsimp only [dats]
theorem keep2 (c : Dev nD) (t : Fin cfg0.N) : (dats m 0 c).after 2 t = iblk m c 2 t := by dsimp only [dats]
theorem keep3 (c : Dev nD) (t : Fin cfg0.N) : (dats m 0 c).after 3 t = iblk m c 3 t := by dsimp only [dats]
theorem keep4 (c : Dev nD) (t : Fin cfg0.N) : (dats m 0 c).after 4 t = iblk m c 4 t := by dsimp only [dats]
theorem keep5 (c : Dev nD) (t : Fin cfg0.N) : (dats m 0 c).after 5 t = iblk m c 5 t := by dsimp only [dats]
theorem keep6 (c : Dev nD) (t : Fin cfg0.N) : (dats m 0 c).after 6 t = iblk m c 6 t := by dsimp only [dats]
theorem keep7 (c : Dev nD) (t : Fin cfg0.N) : (dats m 0 c).after 7 t = iblk m c 7 t := by dsimp only [dats]
theorem keep8 (c : Dev nD) (t : Fin cfg0.N) : (dats m 0 c).after 8 t = iblk m c 8 t := by dsimp only [dats]
theorem keep9 (c : Dev nD) (t : Fin cfg0.N) : (dats m 0 c).after 9 t = iblk m c 9 t := by dsimp only [dats]
theorem keep10 (c : Dev nD) (t : Fin cfg0.N) : (dats m 0 c).after 10 t = iblk m c 10 t := by dsimp only [dats]
theorem keep11 (c : Dev nD) (t : Fin cfg0.N) : (dats m 0 c).after 11 t = iblk m c 11 t := by dsimp only [dats]
theorem keep12 (c : Dev nD) (t : Fin cfg0.N) : (dats m 0 c).after 12 t = iblk m c 12 t := by dsimp only [dats]

theorem start0 (c : Dev nD) (t : Fin cfg0.N) (d) : (dats m 0 c).before 0 t d = iblk m c 0 t :=
  before0_0_of m (dats m 0 c) (A_eq m c 0) (keep0 m c) t d
theorem start1 (c : Dev nD) (t : Fin cfg0.N) (d) : (dats m 0 c).before 1 t d = iblk m c 1 t :=
  before0_1_of m (dats m 0 c) (A_eq m c 1) (keep1 m c) t d
theorem start2 (c : Dev nD) (t : Fin cfg0.N) (d) : (dats m 0 c).before 2 t d = iblk m c 2 t :=
  before0_2_of m (dats m 0 c) (A_eq m c 2) (keep2 m c) t d
theorem start3 (c : Dev nD) (t : Fin cfg0.N) (d) : (dats m 0 c).before 3 t d = iblk m c 3 t :=
  before0_3_of m (dats m 0 c) (A_eq m c 3) (keep3 m c) t d
theorem start4 (c : Dev nD) (t : Fin cfg0.N) (d) : (dats m 0 c).before 4 t d = iblk m c 4 t :=
  before0_4_of m (dats m 0 c) (A_eq m c 4) (keep4 m c) t d
theorem start5 (c : Dev nD) (t : Fin cfg0.N) (d) : (dats m 0 c).before 5 t d = iblk m c 5 t :=
  before0_5_of m (dats m 0 c) (A_eq m c 5) (keep5 m c) t d
theorem start6 (c : Dev nD) (t : Fin cfg0.N) (d) : (dats m 0 c).before 6 t d = iblk m c 6 t :=
  before0_6_of m (dats m 0 c) (A_eq m c 6) (keep6 m c) t d
theorem start7 (c : Dev nD) (t : Fin cfg0.N) (d) : (dats m 0 c).before 7 t d = iblk m c 7 t :=
  before0_7_of m (dats m 0 c) (A_eq m c 7) (keep7 m c) t d
theorem start8 (c : Dev nD) (t : Fin cfg0.N) (d) : (dats m 0 c).before 8 t d = iblk m c 8 t :=
  before0_8_of m (dats m 0 c) (A_eq m c 8) (keep8 m c) t d
theorem start9 (c : Dev nD) (t : Fin cfg0.N) (d) : (dats m 0 c).before 9 t d = iblk m c 9 t :=
  before0_9_of m (dats m 0 c) (A_eq m c 9) (keep9 m c) t d
theorem start10 (c : Dev nD) (t : Fin cfg0.N) (d) : (dats m 0 c).before 10 t d = iblk m c 10 t :=
  before0_10_of m (dats m 0 c) (A_eq m c 10) (keep10 m c) t d
theorem start11 (c : Dev nD) (t : Fin cfg0.N) (d) : (dats m 0 c).before 11 t d = iblk m c 11 t :=
  before0_11_of m (dats m 0 c) (A_eq m c 11) (keep11 m c) t d
theorem start12 (c : Dev nD) (t : Fin cfg0.N) (d) : (dats m 0 c).before 12 t d = iblk m c 12 t :=
  before0_12_of m (dats m 0 c) (A_eq m c 12) (keep12 m c) t d

theorem leave0 (c : Dev nD) (t : Fin cfg0.N) :
    (dats m 0 c).leavesExact 0 t = owns (c : Thread nD τ) (ms0_0 t) fullShare (iblk m c 0 t) := by
  unfold Dat.leavesExact; rw [liveAt0_0 t, keep0]
theorem leave1 (c : Dev nD) (t : Fin cfg0.N) :
    (dats m 0 c).leavesExact 1 t = owns (c : Thread nD τ) (ms0_1 t) fullShare (iblk m c 1 t) := by
  unfold Dat.leavesExact; rw [liveAt0_1 t, keep1]
theorem leave2 (c : Dev nD) (t : Fin cfg0.N) :
    (dats m 0 c).leavesExact 2 t = owns (c : Thread nD τ) (ms0_2 t) fullShare (iblk m c 2 t) := by
  unfold Dat.leavesExact; rw [liveAt0_2 t, keep2]
theorem leave3 (c : Dev nD) (t : Fin cfg0.N) :
    (dats m 0 c).leavesExact 3 t = owns (c : Thread nD τ) (ms0_3 t) fullShare (iblk m c 3 t) := by
  unfold Dat.leavesExact; rw [liveAt0_3 t, keep3]
theorem leave4 (c : Dev nD) (t : Fin cfg0.N) :
    (dats m 0 c).leavesExact 4 t = owns (c : Thread nD τ) (ms0_4 t) fullShare (iblk m c 4 t) := by
  unfold Dat.leavesExact; rw [liveAt0_4 t, keep4]
theorem leave5 (c : Dev nD) (t : Fin cfg0.N) :
    (dats m 0 c).leavesExact 5 t = owns (c : Thread nD τ) (ms0_5 t) fullShare (iblk m c 5 t) := by
  unfold Dat.leavesExact; rw [liveAt0_5 t, keep5]
theorem leave6 (c : Dev nD) (t : Fin cfg0.N) :
    (dats m 0 c).leavesExact 6 t = owns (c : Thread nD τ) (ms0_6 t) fullShare (iblk m c 6 t) := by
  unfold Dat.leavesExact; rw [liveAt0_6 t, keep6]
theorem leave7 (c : Dev nD) (t : Fin cfg0.N) :
    (dats m 0 c).leavesExact 7 t = owns (c : Thread nD τ) (ms0_7 t) fullShare (iblk m c 7 t) := by
  unfold Dat.leavesExact; rw [liveAt0_7 t, keep7]
theorem leave8 (c : Dev nD) (t : Fin cfg0.N) :
    (dats m 0 c).leavesExact 8 t = owns (c : Thread nD τ) (ms0_8 t) fullShare (iblk m c 8 t) := by
  unfold Dat.leavesExact; rw [liveAt0_8 t, keep8]
theorem leave9 (c : Dev nD) (t : Fin cfg0.N) :
    (dats m 0 c).leavesExact 9 t = owns (c : Thread nD τ) (ms0_9 t) fullShare (iblk m c 9 t) := by
  unfold Dat.leavesExact; rw [liveAt0_9 t, keep9]
theorem leave10 (c : Dev nD) (t : Fin cfg0.N) :
    (dats m 0 c).leavesExact 10 t = owns (c : Thread nD τ) (ms0_10 t) fullShare (iblk m c 10 t) := by
  unfold Dat.leavesExact; rw [liveAt0_10 t, keep10]
theorem leave11 (c : Dev nD) (t : Fin cfg0.N) :
    (dats m 0 c).leavesExact 11 t = owns (c : Thread nD τ) (ms0_11 t) fullShare (iblk m c 11 t) := by
  unfold Dat.leavesExact; rw [liveAt0_11 t, keep11]
theorem leave12 (c : Dev nD) (t : Fin cfg0.N) :
    (dats m 0 c).leavesExact 12 t = owns (c : Thread nD τ) (ms0_12 t) fullShare (iblk m c 12 t) := by
  unfold Dat.leavesExact; rw [liveAt0_12 t, keep12]

/-- The two conditionals of the body are never both taken. -/
theorem not_both (t : Fin cfg0.N) : cond0_0 (grid0.coords t) → ¬cond0_1 (grid0.coords t) := fun h h' => by
  have := (hcond0_0 t).mp h; have := (hcond0_1 t).mp h'; omega

set_option maxHeartbeats 0 in
/-- The body's triple at a point, between what the pipeline hands it and what it takes back. -/
theorem sound_body (c : Dev nD) (t : Fin cfg0.N) :
    iprop((dats m 0 c).Φ t.castSucc
      ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare d)
      ∗ (∃ d, owns (c : Thread nD τ) (ms0_14 t) fullShare d)
      ∗ (∃ d, owns (c : Thread nD τ) (ms0_15 t) fullShare d)
      ∗ (∃ d, owns (c : Thread nD τ) (ms0_16 t) fullShare d)
      ∗ (∃ d, owns (c : Thread nD τ) (ms0_17 t) fullShare d)
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d))
    ⊢ (wp frame (wpE (defs₀ (F := F)) Variants.none c none) Set.univ (bodyAt0 t) (fun _ =>
    iprop((dats m 0 c).Φ t.succ
      ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t
      ∗ (dats m 0 c).leavesExact 8 t
      ∗ (dats m 0 c).leavesExact 9 t
      ∗ (dats m 0 c).leavesExact 10 t
      ∗ (dats m 0 c).leavesExact 11 t
      ∗ (dats m 0 c).leavesExact 12 t
      ∗ (∃ d, owns (c : Thread nD τ) (ms0_13 t) fullShare d)
      ∗ (∃ d, owns (c : Thread nD τ) (ms0_14 t) fullShare d)
      ∗ (∃ d, owns (c : Thread nD τ) (ms0_15 t) fullShare d)
      ∗ (∃ d, owns (c : Thread nD τ) (ms0_16 t) fullShare d)
      ∗ (∃ d, owns (c : Thread nD τ) (ms0_17 t) fullShare d)
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d))) : sProp (MT nD τ sig Unit (Elt F) ℕ (UR sig nD τ) ℕ)) := by
  unfold bodyAt0
  simp only [start0, start1, start2, start3, start4, start5, start6, start7, start8, start9, start10, start11, start12]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq,
    leave0, leave1, leave2, leave3, leave4, leave5, leave6, leave7, leave8, leave9, leave10, leave11, leave12]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21, H22, H23, H24, H25, H26⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (not_both t) Set.univ _)
  isplitl [H0 H1 H2 H3 H4 H5 H6 H7 H8 H9 H10 H11 H12 H13 H14 H15 H16 H17 H18 H19 H20 H21 H22 H23 H24 H25 H26 HS0 HS1 HS2 HS3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    isplitl [HS2]; · iexact HS2
    iexact HS3
  unfold held
  iintro ⟨H0, H1, H2, H3, H4, H5, H6, H7, H8, H9, H10, H11, H12, H13, H14, H15, H16, H17, H18, H19, H20, H21, H22, H23, H24, H25, H26, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs_row (t : Fin cfg0.N) :
    defs₀ (F := F) .tc cfg0.body (cfg0.bodyArgs t (cfg0.slots t)) = bodyAt0 t := by
  unfold defs₀; rw [Defs.onTc_tc]

/-- The obligation of the pipeline at every point. -/
theorem obligation (c : Dev nD) :
    BodyObligation (dats (F := F) m 0 c) (defs₀ (F := F)) Variants.none () Set.univ forgotten := fun t => by
  rw [bigSep_W0, bigSep_W0, defs_row]
  exact triple_restated (sound_body m c t) rfl .rfl fun _ => .rfl

/-! ## The frame -/

set_option backward.isDefEq.respectTransparency.types false in
/-- The launch, with the semaphore counters at zero at the end. -/
theorem launch : θ_run defs (onTc (τ := τ) (main (F := F))) (s₀ m ρ) (fun r =>
    (Pipeline.RDat.FramePost (cfgs 0) (fun c => (dats m 0 c).toRForget forgotten) (V m)) r ∧ r.2.sem = fun _ => 0) :=
  Pipeline.θ_run_frame_track_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hin := fun _ => .rfl)
    (hout := fun _ => .rfl)

set_option maxHeartbeats 4000000 in
/-- The arguments after any run that ends as the pipeline's frame says, whatever the windows are said to hold. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨
      ((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 3 rfl).trans ((hA c 3).trans (V_main_arg7 m c)),
      (Pipeline.RDat.FramePost.arr_in h c 4 rfl).trans ((hA c 4).trans (V_main_arg8 m c)),
      ((h c).2 main_arg9 (Pipeline.mem_restRefs_of main_arg9 (by decide) (by decide))).trans (V_main_arg9 m c),
      (Pipeline.RDat.FramePost.arr_in h c 6 rfl).trans ((hA c 6).trans (V_main_arg10 m c)),
      (Pipeline.RDat.FramePost.arr_in h c 7 rfl).trans ((hA c 7).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-- The frame claim at any number type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (args_kept m ρ (fun c => (dats m 0 c).toRForget forgotten) (A_eq m) ((θ_run defs _ _).mono (fun _ h => h.1) (launch m ρ)))
    ((θ_run defs _ _).mono (fun _ h => h.2) (launch m ρ))

end Cert.MixBwd.Gate

end
-- ==== Proof.GateRows.lean ====
/- The gating backward call: the kernel's idealized text. One run of the body at a generic grid point, and from it the frame:
   every fair run ends, the argument arrays are unchanged and no semaphore count is left over. The eight outputs written
   row block by row block are named; nothing is said of what the six accumulated outputs hold. -/
module

public import proofs.«01_k».proof.Proof.Gen.MixBwdIdeal.Frame.Runs
public import Idealize.ShloMosaic.Lib.Claim

@[expose] public section

set_option maxRecDepth 16384

noncomputable section

namespace Cert.MixBwdIdeal.Gate

open Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The body at a generic point -/

section Body

variable (c : Dev nD) (i : grid0.Coords)
  (arg1 : Memref sig .tc .vmem S256x6144 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S4x128x128 .bf16) (harg9 : arg9.IsWhole)
  (arg10 : Memref sig .tc .vmem S4x128x128 .bf16) (harg10 : arg10.IsWhole)
  (arg11 : Memref sig .tc .vmem S128x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S256x1024 .f32) (harg14 : arg14.IsWhole)
  (arg15 : Memref sig .tc .vmem S256x6144 .bf16) (harg15 : arg15.IsWhole)
  (arg16 : Memref sig .tc .vmem S256x1024 .bf16) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .bf16) (harg21 : arg21.IsWhole)
  (arg22 : Memref sig .tc .vmem S4x128x128 .f32) (harg22 : arg22.IsWhole)
  (arg23 : Memref sig .tc .vmem S128x128 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)
  (arg28 : Memref sig .tc .vmem S256x1024 .f32) (harg28 : arg28.IsWhole)
  (arg29 : Memref sig .tc .vmem S256x1024 .bf16) (harg29 : arg29.IsWhole)
  (arg30 : Memref sig .tc .vmem S256x1024 .f32) (harg30 : arg30.IsWhole)
  (arg31 : Memref sig .tc .vmem S128x1024 .f32) (harg31 : arg31.IsWhole)
  (x0 : Vec F S256x6144 .bf16) (x1 : Vec F S256x1024 .f32) (x2 : Vec F S256x1024 .f32) (x3 : Vec F S1x1024 .f32) (x4 : Vec F S1x1024 .f32) (x5 : Vec F S1024x1024 .bf16) (x6 : Vec F S1x1024 .f32) (x7 : Vec F S1x1024 .f32) (x8 : Vec F S4x128x128 .bf16) (x9 : Vec F S4x128x128 .bf16) (x10 : Vec F S128x1024 .f32) (x11 : Vec F S1024x1024 .bf16) (x12 : Vec F S1024x1024 .bf16)

/-- The buffers of the body: the thirteen inputs at their contents, the fourteen outputs and the four scratch buffers at
    anything. -/
def held : sProp (MT nD τ sig Unit (Elt F) ℕ (UR sig nD τ) ℕ) :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare d)
    ∗ (∃ d, owns (c : Thread nD τ) arg31 fullShare d))

/-- What the body leaves: the inputs as they were, the eight row outputs with their pieces written over something, the rest at
    anything. -/
def left (L13 : List (View.Piece (Elt F) S256x1024 .f32)) (L14 : List (View.Piece (Elt F) S256x6144 .bf16)) (L15 : List (View.Piece (Elt F) S256x1024 .bf16)) (L16 : List (View.Piece (Elt F) S256x1024 .bf16)) (L17 : List (View.Piece (Elt F) S256x1024 .bf16)) (L18 : List (View.Piece (Elt F) S256x1024 .bf16)) (L19 : List (View.Piece (Elt F) S256x1024 .bf16)) (L20 : List (View.Piece (Elt F) S256x1024 .bf16)) : sProp (MT nD τ sig Unit (Elt F) ℕ (UR sig nD τ) ℕ) :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12
    ∗ (∃ f, arg14.view.loc (c : Thread nD τ) ↦[arg14.view.set]{fullShare} arg14.view.writes (Elt F) f L13)
    ∗ (∃ f, arg15.view.loc (c : Thread nD τ) ↦[arg15.view.set]{fullShare} arg15.view.writes (Elt F) f L14)
    ∗ (∃ f, arg16.view.loc (c : Thread nD τ) ↦[arg16.view.set]{fullShare} arg16.view.writes (Elt F) f L15)
    ∗ (∃ f, arg17.view.loc (c : Thread nD τ) ↦[arg17.view.set]{fullShare} arg17.view.writes (Elt F) f L16)
    ∗ (∃ f, arg18.view.loc (c : Thread nD τ) ↦[arg18.view.set]{fullShare} arg18.view.writes (Elt F) f L17)
    ∗ (∃ f, arg19.view.loc (c : Thread nD τ) ↦[arg19.view.set]{fullShare} arg19.view.writes (Elt F) f L18)
    ∗ (∃ f, arg20.view.loc (c : Thread nD τ) ↦[arg20.view.set]{fullShare} arg20.view.writes (Elt F) f L19)
    ∗ (∃ f, arg21.view.loc (c : Thread nD τ) ↦[arg21.view.set]{fullShare} arg21.view.writes (Elt F) f L20)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare d)
    ∗ (∃ d, owns (c : Thread nD τ) arg31 fullShare d))

set_option maxHeartbeats 0 in
/-- The body's run, whichever of its two conditionals are taken (never both: one is the first point, the other the last): the
    pieces it stores into the row outputs are the same, and are found by the run. -/
noncomputable def rows_run (hne : cond0_0 i → ¬cond0_1 i) :
    Σ' (L13 : List (View.Piece (Elt F) S256x1024 .f32)), Σ' (L14 : List (View.Piece (Elt F) S256x6144 .bf16)), Σ' (L15 : List (View.Piece (Elt F) S256x1024 .bf16)), Σ' (L16 : List (View.Piece (Elt F) S256x1024 .bf16)), Σ' (L17 : List (View.Piece (Elt F) S256x1024 .bf16)), Σ' (L18 : List (View.Piece (Elt F) S256x1024 .bf16)), Σ' (L19 : List (View.Piece (Elt F) S256x1024 .bf16)), Σ' (L20 : List (View.Piece (Elt F) S256x1024 .bf16)),
      ∀ (E : Set ℕ) (K : PUnit → sProp (MT nD τ sig Unit (Elt F) ℕ (UR sig nD τ) ℕ)),
        iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 x0 x1 x2 x3 x4 x5 x6 x7 x8 x9 x10 x11 x12 ∗ (left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 x0 x1 x2 x3 x4 x5 x6 x7 x8 x9 x10 x11 x12 L13 L14 L15 L16 L17 L18 L19 L20 -∗ K ⟨⟩))
          ⊢ wp frame (wpE (defs₀ (F := F)) Variants.none c none) E (cc0_mix_bwd_branches i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  refine ⟨?_, ?_, ?_, ?_, ?_, ?_, ?_, ?_, fun E K => ?run⟩
  case run =>
  unfold held left
  simp only [cc0_mix_bwd_branches_eq_skeleton]; unfold cc0_mix_bwd_branches_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain ⟨hc0, hc1⟩ | ⟨hc0, hc1⟩ | ⟨hc0, hc1⟩ : (cond0_0 i ∧ ¬cond0_1 i) ∨ (¬cond0_0 i ∧ cond0_1 i) ∨ (¬cond0_0 i ∧ ¬cond0_1 i) := by
    by_cases h : cond0_0 i
    · exact .inl ⟨h, hne h⟩
    · by_cases h' : cond0_1 i
      · exact .inr (.inl ⟨h, h'⟩)
      · exact .inr (.inr ⟨h, h'⟩)
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    iexists _, _; isplitr; swap; · iexact H30
    ipureintro; rfl

end Body

/-! ## The proof data of the pipeline -/

variable (m : (ℓ : Loc nD τ sig) → Buf (Elt F) ℓ) (ρ : Dev nD → PrngReg)

/-- The accumulated outputs: nothing is said of what they hold. -/
def forgotten : Fin 27 → Bool := fun w => decide (21 ≤ w.val)

/-- The two conditionals of the body are never both taken. -/
theorem not_both (t : Fin cfg0.N) : cond0_0 (grid0.coords t) → ¬cond0_1 (grid0.coords t) := fun h h' => by
  have := (hcond0_0 t).mp h; have := (hcond0_1 t).mp h'; omega

/-- The body's run at point `t`. -/
abbrev run_at (c : Dev nD) (t : Fin cfg0.N) :=
  rows_run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (not_both t)

/-- What point `t` leaves in output 13's staging buffer. -/
def out13 (c : Dev nD) (t : Fin cfg0.N) : Vec F S256x1024 .f32 :=
  VO0_13.read (Elt F) (VO0_13.writes (Elt F) VO0_13.junk (run_at m c t).1)

theorem cover13 (c : Dev nD) (t : Fin cfg0.N) (y : S256x1024.Idx) : ∃ pc ∈ (run_at m c t).1, y ∈ pc.1.set :=
  View.cover_of_tiledL (run_at m c t).1 S256x1024.size (by sl_kernel_rfl) y

/-- What point `t` leaves in output 14's staging buffer. -/
def out14 (c : Dev nD) (t : Fin cfg0.N) : Vec F S256x6144 .bf16 :=
  VO0_14.read (Elt F) (VO0_14.writes (Elt F) VO0_14.junk (run_at m c t).2.1)

theorem cover14 (c : Dev nD) (t : Fin cfg0.N) (y : S256x6144.Idx) : ∃ pc ∈ (run_at m c t).2.1, y ∈ pc.1.set :=
  View.cover_of_tiledBy (run_at m c t).2.1 ![256, 1024] (by sl_kernel_rfl) y

/-- What point `t` leaves in output 15's staging buffer. -/
def out15 (c : Dev nD) (t : Fin cfg0.N) : Vec F S256x1024 .bf16 :=
  VO0_15.read (Elt F) (VO0_15.writes (Elt F) VO0_15.junk (run_at m c t).2.2.1)

theorem cover15 (c : Dev nD) (t : Fin cfg0.N) (y : S256x1024.Idx) : ∃ pc ∈ (run_at m c t).2.2.1, y ∈ pc.1.set :=
  View.cover_of_tiledL (run_at m c t).2.2.1 S256x1024.size (by sl_kernel_rfl) y

/-- What point `t` leaves in output 16's staging buffer. -/
def out16 (c : Dev nD) (t : Fin cfg0.N) : Vec F S256x1024 .bf16 :=
  VO0_16.read (Elt F) (VO0_16.writes (Elt F) VO0_16.junk (run_at m c t).2.2.2.1)

theorem cover16 (c : Dev nD) (t : Fin cfg0.N) (y : S256x1024.Idx) : ∃ pc ∈ (run_at m c t).2.2.2.1, y ∈ pc.1.set :=
  View.cover_of_tiledL (run_at m c t).2.2.2.1 S256x1024.size (by sl_kernel_rfl) y

/-- What point `t` leaves in output 17's staging buffer. -/
def out17 (c : Dev nD) (t : Fin cfg0.N) : Vec F S256x1024 .bf16 :=
  VO0_17.read (Elt F) (VO0_17.writes (Elt F) VO0_17.junk (run_at m c t).2.2.2.2.1)

theorem cover17 (c : Dev nD) (t : Fin cfg0.N) (y : S256x1024.Idx) : ∃ pc ∈ (run_at m c t).2.2.2.2.1, y ∈ pc.1.set :=
  View.cover_of_tiledL (run_at m c t).2.2.2.2.1 S256x1024.size (by sl_kernel_rfl) y

/-- What point `t` leaves in output 18's staging buffer. -/
def out18 (c : Dev nD) (t : Fin cfg0.N) : Vec F S256x1024 .bf16 :=
  VO0_18.read (Elt F) (VO0_18.writes (Elt F) VO0_18.junk (run_at m c t).2.2.2.2.2.1)

theorem cover18 (c : Dev nD) (t : Fin cfg0.N) (y : S256x1024.Idx) : ∃ pc ∈ (run_at m c t).2.2.2.2.2.1, y ∈ pc.1.set :=
  View.cover_of_tiledL (run_at m c t).2.2.2.2.2.1 S256x1024.size (by sl_kernel_rfl) y

/-- What point `t` leaves in output 19's staging buffer. -/
def out19 (c : Dev nD) (t : Fin cfg0.N) : Vec F S256x1024 .bf16 :=
  VO0_19.read (Elt F) (VO0_19.writes (Elt F) VO0_19.junk (run_at m c t).2.2.2.2.2.2.1)

theorem cover19 (c : Dev nD) (t : Fin cfg0.N) (y : S256x1024.Idx) : ∃ pc ∈ (run_at m c t).2.2.2.2.2.2.1, y ∈ pc.1.set :=
  View.cover_of_tiledL (run_at m c t).2.2.2.2.2.2.1 S256x1024.size (by sl_kernel_rfl) y

/-- What point `t` leaves in output 20's staging buffer. -/
def out20 (c : Dev nD) (t : Fin cfg0.N) : Vec F S256x1024 .bf16 :=
  VO0_20.read (Elt F) (VO0_20.writes (Elt F) VO0_20.junk (run_at m c t).2.2.2.2.2.2.2.1)

theorem cover20 (c : Dev nD) (t : Fin cfg0.N) (y : S256x1024.Idx) : ∃ pc ∈ (run_at m c t).2.2.2.2.2.2.2.1, y ∈ pc.1.set :=
  View.cover_of_tiledL (run_at m c t).2.2.2.2.2.2.2.1 S256x1024.size (by sl_kernel_rfl) y

/-- Inputs keep their blocks, row outputs hold what the run leaves, accumulated outputs are left unnamed, and between points the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
    | ⟨15, _⟩ => out15 m c t
    | ⟨16, _⟩ => out16 m c t
    | ⟨17, _⟩ => out17 m c t
    | ⟨18, _⟩ => out18 m c t
    | ⟨19, _⟩ => out19 m c t
    | ⟨20, _⟩ => out20 m c t
    | ⟨21, h⟩ => Dat.unnamed (cfg := cfg0) ⟨21, h⟩ t
    | ⟨22, h⟩ => Dat.unnamed (cfg := cfg0) ⟨22, h⟩ t
    | ⟨23, h⟩ => Dat.unnamed (cfg := cfg0) ⟨23, h⟩ t
    | ⟨24, h⟩ => Dat.unnamed (cfg := cfg0) ⟨24, h⟩ t
    | ⟨25, h⟩ => Dat.unnamed (cfg := cfg0) ⟨25, h⟩ t
    | ⟨26, h⟩ => Dat.unnamed (cfg := cfg0) ⟨26, h⟩ t
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem keep0 (c : Dev nD) (t : Fin cfg0.N) : (dats m 0 c).after 0 t = iblk m c 0 t := by dsimp only [dats]
theorem keep1 (c : Dev nD) (t : Fin cfg0.N) : (dats m 0 c).after 1 t = iblk m c 1 t := by dsimp only [dats]
theorem keep2 (c : Dev nD) (t : Fin cfg0.N) : (dats m 0 c).after 2 t = iblk m c 2 t := by dsimp only [dats]
theorem keep3 (c : Dev nD) (t : Fin cfg0.N) : (dats m 0 c).after 3 t = iblk m c 3 t := by dsimp only [dats]
theorem keep4 (c : Dev nD) (t : Fin cfg0.N) : (dats m 0 c).after 4 t = iblk m c 4 t := by dsimp only [dats]
theorem keep5 (c : Dev nD) (t : Fin cfg0.N) : (dats m 0 c).after 5 t = iblk m c 5 t := by dsimp only [dats]
theorem keep6 (c : Dev nD) (t : Fin cfg0.N) : (dats m 0 c).after 6 t = iblk m c 6 t := by dsimp only [dats]
theorem keep7 (c : Dev nD) (t : Fin cfg0.N) : (dats m 0 c).after 7 t = iblk m c 7 t := by dsimp only [dats]
theorem keep8 (c : Dev nD) (t : Fin cfg0.N) : (dats m 0 c).after 8 t = iblk m c 8 t := by dsimp only [dats]
theorem keep9 (c : Dev nD) (t : Fin cfg0.N) : (dats m 0 c).after 9 t = iblk m c 9 t := by dsimp only [dats]
theorem keep10 (c : Dev nD) (t : Fin cfg0.N) : (dats m 0 c).after 10 t = iblk m c 10 t := by dsimp only [dats]
theorem keep11 (c : Dev nD) (t : Fin cfg0.N) : (dats m 0 c).after 11 t = iblk m c 11 t := by dsimp only [dats]
theorem keep12 (c : Dev nD) (t : Fin cfg0.N) : (dats m 0 c).after 12 t = iblk m c 12 t := by dsimp only [dats]
theorem after13 (c : Dev nD) (t : Fin cfg0.N) : (dats m 0 c).after 13 t = out13 m c t := by dsimp only [dats]
theorem after14 (c : Dev nD) (t : Fin cfg0.N) : (dats m 0 c).after 14 t = out14 m c t := by dsimp only [dats]
theorem after15 (c : Dev nD) (t : Fin cfg0.N) : (dats m 0 c).after 15 t = out15 m c t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem after18 (c : Dev nD) (t : Fin cfg0.N) : (dats m 0 c).after 18 t = out18 m c t := by dsimp only [dats]
theorem after19 (c : Dev nD) (t : Fin cfg0.N) : (dats m 0 c).after 19 t = out19 m c t := by dsimp only [dats]
theorem after20 (c : Dev nD) (t : Fin cfg0.N) : (dats m 0 c).after 20 t = out20 m c t := by dsimp only [dats]

theorem start0 (c : Dev nD) (t : Fin cfg0.N) (d) : (dats m 0 c).before 0 t d = iblk m c 0 t :=
  before0_0_of m (dats m 0 c) (A_eq m c 0) (keep0 m c) t d
theorem start1 (c : Dev nD) (t : Fin cfg0.N) (d) : (dats m 0 c).before 1 t d = iblk m c 1 t :=
  before0_1_of m (dats m 0 c) (A_eq m c 1) (keep1 m c) t d
theorem start2 (c : Dev nD) (t : Fin cfg0.N) (d) : (dats m 0 c).before 2 t d = iblk m c 2 t :=
  before0_2_of m (dats m 0 c) (A_eq m c 2) (keep2 m c) t d
theorem start3 (c : Dev nD) (t : Fin cfg0.N) (d) : (dats m 0 c).before 3 t d = iblk m c 3 t :=
  before0_3_of m (dats m 0 c) (A_eq m c 3) (keep3 m c) t d
theorem start4 (c : Dev nD) (t : Fin cfg0.N) (d) : (dats m 0 c).before 4 t d = iblk m c 4 t :=
  before0_4_of m (dats m 0 c) (A_eq m c 4) (keep4 m c) t d
theorem start5 (c : Dev nD) (t : Fin cfg0.N) (d) : (dats m 0 c).before 5 t d = iblk m c 5 t :=
  before0_5_of m (dats m 0 c) (A_eq m c 5) (keep5 m c) t d
theorem start6 (c : Dev nD) (t : Fin cfg0.N) (d) : (dats m 0 c).before 6 t d = iblk m c 6 t :=
  before0_6_of m (dats m 0 c) (A_eq m c 6) (keep6 m c) t d
theorem start7 (c : Dev nD) (t : Fin cfg0.N) (d) : (dats m 0 c).before 7 t d = iblk m c 7 t :=
  before0_7_of m (dats m 0 c) (A_eq m c 7) (keep7 m c) t d
theorem start8 (c : Dev nD) (t : Fin cfg0.N) (d) : (dats m 0 c).before 8 t d = iblk m c 8 t :=
  before0_8_of m (dats m 0 c) (A_eq m c 8) (keep8 m c) t d
theorem start9 (c : Dev nD) (t : Fin cfg0.N) (d) : (dats m 0 c).before 9 t d = iblk m c 9 t :=
  before0_9_of m (dats m 0 c) (A_eq m c 9) (keep9 m c) t d
theorem start10 (c : Dev nD) (t : Fin cfg0.N) (d) : (dats m 0 c).before 10 t d = iblk m c 10 t :=
  before0_10_of m (dats m 0 c) (A_eq m c 10) (keep10 m c) t d
theorem start11 (c : Dev nD) (t : Fin cfg0.N) (d) : (dats m 0 c).before 11 t d = iblk m c 11 t :=
  before0_11_of m (dats m 0 c) (A_eq m c 11) (keep11 m c) t d
theorem start12 (c : Dev nD) (t : Fin cfg0.N) (d) : (dats m 0 c).before 12 t d = iblk m c 12 t :=
  before0_12_of m (dats m 0 c) (A_eq m c 12) (keep12 m c) t d

theorem leave0 (c : Dev nD) (t : Fin cfg0.N) :
    (dats m 0 c).leavesExact 0 t = owns (c : Thread nD τ) (ms0_0 t) fullShare (iblk m c 0 t) := by
  unfold Dat.leavesExact; rw [liveAt0_0 t, keep0]
theorem leave1 (c : Dev nD) (t : Fin cfg0.N) :
    (dats m 0 c).leavesExact 1 t = owns (c : Thread nD τ) (ms0_1 t) fullShare (iblk m c 1 t) := by
  unfold Dat.leavesExact; rw [liveAt0_1 t, keep1]
theorem leave2 (c : Dev nD) (t : Fin cfg0.N) :
    (dats m 0 c).leavesExact 2 t = owns (c : Thread nD τ) (ms0_2 t) fullShare (iblk m c 2 t) := by
  unfold Dat.leavesExact; rw [liveAt0_2 t, keep2]
theorem leave3 (c : Dev nD) (t : Fin cfg0.N) :
    (dats m 0 c).leavesExact 3 t = owns (c : Thread nD τ) (ms0_3 t) fullShare (iblk m c 3 t) := by
  unfold Dat.leavesExact; rw [liveAt0_3 t, keep3]
theorem leave4 (c : Dev nD) (t : Fin cfg0.N) :
    (dats m 0 c).leavesExact 4 t = owns (c : Thread nD τ) (ms0_4 t) fullShare (iblk m c 4 t) := by
  unfold Dat.leavesExact; rw [liveAt0_4 t, keep4]
theorem leave5 (c : Dev nD) (t : Fin cfg0.N) :
    (dats m 0 c).leavesExact 5 t = owns (c : Thread nD τ) (ms0_5 t) fullShare (iblk m c 5 t) := by
  unfold Dat.leavesExact; rw [liveAt0_5 t, keep5]
theorem leave6 (c : Dev nD) (t : Fin cfg0.N) :
    (dats m 0 c).leavesExact 6 t = owns (c : Thread nD τ) (ms0_6 t) fullShare (iblk m c 6 t) := by
  unfold Dat.leavesExact; rw [liveAt0_6 t, keep6]
theorem leave7 (c : Dev nD) (t : Fin cfg0.N) :
    (dats m 0 c).leavesExact 7 t = owns (c : Thread nD τ) (ms0_7 t) fullShare (iblk m c 7 t) := by
  unfold Dat.leavesExact; rw [liveAt0_7 t, keep7]
theorem leave8 (c : Dev nD) (t : Fin cfg0.N) :
    (dats m 0 c).leavesExact 8 t = owns (c : Thread nD τ) (ms0_8 t) fullShare (iblk m c 8 t) := by
  unfold Dat.leavesExact; rw [liveAt0_8 t, keep8]
theorem leave9 (c : Dev nD) (t : Fin cfg0.N) :
    (dats m 0 c).leavesExact 9 t = owns (c : Thread nD τ) (ms0_9 t) fullShare (iblk m c 9 t) := by
  unfold Dat.leavesExact; rw [liveAt0_9 t, keep9]
theorem leave10 (c : Dev nD) (t : Fin cfg0.N) :
    (dats m 0 c).leavesExact 10 t = owns (c : Thread nD τ) (ms0_10 t) fullShare (iblk m c 10 t) := by
  unfold Dat.leavesExact; rw [liveAt0_10 t, keep10]
theorem leave11 (c : Dev nD) (t : Fin cfg0.N) :
    (dats m 0 c).leavesExact 11 t = owns (c : Thread nD τ) (ms0_11 t) fullShare (iblk m c 11 t) := by
  unfold Dat.leavesExact; rw [liveAt0_11 t, keep11]
theorem leave12 (c : Dev nD) (t : Fin cfg0.N) :
    (dats m 0 c).leavesExact 12 t = owns (c : Thread nD τ) (ms0_12 t) fullShare (iblk m c 12 t) := by
  unfold Dat.leavesExact; rw [liveAt0_12 t, keep12]
theorem leave13 (c : Dev nD) (t : Fin cfg0.N) :
    (dats m 0 c).leavesExact 13 t = owns (c : Thread nD τ) (ms0_13 t) fullShare (out13 m c t) := by
  unfold Dat.leavesExact; rw [liveAt0_13 t, after13]
theorem leave14 (c : Dev nD) (t : Fin cfg0.N) :
    (dats m 0 c).leavesExact 14 t = owns (c : Thread nD τ) (ms0_14 t) fullShare (out14 m c t) := by
  unfold Dat.leavesExact; rw [liveAt0_14 t, after14]
theorem leave15 (c : Dev nD) (t : Fin cfg0.N) :
    (dats m 0 c).leavesExact 15 t = owns (c : Thread nD τ) (ms0_15 t) fullShare (out15 m c t) := by
  unfold Dat.leavesExact; rw [liveAt0_15 t, after15]
theorem leave16 (c : Dev nD) (t : Fin cfg0.N) :
    (dats m 0 c).leavesExact 16 t = owns (c : Thread nD τ) (ms0_16 t) fullShare (out16 m c t) := by
  unfold Dat.leavesExact; rw [liveAt0_16 t, after16]
theorem leave17 (c : Dev nD) (t : Fin cfg0.N) :
    (dats m 0 c).leavesExact 17 t = owns (c : Thread nD τ) (ms0_17 t) fullShare (out17 m c t) := by
  unfold Dat.leavesExact; rw [liveAt0_17 t, after17]
theorem leave18 (c : Dev nD) (t : Fin cfg0.N) :
    (dats m 0 c).leavesExact 18 t = owns (c : Thread nD τ) (ms0_18 t) fullShare (out18 m c t) := by
  unfold Dat.leavesExact; rw [liveAt0_18 t, after18]
theorem leave19 (c : Dev nD) (t : Fin cfg0.N) :
    (dats m 0 c).leavesExact 19 t = owns (c : Thread nD τ) (ms0_19 t) fullShare (out19 m c t) := by
  unfold Dat.leavesExact; rw [liveAt0_19 t, after19]
theorem leave20 (c : Dev nD) (t : Fin cfg0.N) :
    (dats m 0 c).leavesExact 20 t = owns (c : Thread nD τ) (ms0_20 t) fullShare (out20 m c t) := by
  unfold Dat.leavesExact; rw [liveAt0_20 t, after20]

set_option maxHeartbeats 0 in
/-- The body's triple at a point, between what the pipeline hands it and what it takes back. -/
theorem sound_body (c : Dev nD) (t : Fin cfg0.N) :
    iprop((dats m 0 c).Φ t.castSucc
      ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d))
    ⊢ (wp frame (wpE (defs₀ (F := F)) Variants.none c none) Set.univ (bodyAt0 t) (fun _ =>
    iprop((dats m 0 c).Φ t.succ
      ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t
      ∗ (dats m 0 c).leavesExact 8 t
      ∗ (dats m 0 c).leavesExact 9 t
      ∗ (dats m 0 c).leavesExact 10 t
      ∗ (dats m 0 c).leavesExact 11 t
      ∗ (dats m 0 c).leavesExact 12 t
      ∗ (dats m 0 c).leavesExact 13 t
      ∗ (dats m 0 c).leavesExact 14 t
      ∗ (dats m 0 c).leavesExact 15 t
      ∗ (dats m 0 c).leavesExact 16 t
      ∗ (dats m 0 c).leavesExact 17 t
      ∗ (dats m 0 c).leavesExact 18 t
      ∗ (dats m 0 c).leavesExact 19 t
      ∗ (dats m 0 c).leavesExact 20 t
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d))) : sProp (MT nD τ sig Unit (Elt F) ℕ (UR sig nD τ) ℕ)) := by
  unfold bodyAt0
  simp only [start0, start1, start2, start3, start4, start5, start6, start7, start8, start9, start10, start11, start12]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq,
    leave0, leave1, leave2, leave3, leave4, leave5, leave6, leave7, leave8, leave9, leave10, leave11, leave12, leave13, leave14, leave15, leave16, leave17, leave18, leave19, leave20]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, H21, H22, H23, H24, H25, H26⟩
  iapply ((run_at m c t).2.2.2.2.2.2.2.2 Set.univ _)
  isplitl [H0 H1 H2 H3 H4 H5 H6 H7 H8 H9 H10 H11 H12 H13 H14 H15 H16 H17 H18 H19 H20 H21 H22 H23 H24 H25 H26 HS0 HS1 HS2 HS3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    isplitl [HS2]; · iexact HS2
    iexact HS3
  unfold left
  iintro ⟨H0, H1, H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, H21, H22, H23, H24, H25, H26, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact View.read_writes_of_cover _ _ _ _ _ (cover13 m c t)
  isplitl [H14]
  · unfold owns; iexists _; isplitr; swap; · iexact H14
    ipureintro; exact View.read_writes_of_cover _ _ _ _ _ (cover14 m c t)
  isplitl [H15]
  · unfold owns; iexists _; isplitr; swap; · iexact H15
    ipureintro; exact View.read_writes_of_cover _ _ _ _ _ (cover15 m c t)
  isplitl [H16]
  · unfold owns; iexists _; isplitr; swap; · iexact H16
    ipureintro; exact View.read_writes_of_cover _ _ _ _ _ (cover16 m c t)
  isplitl [H17]
  · unfold owns; iexists _; isplitr; swap; · iexact H17
    ipureintro; exact View.read_writes_of_cover _ _ _ _ _ (cover17 m c t)
  isplitl [H18]
  · unfold owns; iexists _; isplitr; swap; · iexact H18
    ipureintro; exact View.read_writes_of_cover _ _ _ _ _ (cover18 m c t)
  isplitl [H19]
  · unfold owns; iexists _; isplitr; swap; · iexact H19
    ipureintro; exact View.read_writes_of_cover _ _ _ _ _ (cover19 m c t)
  isplitl [H20]
  · unfold owns; iexists _; isplitr; swap; · iexact H20
    ipureintro; exact View.read_writes_of_cover _ _ _ _ _ (cover20 m c t)
  isplitl [H21]; · iexact H21
  isplitl [H22]; · iexact H22
  isplitl [H23]; · iexact H23
  isplitl [H24]; · iexact H24
  isplitl [H25]; · iexact H25
  iexact H26

theorem defs_row (t : Fin cfg0.N) :
    defs₀ (F := F) .tc cfg0.body (cfg0.bodyArgs t (cfg0.slots t)) = bodyAt0 t := by
  unfold defs₀; rw [Defs.onTc_tc]

set_option maxHeartbeats 0 in
/-- The obligation of the pipeline at every point. -/
theorem obligation (c : Dev nD) :
    BodyObligation (dats (F := F) m 0 c) (defs₀ (F := F)) Variants.none () Set.univ forgotten := fun t => by
  rw [bigSep_W0, bigSep_W0, defs_row]
  exact triple_restated (sound_body m c t) rfl .rfl fun _ => .rfl

/-! ## The frame -/

set_option backward.isDefEq.respectTransparency.types false in
/-- The launch, with the semaphore counters at zero at the end. -/
theorem launch : θ_run defs (onTc (τ := τ) (main (F := F))) (s₀ m ρ) (fun r =>
    (Pipeline.RDat.FramePost (cfgs 0) (fun c => (dats m 0 c).toRForget forgotten) (V m)) r ∧ r.2.sem = fun _ => 0) :=
  Pipeline.θ_run_frame_track_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hin := fun _ => .rfl)
    (hout := fun _ => .rfl)

set_option maxHeartbeats 4000000 in
/-- The arguments after any run that ends as the pipeline's frame says, whatever the windows are said to hold. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨
      ((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 3 rfl).trans ((hA c 3).trans (V_main_arg7 m c)),
      (Pipeline.RDat.FramePost.arr_in h c 4 rfl).trans ((hA c 4).trans (V_main_arg8 m c)),
      ((h c).2 main_arg9 (Pipeline.mem_restRefs_of main_arg9 (by decide) (by decide))).trans (V_main_arg9 m c),
      (Pipeline.RDat.FramePost.arr_in h c 6 rfl).trans ((hA c 6).trans (V_main_arg10 m c)),
      (Pipeline.RDat.FramePost.arr_in h c 7 rfl).trans ((hA c 7).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-- The frame claim at any number type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (args_kept m ρ (fun c => (dats m 0 c).toRForget forgotten) (A_eq m) ((θ_run defs _ _).mono (fun _ h => h.1) (launch m ρ)))
    ((θ_run defs _ _).mono (fun _ h => h.2) (launch m ρ))

end Cert.MixBwdIdeal.Gate

end
-- ==== Proof.KvValue.lean ====
/- The value of the memory gradient call: the gradients of the key/value weight and of the memory norm's gain. -/
module

public import proofs.«01_k».proof.Proof.Gen.KvBwdIdeal.Value
public import proofs.«01_k».proof.Proof.Gen.KvBwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvBwdIdeal.Value

open Cert.KvBwdIdeal Cert.KvBwdIdeal.Gen Cert.KvBwdRefIdeal.Read

/-- Four sums taken in the kernel's order are the same sums taken column half by column half. -/
theorem four_sums (a b c d : EReal) : a + b + c + d = (a + c) + (b + d) := by
  rw [add_right_comm a b c, add_assoc]

/-- The reference's normalised memory at one entry. -/
theorem memn_ref (X : FVec Ideal S256x1024 .f32) (G : FVec Ideal S1x1024 .f32) (a : Fin 256) (b : Fin 1024) :
    val_main_v13 (F := Ideal) X G (ix2 a b) = X (ix2 a b) * Ideal.rsqrt (Ideal.div (∑ k, X (ix2 a k) * X (ix2 a k)) (Ideal.ofBits .f32 0x44800000#32)
      + Ideal.ofBits .f32 0x358637BD#32) * G (ix2 0 b) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]

/-- The reference's weight gradient at a column of the key half. -/
theorem dw_ref_k (X : FVec Ideal S256x1024 .f32) (G : FVec Ideal S1x1024 .f32) (DK DV : FVec Ideal S256x1024 .f32) (s : Fin 4) (a : Fin 1024) (b : Fin 512)
    (l : Fin 1024) (hl : s.val * 512 + b.val = l.val) :
    val_main_v30 (F := Ideal) X G DK DV (ix3 s a b) = ∑ k : Fin 256, val_main_v13 (F := Ideal) X G (ix2 k a) * DK (ix2 k l) := by
  pointwise [val_main_v14, val_main_v15, val_main_v16, val_main_v17, val_main_v18, val_main_v19, val_main_v20, val_main_v21, val_main_v22, val_main_v23, val_main_cst_2, val_main_v24, val_main_v25, val_main_cst_3, val_main_v26, val_main_v27, val_main_v28, val_main_v29, val_main_v30, val_main_v31]
  have h : s.val * 512 + b.val < 1024 := by omega
  simp only [hl] at h ⊢
  simp only [h, dite_true]
  exact Finset.sum_congr rfl fun k _ => mul_comm _ _

/-- The reference's weight gradient at a column of the value half. -/
theorem dw_ref_v (X : FVec Ideal S256x1024 .f32) (G : FVec Ideal S1x1024 .f32) (DK DV : FVec Ideal S256x1024 .f32) (s : Fin 4) (a : Fin 1024) (b : Fin 512)
    (l : Fin 1024) (hl : s.val * 512 + b.val = 1024 + l.val) :
    val_main_v30 (F := Ideal) X G DK DV (ix3 s a b) = ∑ k : Fin 256, val_main_v13 (F := Ideal) X G (ix2 k a) * DV (ix2 k l) := by
  pointwise [val_main_v14, val_main_v15, val_main_v16, val_main_v17, val_main_v18, val_main_v19, val_main_v20, val_main_v21, val_main_v22, val_main_v23, val_main_cst_2, val_main_v24, val_main_v25, val_main_cst_3, val_main_v26, val_main_v27, val_main_v28, val_main_v29, val_main_v30, val_main_v31]
  have h : ¬ s.val * 512 + b.val < 1024 := by omega
  simp only [hl] at h ⊢
  simp only [h, dite_false, Nat.add_sub_cancel_left]
  exact Finset.sum_congr rfl fun k _ => mul_comm _ _

/-- The same at any spelling of the index. -/
theorem dw_at_k (X : FVec Ideal S256x1024 .f32) (G : FVec Ideal S1x1024 .f32) (DK DV : FVec Ideal S256x1024 .f32) (i : S4x1024x512.Idx) (a l : Fin 1024)
    (ha : (i 1).val = a.val) (hl : (i 0).val * 512 + (i 2).val = l.val) :
    val_main_v30 (F := Ideal) X G DK DV i = ∑ k : Fin 256, val_main_v13 (F := Ideal) X G (ix2 k a) * DK (ix2 k l) := by
  obtain rfl : a = i 1 := Fin.ext ha.symm
  rw [eq_ix3 i]
  exact dw_ref_k X G DK DV (i 0) (i 1) (i 2) l hl

/-- The same at any spelling of the index. -/
theorem dw_at_v (X : FVec Ideal S256x1024 .f32) (G : FVec Ideal S1x1024 .f32) (DK DV : FVec Ideal S256x1024 .f32) (i : S4x1024x512.Idx) (a l : Fin 1024)
    (ha : (i 1).val = a.val) (hl : (i 0).val * 512 + (i 2).val = 1024 + l.val) :
    val_main_v30 (F := Ideal) X G DK DV i = ∑ k : Fin 256, val_main_v13 (F := Ideal) X G (ix2 k a) * DV (ix2 k l) := by
  obtain rfl : a = i 1 := Fin.ext ha.symm
  rw [eq_ix3 i]
  exact dw_ref_v X G DK DV (i 0) (i 1) (i 2) l hl

/-- The reference's gain gradient, its contraction cut at the four shards' boundaries. -/
theorem dg_ref (X : FVec Ideal S256x1024 .f32) (W : FVec Ideal S1x1024x2048 .f32) (DK DV : FVec Ideal S256x1024 .f32) (b : Fin 1024) :
    val_main_v27 (F := Ideal) X W DK DV (ix2 0 b) = ∑ k : Fin 256,
      (∑ j : Fin 512, DK (ix2 k ⟨j.val, by omega⟩) * W (ix3 0 b ⟨j.val, by omega⟩)
        + ∑ j : Fin 512, DV (ix2 k ⟨j.val, by omega⟩) * W (ix3 0 b ⟨1024 + j.val, by omega⟩)
        + ∑ j : Fin 512, DK (ix2 k ⟨512 + j.val, by omega⟩) * W (ix3 0 b ⟨512 + j.val, by omega⟩)
        + ∑ j : Fin 512, DV (ix2 k ⟨512 + j.val, by omega⟩) * W (ix3 0 b ⟨1024 + (512 + j.val), by omega⟩))
      * (X (ix2 k b) * Ideal.rsqrt (Ideal.div (∑ l, X (ix2 k l) * X (ix2 k l)) (Ideal.ofBits .f32 0x44800000#32) + Ideal.ofBits .f32 0x358637BD#32)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst_2, val_main_v24, val_main_v25, val_main_cst_3, val_main_v26, val_main_v27, val_main_v28, val_main_v29, val_main_v30, val_main_v31]
  simp only [Finset.univ_unique, Finset.sum_singleton]
  refine Fin.sum_fin_congr fun k => ?_
  rw [mul_comm, Fin.sum_univ_two_halves 512 512 rfl (fun x : Fin 1024 => DK (ix2 k x) * _), Fin.sum_univ_two_halves 512 512 rfl (fun x : Fin 1024 => DV (ix2 k x) * _), four_sums]

variable (m : (ℓ : Loc nD τ sig) → Buf (Elt Ideal) ℓ)

/-- Every window of the one grid point is its whole array. -/
theorem idx : ∀ t : Fin cfg0.N, win0_0.index t = ![0, 0] ∧ win0_1.index t = ![0, 0] ∧ win0_2.index t = ![0, 0] ∧ win0_3.index t = ![0, 0, 0] ∧ win0_4.index t = ![0, 0] ∧ win0_5.index t = ![0, 0] ∧ win0_6.index t = ![0, 0, 0] ∧ win0_7.index t = ![0, 0, 0] ∧ win0_8.index t = ![0, 0] :=
  (by decide +kernel : ∀ t : Fin grid0.N, _)

/-- The saved normalised memory the host hands the kernel is the reference's. -/
theorem memn_at (c : Dev nD) (t : Fin cfg0.N) (a : Fin 256) (b : Fin 1024) :
    (show FVec Ideal S256x1024 .bf16 from iblk m c 2 t) (ix2 a b) = val_main_v13 (F := Ideal) (m ((c : Thread nD τ).loc main_arg0)) (m ((c : Thread nD τ).loc main_arg1)) (ix2 a b) := by
  rw [memn_ref]
  blk_simp [iblk, idx t]
  entry_read
  pointwise
  blk_point [idx t]

/-- Shard `s` of the weight holds its columns `512 s` to `512 s + 511`. -/
theorem wkv_at (c : Dev nD) (t : Fin cfg0.N) (s : Fin 4) (a : Fin 1024) (b : Fin 512) :
    (show FVec Ideal S4x1024x512 .bf16 from iblk m c 3 t) (ix3 s a b) = m ((c : Thread nD τ).loc main_arg2) (ix3 0 a ⟨s.val * 512 + b.val, by omega⟩) := by
  blk_simp [iblk, idx t]
  entry_read
  pointwise
  blk_ext [idx t]

/-- The gain's gradient. -/
theorem final8 (c : Dev nD) : (dats m 0 c).arrAt 8 (cfgs 0).N
    = val_main_v27 (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t _ y => ?_
  have hy : (((cfg0.win 8).blk t).view.emb y : S1x1024.Idx) = ix2 0 (y 1) := by blk_ext [idx t]
  refine Eq.trans ?_ ((congrArg (val_main_v27 (F := Ideal) _ _ _ _) hy).trans (dg_ref _ _ _ _ _)).symm
  blk_simp [idx t]
  rw [after0_8]
  frame_out
  pointwise [k0_pay2, k0_pay3, k0_pay4, k0_pay5, k0_pay6, k0_pay7, k0_pay15, k0_pay16, k0_pay17]
  refine Fin.sum_fin_congr fun k => Ideal.mul_congr ?_ ?_
  · refine Ideal.add_congr (Ideal.add_congr (Ideal.add_congr ?_ ?_) ?_) ?_ <;> refine Fin.sum_fin_congr fun j => Ideal.mul_congr ?_ ((wkv_at m c t _ _ _).trans ?_)
    all_goals blk_ext [iblk, V, idx t]
  · blk_point [iblk, V, idx t]

set_option maxHeartbeats 1600000 in
/-- The weight gradient, kept in full width. -/
theorem final6 (c : Dev nD) : (dats m 0 c).arrAt 6 (cfgs 0).N
    = val_main_v30 (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t _ y => ?_
  blk_simp [idx t]
  rw [after0_6]
  frame_out
  canon_tiles x h
  all_goals open_payloads
  all_goals pointwise
  case piece0 =>
    refine Eq.trans ?_ (dw_at_v _ _ _ _ _ (x 1) ⟨512 + (x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece1 =>
    refine Eq.trans ?_ (dw_at_k _ _ _ _ _ (x 1) ⟨512 + (x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece2 =>
    refine Eq.trans ?_ (dw_at_v _ _ _ _ _ (x 1) ⟨(x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece3 =>
    refine Eq.trans ?_ (dw_at_k _ _ _ _ _ (x 1) ⟨(x 2).val, by omega⟩ ?_ ?_).symm
    · refine Fin.sum_fin_congr fun k => Ideal.mul_congr (memn_at m c t _ _) ?_
      blk_ext [iblk, V, idx t]
    all_goals (blk_simp [idx t] <;> (try dsimp only) <;> omega)

set_option maxHeartbeats 1600000 in
/-- The weight gradient, narrowed for the exchange. -/
theorem final7 (c : Dev nD) : (dats m 0 c).arrAt 7 (cfgs 0).N
    = val_main_v31 (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp [idx t]
  rw [after0_7]
  frame_out
  canon_tiles x h
  all_goals open_payloads
  all_goals pointwise [val_main_v31]
  case piece0 =>
    refine Eq.trans ?_ (dw_at_v _ _ _ _ _ (x 1) ⟨512 + (x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece1 =>
    refine Eq.trans ?_ (dw_at_k _ _ _ _ _ (x 1) ⟨512 + (x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece2 =>
    refine Eq.trans ?_ (dw_at_v _ _ _ _ _ (x 1) ⟨(x 2).val, by omega⟩ ?_ ?_).symm
    · refine Fin.sum_fin_congr fun k => Ideal.mul_congr (memn_at m c t _ _) ?_
      blk_ext [iblk, V, idx t]
    all_goals (blk_simp [idx t] <;> (try dsimp only) <;> omega)
  case piece3 =>
    refine Eq.trans ?_ (dw_at_k _ _ _ _ _ (x 1) ⟨(x 2).val, by omega⟩ ?_ ?_).symm
    · refine Fin.sum_fin_congr fun k => Ideal.mul_congr (memn_at m c t _ _) ?_
      blk_ext [iblk, V, idx t]
    all_goals (blk_simp [idx t] <;> (try dsimp only) <;> omega)

end Cert.KvBwdIdeal.Value

end
-- ==== Proof.KvClaim.lean ====
/- The value claim of the memory gradient call. -/
module

public import proofs.«01_k».proof.Defs
public import proofs.«01_k».proof.Proof.KvValue
public import Idealize.ShloMosaic.Lib.Claim

@[expose] public section

noncomputable section

namespace Cert.Proof

open Idealize.ShloMosaic Idealize.SL.Sem

attribute [local instance] Cert.KvBwdIdeal.Gen.facts Cert.KvBwdRefIdeal.Gen.facts

/-- The reference of the memory gradient call leaves its arguments as they were. -/
theorem frame_kv_ref : Cert.quiescent_KvBwdRefIdeal := fun m ρ _ =>
  (θ_run Cert.KvBwdRefIdeal.defs _ _).mono (fun r h => ⟨fun c => (h c).2.2.2, sem_eq_zero_of_no_sems (by decide) r.2⟩)
    (Cert.KvBwdRefIdeal.Value.run m ρ)

/-- The memory gradient call computes the derivative of the reference's key/value projection. -/
theorem algebraic_kv : Cert.algebraic_KvBwdIdeal_KvBwdRefIdeal := by
  pair_intro
  · run_from Cert.KvBwdIdeal.Value.run_blocks m g
  · run_from Cert.KvBwdRefIdeal.Value.run m' g'
    all_goals obtain ⟨_, _, _, h3, h4⟩ := hagree c
    · refine (Cert.KvBwdRefIdeal.Read.val_main_v30_eq _ _ _ _).trans ?_
      rw [h3, h4]
      exact (Cert.KvBwdIdeal.Value.final6 m c).symm
    · refine (Cert.KvBwdRefIdeal.Read.val_main_v31_eq _ _ _ _).trans ?_
      rw [h3, h4]
      exact (Cert.KvBwdIdeal.Value.final7 m c).symm
    · refine (Cert.KvBwdRefIdeal.Read.val_main_v27_eq _ _ _ _).trans ?_
      rw [h3, h4]
      exact (Cert.KvBwdIdeal.Value.final8 m c).symm

end Cert.Proof

end
-- ==== Proof.Reals.lean ====
/- Finite numbers among the extended reals: which of the operations keep them finite, the constants of the programs as
   numbers, and the statement "every entry of this array is finite" as the printed predicates make it. -/
module

public import Idealize.ShloMosaic.Lib.ReduceAll
public import Idealize.ShloMosaic.Lib.Pointwise
public import Idealize.ShloMosaic.Lib.Pipeline.ValueKit

@[expose] public section

noncomputable section

open Idealize.ShloMosaic

namespace Cert.Reals

/-- The extended real is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} : IsReal x → IsReal y → IsReal (x + y) := by
  rintro ⟨a, rfl⟩ ⟨b, rfl⟩
  exact ⟨a + b, by push_cast; rfl⟩

theorem IsReal.mul {x y : EReal} : IsReal x → IsReal y → IsReal (x * y) := by
  rintro ⟨a, rfl⟩ ⟨b, rfl⟩
  exact ⟨a * b, by push_cast; rfl⟩

theorem IsReal.neg {x : EReal} : IsReal x → IsReal (-x) := by
  rintro ⟨a, rfl⟩
  exact ⟨-a, by push_cast; rfl⟩

theorem IsReal.sub {x y : EReal} : IsReal x → IsReal y → IsReal (x - y) := by
  rintro ⟨a, rfl⟩ ⟨b, rfl⟩
  exact ⟨a - b, by push_cast; rfl⟩

theorem IsReal.exp {x : EReal} : IsReal x → IsReal (Ideal.exp x) := by
  rintro ⟨a, rfl⟩
  exact ⟨Real.exp a, rfl⟩

/-- A real sum, taken among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.div {x y : EReal} (hx : IsReal x) {b : ℝ} (hb : b ≠ 0) (hy : y = (b : EReal)) : IsReal (Ideal.div x y) := by
  obtain ⟨a, rfl⟩ := hx
  rw [hy, Ideal.div_coe hb]
  exact ⟨a * (1 / b), by push_cast; rfl⟩

/-- A quotient of reals, the divisor not zero. -/
theorem div_real {b : ℝ} (hb : b ≠ 0) (a : ℝ) : Ideal.div (a : EReal) (b : EReal) = ((a / b : ℝ) : EReal) := by
  rw [Ideal.div_coe hb, ← EReal.coe_mul, ← div_eq_mul_one_div]

/-- A family of reals as one real function. -/
theorem lift {ι : Type} {f : ι → EReal} (h : ∀ i, IsReal (f i)) : ∃ g : ι → ℝ, f = fun i => (g i : EReal) := by
  choose g hg using h
  exact ⟨g, funext hg⟩

/-- The number whose word is `1024`. -/
theorem c1024 : Ideal.ofBits .f32 0x44800000#32 = ((1024 : ℝ) : EReal) := by
  simp [Ideal.ofBits, Ideal.ieee, -EReal.coe_mul]; norm_num

/-- The number whose word is `-1/2`. -/
theorem cNegHalf : Ideal.ofBits .f32 0xBF000000#32 = ((-(1 / 2) : ℝ) : EReal) := by
  simp [Ideal.ofBits, Ideal.ieee, -EReal.coe_mul]; norm_num

/-- The number whose word is `1/16`. -/
theorem cSixteenth : Ideal.ofBits .f32 0x3D800000#32 = ((1 / 16 : ℝ) : EReal) := by
  simp [Ideal.ofBits, Ideal.ieee, -EReal.coe_mul]; norm_num

/-- The root mean square norm's epsilon is a positive number. -/
theorem cEps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The largest finite number of the format. -/
theorem cLargest : IsReal (Ideal.ofBits .f32 0x7F7FFFFF#32) := by
  refine ⟨340282346638528859811704183484516925440, ?_⟩
  simp [Ideal.ofBits, Ideal.ieee, -EReal.coe_mul]; norm_num

/-- A number whose magnitude is at most a real's is a real. -/
theorem real_of_abs_le {x y : EReal} (hy : IsReal y) (h : max x (-x) ≤ y) : IsReal x := by
  obtain ⟨r, rfl⟩ := hy
  induction x with
  | bot => exact absurd h (by simp)
  | top => exact absurd h (by simp)
  | coe a => exact ⟨a, rfl⟩

/-- What the printed predicate of one array says: every entry is a real number. -/
theorem real_of_finite {s t u : Shape} {axes : List (Fin s.rank)} [Subsingleton t.Idx] (x : FVec Ideal s .f32) {d : Fin u.rank → Fin s.rank}
    (hb : u.BroadcastsInDim s d) (hr : s.ReducesTo axes t) (hu : 0 < u.numel) (j : t.Idx)
    (h : Host.reduce IntOp.andi (cmpf .ole (Host.absf x) (broadcastInDim s d hb (constant (F := Ideal) u .f32 0x7F7FFFFF#32))) (constantI u 1 1#1) hr hu j = 1#1)
    (i : s.Idx) : IsReal (x i) := by
  have h1 := Host.reduce_andi_all _ _ hr hu j h i
  refine real_of_abs_le cLargest ?_
  have h2 : Ideal.cmp .ole (max (x i) (-(x i))) (Ideal.ofBits .f32 0x7F7FFFFF#32) = 1#1 := h1
  by_contra hc
  rw [Ideal.cmp, decide_eq_false hc] at h2
  exact absurd h2 (by decide)

/-- The reciprocal root of the mean square of a real row, as a real number, and the number under the root. -/
theorem rms_real {n : ℕ} (x : Fin n → ℝ) : ∃ a r : ℝ, 0 < a ∧ r * r = 1 / a
    ∧ Ideal.div (∑ k, (x k : EReal) * (x k : EReal)) (Ideal.ofBits .f32 0x44800000#32) + Ideal.ofBits .f32 0x358637BD#32 = (a : EReal)
    ∧ Ideal.rsqrt (a : EReal) = (r : EReal) := by
  obtain ⟨e, he, hE⟩ := cEps
  have hs : 0 ≤ ∑ k, x k * x k := Finset.sum_nonneg fun k _ => mul_self_nonneg (x k)
  have ha : 0 < (∑ k, x k * x k) / 1024 + e := by positivity
  refine ⟨(∑ k, x k * x k) / 1024 + e, (Real.sqrt ((∑ k, x k * x k) / 1024 + e))⁻¹, ha, ?_, ?_, ?_⟩
  · rw [← mul_inv, Real.mul_self_sqrt ha.le, one_div]
  · rw [hE, c1024]
    simp only [← EReal.coe_mul, ← coe_sum]
    rw [div_real (by norm_num), ← EReal.coe_add]
  · rw [Ideal.rsqrt_coe, if_neg (not_lt.2 ha.le), if_neg ha.ne']

/-- The root mean square norm's gradient with respect to its argument: the closed form against the chain rule's. `o` is what the
    gradient is added to, which need not be finite. -/
theorem rms_grad {n : ℕ} (x d : Fin n → EReal) (o : EReal) (hx : ∀ i, IsReal (x i)) (hd : ∀ i, IsReal (d i)) (i : Fin n) {A R : EReal}
    (hA : A = Ideal.div (∑ k, x k * x k) (Ideal.ofBits .f32 0x44800000#32) + Ideal.ofBits .f32 0x358637BD#32) (hR : R = Ideal.rsqrt A) :
    o + R * (d i - x i * R * Ideal.div (∑ k, d k * (x k * R)) (Ideal.ofBits .f32 0x44800000#32))
      = o + d i * R
        + x i * Ideal.div ((∑ k, x k * d k) * (Ideal.ofBits .f32 0xBF000000#32 * Ideal.div R A)) (Ideal.ofBits .f32 0x44800000#32)
        + Ideal.div ((∑ k, x k * d k) * (Ideal.ofBits .f32 0xBF000000#32 * Ideal.div R A)) (Ideal.ofBits .f32 0x44800000#32) * x i := by
  obtain ⟨x, rfl⟩ := lift hx
  obtain ⟨d, rfl⟩ := lift hd
  obtain ⟨a, r, ha, hr, h1, h2⟩ := rms_real x
  subst hA
  rw [h1, h2] at hR
  subst hR
  rw [h1, c1024, cNegHalf, add_assoc, add_assoc]
  simp only [← EReal.coe_mul, ← coe_sum]
  simp only [div_real (by norm_num : (1024 : ℝ) ≠ 0), div_real ha.ne', ← EReal.coe_mul, ← EReal.coe_sub, ← EReal.coe_add]
  refine congrArg (fun z : ℝ => o + (z : EReal)) ?_
  have e1 : ∑ k, d k * (x k * r) = (∑ k, x k * d k) * r := by
    rw [Finset.sum_mul]
    exact Finset.sum_congr rfl fun k _ => by ring
  have e2 : r / a = r * (r * r) := by rw [hr, mul_one_div]
  rw [e1, e2]
  ring

end Cert.Reals

end
-- ==== Proof.MixInRef.lean ====
/- The reference of the mixing layer's first projection, read at an index. -/
module

public import proofs.«01_k».proof.Proof.Gen.MixInRefIdeal.Read
public import proofs.«01_k».proof.Proof.Reals
public import Idealize.ShloMosaic.Lib.Claim

@[expose] public section

set_option maxRecDepth 16384

noncomputable section

open Idealize.ShloMosaic Idealize.ShloMosaic.TcCoe Idealize.SL.Sem Cert.Reals

namespace Cert.MixInRefIdeal.Read

open Cert.MixInRefIdeal

/-- The gradient of the normed rows. -/
theorem dn_ref (DP : FVec Ideal S16384x6144 .f32) (W : FVec Ideal S1x1024x6144 .f32) (s : Fin 16384) (i : Fin 1024) :
    val_main_v29 (F := Ideal) DP W (ix2 s i) = ∑ k : Fin 6144, DP (ix2 s k) * W (ix3 0 i k) := by
  pointwise [val_main_v18, val_main_v24, val_main_v29]

/-- The reciprocal root mean square of a row. -/
def rinv (H : FVec Ideal S16384x1024 .f32) (s : Fin 16384) : EReal :=
  Ideal.rsqrt (Ideal.div (∑ k, H (ix2 s k) * H (ix2 s k)) (Ideal.ofBits .f32 0x44800000#32) + Ideal.ofBits .f32 0x358637BD#32)

/-- The gradient of the layer's input, in the kernel's closed form. -/
theorem dx_ref (H DH : FVec Ideal S16384x1024 .f32) (DP : FVec Ideal S16384x6144 .f32) (G : FVec Ideal S1x1024 .f32) (W : FVec Ideal S1x1024x6144 .f32)
    (hH : ∀ i, IsReal (H i)) (hDP : ∀ i, IsReal (DP i)) (hG : ∀ i, IsReal (G i)) (hW : ∀ i, IsReal (W i)) (s : Fin 16384) (i : Fin 1024) :
    val_main_v50 (F := Ideal) H DH DP G W (ix2 s i) = DH (ix2 s i) + rinv H s * (val_main_v29 (F := Ideal) DP W (ix2 s i) * G (ix2 0 i)
      - H (ix2 s i) * rinv H s * Ideal.div (∑ k, val_main_v29 (F := Ideal) DP W (ix2 s k) * G (ix2 0 k) * (H (ix2 s k) * rinv H s)) (Ideal.ofBits .f32 0x44800000#32)) := by
  refine Eq.trans ?_ (rms_grad (fun k => H (ix2 s k)) (fun k => val_main_v29 (F := Ideal) DP W (ix2 s k) * G (ix2 0 k)) (DH (ix2 s i)) (fun _ => hH _)
    (fun k => by rw [dn_ref]; exact (IsReal.sum _ fun j => (hDP _).mul (hW _)).mul (hG _)) i rfl rfl).symm
  pointwise [val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v33, val_main_v34, val_main_v36, val_main_cst_8, val_main_v37, val_main_v38, val_main_v39, val_main_v40, val_main_v41, val_main_v42, val_main_cst_9, val_main_v43, val_main_v44, val_main_cst_10, val_main_v45, val_main_v46, val_main_v47, val_main_v48, val_main_v49, val_main_v50]
  simp only [Finset.univ_unique, Finset.sum_singleton]

/-- The gradient of the gain. -/
theorem dg_ref (H : FVec Ideal S16384x1024 .f32) (DP : FVec Ideal S16384x6144 .f32) (W : FVec Ideal S1x1024x6144 .f32) (i : Fin 1024) :
    val_main_v51 (F := Ideal) H DP W (ix2 0 i) = ∑ s : Fin 16384, val_main_v29 (F := Ideal) DP W (ix2 s i) * (H (ix2 s i) * rinv H s) := by
  pointwise [val_main_v2, val_main_cst_0, val_main_v3, val_main_v4, val_main_cst_1, val_main_v5, val_main_v6, val_main_cst_2, val_main_v7, val_main_v8, val_main_v9, val_main_v13, val_main_v14, val_main_v30, val_main_cst_6, val_main_v31, val_main_v32, val_main_cst_7, val_main_v35, val_main_v51, rinv]
  simp only [Finset.univ_unique, Finset.sum_singleton]
  exact Finset.sum_congr rfl fun s _ => mul_comm _ _

/-- The gradient of the bias. -/
theorem db_ref (DP : FVec Ideal S16384x6144 .f32) (i : Fin 6144) :
    val_main_v28 (F := Ideal) DP (ix2 0 i) = ∑ s : Fin 16384, DP (ix2 s i) := by
  pointwise [val_main_cst_4, val_main_v25, val_main_v26, val_main_cst_5, val_main_v27, val_main_v28]
  simp only [Finset.univ_unique, Finset.sum_singleton]

end Cert.MixInRefIdeal.Read

end
-- ==== Proof.MixInValue.lean ====
/- The value of the mixing layer's first projection's gradient call. -/
module

public import proofs.«01_k».proof.Proof.Gen.MixInIdeal.Value
public import proofs.«01_k».proof.Proof.MixInRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem Cert.Reals
open Idealize.ShloMosaic.Pipeline (Dat)

namespace Cert.MixInIdeal.Value

open Cert.MixInIdeal Cert.MixInIdeal.Gen Cert.MixInRefIdeal.Read

variable (m : (ℓ : Loc nD τ sig) → Buf (Elt Ideal) ℓ)

/-- Block `t` of the rows is rows `512 t` to `512 t + 511`; every other window is its whole array. -/
theorem idx : ∀ t : Fin cfg0.N, win0_0.index t = ![t.val, 0] ∧ win0_1.index t = ![t.val, 0] ∧ win0_2.index t = ![t.val, 0] ∧ win0_3.index t = ![0, 0] ∧ win0_4.index t = ![0, 0, 0] ∧ win0_5.index t = ![t.val, 0] ∧ win0_6.index t = ![0, 0] ∧ win0_7.index t = ![0, 0] :=
  (by decide +kernel : ∀ t : Fin grid0.N, _)

/-- Row `a` of block `t` among all the rows. -/
def row (t : Fin cfg0.N) (a : Fin 512) : Fin 16384 := ⟨t.val * 512 + a.val, by have := lt_of_lt_of_eq t.isLt N_0; omega⟩

theorem dp_at (c : Dev nD) (t : Fin cfg0.N) (a : Fin 512) (k : Fin 6144) :
    (show FVec Ideal S512x6144 .bf16 from iblk m c 0 t) (ix2 a k) = m ((c : Thread nD τ).loc main_arg2) (ix2 (row t a) k) := by
  blk_simp [iblk, idx t]
  entry_read
  pointwise
  blk_ext [idx t, row]

theorem h_at (c : Dev nD) (t : Fin cfg0.N) (a : Fin 512) (k : Fin 1024) :
    (show FVec Ideal S512x1024 .f32 from iblk m c 1 t) (ix2 a k) = m ((c : Thread nD τ).loc main_arg0) (ix2 (row t a) k) := by
  blk_point [iblk, V, idx t, row]

theorem dh_at (c : Dev nD) (t : Fin cfg0.N) (a : Fin 512) (k : Fin 1024) :
    (show FVec Ideal S512x1024 .f32 from iblk m c 2 t) (ix2 a k) = m ((c : Thread nD τ).loc main_arg1) (ix2 (row t a) k) := by
  blk_point [iblk, V, idx t, row]

theorem g_at (c : Dev nD) (t : Fin cfg0.N) (k : Fin 1024) :
    (show FVec Ideal S1x1024 .f32 from iblk m c 3 t) (ix2 0 k) = m ((c : Thread nD τ).loc main_arg3) (ix2 0 k) := by
  blk_point [iblk, V, idx t]

/-- Shard `q` of the weight holds its columns `1536 q` to `1536 q + 1535`. -/
theorem w_at (c : Dev nD) (t : Fin cfg0.N) (q : Fin 4) (i : Fin 1024) (k : Fin 1536) :
    (show FVec Ideal S4x1024x1536 .bf16 from iblk m c 4 t) (ix3 q i k) = m ((c : Thread nD τ).loc main_arg4) (ix3 0 i ⟨q.val * 1536 + k.val, by omega⟩) := by
  blk_simp [iblk, idx t]
  entry_read
  pointwise
  blk_ext [idx t]

/-- A contraction over the weight's columns, shard by shard. -/
theorem sum_shards (f : Fin 6144 → EReal) : ∑ k, f k = ∑ x : Fin 1536, f ⟨x.val, by omega⟩ + ∑ x : Fin 1536, f ⟨1536 + x.val, by omega⟩
    + ∑ x : Fin 1536, f ⟨3072 + x.val, by omega⟩ + ∑ x : Fin 1536, f ⟨4608 + x.val, by omega⟩ := by
  rw [Fin.sum_univ_two_halves 3072 3072 rfl f, Fin.sum_univ_two_halves 1536 1536 rfl, Fin.sum_univ_two_halves 1536 1536 rfl (fun x : Fin 3072 => f ⟨3072 + x.val, _⟩), ← add_assoc]
  simp only [← Nat.add_assoc]

/-- The rows' gradient the body computes from the four shards. -/
theorem dn_pay (x0 : FVec Ideal S512x6144 .bf16) (x4 : FVec Ideal S4x1024x1536 .bf16) (DP : FVec Ideal S16384x6144 .f32) (W : FVec Ideal S1x1024x6144 .f32)
    (a : Fin 512) (s : Fin 16384) (h0 : ∀ k, x0 (ix2 a k) = DP (ix2 s k)) (h4 : ∀ (q : Fin 4) i (k : Fin 1536), x4 (ix3 q i k) = W (ix3 0 i ⟨q.val * 1536 + k.val, by omega⟩)) (b : Fin 1024) :
    ∑ x : Fin 1536, x0 (ix2 a ⟨x.val, by omega⟩) * x4 (ix3 0 b x) + ∑ x : Fin 1536, x0 (ix2 a ⟨1536 + x.val, by omega⟩) * x4 (ix3 1 b x)
      + ∑ x : Fin 1536, x0 (ix2 a ⟨3072 + x.val, by omega⟩) * x4 (ix3 2 b x) + ∑ x : Fin 1536, x0 (ix2 a ⟨4608 + x.val, by omega⟩) * x4 (ix3 3 b x)
      = val_main_v29 (F := Ideal) DP W (ix2 s b) := by
  rw [dn_ref, sum_shards]
  simp only [h0, h4, Fin.isValue, Fin.val_zero, Fin.val_one, Fin.val_two, Nat.zero_mul, Nat.zero_add, Nat.one_mul]
  rfl

set_option maxHeartbeats 1600000 in
/-- The gradient of the layer's input. -/
theorem final5 (c : Dev nD) (hH : ∀ i, IsReal (m ((c : Thread nD τ).loc main_arg0) i)) (hDP : ∀ i, IsReal (m ((c : Thread nD τ).loc main_arg2) i))
    (hG : ∀ i, IsReal (m ((c : Thread nD τ).loc main_arg3) i)) (hW : ∀ i, IsReal (m ((c : Thread nD τ).loc main_arg4) i)) : (dats m 0 c).arrAt 5 (cfgs 0).N
    = val_main_v50 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ (y : S512x1024.Idx) => ?_
  idx_vars y
  have hy : (((cfg0.win 5).blk t).view.emb (ix2 y0 y1 : S512x1024.Idx) : S16384x1024.Idx) = ix2 (row t y0) y1 := by blk_ext [idx t, row]
  refine Eq.trans ?_ ((congrArg (val_main_v50 (F := Ideal) _ _ _ _ _) hy).trans (dx_ref _ _ _ _ _ hH hDP hG hW _ _)).symm
  blk_simp [idx t]
  rw [after0_5]
  have hd := dn_pay _ _ _ _ y0 (row t y0) (dp_at m c t y0) (w_at m c t)
  have hh := h_at m c t y0
  have hdh := dh_at m c t y0
  have hg := g_at m c t
  by_cases h0 : t.val % 32 = 0
  · rw [outsAt0_A m c t h0]
    frame_out
    pointwise [k0_pay3, k0_pay6, k0_pay7, k0_pay16, k0_pay9, k0_pay8, k0_pay11, k0_pay13, k0_pay15]
    simp only [hd, hh, hdh, hg]
    rfl
  · rw [outsAt0_B m c t h0]
    frame_out
    pointwise [k0_pay3, k0_pay6, k0_pay7, k0_pay16, k0_pay9, k0_pay8, k0_pay11, k0_pay13, k0_pay15]
    simp only [hd, hh, hdh, hg]
    rfl

/-- A sum over all rows, block by block. -/
theorem sum_rows (f : Fin 16384 → EReal) (t : Fin cfg0.N) (hf : t.val % 32 = 31) :
    ∑ s : Fin 32, ∑ a : Fin 512, f (row ⟨_, Pipeline.run_point_lt_of_flush t hf s⟩ a) = ∑ k, f k := by
  refine Fin.sum_mul_add_congr fun s k hl => congrArg f (Fin.ext ?_)
  have := lt_of_lt_of_eq t.isLt N_0
  simp only [row]
  omega

/-- One row's part of the gradient of the normalisation's weight. -/
def dgTerm (H : FVec Ideal S16384x1024 .f32) (DP : FVec Ideal S16384x6144 .f32) (W : FVec Ideal S1x1024x6144 .f32) (s : Fin 16384) (i : Fin 1024) : EReal :=
  val_main_v29 (F := Ideal) DP W (ix2 s i) * (H (ix2 s i) * rinv H s)

set_option maxHeartbeats 1600000 in
/-- The gradient of the normalisation's weight. -/
theorem final6 (c : Dev nD) : (dats m 0 c).arrAt 6 (cfgs 0).N
    = val_main_v51 (m ((c : Thread nD τ).loc main_arg0)) (m ((c : Thread nD τ).loc main_arg2)) (m ((c : Thread nD τ).loc main_arg4)) := by
  refine (dats m 0 c).arrAt_eq_of_covers 6 _ (by decide +kernel) fun t hf y => ?_
  have hf' := (flush0_6 t).mp hf
  have hy : (((cfg0.win 6).blk t).view.emb y : S1x1024.Idx) = ix2 0 (y 1) := by blk_ext [idx t]
  refine Eq.trans ?_ ((congrArg (val_main_v51 (F := Ideal) _ _ _) hy).trans (dg_ref _ _ _ _)).symm
  refine Eq.trans ?_ (sum_rows (fun s => dgTerm (m ((c : Thread nD τ).loc main_arg0)) (m ((c : Thread nD τ).loc main_arg2)) (m ((c : Thread nD τ).loc main_arg4)) s (y 1)) t hf')
  blk_simp [idx t]
  rw [after0_6, Pipeline.eq_sum_fin_of_reset_step_apply_of_flush (fun n h => (outsAt0 m c n h).2.1) 32 (fun _ => 0)
    (fun p j => ∑ a : Fin 512, dgTerm (m ((c : Thread nD τ).loc main_arg0)) (m ((c : Thread nD τ).loc main_arg2)) (m ((c : Thread nD τ).loc main_arg4)) (row p a) (j 1))
    (fun t h j => ?_) (fun t h j => ?_) t hf' _, zero_add]
  · idx_vars j
    rw [outsAt0_A m c t h]
    frame_out
    pointwise [k0_pay2, k0_pay4, k0_pay6, k0_pay7, k0_pay16, k0_pay9, k0_pay8, k0_pay11, k0_pay13, k0_pay15]
    simp only [fun a => dn_pay _ _ _ _ a (row t a) (dp_at m c t a) (w_at m c t), h_at m c t]
    rfl
  · idx_vars j
    rw [outsAt0_B m c t h]
    frame_out
    pointwise [k0_pay2, k0_pay4, k0_pay6, k0_pay7, k0_pay16, k0_pay9, k0_pay8, k0_pay11, k0_pay13, k0_pay15]
    simp only [fun a => dn_pay _ _ _ _ a (row t a) (dp_at m c t a) (w_at m c t), h_at m c t]
    rfl

/-- One row's part of the gradient of the input projection's bias. -/
def dbTerm (DP : FVec Ideal S16384x6144 .f32) (s : Fin 16384) (i : Fin 6144) : EReal := DP (ix2 s i)

set_option maxHeartbeats 1600000 in
/-- The gradient of the input projection's bias. -/
theorem final7 (c : Dev nD) : (dats m 0 c).arrAt 7 (cfgs 0).N
    = val_main_v28 (m ((c : Thread nD τ).loc main_arg2)) := by
  refine (dats m 0 c).arrAt_eq_of_covers 7 _ (by decide +kernel) fun t hf y => ?_
  have hf' := (flush0_7 t).mp hf
  have hy : (((cfg0.win 7).blk t).view.emb y : S1x6144.Idx) = ix2 0 (y 1) := by blk_ext [idx t]
  refine Eq.trans ?_ ((congrArg (val_main_v28 (F := Ideal) _) hy).trans (db_ref _ _)).symm
  refine Eq.trans ?_ (sum_rows (fun s => dbTerm (m ((c : Thread nD τ).loc main_arg2)) s (y 1)) t hf')
  blk_simp [idx t]
  rw [after0_7, Pipeline.eq_sum_fin_of_reset_step_apply_of_flush (fun n h => (outsAt0 m c n h).2.2) 32 (fun _ => 0)
    (fun p j => ∑ a : Fin 512, dbTerm (m ((c : Thread nD τ).loc main_arg2)) (row p a) (j 1))
    (fun t h j => ?_) (fun t h j => ?_) t hf' _, zero_add]
  · rw [outsAt0_A m c t h]
    frame_open
    simp (disch := decide) only [↓ View.readCov_skip, ↓ View.readCov_cons_toLoadRect, ↓ View.readCov_fill]
    frame_out
    refine (View.canon_append_of_piecesOf (fun j : S1x6144.Idx => ∑ a : Fin 512, dbTerm (m ((c : Thread nD τ).loc main_arg2)) (row t a) (j 1))
      [_] [_, _, _, _] ⟨fun (x : S1x1536.Idx) => ?_, fun (x : S1x1536.Idx) => ?_, fun (x : S1x1536.Idx) => ?_, fun (x : S1x1536.Idx) => ?_, trivial⟩ j ?cover).trans (zero_add _).symm
    case cover =>
      have h1 := (j 1).isLt
      have h2 := (j 0).isLt
      simp [Rect.mem_set_unit, Fin.forall_fin_two] at h1 h2 ⊢
      omega
    all_goals pointwise [dbTerm, k0_pay1, k0_pay5, k0_pay8, k0_pay10, k0_pay11, k0_pay12, k0_pay13, k0_pay14, k0_pay15, k0_pay17, k0_pay18]
    all_goals (refine Fin.sum_fin_congr fun a => (dp_at m c t a _).trans (congrArg _ ?_); blk_ext [])
  · rw [outsAt0_B m c t h]
    frame_out
    canon_tiles x q
    all_goals open_payloads
    all_goals pointwise [dbTerm]
    all_goals (try simp only [dp_at m c t])
    all_goals (refine congrArg₂ (fun a b : EReal => a + b) (congrArg _ ?_) (Fin.sum_fin_congr fun a => congrArg _ ?_) <;> blk_ext [])

end Cert.MixInIdeal.Value

end
-- ==== Proof.MixInClaim.lean ====
/- The value claim of the input-projection gradient call. -/
module

public import proofs.«01_k».proof.Defs
public import proofs.«01_k».proof.Proof.MixInValue
public import proofs.«01_k».proof.Proof.Gen.Pre_finite_mixin
public import Idealize.ShloMosaic.Lib.Claim

@[expose] public section

set_option maxRecDepth 16384

noncomputable section

namespace Cert.Proof

open Idealize.ShloMosaic Idealize.SL.Sem Cert.Reals

attribute [local instance] Cert.MixInIdeal.Gen.facts Cert.MixInRefIdeal.Gen.facts Cert.Pre_finite_mixin.Gen.facts

/-- The reference of the input-projection gradient call leaves its arguments as they were. -/
theorem frame_mixin_ref : Cert.quiescent_MixInRefIdeal := fun m ρ _ =>
  (θ_run Cert.MixInRefIdeal.defs _ _).mono (fun r h => ⟨fun c => (h c).2.2.2, sem_eq_zero_of_no_sems (by decide) r.2⟩)
    (Cert.MixInRefIdeal.Value.run m ρ)

/-- The entries of the four arrays the precondition is about are real. -/
theorem finite_mixin_real (a : FVec Ideal Cert.Pre_finite_mixin.S16384x1024 .f32) (b : FVec Ideal Cert.Pre_finite_mixin.S16384x1024 .f32)
    (d : FVec Ideal Cert.Pre_finite_mixin.S16384x6144 .f32) (g : FVec Ideal Cert.Pre_finite_mixin.S1x1024 .f32) (w : FVec Ideal Cert.Pre_finite_mixin.S1x1024x6144 .f32)
    (h : Cert.Pre_finite_mixin.fn (F := Ideal) a b d g w = fun _ => 1#1) : (∀ i, IsReal (a i)) ∧ (∀ i, IsReal (d i)) ∧ (∀ i, IsReal (g i)) ∧ (∀ i, IsReal (w i)) := by
  have h' := congrFun h (fun a => a.elim0)
  obtain ⟨h123, h4⟩ := IntOp.andi_eq_one.mp h'
  obtain ⟨h12, h3⟩ := IntOp.andi_eq_one.mp h123
  obtain ⟨h1, h2⟩ := IntOp.andi_eq_one.mp h12
  exact ⟨real_of_finite _ _ _ _ _ h1, real_of_finite _ _ _ _ _ h2, real_of_finite _ _ _ _ _ h3, real_of_finite _ _ _ _ _ h4⟩

/-- The input-projection gradient call computes the derivative of the reference's normalisation and projection. -/
theorem algebraic_mixin : Cert.algebraic_MixInIdeal_MixInRefIdeal_pre_finite_mixin := by
  pair_intro
  · run_from Cert.MixInIdeal.Value.run_blocks m g
  · run_from Cert.MixInRefIdeal.Value.run m' g'
    all_goals obtain ⟨h0, h1, h2, h3, h4⟩ := hagree c
    all_goals obtain ⟨hH, hDP, hG, hW⟩ := finite_mixin_real _ _ _ _ _ (hpre c)
    · refine (Cert.MixInRefIdeal.Read.val_main_v50_eq m' c).trans ?_
      rw [h0, h1, h2, h3, h4]
      exact (Cert.MixInIdeal.Value.final5 m c hH hDP hG hW).symm
    · refine (Cert.MixInRefIdeal.Read.val_main_v51_eq _ _ _).trans ?_
      exact (Cert.MixInIdeal.Value.final6 m c).symm
    · refine (Cert.MixInRefIdeal.Read.val_main_v28_eq _).trans ?_
      exact (Cert.MixInIdeal.Value.final7 m c).symm

end Cert.Proof

end
-- ==== Proof.Attention.lean ====
/- One row of the memory attention and of its gradient, as plain sums over the extended reals, and the identity between the two
   ways of writing the softmax's gradient. -/
module

public import proofs.«01_k».proof.Proof.Reals

@[expose] public section

noncomputable section

open Idealize.ShloMosaic Cert.Reals

namespace Cert.Attention

/-- The greatest of the scores. -/
def top (z : Fin 256 → EReal) : EReal := Finset.fold max (Ideal.ofBits .f32 0xFF800000#32) z Finset.univ

/-- The exponential of a score less the greatest. -/
def ex (z : Fin 256 → EReal) (m : Fin 256) : EReal := Ideal.exp (z m - top z)

/-- The softmax's denominator. -/
def den (z : Fin 256 → EReal) : EReal := ∑ j, ex z j

/-- The softmax of the scores. -/
def prob (z : Fin 256 → EReal) (m : Fin 256) : EReal := Ideal.div (ex z m) (den z)

/-- The gradient of the scaled product: `d` is the gradient of the probabilities. -/
def dscore (z d : Fin 256 → EReal) (m : Fin 256) : EReal :=
  prob z m * (d m - ∑ j, d j * prob z j) * Ideal.ofBits .f32 0x3D800000#32

/-- Column `d` of head `h`. -/
def col (h : Fin 4) (d : Fin 256) : Fin 1024 := ⟨h.val * 256 + d.val, by omega⟩

/-- The head of a column. -/
def head (c : Fin 1024) : Fin 4 := ⟨c.val / 256, by omega⟩

/-- The place of a column within its head. -/
def sub (c : Fin 1024) : Fin 256 := ⟨c.val % 256, by omega⟩

theorem col_head (c : Fin 1024) : col (head c) (sub c) = c := Fin.ext (by simp only [head, col, sub]; omega)

theorem head_col (h : Fin 4) (d : Fin 256) : head (col h d) = h := Fin.ext (by simp only [head, col]; omega)

theorem col_of (c : Fin 1024) (h : Fin 4) (d : Fin 256) (e : c.val = h.val * 256 + d.val) : c = col h d := Fin.ext e

theorem col_0 (d : Fin 256) : col 0 d = ⟨d.val, by omega⟩ := Fin.ext (by simp [col])
theorem col_1 (d : Fin 256) : col 1 d = ⟨256 + d.val, by omega⟩ := Fin.ext (by simp [col])
theorem col_2 (d : Fin 256) : col 2 d = ⟨512 + d.val, by omega⟩ := Fin.ext (by simp [col])
theorem col_3 (d : Fin 256) : col 3 d = ⟨768 + d.val, by omega⟩ := Fin.ext (by simp [col])

section Rows

variable (x y g q a : Fin 1024 → EReal) (wq wo : Fin 1024 → Fin 1024 → EReal) (k v : Fin 256 → Fin 1024 → EReal)

/-- The reciprocal root mean square of a row. -/
def rinv : EReal := Ideal.rsqrt (Ideal.div (∑ i, x i * x i) (Ideal.ofBits .f32 0x44800000#32) + Ideal.ofBits .f32 0x358637BD#32)

/-- The normed row. -/
def nrow (i : Fin 1024) : EReal := x i * rinv x * g i

/-- The query of the row. -/
def qrow (c : Fin 1024) : EReal := ∑ i, nrow x g i * wq i c

/-- The gradient of the row's attention. -/
def arow (c : Fin 1024) : EReal := ∑ i, y i * wo c i

/-- The scaled scores of head `h`, the query being `q`. -/
def score (h : Fin 4) (m : Fin 256) : EReal := (∑ d, q (col h d) * k m (col h d)) * Ideal.ofBits .f32 0x3D800000#32

/-- The gradient of the probabilities of head `h`, the attention's gradient being `a`. -/
def dprob (h : Fin 4) (m : Fin 256) : EReal := ∑ d, a (col h d) * v m (col h d)

/-- The attention. -/
def att (c : Fin 1024) : EReal := ∑ m, prob (score q k (head c)) m * v m c

/-- The gradient of the query. -/
def dq (c : Fin 1024) : EReal := ∑ m, dscore (score q k (head c)) (dprob a v (head c)) m * k m c

/-- The gradient of the normed row. -/
def dn (i : Fin 1024) : EReal := ∑ c, dq q a k v c * wq i c

end Rows

/-- The word of the least number. -/
theorem cBot : Ideal.ofBits .f32 0xFF800000#32 = ⊥ := by
  simp [Ideal.ofBits, Ideal.ieee]

/-- The greatest of the scores is no less than the least number. -/
theorem max_top (z : Fin 256 → EReal) : max (Ideal.ofBits .f32 0xFF800000#32) (top z) = top z := by
  rw [cBot]
  exact max_eq_right bot_le

/-- The greatest of finitely many reals is real. -/
theorem real_top {z : Fin 256 → EReal} (hz : ∀ m, IsReal (z m)) : IsReal (top z) := by
  have key : ∀ s : Finset (Fin 256), s.Nonempty → IsReal (Finset.fold max ⊥ z s) := by
    intro s
    induction s using Finset.induction with
    | empty => exact fun h => absurd h Finset.not_nonempty_empty
    | insert a s ha ih =>
      intro _
      rw [Finset.fold_insert ha]
      rcases s.eq_empty_or_nonempty with rfl | hs
      · rw [Finset.fold_empty, max_eq_left bot_le]
        exact hz a
      · rcases max_choice (z a) (Finset.fold max ⊥ z s) with h | h <;> rw [h]
        · exact hz a
        · exact ih hs
  unfold top
  rw [cBot]
  exact key _ Finset.univ_nonempty

/-- The softmax of real scores: real exponentials over a positive real. -/
theorem real_ex {z : Fin 256 → EReal} (hz : ∀ m, IsReal (z m)) :
    ∃ (e : Fin 256 → ℝ) (l : ℝ), 0 < l ∧ l = ∑ j, e j ∧ (∀ m, ex z m = (e m : EReal)) ∧ den z = (l : EReal) := by
  obtain ⟨t, ht⟩ := real_top hz
  choose r hr using hz
  have h : ∀ m, ex z m = ((Real.exp (r m - t) : ℝ) : EReal) := fun m => by
    rw [ex, ht, hr m, ← EReal.coe_sub]
    rfl
  refine ⟨fun m => Real.exp (r m - t), ∑ j, Real.exp (r j - t), Finset.sum_pos (fun j _ => Real.exp_pos _) Finset.univ_nonempty, rfl, h, ?_⟩
  rw [den, coe_sum]
  exact Finset.sum_congr rfl fun j _ => h j

theorem real_prob {z : Fin 256 → EReal} (hz : ∀ m, IsReal (z m)) (m : Fin 256) : IsReal (prob z m) := by
  obtain ⟨e, l, hl, _, he, hd⟩ := real_ex hz
  rw [prob]
  exact IsReal.div ⟨e m, he m⟩ hl.ne' hd

theorem real_dscore {z d : Fin 256 → EReal} (hz : ∀ m, IsReal (z m)) (hd : ∀ m, IsReal (d m)) (m : Fin 256) : IsReal (dscore z d m) := by
  rw [dscore, cSixteenth]
  exact ((real_prob hz m).mul ((hd m).sub (IsReal.sum _ fun j => (hd j).mul (real_prob hz j)))).mul (.coe _)

/-- The softmax's gradient: the chain rule through the quotient against the closed form. -/
theorem softmax_grad {z d : Fin 256 → EReal} (hz : ∀ m, IsReal (z m)) (hd : ∀ m, IsReal (d m)) (m : Fin 256) :
    (Ideal.div (d m) (den z) + -(∑ j, d j * Ideal.div 1 (den z * den z) * ex z j)) * ex z m * Ideal.ofBits .f32 0x3D800000#32
      = dscore z d m := by
  obtain ⟨e, l, hl, hs, he, hden⟩ := real_ex hz
  obtain ⟨d, rfl⟩ := lift hd
  simp only [dscore, prob, hden, he, ← EReal.coe_one, cSixteenth, ← EReal.coe_mul]
  simp only [div_real hl.ne', div_real (mul_pos hl hl).ne', ← EReal.coe_mul, ← coe_sum, ← EReal.coe_neg, ← EReal.coe_add, ← EReal.coe_sub]
  refine congrArg (fun r : ℝ => (r : EReal)) ?_
  have h1 : ∑ j, d j * (1 / (l * l)) * e j = (∑ j, d j * e j) * (1 / (l * l)) := by
    rw [Finset.sum_mul]
    exact Finset.sum_congr rfl fun j _ => by ring
  have h2 : ∑ j, d j * (e j / l) = (∑ j, d j * e j) / l := by
    rw [Finset.sum_div]
    exact Finset.sum_congr rfl fun j _ => by ring
  rw [h1, h2]
  field_simp
  ring

section Real

variable {x y g q a : Fin 1024 → EReal} {wq wo : Fin 1024 → Fin 1024 → EReal} {k v : Fin 256 → Fin 1024 → EReal}

theorem real_rinv (hx : ∀ i, IsReal (x i)) : IsReal (rinv x) := by
  obtain ⟨x, rfl⟩ := lift hx
  obtain ⟨a, r, _, _, h1, h2⟩ := rms_real x
  exact ⟨r, by rw [rinv, h1, h2]⟩

theorem real_nrow (hx : ∀ i, IsReal (x i)) (hg : ∀ i, IsReal (g i)) (i : Fin 1024) : IsReal (nrow x g i) :=
  ((hx i).mul (real_rinv hx)).mul (hg i)

theorem real_qrow (hx : ∀ i, IsReal (x i)) (hg : ∀ i, IsReal (g i)) (hw : ∀ i c, IsReal (wq i c)) (c : Fin 1024) : IsReal (qrow x g wq c) :=
  IsReal.sum _ fun i => (real_nrow hx hg i).mul (hw i c)

theorem real_arow (hy : ∀ i, IsReal (y i)) (hw : ∀ c i, IsReal (wo c i)) (c : Fin 1024) : IsReal (arow y wo c) :=
  IsReal.sum _ fun i => (hy i).mul (hw c i)

theorem real_score (hq : ∀ c, IsReal (q c)) (hk : ∀ m c, IsReal (k m c)) (h : Fin 4) (m : Fin 256) : IsReal (score q k h m) := by
  rw [score, cSixteenth]
  exact (IsReal.sum _ fun d => (hq _).mul (hk m _)).mul (.coe _)

theorem real_dprob (ha : ∀ c, IsReal (a c)) (hv : ∀ m c, IsReal (v m c)) (h : Fin 4) (m : Fin 256) : IsReal (dprob a v h m) :=
  IsReal.sum _ fun d => (ha _).mul (hv m _)

theorem real_dq (hq : ∀ c, IsReal (q c)) (ha : ∀ c, IsReal (a c)) (hk : ∀ m c, IsReal (k m c)) (hv : ∀ m c, IsReal (v m c)) (c : Fin 1024) :
    IsReal (dq q a k v c) :=
  IsReal.sum _ fun m => (real_dscore (real_score hq hk _) (real_dprob ha hv _) m).mul (hk m c)

theorem real_dn (hq : ∀ c, IsReal (q c)) (ha : ∀ c, IsReal (a c)) (hk : ∀ m c, IsReal (k m c)) (hv : ∀ m c, IsReal (v m c))
    (hw : ∀ i c, IsReal (wq i c)) (i : Fin 1024) : IsReal (dn q a wq k v i) :=
  IsReal.sum _ fun c => (real_dq hq ha hk hv c).mul (hw i c)

end Real

end Cert.Attention

end
-- ==== Proof.XattnRef.lean ====
/- The reference of the attention's gradient, read at an index. -/
module

public import proofs.«01_k».proof.Proof.Gen.XattnBwdRefIdeal.Read
public import proofs.«01_k».proof.Proof.Attention
public import Idealize.ShloMosaic.Lib.Claim

@[expose] public section

set_option maxRecDepth 16384

noncomputable section

open Idealize.ShloMosaic Idealize.ShloMosaic.TcCoe Idealize.SL.Sem Cert.Reals Cert.Attention

namespace Cert.XattnBwdRefIdeal.Read

open Cert.XattnBwdRefIdeal

/-- A row of an array of rows. -/
def rowOf (H : FVec Ideal S16384x1024 .f32) (s : Fin 16384) (i : Fin 1024) : EReal := H (ix2 s i)
/-- The norm's weight. -/
def gain (G : FVec Ideal S1x1024 .f32) (i : Fin 1024) : EReal := G (ix2 0 i)
/-- A weight without its layer axis. -/
def mat (W : FVec Ideal S1x1024x1024 .f32) (i c : Fin 1024) : EReal := W (ix3 0 i c)
/-- The keys or the values. -/
def mem (K : FVec Ideal S256x1024 .f32) (m : Fin 256) (c : Fin 1024) : EReal := K (ix2 m c)

/-- The greatest entry of each row, of any array. -/
theorem reduce_max {hr : S4x16384x256.ReducesTo [2] S4x16384} {hu : 0 < S_.numel} (x : FVec Ideal S4x16384x256 .f32) (init : FVec Ideal S_ .f32)
    (h : Fin 4) (s : Fin 16384) :
    Host.reduce FloatOps.maximumf x init hr hu (ix2 h s) = Finset.univ.fold max (init (Shape.Idx.first hu)) (fun m => x (ix3 h s m)) := by
  pointwise

section

variable (H DH : FVec Ideal S16384x1024 .f32) (G : FVec Ideal S1x1024 .f32) (WQ : FVec Ideal S1x1024x1024 .f32) (K V : FVec Ideal S256x1024 .f32)
  (WO : FVec Ideal S1x1024x1024 .f32)

/-- Row `s` of the queries. -/
abbrev qOf (s : Fin 16384) : Fin 1024 → EReal := qrow (rowOf H s) (gain G) (mat WQ)
/-- Row `s` of the gradient of the attention. -/
abbrev aOf (s : Fin 16384) : Fin 1024 → EReal := arow (rowOf DH s) (mat WO)
/-- The scores of row `s` and head `h`. -/
abbrev zOf (s : Fin 16384) (h : Fin 4) : Fin 256 → EReal := score (qOf H G WQ s) (mem K) h
/-- The gradient of the probabilities of row `s` and head `h`. -/
abbrev pOf (s : Fin 16384) (h : Fin 4) : Fin 256 → EReal := dprob (aOf DH WO s) (mem V) h

theorem n_ref (s : Fin 16384) (i : Fin 1024) : val_main_v17 (F := Ideal) H G (ix2 s i) = nrow (rowOf H s) (gain G) i := by
  pointwise [val_main_v1, val_main_v2, val_main_cst_0, val_main_v3, val_main_v4, val_main_cst_1, val_main_v5, val_main_v6, val_main_cst_2, val_main_v7, val_main_v8, val_main_v9, val_main_v13, val_main_v14, val_main_v15, val_main_v16, val_main_v17]
  rfl

theorem q_ref (s : Fin 16384) (c : Fin 1024) : val_main_v20 (F := Ideal) H G WQ (ix2 s c) = qOf H G WQ s c := by
  pointwise [val_main_v20, val_main_v19, val_main_v18, val_main_v0, val_main_cst]
  simp only [n_ref]
  rfl

theorem a_ref (s : Fin 16384) (c : Fin 1024) : val_main_v62 (F := Ideal) DH WO (ix2 s c) = aOf DH WO s c := by
  pointwise [val_main_v62, val_main_v61, val_main_v58]
  rfl

theorem z_ref (h : Fin 4) (s : Fin 16384) (m : Fin 256) : val_main_v26 (F := Ideal) H G WQ K (ix3 h s m) = zOf H G WQ K s h m := by
  pointwise [val_main_v26, val_main_v25, val_main_cst_4, val_main_v24, val_main_v22, val_main_v21]
  simp only [q_ref]
  rfl

theorem top_ref (h : Fin 4) (s : Fin 16384) : val_main_v34 (F := Ideal) H G WQ K (ix2 h s) = top (zOf H G WQ K s h) := by
  have h27 : val_main_v27 (F := Ideal) H G WQ K (ix2 h s) = top (zOf H G WQ K s h) := by
    unfold val_main_v27
    refine (reduce_max _ _ h s).trans ?_
    simp only [z_ref]
    rfl
  rw [val_main_v34_apply, h27, val_main_v33_apply]
  exact max_top _

theorem ex_ref (h : Fin 4) (s : Fin 16384) (m : Fin 256) : val_main_v47 (F := Ideal) H G WQ K (ix3 h s m) = ex (zOf H G WQ K s h) m := by
  pointwise [val_main_v47, val_main_v46, val_main_v45, val_main_v44]
  simp only [z_ref, top_ref]
  rfl

theorem den_ref (h : Fin 4) (s : Fin 16384) : val_main_v48 (F := Ideal) H G WQ K (ix2 h s) = den (zOf H G WQ K s h) := by
  pointwise [val_main_v48, val_main_cst_13]
  simp only [ex_ref]
  rfl

theorem prob_ref (h : Fin 4) (s : Fin 16384) (m : Fin 256) : val_main_v51 (F := Ideal) H G WQ K (ix3 h s m) = prob (zOf H G WQ K s h) m := by
  pointwise [val_main_v51, val_main_v50, val_main_v49]
  simp only [ex_ref, den_ref]
  rfl

theorem dp_ref (h : Fin 4) (s : Fin 16384) (m : Fin 256) : val_main_v65 (F := Ideal) DH V WO (ix3 h s m) = pOf DH V WO s h m := by
  pointwise [val_main_v65, val_main_v64, val_main_v63, val_main_v23]
  simp only [a_ref]
  rfl

theorem v_ref (m : Fin 256) (h : Fin 4) (d : Fin 256) : val_main_v23 (F := Ideal) V (ix3 m h d) = mem V m (col h d) := by
  pointwise [val_main_v23]
  rfl

theorem k_ref (m : Fin 256) (h : Fin 4) (d : Fin 256) : val_main_v22 (F := Ideal) K (ix3 m h d) = mem K m (col h d) := by
  pointwise [val_main_v22]
  rfl

theorem qh_ref (s : Fin 16384) (h : Fin 4) (d : Fin 256) : val_main_v21 (F := Ideal) H G WQ (ix3 s h d) = qOf H G WQ s (col h d) := by
  pointwise [val_main_v21]
  exact q_ref H G WQ s _

theorem ah_ref (h : Fin 4) (d : Fin 256) (s : Fin 16384) : val_main_v64 (F := Ideal) DH WO (ix3 h d s) = aOf DH WO s (col h d) := by
  pointwise [val_main_v64, val_main_v63]
  exact a_ref DH WO s _

/-- The attention. -/
theorem att_ref (s : Fin 16384) (c : Fin 1024) : val_main_v57 (F := Ideal) H G WQ K V (ix2 s c) = att (qOf H G WQ s) (mem K) (mem V) c := by
  have h : val_main_v57 (F := Ideal) H G WQ K V (ix2 s c) = val_main_v55 (F := Ideal) H G WQ K V (ix3 (head c) (sub c) s) := by
    pointwise [val_main_v57, val_main_v56]
    rfl
  rw [h]
  pointwise [val_main_v55]
  simp only [v_ref, prob_ref, col_head]
  exact Finset.sum_congr rfl fun m _ => mul_comm _ _

/-- The gradient of the values. -/
theorem dv_ref (m : Fin 256) (c : Fin 1024) : val_main_v86 (F := Ideal) H DH G WQ K WO (ix2 m c)
    = ∑ s : Fin 16384, prob (zOf H G WQ K s (head c)) m * aOf DH WO s c := by
  have h : val_main_v86 (F := Ideal) H DH G WQ K WO (ix2 m c) = val_main_v66 (F := Ideal) H DH G WQ K WO (ix3 (head c) (sub c) m) := by
    pointwise [val_main_v86, val_main_v67]
    rfl
  rw [h]
  pointwise [val_main_v66]
  simp only [ah_ref, prob_ref, col_head]
  exact Finset.sum_congr rfl fun m _ => mul_comm _ _

/-- The normed rows, as the result holds them. -/
theorem n_out (s : Fin 16384) (i : Fin 1024) : val_main_v112 (F := Ideal) H G (ix2 s i) = nrow (rowOf H s) (gain G) i := by
  pointwise [val_main_v112]
  exact n_ref H G s i

/-- The attention, as the result holds it. -/
theorem att_out (s : Fin 16384) (c : Fin 1024) : val_main_v114 (F := Ideal) H G WQ K V (ix2 s c) = att (qOf H G WQ s) (mem K) (mem V) c := by
  pointwise [val_main_v114]
  exact att_ref H G WQ K V s c

/-- The output's gradient, as the result holds it. -/
theorem dh_out (s : Fin 16384) (i : Fin 1024) : val_main_v115 (F := Ideal) DH (ix2 s i) = rowOf DH s i := by
  pointwise [val_main_v115]
  rfl

section

variable (hH : ∀ i, IsReal (H i)) (hDH : ∀ i, IsReal (DH i)) (hG : ∀ i, IsReal (G i)) (hWQ : ∀ i, IsReal (WQ i)) (hK : ∀ i, IsReal (K i))
  (hV : ∀ i, IsReal (V i)) (hWO : ∀ i, IsReal (WO i))

include hH hDH hG hWQ hK hV hWO

/-- The gradient of the scaled product, in the closed form. -/
theorem ds_ref (h : Fin 4) (s : Fin 16384) (m : Fin 256) :
    val_main_v81 (F := Ideal) H DH G WQ K V WO (ix3 h s m) = dscore (zOf H G WQ K s h) (pOf DH V WO s h) m := by
  refine Eq.trans ?_ (softmax_grad (real_score (real_qrow (fun _ => hH _) (fun _ => hG _) fun _ _ => hWQ _) (fun _ _ => hK _) h)
    (real_dprob (real_arow (fun _ => hDH _) fun _ _ => hWO _) (fun _ _ => hV _) h) m)
  pointwise [val_main_v49, val_main_v52, val_main_v53, val_main_cst_14, val_main_v54, val_main_v68, val_main_v69, val_main_v70, val_main_v71, val_main_cst_15, val_main_v72, val_main_v73, val_main_v74, val_main_v75, val_main_cst_16, val_main_v76, val_main_v77, val_main_v78, val_main_v79, val_main_v80, val_main_cst_17, val_main_v81]
  simp only [Finset.univ_unique, Finset.sum_singleton, ex_ref, den_ref, dp_ref]
  rfl

/-- The gradient of the keys. -/
theorem dk_ref (m : Fin 256) (c : Fin 1024) : val_main_v87 (F := Ideal) H DH G WQ K V WO (ix2 m c)
    = ∑ s : Fin 16384, dscore (zOf H G WQ K s (head c)) (pOf DH V WO s (head c)) m * qOf H G WQ s c := by
  have h : val_main_v87 (F := Ideal) H DH G WQ K V WO (ix2 m c) = val_main_v82 (F := Ideal) H DH G WQ K V WO (ix3 (head c) m (sub c)) := by
    pointwise [val_main_v87, val_main_v83]
    rfl
  rw [h]
  pointwise [val_main_v82]
  simp only [qh_ref, ds_ref H DH G WQ K V WO hH hDH hG hWQ hK hV hWO, col_head]

/-- The gradient of the queries. -/
theorem dq_ref (s : Fin 16384) (c : Fin 1024) : val_main_v88 (F := Ideal) H DH G WQ K V WO (ix2 s c)
    = dq (qOf H G WQ s) (aOf DH WO s) (mem K) (mem V) c := by
  have h : val_main_v88 (F := Ideal) H DH G WQ K V WO (ix2 s c) = val_main_v84 (F := Ideal) H DH G WQ K V WO (ix3 (head c) s (sub c)) := by
    pointwise [val_main_v88, val_main_v85]
    rfl
  rw [h]
  pointwise [val_main_v84]
  simp only [k_ref, ds_ref H DH G WQ K V WO hH hDH hG hWQ hK hV hWO, col_head]
  rfl

/-- The gradient of the queries, as the result holds it. -/
theorem dq_out (s : Fin 16384) (c : Fin 1024) : val_main_v113 (F := Ideal) H DH G WQ K V WO (ix2 s c)
    = dq (qOf H G WQ s) (aOf DH WO s) (mem K) (mem V) c := by
  pointwise [val_main_v113]
  exact dq_ref H DH G WQ K V WO hH hDH hG hWQ hK hV hWO s c

/-- Row `s` of the gradient of the normed rows. -/
abbrev nOf (s : Fin 16384) : Fin 1024 → EReal := dn (qOf H G WQ s) (aOf DH WO s) (mat WQ) (mem K) (mem V)

theorem dn_ref (s : Fin 16384) (i : Fin 1024) : val_main_v89 (F := Ideal) H DH G WQ K V WO (ix2 s i) = nOf H DH G WQ K V WO s i := by
  pointwise [val_main_v89, val_main_v18]
  simp only [dq_ref H DH G WQ K V WO hH hDH hG hWQ hK hV hWO]
  rfl

/-- The gradient of the layer's input, in the kernel's closed form. -/
theorem dx_ref (s : Fin 16384) (i : Fin 1024) : val_main_v110 (F := Ideal) H DH G WQ K V WO (ix2 s i)
    = rowOf DH s i + rinv (rowOf H s) * (nOf H DH G WQ K V WO s i * gain G i - rowOf H s i * rinv (rowOf H s)
      * Ideal.div (∑ k, nOf H DH G WQ K V WO s k * gain G k * (rowOf H s k * rinv (rowOf H s))) (Ideal.ofBits .f32 0x44800000#32)) := by
  refine Eq.trans ?_ (rms_grad (rowOf H s) (fun k => nOf H DH G WQ K V WO s k * gain G k) (rowOf DH s i) (fun _ => hH _)
    (fun k => (real_dn (real_qrow (fun _ => hH _) (fun _ => hG _) fun _ _ => hWQ _) (real_arow (fun _ => hDH _) fun _ _ => hWO _) (fun _ _ => hK _)
      (fun _ _ => hV _) (fun _ _ => hWQ _) k).mul (hG _)) i rfl rfl).symm
  pointwise [val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v15, val_main_v93, val_main_v94, val_main_v96, val_main_cst_20, val_main_v97, val_main_v98, val_main_v99, val_main_v100, val_main_v101, val_main_v102, val_main_cst_21, val_main_v103, val_main_v104, val_main_cst_22, val_main_v105, val_main_v106, val_main_v107, val_main_v108, val_main_v109, val_main_v110]
  simp only [Finset.univ_unique, Finset.sum_singleton, dn_ref H DH G WQ K V WO hH hDH hG hWQ hK hV hWO]
  rfl

/-- The gradient of the norm's weight. -/
theorem dg_ref (i : Fin 1024) : val_main_v111 (F := Ideal) H DH G WQ K V WO (ix2 0 i)
    = ∑ s : Fin 16384, nOf H DH G WQ K V WO s i * (rowOf H s i * rinv (rowOf H s)) := by
  pointwise [val_main_v1, val_main_v2, val_main_cst_0, val_main_v3, val_main_v4, val_main_cst_1, val_main_v5, val_main_v6, val_main_cst_2, val_main_v7, val_main_v8, val_main_v9, val_main_v13, val_main_v14, val_main_v90, val_main_cst_18, val_main_v91, val_main_v92, val_main_cst_19, val_main_v95, val_main_v111]
  simp only [Finset.univ_unique, Finset.sum_singleton, dn_ref H DH G WQ K V WO hH hDH hG hWQ hK hV hWO]
  exact Finset.sum_congr rfl fun s _ => mul_comm _ _

end

end

end Cert.XattnBwdRefIdeal.Read

end
-- ==== Proof.XattnPay.lean ====
/- The pieces the body of the attention's gradient computes, head by head, read at an index. -/
module

public import proofs.«01_k».proof.Proof.Gen.XattnBwdIdeal.Value
public import proofs.«01_k».proof.Proof.XattnRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Reals Cert.Attention
open Idealize.ShloMosaic.Pipeline (Dat)

namespace Cert.XattnBwdIdeal.Value

open Cert.XattnBwdIdeal Cert.XattnBwdIdeal.Gen Cert.XattnBwdRefIdeal.Read

section Row

variable {x : FVec Ideal S512x256 .bf16} {y : FVec Ideal S512x256 .bf16} {kb vb : FVec Ideal S256x256 .bf16} {q a : Fin 1024 → EReal}
  {k v : Fin 256 → Fin 1024 → EReal} {h : Fin 4} {r : Fin 512}

/-- The maximum of each row of a block of scores. -/
theorem block_max (z : FVec Ideal S512x256 .f32) {hr : S512x256.Reduces [1] S512} {h1 h2} (r : Fin 512) :
    multiReduction .maximumf [1] S512 z 0xFF800000#32 hr h1 h2 (ix1 r) = top (fun m => z (ix2 r m)) := by
  pointwise
  rfl

/-- The softmax of head `h`. -/
theorem prob_pay (hx : ∀ d, x (ix2 r d) = q (col h d)) (hk : ∀ m d, kb (ix2 m d) = k m (col h d)) (m : Fin 256) :
    k0_pay13 x kb (ix2 r m) = prob (score q k h) m := by
  pointwise [k0_pay13]
  simp only [hx, hk]
  rfl

/-- The attention of head `h`. -/
theorem att_pay (hx : ∀ d, x (ix2 r d) = q (col h d)) (hk : ∀ m d, kb (ix2 m d) = k m (col h d)) (hv : ∀ m d, vb (ix2 m d) = v m (col h d)) (d : Fin 256) :
    k0_pay14 x kb vb (ix2 r d) = att q k v (col h d) := by
  pointwise [k0_pay14]
  simp only [prob_pay hx hk, hv, att, head_col]

/-- The gradient of the scores of head `h`. -/
theorem ds_pay {p : FVec Ideal S512x256 .f32} (hp : ∀ m, p (ix2 r m) = prob (score q k h) m) (hy : ∀ d, y (ix2 r d) = a (col h d))
    (hv : ∀ m d, vb (ix2 m d) = v m (col h d)) (m : Fin 256) :
    k0_pay25 p y vb (constant S512x256 .f32 0x00000000#32) (ix2 r m) = dscore (score q k h) (dprob a v h) m := by
  pointwise [k0_pay25]
  simp only [hp, hy, hv]
  rfl

/-- The gradient of the queries of head `h`. -/
theorem dq_pay {s : FVec Ideal S512x256 .bf16} (hs : ∀ m, s (ix2 r m) = dscore (score q k h) (dprob a v h) m)
    (hk : ∀ m d, kb (ix2 m d) = k m (col h d)) (d : Fin 256) : k0_pay18 s kb (ix2 r d) = dq q a k v (col h d) := by
  pointwise [k0_pay18]
  simp only [hs, hk, dq, head_col]

end Row

section Heads

variable {Q A : FVec Ideal S512x1024 .bf16} {kb vb : FVec Ideal S256x256 .bf16} {q a : Fin 1024 → EReal}
  {k v : Fin 256 → Fin 1024 → EReal} {r : Fin 512}

theorem slice_0 (d : Fin 256) : extractStridedSlice S512x256 ![0, 0] Q slices_S512x1024_o0_0_S512x256 (ix2 r d) = Q (ix2 r (col 0 d)) := by
  pointwise [col_0]

theorem slice_1 (d : Fin 256) : extractStridedSlice S512x256 ![0, 256] Q slices_S512x1024_o0_256_S512x256 (ix2 r d) = Q (ix2 r (col 1 d)) := by
  pointwise [col_1]

theorem slice_2 (d : Fin 256) : extractStridedSlice S512x256 ![0, 512] Q slices_S512x1024_o0_512_S512x256 (ix2 r d) = Q (ix2 r (col 2 d)) := by
  pointwise [col_2]

theorem slice_3 (d : Fin 256) : extractStridedSlice S512x256 ![0, 768] Q slices_S512x1024_o0_768_S512x256 (ix2 r d) = Q (ix2 r (col 3 d)) := by
  pointwise [col_3]

/-- A block under the body's cast of shapes. -/
theorem cast_at {h : Fin 4} {e : Fin 256 → Fin 1024 → EReal} (hk : ∀ m d, kb (ix2 m d) = e m (col h d)) (m d : Fin 256) :
    k0_pay12 (F := Ideal) kb (ix2 m d) = e m (col h d) := by
  pointwise [k0_pay12]
  exact hk m d

/-! The first head. -/

theorem prob_0 {X : FVec Ideal S512x1024 .f32} {G : FVec Ideal S1x1024 .f32} {W : FVec Ideal S1024x1024 .bf16} (hq : ∀ c, (k0_pay8 (F := Ideal) X G W) (ix2 r c) = q c) (hk : ∀ m d, kb (ix2 m d) = k m (col 0 d)) (m : Fin 256) :
    (k0_pay13 (F := Ideal) (k0_pay11 X G W) (k0_pay12 kb)) (ix2 r m) = prob (score q k 0) m := by
  rw [show k0_pay13 (F := Ideal) (k0_pay11 X G W) (k0_pay12 kb) = k0_pay13 (extractStridedSlice S512x256 ![0, 0] (k0_pay8 (F := Ideal) X G W) slices_S512x1024_o0_0_S512x256) (k0_pay12 kb) from rfl]
  exact prob_pay (fun d => (slice_0 d).trans (hq _)) (cast_at hk) m

theorem att_0 {X : FVec Ideal S512x1024 .f32} {G : FVec Ideal S1x1024 .f32} {W : FVec Ideal S1024x1024 .bf16} (hq : ∀ c, (k0_pay8 (F := Ideal) X G W) (ix2 r c) = q c) (hk : ∀ m d, kb (ix2 m d) = k m (col 0 d)) (hv : ∀ m d, vb (ix2 m d) = v m (col 0 d)) (d : Fin 256) :
    (k0_pay14 (F := Ideal) (k0_pay11 X G W) (k0_pay12 kb) vb) (ix2 r d) = att q k v (col 0 d) := by
  rw [show k0_pay14 (F := Ideal) (k0_pay11 X G W) (k0_pay12 kb) vb = k0_pay14 (extractStridedSlice S512x256 ![0, 0] (k0_pay8 (F := Ideal) X G W) slices_S512x1024_o0_0_S512x256) (k0_pay12 kb) vb from rfl]
  exact att_pay (fun d => (slice_0 d).trans (hq _)) (cast_at hk) hv d

theorem ds_0 {X : FVec Ideal S512x1024 .f32} {G : FVec Ideal S1x1024 .f32} {W : FVec Ideal S1024x1024 .bf16} (hq : ∀ c, (k0_pay8 (F := Ideal) X G W) (ix2 r c) = q c) (ha : ∀ c, A (ix2 r c) = a c) (hk : ∀ m d, kb (ix2 m d) = k m (col 0 d)) (hv : ∀ m d, vb (ix2 m d) = v m (col 0 d)) (m : Fin 256) :
    (k0_pay17 (F := Ideal) A (k0_pay11 X G W) (k0_pay12 kb) vb) (ix2 r m) = dscore (score q k 0) (dprob a v 0) m := by
  rw [show k0_pay17 (F := Ideal) A (k0_pay11 X G W) (k0_pay12 kb) vb = k0_pay25 (k0_pay13 (F := Ideal) (k0_pay11 X G W) (k0_pay12 kb)) (extractStridedSlice S512x256 ![0, 0] A slices_S512x1024_o0_0_S512x256) (k0_pay12 vb) (constant S512x256 .f32 0x00000000#32) from rfl]
  exact ds_pay (prob_0 hq hk) (fun d => (slice_0 d).trans (ha _)) (cast_at hv) m

theorem dq_0 {X : FVec Ideal S512x1024 .f32} {G : FVec Ideal S1x1024 .f32} {W : FVec Ideal S1024x1024 .bf16} (hq : ∀ c, (k0_pay8 (F := Ideal) X G W) (ix2 r c) = q c) (ha : ∀ c, A (ix2 r c) = a c) (hk : ∀ m d, kb (ix2 m d) = k m (col 0 d)) (hv : ∀ m d, vb (ix2 m d) = v m (col 0 d)) (d : Fin 256) :
    (k0_pay18 (F := Ideal) (k0_pay17 (F := Ideal) A (k0_pay11 X G W) (k0_pay12 kb) vb) kb) (ix2 r d) = dq q a k v (col 0 d) := by
  rw [show k0_pay18 (F := Ideal) (k0_pay17 (F := Ideal) A (k0_pay11 X G W) (k0_pay12 kb) vb) kb = k0_pay18 (k0_pay17 (F := Ideal) A (k0_pay11 X G W) (k0_pay12 kb) vb) kb from rfl]
  exact dq_pay (ds_0 hq ha hk hv) hk d

theorem dk_0 {X : FVec Ideal S512x1024 .f32} {G : FVec Ideal S1x1024 .f32} {W : FVec Ideal S1024x1024 .bf16} {q a : Fin 512 → Fin 1024 → EReal} (hq : ∀ r c, (k0_pay8 (F := Ideal) X G W) (ix2 r c) = q r c) (ha : ∀ r c, A (ix2 r c) = a r c)
    (hk : ∀ m d, kb (ix2 m d) = k m (col 0 d)) (hv : ∀ m d, vb (ix2 m d) = v m (col 0 d)) (acc : FVec Ideal S256x256 .f32) (m d : Fin 256) :
    (k0_pay19 (F := Ideal) (k0_pay8 (F := Ideal) X G W) (k0_pay17 (F := Ideal) A (k0_pay11 X G W) (k0_pay12 kb) vb) acc) (ix2 m d)
      = acc (ix2 m d) + ∑ r : Fin 512, dscore (score (q r) k 0) (dprob (a r) v 0) m * q r (col 0 d) := by
  rw [show k0_pay19 (F := Ideal) (k0_pay8 (F := Ideal) X G W) (k0_pay17 (F := Ideal) A (k0_pay11 X G W) (k0_pay12 kb) vb) acc = addf (shapeCast S256x256 acc shapeCasts_S256x256_S256x256) (matmul dot_S512x256_S512x256_S256x256_0_0_1_1_n_n none (k0_pay17 (F := Ideal) A (k0_pay11 X G W) (k0_pay12 kb) vb) (extractStridedSlice S512x256 ![0, 0] (k0_pay8 (F := Ideal) X G W) slices_S512x1024_o0_0_S512x256) (constant S256x256 .f32 0x00000000#32)) from rfl]
  pointwise
  simp only [fun r => ds_0 (hq r) (ha r) hk hv, slice_0, hq, col_0]

theorem dv_0 {X : FVec Ideal S512x1024 .f32} {G : FVec Ideal S1x1024 .f32} {W : FVec Ideal S1024x1024 .bf16} {q a : Fin 512 → Fin 1024 → EReal} (hq : ∀ r c, (k0_pay8 (F := Ideal) X G W) (ix2 r c) = q r c) (ha : ∀ r c, A (ix2 r c) = a r c)
    (hk : ∀ m d, kb (ix2 m d) = k m (col 0 d)) (acc : FVec Ideal S256x256 .f32) (m d : Fin 256) :
    (k0_pay16 (F := Ideal) A (k0_pay11 X G W) (k0_pay12 kb) acc) (ix2 m d)
      = acc (ix2 m d) + ∑ r : Fin 512, prob (score (q r) k 0) m * a r (col 0 d) := by
  rw [show k0_pay16 (F := Ideal) A (k0_pay11 X G W) (k0_pay12 kb) acc = k0_pay24 (k0_pay13 (F := Ideal) (k0_pay11 X G W) (k0_pay12 kb)) (extractStridedSlice S512x256 ![0, 0] A slices_S512x1024_o0_0_S512x256) acc from rfl]
  pointwise [k0_pay24]
  simp only [fun r => prob_0 (hq r) hk, slice_0, ha, col_0]

/-! The second head. -/

theorem prob_1 (hq : ∀ c, Q (ix2 r c) = q c) (hk : ∀ m d, kb (ix2 m d) = k m (col 1 d)) (m : Fin 256) :
    (k0_pay20 Q kb) (ix2 r m) = prob (score q k 1) m := by
  rw [show k0_pay20 Q kb = k0_pay13 (extractStridedSlice S512x256 ![0, 256] Q slices_S512x1024_o0_256_S512x256) (k0_pay12 kb) from rfl]
  exact prob_pay (fun d => (slice_1 d).trans (hq _)) (cast_at hk) m

theorem att_1 (hq : ∀ c, Q (ix2 r c) = q c) (hk : ∀ m d, kb (ix2 m d) = k m (col 1 d)) (hv : ∀ m d, vb (ix2 m d) = v m (col 1 d)) (d : Fin 256) :
    (k0_pay21 Q kb vb) (ix2 r d) = att q k v (col 1 d) := by
  rw [show k0_pay21 Q kb vb = k0_pay14 (extractStridedSlice S512x256 ![0, 256] Q slices_S512x1024_o0_256_S512x256) (k0_pay12 kb) vb from rfl]
  exact att_pay (fun d => (slice_1 d).trans (hq _)) (cast_at hk) hv d

theorem ds_1 (hq : ∀ c, Q (ix2 r c) = q c) (ha : ∀ c, A (ix2 r c) = a c) (hk : ∀ m d, kb (ix2 m d) = k m (col 1 d)) (hv : ∀ m d, vb (ix2 m d) = v m (col 1 d)) (m : Fin 256) :
    (k0_pay25 (k0_pay20 Q kb) (k0_pay22 A) (k0_pay23 vb) (constant S512x256 .f32 0x00000000#32)) (ix2 r m) = dscore (score q k 1) (dprob a v 1) m := by
  rw [show k0_pay25 (k0_pay20 Q kb) (k0_pay22 A) (k0_pay23 vb) (constant S512x256 .f32 0x00000000#32) = k0_pay25 (k0_pay20 Q kb) (extractStridedSlice S512x256 ![0, 256] A slices_S512x1024_o0_256_S512x256) (k0_pay12 vb) (constant S512x256 .f32 0x00000000#32) from rfl]
  exact ds_pay (prob_1 hq hk) (fun d => (slice_1 d).trans (ha _)) (cast_at hv) m

theorem dq_1 (hq : ∀ c, Q (ix2 r c) = q c) (ha : ∀ c, A (ix2 r c) = a c) (hk : ∀ m d, kb (ix2 m d) = k m (col 1 d)) (hv : ∀ m d, vb (ix2 m d) = v m (col 1 d)) (d : Fin 256) :
    (k0_pay26 (k0_pay20 Q kb) (k0_pay22 A) (k0_pay23 vb) (constant S512x256 .f32 0x00000000#32) kb) (ix2 r d) = dq q a k v (col 1 d) := by
  rw [show k0_pay26 (k0_pay20 Q kb) (k0_pay22 A) (k0_pay23 vb) (constant S512x256 .f32 0x00000000#32) kb = k0_pay18 (k0_pay25 (k0_pay20 Q kb) (k0_pay22 A) (k0_pay23 vb) (constant S512x256 .f32 0x00000000#32)) kb from rfl]
  exact dq_pay (ds_1 hq ha hk hv) hk d

theorem dk_1 {q a : Fin 512 → Fin 1024 → EReal} (hq : ∀ r c, Q (ix2 r c) = q r c) (ha : ∀ r c, A (ix2 r c) = a r c)
    (hk : ∀ m d, kb (ix2 m d) = k m (col 1 d)) (hv : ∀ m d, vb (ix2 m d) = v m (col 1 d)) (acc : FVec Ideal S256x256 .f32) (m d : Fin 256) :
    (k0_pay27 Q (k0_pay20 Q kb) (k0_pay22 A) (k0_pay23 vb) (constant S512x256 .f32 0x00000000#32) acc) (ix2 m d)
      = acc (ix2 m d) + ∑ r : Fin 512, dscore (score (q r) k 1) (dprob (a r) v 1) m * q r (col 1 d) := by
  rw [show k0_pay27 Q (k0_pay20 Q kb) (k0_pay22 A) (k0_pay23 vb) (constant S512x256 .f32 0x00000000#32) acc = addf (shapeCast S256x256 acc shapeCasts_S256x256_S256x256) (matmul dot_S512x256_S512x256_S256x256_0_0_1_1_n_n none (k0_pay25 (k0_pay20 Q kb) (k0_pay22 A) (k0_pay23 vb) (constant S512x256 .f32 0x00000000#32)) (extractStridedSlice S512x256 ![0, 256] Q slices_S512x1024_o0_256_S512x256) (constant S256x256 .f32 0x00000000#32)) from rfl]
  pointwise
  simp only [fun r => ds_1 (hq r) (ha r) hk hv, slice_1, hq, col_1]

theorem dv_1 {q a : Fin 512 → Fin 1024 → EReal} (hq : ∀ r c, Q (ix2 r c) = q r c) (ha : ∀ r c, A (ix2 r c) = a r c)
    (hk : ∀ m d, kb (ix2 m d) = k m (col 1 d)) (acc : FVec Ideal S256x256 .f32) (m d : Fin 256) :
    (k0_pay24 (k0_pay20 Q kb) (k0_pay22 A) acc) (ix2 m d)
      = acc (ix2 m d) + ∑ r : Fin 512, prob (score (q r) k 1) m * a r (col 1 d) := by
  rw [show k0_pay24 (k0_pay20 Q kb) (k0_pay22 A) acc = k0_pay24 (k0_pay20 Q kb) (extractStridedSlice S512x256 ![0, 256] A slices_S512x1024_o0_256_S512x256) acc from rfl]
  pointwise [k0_pay24]
  simp only [fun r => prob_1 (hq r) hk, slice_1, ha, col_1]

/-! The third head. -/

theorem prob_2 (hq : ∀ c, Q (ix2 r c) = q c) (hk : ∀ m d, kb (ix2 m d) = k m (col 2 d)) (m : Fin 256) :
    (k0_pay30 (k0_pay28 Q kb) (k0_pay29 Q kb)) (ix2 r m) = prob (score q k 2) m := by
  rw [show k0_pay30 (k0_pay28 Q kb) (k0_pay29 Q kb) = k0_pay13 (extractStridedSlice S512x256 ![0, 512] Q slices_S512x1024_o0_512_S512x256) (k0_pay12 kb) from rfl]
  exact prob_pay (fun d => (slice_2 d).trans (hq _)) (cast_at hk) m

theorem att_2 (hq : ∀ c, Q (ix2 r c) = q c) (hk : ∀ m d, kb (ix2 m d) = k m (col 2 d)) (hv : ∀ m d, vb (ix2 m d) = v m (col 2 d)) (d : Fin 256) :
    (k0_pay31 (k0_pay28 Q kb) (k0_pay29 Q kb) vb) (ix2 r d) = att q k v (col 2 d) := by
  rw [show k0_pay31 (k0_pay28 Q kb) (k0_pay29 Q kb) vb = k0_pay14 (extractStridedSlice S512x256 ![0, 512] Q slices_S512x1024_o0_512_S512x256) (k0_pay12 kb) vb from rfl]
  exact att_pay (fun d => (slice_2 d).trans (hq _)) (cast_at hk) hv d

theorem ds_2 (hq : ∀ c, Q (ix2 r c) = q c) (ha : ∀ c, A (ix2 r c) = a c) (hk : ∀ m d, kb (ix2 m d) = k m (col 2 d)) (hv : ∀ m d, vb (ix2 m d) = v m (col 2 d)) (m : Fin 256) :
    (k0_pay34 A (k0_pay28 Q kb) (k0_pay29 Q kb) vb) (ix2 r m) = dscore (score q k 2) (dprob a v 2) m := by
  rw [show k0_pay34 A (k0_pay28 Q kb) (k0_pay29 Q kb) vb = k0_pay25 (k0_pay30 (k0_pay28 Q kb) (k0_pay29 Q kb)) (extractStridedSlice S512x256 ![0, 512] A slices_S512x1024_o0_512_S512x256) (k0_pay12 vb) (constant S512x256 .f32 0x00000000#32) from rfl]
  exact ds_pay (prob_2 hq hk) (fun d => (slice_2 d).trans (ha _)) (cast_at hv) m

theorem dq_2 (hq : ∀ c, Q (ix2 r c) = q c) (ha : ∀ c, A (ix2 r c) = a c) (hk : ∀ m d, kb (ix2 m d) = k m (col 2 d)) (hv : ∀ m d, vb (ix2 m d) = v m (col 2 d)) (d : Fin 256) :
    (k0_pay35 A (k0_pay28 Q kb) (k0_pay29 Q kb) vb kb) (ix2 r d) = dq q a k v (col 2 d) := by
  rw [show k0_pay35 A (k0_pay28 Q kb) (k0_pay29 Q kb) vb kb = k0_pay18 (k0_pay34 A (k0_pay28 Q kb) (k0_pay29 Q kb) vb) kb from rfl]
  exact dq_pay (ds_2 hq ha hk hv) hk d

theorem dk_2 {q a : Fin 512 → Fin 1024 → EReal} (hq : ∀ r c, Q (ix2 r c) = q r c) (ha : ∀ r c, A (ix2 r c) = a r c)
    (hk : ∀ m d, kb (ix2 m d) = k m (col 2 d)) (hv : ∀ m d, vb (ix2 m d) = v m (col 2 d)) (acc : FVec Ideal S256x256 .f32) (m d : Fin 256) :
    (k0_pay36 Q (k0_pay34 A (k0_pay28 Q kb) (k0_pay29 Q kb) vb) acc) (ix2 m d)
      = acc (ix2 m d) + ∑ r : Fin 512, dscore (score (q r) k 2) (dprob (a r) v 2) m * q r (col 2 d) := by
  rw [show k0_pay36 Q (k0_pay34 A (k0_pay28 Q kb) (k0_pay29 Q kb) vb) acc = addf (shapeCast S256x256 acc shapeCasts_S256x256_S256x256) (matmul dot_S512x256_S512x256_S256x256_0_0_1_1_n_n none (k0_pay34 A (k0_pay28 Q kb) (k0_pay29 Q kb) vb) (extractStridedSlice S512x256 ![0, 512] Q slices_S512x1024_o0_512_S512x256) (constant S256x256 .f32 0x00000000#32)) from rfl]
  pointwise
  simp only [fun r => ds_2 (hq r) (ha r) hk hv, slice_2, hq, col_2]

theorem dv_2 {q a : Fin 512 → Fin 1024 → EReal} (hq : ∀ r c, Q (ix2 r c) = q r c) (ha : ∀ r c, A (ix2 r c) = a r c)
    (hk : ∀ m d, kb (ix2 m d) = k m (col 2 d)) (acc : FVec Ideal S256x256 .f32) (m d : Fin 256) :
    (k0_pay33 A (k0_pay28 Q kb) (k0_pay29 Q kb) acc) (ix2 m d)
      = acc (ix2 m d) + ∑ r : Fin 512, prob (score (q r) k 2) m * a r (col 2 d) := by
  rw [show k0_pay33 A (k0_pay28 Q kb) (k0_pay29 Q kb) acc = k0_pay24 (k0_pay30 (k0_pay28 Q kb) (k0_pay29 Q kb)) (extractStridedSlice S512x256 ![0, 512] A slices_S512x1024_o0_512_S512x256) acc from rfl]
  pointwise [k0_pay24]
  simp only [fun r => prob_2 (hq r) hk, slice_2, ha, col_2]

/-! The fourth head. -/

theorem prob_3 (hq : ∀ c, Q (ix2 r c) = q c) (hk : ∀ m d, kb (ix2 m d) = k m (col 3 d)) (m : Fin 256) :
    (k0_pay37 Q kb) (ix2 r m) = prob (score q k 3) m := by
  rw [show k0_pay37 Q kb = k0_pay13 (extractStridedSlice S512x256 ![0, 768] Q slices_S512x1024_o0_768_S512x256) (k0_pay12 kb) from rfl]
  exact prob_pay (fun d => (slice_3 d).trans (hq _)) (cast_at hk) m

theorem att_3 (hq : ∀ c, Q (ix2 r c) = q c) (hk : ∀ m d, kb (ix2 m d) = k m (col 3 d)) (hv : ∀ m d, vb (ix2 m d) = v m (col 3 d)) (d : Fin 256) :
    (k0_pay38 Q kb vb) (ix2 r d) = att q k v (col 3 d) := by
  rw [show k0_pay38 Q kb vb = k0_pay14 (extractStridedSlice S512x256 ![0, 768] Q slices_S512x1024_o0_768_S512x256) (k0_pay12 kb) vb from rfl]
  exact att_pay (fun d => (slice_3 d).trans (hq _)) (cast_at hk) hv d

theorem ds_3 (hq : ∀ c, Q (ix2 r c) = q c) (ha : ∀ c, A (ix2 r c) = a c) (hk : ∀ m d, kb (ix2 m d) = k m (col 3 d)) (hv : ∀ m d, vb (ix2 m d) = v m (col 3 d)) (m : Fin 256) :
    (k0_pay44 (k0_pay37 Q kb) (k0_pay40 A vb)) (ix2 r m) = dscore (score q k 3) (dprob a v 3) m := by
  rw [show k0_pay44 (k0_pay37 Q kb) (k0_pay40 A vb) = k0_pay25 (k0_pay37 Q kb) (extractStridedSlice S512x256 ![0, 768] A slices_S512x1024_o0_768_S512x256) (k0_pay12 vb) (constant S512x256 .f32 0x00000000#32) from rfl]
  exact ds_pay (prob_3 hq hk) (fun d => (slice_3 d).trans (ha _)) (cast_at hv) m

theorem dq_3 (hq : ∀ c, Q (ix2 r c) = q c) (ha : ∀ c, A (ix2 r c) = a c) (hk : ∀ m d, kb (ix2 m d) = k m (col 3 d)) (hv : ∀ m d, vb (ix2 m d) = v m (col 3 d)) (d : Fin 256) :
    (k0_pay45 (k0_pay37 Q kb) (k0_pay40 A vb) kb) (ix2 r d) = dq q a k v (col 3 d) := by
  rw [show k0_pay45 (k0_pay37 Q kb) (k0_pay40 A vb) kb = k0_pay18 (k0_pay44 (k0_pay37 Q kb) (k0_pay40 A vb)) kb from rfl]
  exact dq_pay (ds_3 hq ha hk hv) hk d

theorem dk_3 {q a : Fin 512 → Fin 1024 → EReal} (hq : ∀ r c, Q (ix2 r c) = q r c) (ha : ∀ r c, A (ix2 r c) = a r c)
    (hk : ∀ m d, kb (ix2 m d) = k m (col 3 d)) (hv : ∀ m d, vb (ix2 m d) = v m (col 3 d)) (acc : FVec Ideal S256x256 .f32) (m d : Fin 256) :
    (k0_pay46 Q (k0_pay37 Q kb) (k0_pay40 A vb) acc) (ix2 m d)
      = acc (ix2 m d) + ∑ r : Fin 512, dscore (score (q r) k 3) (dprob (a r) v 3) m * q r (col 3 d) := by
  rw [show k0_pay46 Q (k0_pay37 Q kb) (k0_pay40 A vb) acc = addf (shapeCast S256x256 acc shapeCasts_S256x256_S256x256) (matmul dot_S512x256_S512x256_S256x256_0_0_1_1_n_n none (k0_pay44 (k0_pay37 Q kb) (k0_pay40 A vb)) (extractStridedSlice S512x256 ![0, 768] Q slices_S512x1024_o0_768_S512x256) (constant S256x256 .f32 0x00000000#32)) from rfl]
  pointwise
  simp only [fun r => ds_3 (hq r) (ha r) hk hv, slice_3, hq, col_3]

theorem dv_3 {q a : Fin 512 → Fin 1024 → EReal} (hq : ∀ r c, Q (ix2 r c) = q r c) (ha : ∀ r c, A (ix2 r c) = a r c)
    (hk : ∀ m d, kb (ix2 m d) = k m (col 3 d)) (acc : FVec Ideal S256x256 .f32) (m d : Fin 256) :
    (k0_pay43 (k0_pay41 acc) (k0_pay42 Q A kb)) (ix2 m d)
      = acc (ix2 m d) + ∑ r : Fin 512, prob (score (q r) k 3) m * a r (col 3 d) := by
  rw [show k0_pay43 (k0_pay41 acc) (k0_pay42 Q A kb) = k0_pay24 (k0_pay37 Q kb) (extractStridedSlice S512x256 ![0, 768] A slices_S512x1024_o0_768_S512x256) acc from rfl]
  pointwise [k0_pay24]
  simp only [fun r => prob_3 (hq r) hk, slice_3, ha, col_3]

end Heads

end Cert.XattnBwdIdeal.Value

end
-- ==== Proof.XattnValue.lean ====
/- The value of the attention's gradient call. -/
module

public import proofs.«01_k».proof.Proof.XattnPay
public import Idealize.ShloMosaic.Lib.Pipeline.ReadBack

@[expose] public section

set_option maxRecDepth 16384

noncomputable section

open Idealize.ShloMosaic Idealize.ShloMosaic.TcCoe Idealize.SL.Sem Cert.Reals Cert.Attention
open Idealize.ShloMosaic.Pipeline (Dat)

namespace Cert.XattnBwdIdeal.Value

open Cert.XattnBwdIdeal Cert.XattnBwdIdeal.Gen Cert.XattnBwdRefIdeal.Read

variable (m : (ℓ : Loc nD τ sig) → Buf (Elt Ideal) ℓ)

/-- Block `t` of the rows is rows `512 t` to `512 t + 511`; every other window is its whole array. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![0, 0] ∧ win0_13.index t = ![0, 0] ∧ win0_14.index t = ![0, 0] :=
  (by decide +kernel : ∀ t : Fin grid0.N, _)

/-- Row `a` of block `t` among all the rows. -/
def row (t : Fin cfg0.N) (a : Fin 512) : Fin 16384 := ⟨t.val * 512 + a.val, by have := lt_of_lt_of_eq t.isLt N_0; omega⟩

section

variable (c : Dev nD)

/-- The arguments. -/
abbrev aH : FVec Ideal S16384x1024 .f32 := m ((c : Thread nD τ).loc main_arg0)
abbrev aDH : FVec Ideal S16384x1024 .f32 := m ((c : Thread nD τ).loc main_arg1)
abbrev aG : FVec Ideal S1x1024 .f32 := m ((c : Thread nD τ).loc main_arg2)
abbrev aWQ : FVec Ideal S1x1024x1024 .f32 := m ((c : Thread nD τ).loc main_arg3)
abbrev aK : FVec Ideal S256x1024 .f32 := m ((c : Thread nD τ).loc main_arg4)
abbrev aV : FVec Ideal S256x1024 .f32 := m ((c : Thread nD τ).loc main_arg5)
abbrev aWO : FVec Ideal S1x1024x1024 .f32 := m ((c : Thread nD τ).loc main_arg6)

theorem h_at (t : Fin cfg0.N) (a : Fin 512) (k : Fin 1024) :
    (show FVec Ideal S512x1024 .f32 from iblk m c 0 t) (ix2 a k) = rowOf (aH m c) (row t a) k := by
  blk_point [iblk, V, idx t, row, rowOf]

theorem dh_at (t : Fin cfg0.N) (a : Fin 512) (k : Fin 1024) :
    (show FVec Ideal S512x1024 .f32 from iblk m c 1 t) (ix2 a k) = rowOf (aDH m c) (row t a) k := by
  blk_point [iblk, V, idx t, row, rowOf]

theorem g_at (t : Fin cfg0.N) (k : Fin 1024) :
    (show FVec Ideal S1x1024 .f32 from iblk m c 2 t) (ix2 0 k) = gain (aG m c) k := by
  blk_point [iblk, V, idx t, gain]

theorem wq_at (t : Fin cfg0.N) (i k : Fin 1024) :
    (show FVec Ideal S1024x1024 .bf16 from iblk m c 3 t) (ix2 i k) = mat (aWQ m c) i k := by
  blk_simp [iblk, idx t]
  entry_read
  pointwise [mat]
  blk_ext [idx t]

theorem k_at (t : Fin cfg0.N) (i : Fin 256) (k : Fin 1024) :
    (show FVec Ideal S256x1024 .bf16 from iblk m c 4 t) (ix2 i k) = mem (aK m c) i k := by
  blk_simp [iblk, idx t]
  entry_read
  pointwise [mem]
  blk_ext [idx t]

theorem v_at (t : Fin cfg0.N) (i : Fin 256) (k : Fin 1024) :
    (show FVec Ideal S256x1024 .bf16 from iblk m c 5 t) (ix2 i k) = mem (aV m c) i k := by
  blk_simp [iblk, idx t]
  entry_read
  pointwise [mem]
  blk_ext [idx t]

theorem wo_at (t : Fin cfg0.N) (i k : Fin 1024) :
    (show FVec Ideal S1024x1024 .bf16 from iblk m c 6 t) (ix2 i k) = mat (aWO m c) i k := by
  blk_simp [iblk, idx t]
  entry_read
  pointwise [mat]
  blk_ext [idx t]

/-- Row `a` of block `t` of the queries. -/
abbrev qAt (t : Fin cfg0.N) (a : Fin 512) : Fin 1024 → EReal := qOf (aH m c) (aG m c) (aWQ m c) (row t a)
/-- Row `a` of block `t` of the gradient of the attention. -/
abbrev dAt (t : Fin cfg0.N) (a : Fin 512) : Fin 1024 → EReal := aOf (aDH m c) (aWO m c) (row t a)

theorem rinv_at (t : Fin cfg0.N) (a : Fin 512) : k0_pay5 (F := Ideal) (iblk m c 0 t) (ix2 a 0) = rinv (rowOf (aH m c) (row t a)) := by
  pointwise [k0_pay5]
  simp only [h_at m c t]
  rfl

theorem n_at (t : Fin cfg0.N) (a : Fin 512) (i : Fin 1024) :
    k0_pay7 (F := Ideal) (iblk m c 0 t) (iblk m c 2 t) (ix2 a i) = nrow (rowOf (aH m c) (row t a)) (gain (aG m c)) i := by
  pointwise [k0_pay7, k0_pay6]
  simp only [h_at m c t, g_at m c t, rinv_at m c t]
  rfl

theorem q_at (t : Fin cfg0.N) (a : Fin 512) (i : Fin 1024) :
    k0_pay8 (F := Ideal) (iblk m c 0 t) (iblk m c 2 t) (iblk m c 3 t) (ix2 a i) = qAt m c t a i := by
  pointwise [k0_pay8]
  simp only [n_at m c t, wq_at m c t]
  rfl

theorem d_at (t : Fin cfg0.N) (a : Fin 512) (i : Fin 1024) :
    k0_pay10 (F := Ideal) (iblk m c 1 t) (iblk m c 6 t) (ix2 a i) = dAt m c t a i := by
  pointwise [k0_pay10, k0_pay9]
  simp only [dh_at m c t, wo_at m c t]
  rfl

set_option maxHeartbeats 1600000 in
/-- Block `t` of the gradient of the queries. -/
theorem dq_at (t : Fin cfg0.N) (a : Fin 512) (i : Fin 1024) :
    (show FVec Ideal S512x1024 .bf16 from (outsAt0 m c t.val t.isLt).2.2.1) (ix2 a i) = dq (qAt m c t a) (dAt m c t a) (mem (aK m c)) (mem (aV m c)) i := by
  by_cases h0 : t.val % 32 = 0
  · rw [outsAt0_A m c t h0]
    frame_out
    canon_tiles x q
    case piece0 =>
      idx_vars x
      obtain rfl : a = x0 := Fin.ext q0
      obtain rfl : i = col 3 x1 := (Fin.ext q1 : i = ⟨768 + x1.val, by omega⟩).trans (col_3 x1).symm
      refine dq_3 (k := mem (aK m c)) (v := mem (aV m c)) (q_at m c t a) (d_at m c t a) (fun i d => ?_) (fun i d => ?_) x1
      · pointwise [col_3]
        exact k_at m c t i _
      · pointwise [col_3]
        exact v_at m c t i _
    case piece1 =>
      idx_vars x
      obtain rfl : a = x0 := Fin.ext q0
      obtain rfl : i = col 2 x1 := (Fin.ext q1 : i = ⟨512 + x1.val, by omega⟩).trans (col_2 x1).symm
      refine dq_2 (k := mem (aK m c)) (v := mem (aV m c)) (q_at m c t a) (d_at m c t a) (fun i d => ?_) (fun i d => ?_) x1
      · pointwise [col_2]
        exact k_at m c t i _
      · pointwise [col_2]
        exact v_at m c t i _
    case piece2 =>
      idx_vars x
      obtain rfl : a = x0 := Fin.ext q0
      obtain rfl : i = col 1 x1 := (Fin.ext q1 : i = ⟨256 + x1.val, by omega⟩).trans (col_1 x1).symm
      refine dq_1 (k := mem (aK m c)) (v := mem (aV m c)) (q_at m c t a) (d_at m c t a) (fun i d => ?_) (fun i d => ?_) x1
      · pointwise [col_1]
        exact k_at m c t i _
      · pointwise [col_1]
        exact v_at m c t i _
    case piece3 =>
      idx_vars x
      obtain rfl : a = x0 := Fin.ext q0
      obtain rfl : i = col 0 x1 := (Fin.ext q1 : i = ⟨x1.val, by omega⟩).trans (col_0 x1).symm
      refine dq_0 (k := mem (aK m c)) (v := mem (aV m c)) (q_at m c t a) (d_at m c t a) (fun i d => ?_) (fun i d => ?_) x1
      · pointwise [col_0]
        exact k_at m c t i _
      · pointwise [col_0]
        exact v_at m c t i _
  · rw [outsAt0_B m c t h0]
    frame_out
    canon_tiles x q
    case piece0 =>
      idx_vars x
      obtain rfl : a = x0 := Fin.ext q0
      obtain rfl : i = col 3 x1 := (Fin.ext q1 : i = ⟨768 + x1.val, by omega⟩).trans (col_3 x1).symm
      refine dq_3 (k := mem (aK m c)) (v := mem (aV m c)) (q_at m c t a) (d_at m c t a) (fun i d => ?_) (fun i d => ?_) x1
      · pointwise [col_3]
        exact k_at m c t i _
      · pointwise [col_3]
        exact v_at m c t i _
    case piece1 =>
      idx_vars x
      obtain rfl : a = x0 := Fin.ext q0
      obtain rfl : i = col 2 x1 := (Fin.ext q1 : i = ⟨512 + x1.val, by omega⟩).trans (col_2 x1).symm
      refine dq_2 (k := mem (aK m c)) (v := mem (aV m c)) (q_at m c t a) (d_at m c t a) (fun i d => ?_) (fun i d => ?_) x1
      · pointwise [col_2]
        exact k_at m c t i _
      · pointwise [col_2]
        exact v_at m c t i _
    case piece2 =>
      idx_vars x
      obtain rfl : a = x0 := Fin.ext q0
      obtain rfl : i = col 1 x1 := (Fin.ext q1 : i = ⟨256 + x1.val, by omega⟩).trans (col_1 x1).symm
      refine dq_1 (k := mem (aK m c)) (v := mem (aV m c)) (q_at m c t a) (d_at m c t a) (fun i d => ?_) (fun i d => ?_) x1
      · pointwise [col_1]
        exact k_at m c t i _
      · pointwise [col_1]
        exact v_at m c t i _
    case piece3 =>
      idx_vars x
      obtain rfl : a = x0 := Fin.ext q0
      obtain rfl : i = col 0 x1 := (Fin.ext q1 : i = ⟨x1.val, by omega⟩).trans (col_0 x1).symm
      refine dq_0 (k := mem (aK m c)) (v := mem (aV m c)) (q_at m c t a) (d_at m c t a) (fun i d => ?_) (fun i d => ?_) x1
      · pointwise [col_0]
        exact k_at m c t i _
      · pointwise [col_0]
        exact v_at m c t i _

set_option maxHeartbeats 1600000 in
/-- Block `t` of the attention. -/
theorem att_at (t : Fin cfg0.N) (a : Fin 512) (i : Fin 1024) :
    (show FVec Ideal S512x1024 .bf16 from (outsAt0 m c t.val t.isLt).2.2.2.1) (ix2 a i) = att (qAt m c t a) (mem (aK m c)) (mem (aV m c)) i := by
  by_cases h0 : t.val % 32 = 0
  · rw [outsAt0_A m c t h0]
    frame_out
    canon_tiles x q
    case piece0 =>
      idx_vars x
      obtain rfl : a = x0 := Fin.ext q0
      obtain rfl : i = col 3 x1 := (Fin.ext q1 : i = ⟨768 + x1.val, by omega⟩).trans (col_3 x1).symm
      refine att_3 (k := mem (aK m c)) (v := mem (aV m c)) (q_at m c t a) (fun i d => ?_) (fun i d => ?_) x1
      · pointwise [col_3]
        exact k_at m c t i _
      · pointwise [col_3]
        exact v_at m c t i _
    case piece1 =>
      idx_vars x
      obtain rfl : a = x0 := Fin.ext q0
      obtain rfl : i = col 2 x1 := (Fin.ext q1 : i = ⟨512 + x1.val, by omega⟩).trans (col_2 x1).symm
      refine att_2 (k := mem (aK m c)) (v := mem (aV m c)) (q_at m c t a) (fun i d => ?_) (fun i d => ?_) x1
      · pointwise [col_2]
        exact k_at m c t i _
      · pointwise [col_2]
        exact v_at m c t i _
    case piece2 =>
      idx_vars x
      obtain rfl : a = x0 := Fin.ext q0
      obtain rfl : i = col 1 x1 := (Fin.ext q1 : i = ⟨256 + x1.val, by omega⟩).trans (col_1 x1).symm
      refine att_1 (k := mem (aK m c)) (v := mem (aV m c)) (q_at m c t a) (fun i d => ?_) (fun i d => ?_) x1
      · pointwise [col_1]
        exact k_at m c t i _
      · pointwise [col_1]
        exact v_at m c t i _
    case piece3 =>
      idx_vars x
      obtain rfl : a = x0 := Fin.ext q0
      obtain rfl : i = col 0 x1 := (Fin.ext q1 : i = ⟨x1.val, by omega⟩).trans (col_0 x1).symm
      refine att_0 (k := mem (aK m c)) (v := mem (aV m c)) (q_at m c t a) (fun i d => ?_) (fun i d => ?_) x1
      · pointwise [col_0]
        exact k_at m c t i _
      · pointwise [col_0]
        exact v_at m c t i _
  · rw [outsAt0_B m c t h0]
    frame_out
    canon_tiles x q
    case piece0 =>
      idx_vars x
      obtain rfl : a = x0 := Fin.ext q0
      obtain rfl : i = col 3 x1 := (Fin.ext q1 : i = ⟨768 + x1.val, by omega⟩).trans (col_3 x1).symm
      refine att_3 (k := mem (aK m c)) (v := mem (aV m c)) (q_at m c t a) (fun i d => ?_) (fun i d => ?_) x1
      · pointwise [col_3]
        exact k_at m c t i _
      · pointwise [col_3]
        exact v_at m c t i _
    case piece1 =>
      idx_vars x
      obtain rfl : a = x0 := Fin.ext q0
      obtain rfl : i = col 2 x1 := (Fin.ext q1 : i = ⟨512 + x1.val, by omega⟩).trans (col_2 x1).symm
      refine att_2 (k := mem (aK m c)) (v := mem (aV m c)) (q_at m c t a) (fun i d => ?_) (fun i d => ?_) x1
      · pointwise [col_2]
        exact k_at m c t i _
      · pointwise [col_2]
        exact v_at m c t i _
    case piece2 =>
      idx_vars x
      obtain rfl : a = x0 := Fin.ext q0
      obtain rfl : i = col 1 x1 := (Fin.ext q1 : i = ⟨256 + x1.val, by omega⟩).trans (col_1 x1).symm
      refine att_1 (k := mem (aK m c)) (v := mem (aV m c)) (q_at m c t a) (fun i d => ?_) (fun i d => ?_) x1
      · pointwise [col_1]
        exact k_at m c t i _
      · pointwise [col_1]
        exact v_at m c t i _
    case piece3 =>
      idx_vars x
      obtain rfl : a = x0 := Fin.ext q0
      obtain rfl : i = col 0 x1 := (Fin.ext q1 : i = ⟨x1.val, by omega⟩).trans (col_0 x1).symm
      refine att_0 (k := mem (aK m c)) (v := mem (aV m c)) (q_at m c t a) (fun i d => ?_) (fun i d => ?_) x1
      · pointwise [col_0]
        exact k_at m c t i _
      · pointwise [col_0]
        exact v_at m c t i _

/-- Row `s` of the gradient of the normed rows. -/
abbrev nAt (s : Fin 16384) : Fin 1024 → EReal := nOf (aH m c) (aDH m c) (aG m c) (aWQ m c) (aK m c) (aV m c) (aWO m c) s

theorem dn_at (t : Fin cfg0.N) {z : FVec Ideal S512x1024 .bf16} (a : Fin 512)
    (hz : ∀ i, z (ix2 a i) = dq (qAt m c t a) (dAt m c t a) (mem (aK m c)) (mem (aV m c)) i) (i : Fin 1024) :
    k0_pay47 z (iblk m c 3 t) (ix2 a i) = nAt m c (row t a) i := by
  pointwise [k0_pay47]
  simp only [hz, wq_at m c t]
  rfl

theorem dx_pay (t : Fin cfg0.N) {z : FVec Ideal S512x1024 .bf16} (a : Fin 512)
    (hz : ∀ i, z (ix2 a i) = dq (qAt m c t a) (dAt m c t a) (mem (aK m c)) (mem (aV m c)) i) (i : Fin 1024) :
    k0_pay1 (F := Ideal) (iblk m c 1 t) (iblk m c 2 t) (k0_pay5 (iblk m c 0 t)) (k0_pay6 (iblk m c 0 t)) (k0_pay47 z (iblk m c 3 t)) (ix2 a i)
      = rowOf (aDH m c) (row t a) i + rinv (rowOf (aH m c) (row t a)) * (nAt m c (row t a) i * gain (aG m c) i - rowOf (aH m c) (row t a) i * rinv (rowOf (aH m c) (row t a))
        * Ideal.div (∑ k, nAt m c (row t a) k * gain (aG m c) k * (rowOf (aH m c) (row t a) k * rinv (rowOf (aH m c) (row t a)))) (Ideal.ofBits .f32 0x44800000#32)) := by
  pointwise [k0_pay1, k0_pay6]
  simp only [dn_at m c t a hz, h_at m c t, dh_at m c t, g_at m c t, rinv_at m c t]

set_option maxHeartbeats 1600000 in
/-- Block `t` of the gradient of the layer's input. -/
theorem dx_at (t : Fin cfg0.N) (a : Fin 512) (i : Fin 1024) :
    (show FVec Ideal S512x1024 .f32 from (outsAt0 m c t.val t.isLt).1) (ix2 a i)
      = rowOf (aDH m c) (row t a) i + rinv (rowOf (aH m c) (row t a)) * (nAt m c (row t a) i * gain (aG m c) i - rowOf (aH m c) (row t a) i * rinv (rowOf (aH m c) (row t a))
        * Ideal.div (∑ k, nAt m c (row t a) k * gain (aG m c) k * (rowOf (aH m c) (row t a) k * rinv (rowOf (aH m c) (row t a)))) (Ideal.ofBits .f32 0x44800000#32)) := by
  by_cases h0 : t.val % 32 = 0
  · rw [outsAt0_A m c t h0]
    frame_out
    refine dx_pay m c t a (fun i => ?_) i
    refine Eq.trans ?_ (dq_at m c t a i)
    rw [outsAt0_A m c t h0, View.readCov_eq_canon']
    frame_out
    exact congrFun (View.ld_unit_lit' (S := S512x1024) _ _ (by decide)) (ix2 a i)
  · rw [outsAt0_B m c t h0]
    frame_out
    refine dx_pay m c t a (fun i => ?_) i
    refine Eq.trans ?_ (dq_at m c t a i)
    rw [outsAt0_B m c t h0, View.readCov_eq_canon']
    frame_out
    exact congrFun (View.ld_unit_lit' (S := S512x1024) _ _ (by decide)) (ix2 a i)

/-- The gradient of the layer's input. -/
theorem final7 (hH : ∀ i, IsReal (aH m c i)) (hDH : ∀ i, IsReal (aDH m c i)) (hG : ∀ i, IsReal (aG m c i)) (hWQ : ∀ i, IsReal (aWQ m c i))
    (hK : ∀ i, IsReal (aK m c i)) (hV : ∀ i, IsReal (aV m c i)) (hWO : ∀ i, IsReal (aWO m c i)) : (dats m 0 c).arrAt 7 (cfgs 0).N = val_main_v110 (aH m c) (aDH m c) (aG m c) (aWQ m c) (aK m c) (aV m c) (aWO m c) := by
  refine (dats m 0 c).arrAt_eq_of_covers 7 _ (by decide +kernel) fun t _ (y : S512x1024.Idx) => ?_
  idx_vars y
  have hy : (((cfg0.win 7).blk t).view.emb (ix2 y0 y1 : S512x1024.Idx) : S16384x1024.Idx) = ix2 (row t y0) y1 := by blk_ext [idx t, row]
  refine Eq.trans ?_ ((congrArg (val_main_v110 (F := Ideal) (aH m c) (aDH m c) (aG m c) (aWQ m c) (aK m c) (aV m c) (aWO m c)) hy).trans (dx_ref (aH m c) (aDH m c) (aG m c) (aWQ m c) (aK m c) (aV m c) (aWO m c) hH hDH hG hWQ hK hV hWO (row t y0) y1)).symm
  blk_simp [idx t]
  rw [after0_7]
  exact dx_at m c t y0 y1

/-- The normed rows. -/
theorem final8 : (dats m 0 c).arrAt 8 (cfgs 0).N = val_main_v112 (aH m c) (aG m c) := by
  refine (dats m 0 c).arrAt_eq_of_covers 8 _ (by decide +kernel) fun t _ (y : S512x1024.Idx) => ?_
  idx_vars y
  have hy : (((cfg0.win 8).blk t).view.emb (ix2 y0 y1 : S512x1024.Idx) : S16384x1024.Idx) = ix2 (row t y0) y1 := by blk_ext [idx t, row]
  refine Eq.trans ?_ ((congrArg (val_main_v112 (F := Ideal) (aH m c) (aG m c)) hy).trans (n_out _ _ (row t y0) y1)).symm
  blk_simp [idx t]
  rw [after0_8]
  by_cases h0 : t.val % 32 = 0
  · rw [outsAt0_A m c t h0]
    frame_out
    exact n_at m c t y0 y1
  · rw [outsAt0_B m c t h0]
    frame_out
    exact n_at m c t y0 y1

/-- The gradient of the queries. -/
theorem final9 (hH : ∀ i, IsReal (aH m c i)) (hDH : ∀ i, IsReal (aDH m c i)) (hG : ∀ i, IsReal (aG m c i)) (hWQ : ∀ i, IsReal (aWQ m c i))
    (hK : ∀ i, IsReal (aK m c i)) (hV : ∀ i, IsReal (aV m c i)) (hWO : ∀ i, IsReal (aWO m c i)) : (dats m 0 c).arrAt 9 (cfgs 0).N = val_main_v113 (aH m c) (aDH m c) (aG m c) (aWQ m c) (aK m c) (aV m c) (aWO m c) := by
  refine (dats m 0 c).arrAt_eq_of_covers 9 _ (by decide +kernel) fun t _ (y : S512x1024.Idx) => ?_
  idx_vars y
  have hy : (((cfg0.win 9).blk t).view.emb (ix2 y0 y1 : S512x1024.Idx) : S16384x1024.Idx) = ix2 (row t y0) y1 := by blk_ext [idx t, row]
  refine Eq.trans ?_ ((congrArg (val_main_v113 (F := Ideal) (aH m c) (aDH m c) (aG m c) (aWQ m c) (aK m c) (aV m c) (aWO m c)) hy).trans (dq_out (aH m c) (aDH m c) (aG m c) (aWQ m c) (aK m c) (aV m c) (aWO m c) hH hDH hG hWQ hK hV hWO (row t y0) y1)).symm
  blk_simp [idx t]
  rw [after0_9]
  exact dq_at m c t y0 y1

/-- The attention. -/
theorem final10 : (dats m 0 c).arrAt 10 (cfgs 0).N = val_main_v114 (aH m c) (aG m c) (aWQ m c) (aK m c) (aV m c) := by
  refine (dats m 0 c).arrAt_eq_of_covers 10 _ (by decide +kernel) fun t _ (y : S512x1024.Idx) => ?_
  idx_vars y
  have hy : (((cfg0.win 10).blk t).view.emb (ix2 y0 y1 : S512x1024.Idx) : S16384x1024.Idx) = ix2 (row t y0) y1 := by blk_ext [idx t, row]
  refine Eq.trans ?_ ((congrArg (val_main_v114 (F := Ideal) (aH m c) (aG m c) (aWQ m c) (aK m c) (aV m c)) hy).trans (att_out _ _ _ _ _ (row t y0) y1)).symm
  blk_simp [idx t]
  rw [after0_10]
  exact att_at m c t y0 y1

/-- The layer's output gradient, rounded. -/
theorem final11 : (dats m 0 c).arrAt 11 (cfgs 0).N = val_main_v115 (aDH m c) := by
  refine (dats m 0 c).arrAt_eq_of_covers 11 _ (by decide +kernel) fun t _ (y : S512x1024.Idx) => ?_
  idx_vars y
  have hy : (((cfg0.win 11).blk t).view.emb (ix2 y0 y1 : S512x1024.Idx) : S16384x1024.Idx) = ix2 (row t y0) y1 := by blk_ext [idx t, row]
  refine Eq.trans ?_ ((congrArg (val_main_v115 (F := Ideal) (aDH m c)) hy).trans (dh_out _ (row t y0) y1)).symm
  blk_simp [idx t]
  rw [after0_11]
  by_cases h0 : t.val % 32 = 0
  · rw [outsAt0_A m c t h0]
    frame_out
    pointwise [k0_pay9]
    exact dh_at m c t y0 y1
  · rw [outsAt0_B m c t h0]
    frame_out
    pointwise [k0_pay9]
    exact dh_at m c t y0 y1

/-- A sum over all rows, block by block. -/
theorem sum_rows (f : Fin 16384 → EReal) (t : Fin cfg0.N) (hf : t.val % 32 = 31) :
    ∑ s : Fin 32, ∑ a : Fin 512, f (row ⟨_, Pipeline.run_point_lt_of_flush t hf s⟩ a) = ∑ k, f k := by
  refine Fin.sum_mul_add_congr fun s k hl => congrArg f (Fin.ext ?_)
  have := lt_of_lt_of_eq t.isLt N_0
  simp only [row]
  omega

/-- One row's part of the gradient of the keys, of the values and of the norm's weight. -/
def dkTerm (s : Fin 16384) (i : Fin 256) (k : Fin 1024) : EReal :=
  dscore (zOf (aH m c) (aG m c) (aWQ m c) (aK m c) s (head k)) (pOf (aDH m c) (aV m c) (aWO m c) s (head k)) i * qOf (aH m c) (aG m c) (aWQ m c) s k
def dvTerm (s : Fin 16384) (i : Fin 256) (k : Fin 1024) : EReal :=
  prob (zOf (aH m c) (aG m c) (aWQ m c) (aK m c) s (head k)) i * aOf (aDH m c) (aWO m c) s k
def dgTerm (s : Fin 16384) (i : Fin 1024) : EReal := nAt m c s i * (rowOf (aH m c) s i * rinv (rowOf (aH m c) s))

set_option maxHeartbeats 1600000 in
/-- The gradient of the keys. -/
theorem final12 (hH : ∀ i, IsReal (aH m c i)) (hDH : ∀ i, IsReal (aDH m c i)) (hG : ∀ i, IsReal (aG m c i)) (hWQ : ∀ i, IsReal (aWQ m c i))
    (hK : ∀ i, IsReal (aK m c i)) (hV : ∀ i, IsReal (aV m c i)) (hWO : ∀ i, IsReal (aWO m c i)) : (dats m 0 c).arrAt 12 (cfgs 0).N = val_main_v87 (aH m c) (aDH m c) (aG m c) (aWQ m c) (aK m c) (aV m c) (aWO m c) := by
  refine (dats m 0 c).arrAt_eq_of_covers 12 _ (by decide +kernel) fun t hf (y : S256x1024.Idx) => ?_
  idx_vars y
  have hf' := (flush0_12 t).mp hf
  have hy : (((cfg0.win 12).blk t).view.emb (ix2 y0 y1 : S256x1024.Idx) : S256x1024.Idx) = ix2 y0 y1 := by blk_ext [idx t]
  refine Eq.trans ?_ ((congrArg (val_main_v87 (F := Ideal) (aH m c) (aDH m c) (aG m c) (aWQ m c) (aK m c) (aV m c) (aWO m c)) hy).trans (dk_ref (aH m c) (aDH m c) (aG m c) (aWQ m c) (aK m c) (aV m c) (aWO m c) hH hDH hG hWQ hK hV hWO y0 y1)).symm
  refine Eq.trans ?_ (sum_rows (fun s => dkTerm m c s y0 y1) t hf')
  blk_simp [idx t]
  rw [after0_12, Pipeline.eq_sum_fin_of_reset_step_apply_of_flush (fun n h => (outsAt0 m c n h).2.2.2.2.2.1) 32 (fun _ => 0)
    (fun p j => ∑ a : Fin 512, dkTerm m c (row p a) (j 0) (j 1)) (fun t h j => ?_) (fun t h j => ?_) t hf' _, zero_add]
  · rfl
  · rw [outsAt0_A m c t h]
    frame_open
    simp (disch := decide) only [↓ View.readCov_skip, ↓ View.readCov_cons_toLoadRect, ↓ View.readCov_fill]
    frame_out
    refine (View.canon_append_of_piecesOf (fun j : S256x1024.Idx => ∑ a : Fin 512, dkTerm m c (row t a) (j 0) (j 1))
      [_] [_, _, _, _] ⟨fun (x : S256x256.Idx) => ?_, fun (x : S256x256.Idx) => ?_, fun (x : S256x256.Idx) => ?_, fun (x : S256x256.Idx) => ?_, trivial⟩ j ?cover).trans (zero_add _).symm
    case cover =>
      have h1 := (j 1).isLt
      have h2 := (j 0).isLt
      simp [Rect.mem_set_unit, Fin.forall_fin_two] at h1 h2 ⊢
      omega
    all_goals idx_vars x
    · refine (dk_3 (k := mem (aK m c)) (v := mem (aV m c)) (q_at m c t) (d_at m c t) (fun i d => ?_) (fun i d => ?_) _ x0 x1).trans ?_
      · pointwise [col_3]
        exact k_at m c t i _
      · pointwise [col_3]
        exact v_at m c t i _
      · refine Eq.trans ?_ (Fin.sum_fin_congr fun a => congrArg₂ (dkTerm m c (row t a)) (?_ : x0 = _) (?_ : col 3 x1 = _))
        · pointwise [dkTerm, k0_pay2, head_col]
        · exact Fin.ext (by blk_simp)
        · exact Fin.ext (by rw [col_3]; blk_simp)
    · refine (dk_2 (k := mem (aK m c)) (v := mem (aV m c)) (q_at m c t) (d_at m c t) (fun i d => ?_) (fun i d => ?_) _ x0 x1).trans ?_
      · pointwise [col_2]
        exact k_at m c t i _
      · pointwise [col_2]
        exact v_at m c t i _
      · refine Eq.trans ?_ (Fin.sum_fin_congr fun a => congrArg₂ (dkTerm m c (row t a)) (?_ : x0 = _) (?_ : col 2 x1 = _))
        · pointwise [dkTerm, k0_pay2, head_col]
        · exact Fin.ext (by blk_simp)
        · exact Fin.ext (by rw [col_2]; blk_simp)
    · refine (dk_1 (k := mem (aK m c)) (v := mem (aV m c)) (q_at m c t) (d_at m c t) (fun i d => ?_) (fun i d => ?_) _ x0 x1).trans ?_
      · pointwise [col_1]
        exact k_at m c t i _
      · pointwise [col_1]
        exact v_at m c t i _
      · refine Eq.trans ?_ (Fin.sum_fin_congr fun a => congrArg₂ (dkTerm m c (row t a)) (?_ : x0 = _) (?_ : col 1 x1 = _))
        · pointwise [dkTerm, k0_pay2, head_col]
        · exact Fin.ext (by blk_simp)
        · exact Fin.ext (by rw [col_1]; blk_simp)
    · refine (dk_0 (k := mem (aK m c)) (v := mem (aV m c)) (q_at m c t) (d_at m c t) (fun i d => ?_) (fun i d => ?_) _ x0 x1).trans ?_
      · pointwise [col_0]
        exact k_at m c t i _
      · pointwise [col_0]
        exact v_at m c t i _
      · refine Eq.trans ?_ (Fin.sum_fin_congr fun a => congrArg₂ (dkTerm m c (row t a)) (?_ : x0 = _) (?_ : col 0 x1 = _))
        · pointwise [dkTerm, k0_pay2, head_col]
        · exact Fin.ext (by blk_simp)
        · exact Fin.ext (by rw [col_0]; blk_simp)
  · rw [outsAt0_B m c t h]
    frame_out
    canon_tiles x q
    all_goals idx_vars j
    case piece0 =>
      idx_vars x
      obtain rfl : j0 = x0 := Fin.ext q0
      obtain rfl : j1 = col 3 x1 := (Fin.ext q1 : j1 = ⟨768 + x1.val, by omega⟩).trans (col_3 x1).symm
      refine (dk_3 (k := mem (aK m c)) (v := mem (aV m c)) (q_at m c t) (d_at m c t) (fun i d => ?_) (fun i d => ?_) _ j0 x1).trans ?_
      · pointwise [col_3]
        exact k_at m c t i _
      · pointwise [col_3]
        exact v_at m c t i _
      · pointwise [dkTerm, head_col]
        rw [← col_3 x1]
    case piece1 =>
      idx_vars x
      obtain rfl : j0 = x0 := Fin.ext q0
      obtain rfl : j1 = col 2 x1 := (Fin.ext q1 : j1 = ⟨512 + x1.val, by omega⟩).trans (col_2 x1).symm
      refine (dk_2 (k := mem (aK m c)) (v := mem (aV m c)) (q_at m c t) (d_at m c t) (fun i d => ?_) (fun i d => ?_) _ j0 x1).trans ?_
      · pointwise [col_2]
        exact k_at m c t i _
      · pointwise [col_2]
        exact v_at m c t i _
      · pointwise [dkTerm, head_col]
        rw [← col_2 x1]
    case piece2 =>
      idx_vars x
      obtain rfl : j0 = x0 := Fin.ext q0
      obtain rfl : j1 = col 1 x1 := (Fin.ext q1 : j1 = ⟨256 + x1.val, by omega⟩).trans (col_1 x1).symm
      refine (dk_1 (k := mem (aK m c)) (v := mem (aV m c)) (q_at m c t) (d_at m c t) (fun i d => ?_) (fun i d => ?_) _ j0 x1).trans ?_
      · pointwise [col_1]
        exact k_at m c t i _
      · pointwise [col_1]
        exact v_at m c t i _
      · pointwise [dkTerm, head_col]
        rw [← col_1 x1]
    case piece3 =>
      idx_vars x
      obtain rfl : j0 = x0 := Fin.ext q0
      obtain rfl : j1 = col 0 x1 := (Fin.ext q1 : j1 = ⟨x1.val, by omega⟩).trans (col_0 x1).symm
      refine (dk_0 (k := mem (aK m c)) (v := mem (aV m c)) (q_at m c t) (d_at m c t) (fun i d => ?_) (fun i d => ?_) _ j0 x1).trans ?_
      · pointwise [col_0]
        exact k_at m c t i _
      · pointwise [col_0]
        exact v_at m c t i _
      · pointwise [dkTerm, head_col]
        rw [← col_0 x1]

set_option maxHeartbeats 1600000 in
/-- The gradient of the values. -/
theorem final13 : (dats m 0 c).arrAt 13 (cfgs 0).N = val_main_v86 (aH m c) (aDH m c) (aG m c) (aWQ m c) (aK m c) (aWO m c) := by
  refine (dats m 0 c).arrAt_eq_of_covers 13 _ (by decide +kernel) fun t hf (y : S256x1024.Idx) => ?_
  idx_vars y
  have hf' := (flush0_13 t).mp hf
  have hy : (((cfg0.win 13).blk t).view.emb (ix2 y0 y1 : S256x1024.Idx) : S256x1024.Idx) = ix2 y0 y1 := by blk_ext [idx t]
  refine Eq.trans ?_ ((congrArg (val_main_v86 (F := Ideal) (aH m c) (aDH m c) (aG m c) (aWQ m c) (aK m c) (aWO m c)) hy).trans (dv_ref _ _ _ _ _ _ y0 y1)).symm
  refine Eq.trans ?_ (sum_rows (fun s => dvTerm m c s y0 y1) t hf')
  blk_simp [idx t]
  rw [after0_13, Pipeline.eq_sum_fin_of_reset_step_apply_of_flush (fun n h => (outsAt0 m c n h).2.2.2.2.2.2.1) 32 (fun _ => 0)
    (fun p j => ∑ a : Fin 512, dvTerm m c (row p a) (j 0) (j 1)) (fun t h j => ?_) (fun t h j => ?_) t hf' _, zero_add]
  · rfl
  · rw [outsAt0_A m c t h]
    frame_open
    simp (disch := decide) only [↓ View.readCov_skip, ↓ View.readCov_cons_toLoadRect, ↓ View.readCov_fill]
    frame_out
    refine (View.canon_append_of_piecesOf (fun j : S256x1024.Idx => ∑ a : Fin 512, dvTerm m c (row t a) (j 0) (j 1))
      [_] [_, _, _, _] ⟨fun (x : S256x256.Idx) => ?_, fun (x : S256x256.Idx) => ?_, fun (x : S256x256.Idx) => ?_, fun (x : S256x256.Idx) => ?_, trivial⟩ j ?cover).trans (zero_add _).symm
    case cover =>
      have h1 := (j 1).isLt
      have h2 := (j 0).isLt
      simp [Rect.mem_set_unit, Fin.forall_fin_two] at h1 h2 ⊢
      omega
    all_goals idx_vars x
    · refine (dv_3 (k := mem (aK m c)) (q_at m c t) (d_at m c t) (fun i d => ?_) _ x0 x1).trans ?_
      · pointwise [col_3]
        exact k_at m c t i _
      · refine Eq.trans ?_ (Fin.sum_fin_congr fun a => congrArg₂ (dvTerm m c (row t a)) (?_ : x0 = _) (?_ : col 3 x1 = _))
        · pointwise [dvTerm, k0_pay3, head_col]
        · exact Fin.ext (by blk_simp)
        · exact Fin.ext (by rw [col_3]; blk_simp)
    · refine (dv_2 (k := mem (aK m c)) (q_at m c t) (d_at m c t) (fun i d => ?_) _ x0 x1).trans ?_
      · pointwise [col_2]
        exact k_at m c t i _
      · refine Eq.trans ?_ (Fin.sum_fin_congr fun a => congrArg₂ (dvTerm m c (row t a)) (?_ : x0 = _) (?_ : col 2 x1 = _))
        · pointwise [dvTerm, k0_pay3, head_col]
        · exact Fin.ext (by blk_simp)
        · exact Fin.ext (by rw [col_2]; blk_simp)
    · refine (dv_1 (k := mem (aK m c)) (q_at m c t) (d_at m c t) (fun i d => ?_) _ x0 x1).trans ?_
      · pointwise [col_1]
        exact k_at m c t i _
      · refine Eq.trans ?_ (Fin.sum_fin_congr fun a => congrArg₂ (dvTerm m c (row t a)) (?_ : x0 = _) (?_ : col 1 x1 = _))
        · pointwise [dvTerm, k0_pay3, head_col]
        · exact Fin.ext (by blk_simp)
        · exact Fin.ext (by rw [col_1]; blk_simp)
    · refine (dv_0 (k := mem (aK m c)) (q_at m c t) (d_at m c t) (fun i d => ?_) _ x0 x1).trans ?_
      · pointwise [col_0]
        exact k_at m c t i _
      · refine Eq.trans ?_ (Fin.sum_fin_congr fun a => congrArg₂ (dvTerm m c (row t a)) (?_ : x0 = _) (?_ : col 0 x1 = _))
        · pointwise [dvTerm, k0_pay3, head_col]
        · exact Fin.ext (by blk_simp)
        · exact Fin.ext (by rw [col_0]; blk_simp)
  · rw [outsAt0_B m c t h]
    frame_out
    canon_tiles x q
    all_goals idx_vars j
    case piece0 =>
      idx_vars x
      obtain rfl : j0 = x0 := Fin.ext q0
      obtain rfl : j1 = col 3 x1 := (Fin.ext q1 : j1 = ⟨768 + x1.val, by omega⟩).trans (col_3 x1).symm
      refine (dv_3 (k := mem (aK m c)) (q_at m c t) (d_at m c t) (fun i d => ?_) _ j0 x1).trans ?_
      · pointwise [col_3]
        exact k_at m c t i _
      · pointwise [dvTerm, head_col]
        rw [← col_3 x1]
    case piece1 =>
      idx_vars x
      obtain rfl : j0 = x0 := Fin.ext q0
      obtain rfl : j1 = col 2 x1 := (Fin.ext q1 : j1 = ⟨512 + x1.val, by omega⟩).trans (col_2 x1).symm
      refine (dv_2 (k := mem (aK m c)) (q_at m c t) (d_at m c t) (fun i d => ?_) _ j0 x1).trans ?_
      · pointwise [col_2]
        exact k_at m c t i _
      · pointwise [dvTerm, head_col]
        rw [← col_2 x1]
    case piece2 =>
      idx_vars x
      obtain rfl : j0 = x0 := Fin.ext q0
      obtain rfl : j1 = col 1 x1 := (Fin.ext q1 : j1 = ⟨256 + x1.val, by omega⟩).trans (col_1 x1).symm
      refine (dv_1 (k := mem (aK m c)) (q_at m c t) (d_at m c t) (fun i d => ?_) _ j0 x1).trans ?_
      · pointwise [col_1]
        exact k_at m c t i _
      · pointwise [dvTerm, head_col]
        rw [← col_1 x1]
    case piece3 =>
      idx_vars x
      obtain rfl : j0 = x0 := Fin.ext q0
      obtain rfl : j1 = col 0 x1 := (Fin.ext q1 : j1 = ⟨x1.val, by omega⟩).trans (col_0 x1).symm
      refine (dv_0 (k := mem (aK m c)) (q_at m c t) (d_at m c t) (fun i d => ?_) _ j0 x1).trans ?_
      · pointwise [col_0]
        exact k_at m c t i _
      · pointwise [dvTerm, head_col]
        rw [← col_0 x1]

/-- One point's part of the gradient of the norm's weight, over what the points before left. -/
theorem dg_pay (t : Fin cfg0.N) {z : FVec Ideal S512x1024 .bf16} (acc : FVec Ideal S1x1024 .f32)
    (hz : ∀ a i, z (ix2 a i) = dq (qAt m c t a) (dAt m c t a) (mem (aK m c)) (mem (aV m c)) i) (i : Fin 1024) :
    k0_pay48 (k0_pay6 (iblk m c 0 t)) z (iblk m c 3 t) acc (ix2 0 i) = acc (ix2 0 i) + ∑ a : Fin 512, dgTerm m c (row t a) i := by
  pointwise [k0_pay48, k0_pay6]
  simp only [fun a => dn_at m c t a (hz a), h_at m c t, rinv_at m c t]
  rfl

set_option maxHeartbeats 1600000 in
/-- The gradient of the norm's weight. -/
theorem final14 (hH : ∀ i, IsReal (aH m c i)) (hDH : ∀ i, IsReal (aDH m c i)) (hG : ∀ i, IsReal (aG m c i)) (hWQ : ∀ i, IsReal (aWQ m c i))
    (hK : ∀ i, IsReal (aK m c i)) (hV : ∀ i, IsReal (aV m c i)) (hWO : ∀ i, IsReal (aWO m c i)) : (dats m 0 c).arrAt 14 (cfgs 0).N = val_main_v111 (aH m c) (aDH m c) (aG m c) (aWQ m c) (aK m c) (aV m c) (aWO m c) := by
  refine (dats m 0 c).arrAt_eq_of_covers 14 _ (by decide +kernel) fun t hf y => ?_
  have hf' := (flush0_14 t).mp hf
  have hy : (((cfg0.win 14).blk t).view.emb y : S1x1024.Idx) = ix2 0 (y 1) := by blk_ext [idx t]
  refine Eq.trans ?_ ((congrArg (val_main_v111 (F := Ideal) (aH m c) (aDH m c) (aG m c) (aWQ m c) (aK m c) (aV m c) (aWO m c)) hy).trans (dg_ref (aH m c) (aDH m c) (aG m c) (aWQ m c) (aK m c) (aV m c) (aWO m c) hH hDH hG hWQ hK hV hWO (y 1))).symm
  refine Eq.trans ?_ (sum_rows (fun s => dgTerm m c s (y 1)) t hf')
  blk_simp [idx t]
  rw [after0_14, Pipeline.eq_sum_fin_of_reset_step_apply_of_flush (fun n h => (outsAt0 m c n h).2.2.2.2.2.2.2) 32 (fun _ => 0)
    (fun p j => ∑ a : Fin 512, dgTerm m c (row p a) (j 1)) (fun t h j => ?_) (fun t h j => ?_) t hf' _, zero_add]
  · idx_vars j
    obtain rfl : j0 = 0 := Subsingleton.elim _ _
    rw [outsAt0_A m c t h]
    frame_out
    refine (dg_pay m c t _ (fun a i => ?_) j1).trans ?_
    · refine Eq.trans ?_ (dq_at m c t a i)
      rw [outsAt0_A m c t h, View.readCov_eq_canon']
      frame_out
      exact congrFun (View.ld_unit_lit' (S := S512x1024) _ _ (by decide)) (ix2 a i)
    · pointwise [k0_pay4]
  · idx_vars j
    obtain rfl : j0 = 0 := Subsingleton.elim _ _
    rw [outsAt0_B m c t h]
    frame_out
    refine (dg_pay m c t _ (fun a i => ?_) j1).trans ?_
    · refine Eq.trans ?_ (dq_at m c t a i)
      rw [outsAt0_B m c t h, View.readCov_eq_canon']
      frame_out
      exact congrFun (View.ld_unit_lit' (S := S512x1024) _ _ (by decide)) (ix2 a i)
    · pointwise [k0_pay4]

end

end Cert.XattnBwdIdeal.Value

end
-- ==== Proof.XattnClaim.lean ====
/- The value claim of the attention's gradient call. -/
module

public import proofs.«01_k».proof.Defs
public import proofs.«01_k».proof.Proof.XattnValue
public import proofs.«01_k».proof.Proof.Gen.XattnBwdRefIdeal.Run
public import proofs.«01_k».proof.Proof.Gen.Pre_finite_xattn
public import Idealize.ShloMosaic.Lib.Claim

@[expose] public section

set_option maxRecDepth 1000000
set_option maxHeartbeats 4000000

noncomputable section

namespace Cert.Proof

open Idealize.ShloMosaic Idealize.SL.Sem Cert.Reals

attribute [local instance] Cert.XattnBwdIdeal.Gen.facts Cert.XattnBwdRefIdeal.Gen.facts Cert.Pre_finite_xattn.Gen.facts

/-- The reference of the attention's gradient call leaves its arguments as they were. -/
theorem frame_xattn_ref : Cert.quiescent_XattnBwdRefIdeal := fun m ρ _ =>
  (θ_run Cert.XattnBwdRefIdeal.defs _ _).mono (fun r h => ⟨fun c => (h c).2.2.2.2.2.2.2.2, sem_eq_zero_of_no_sems (by decide) r.2⟩)
    (Cert.XattnBwdRefIdeal.Value.run m ρ)

/-- The entries of the seven arrays the precondition is about are real. -/
theorem finite_xattn_real (a b : FVec Ideal Cert.Pre_finite_xattn.S16384x1024 .f32) (g : FVec Ideal Cert.Pre_finite_xattn.S1x1024 .f32)
    (w : FVec Ideal Cert.Pre_finite_xattn.S1x1024x1024 .f32) (k v : FVec Ideal Cert.Pre_finite_xattn.S256x1024 .f32) (o : FVec Ideal Cert.Pre_finite_xattn.S1x1024x1024 .f32)
    (h : Cert.Pre_finite_xattn.fn (F := Ideal) a b g w k v o = fun _ => 1#1) :
    (∀ i, IsReal (a i)) ∧ (∀ i, IsReal (b i)) ∧ (∀ i, IsReal (g i)) ∧ (∀ i, IsReal (w i)) ∧ (∀ i, IsReal (k i)) ∧ (∀ i, IsReal (v i)) ∧ (∀ i, IsReal (o i)) := by
  have h' := congrFun h (fun a => a.elim0)
  obtain ⟨h6', h7⟩ := IntOp.andi_eq_one.mp h'
  obtain ⟨h5', h6⟩ := IntOp.andi_eq_one.mp h6'
  obtain ⟨h4', h5⟩ := IntOp.andi_eq_one.mp h5'
  obtain ⟨h3', h4⟩ := IntOp.andi_eq_one.mp h4'
  obtain ⟨h2', h3⟩ := IntOp.andi_eq_one.mp h3'
  obtain ⟨h1, h2⟩ := IntOp.andi_eq_one.mp h2'
  exact ⟨real_of_finite _ _ _ _ _ h1, real_of_finite _ _ _ _ _ h2, real_of_finite _ _ _ _ _ h3, real_of_finite _ _ _ _ _ h4,
    real_of_finite _ _ _ _ _ h5, real_of_finite _ _ _ _ _ h6, real_of_finite _ _ _ _ _ h7⟩

/-- The attention's gradient call computes the derivative of the reference's attention layer. -/
theorem algebraic_xattn : Cert.algebraic_XattnBwdIdeal_XattnBwdRefIdeal_pre_finite_xattn := by
  pair_intro
  · run_from Cert.XattnBwdIdeal.Value.run_blocks m g
  · run_from Cert.XattnBwdRefIdeal.Value.run m' g'
    all_goals obtain ⟨h0, h1, h2, h3, h4, h5, h6⟩ := hagree c
    all_goals obtain ⟨hH, hDH, hG, hWQ, hK, hV, hWO⟩ := finite_xattn_real _ _ _ _ _ _ _ (hpre c)
    · refine (Cert.XattnBwdRefIdeal.Read.val_main_v110_eq m' c).trans ?_
      rw [h0, h1, h2, h3, h4, h5, h6]
      exact (Cert.XattnBwdIdeal.Value.final7 m c hH hDH hG hWQ hK hV hWO).symm
    · refine (Cert.XattnBwdRefIdeal.Read.val_main_v112_eq _ _).trans ?_
      exact (Cert.XattnBwdIdeal.Value.final8 m c).symm
    · refine (Cert.XattnBwdRefIdeal.Read.val_main_v113_eq m' c).trans ?_
      rw [h0, h1, h2, h3, h4, h5, h6]
      exact (Cert.XattnBwdIdeal.Value.final9 m c hH hDH hG hWQ hK hV hWO).symm
    · refine (Cert.XattnBwdRefIdeal.Read.val_main_v114_eq m' c).trans ?_
      rw [h0, h2, h3, h4, h5]
      exact (Cert.XattnBwdIdeal.Value.final10 m c).symm
    · refine (Cert.XattnBwdRefIdeal.Read.val_main_v115_eq _).trans ?_
      exact (Cert.XattnBwdIdeal.Value.final11 m c).symm
    · refine (Cert.XattnBwdRefIdeal.Read.val_main_v87_eq m' c).trans ?_
      rw [h0, h1, h2, h3, h4, h5, h6]
      exact (Cert.XattnBwdIdeal.Value.final12 m c hH hDH hG hWQ hK hV hWO).symm
    · refine (Cert.XattnBwdRefIdeal.Read.val_main_v86_eq m' c).trans ?_
      rw [h0, h1, h2, h3, h4, h6]
      exact (Cert.XattnBwdIdeal.Value.final13 m c).symm
    · refine (Cert.XattnBwdRefIdeal.Read.val_main_v111_eq m' c).trans ?_
      rw [h0, h1, h2, h3, h4, h5, h6]
      exact (Cert.XattnBwdIdeal.Value.final14 m c hH hDH hG hWQ hK hV hWO).symm

end Cert.Proof

end
-- ==== Proof.Swiglu.lean ====
/- The mathematics of the gated unit: the gate's function, its derivative, and the gradients of one row. -/
module

public import proofs.«01_k».proof.Proof.Attention

@[expose] public section

noncomputable section

open Idealize.ShloMosaic Cert.Reals Cert.Attention

namespace Cert.Swiglu

/-- The logistic function. -/
def lgs (x : EReal) : EReal := Ideal.div 1 (1 + Ideal.exp (-x))

/-- The gate's function. -/
def sil (x : EReal) : EReal := x * lgs x

/-- Its derivative, in the closed form. -/
def dsil (x : EReal) : EReal := lgs x * (1 + x * (1 - lgs x))

/-- The gate's function and the logistic function at a real number. -/
theorem lgs_coe (x : ℝ) : ∃ s : ℝ, lgs (x : EReal) = (s : EReal) := by
  have hx : Ideal.exp (-(x : EReal)) = ((Real.exp (-x) : ℝ) : EReal) := by rw [← EReal.coe_neg]; rfl
  have h : (1 : EReal) + Ideal.exp (-(x : EReal)) = ((1 + Real.exp (-x) : ℝ) : EReal) := by rw [hx, EReal.coe_add, EReal.coe_one]
  refine ⟨1 / (1 + Real.exp (-x)), ?_⟩
  rw [lgs, h, ← EReal.coe_one, div_real (by positivity)]

theorem real_lgs {x : EReal} (hx : IsReal x) : IsReal (lgs x) := by
  obtain ⟨x, rfl⟩ := hx
  exact lgs_coe x

theorem real_sil {x : EReal} (hx : IsReal x) : IsReal (sil x) := hx.mul (real_lgs hx)

theorem IsReal.one : IsReal 1 := ⟨1, rfl⟩

theorem real_dsil {x : EReal} (hx : IsReal x) : IsReal (dsil x) :=
  (real_lgs hx).mul (IsReal.one.add (hx.mul (IsReal.one.sub (real_lgs hx))))

/-- The chain rule through the gate's function: the two terms of the product rule against the closed form. -/
theorem sil_grad {x a : EReal} (hx : IsReal x) (ha : IsReal a) : a * lgs x + x * a * (lgs x * (1 - lgs x)) = a * dsil x := by
  obtain ⟨x, rfl⟩ := hx
  obtain ⟨a, rfl⟩ := ha
  obtain ⟨s, hs⟩ := lgs_coe x
  simp only [dsil, hs, ← EReal.coe_one, ← EReal.coe_mul, ← EReal.coe_sub, ← EReal.coe_add]
  exact congrArg _ (by ring)

theorem real_half : IsReal (Ideal.ofBits .f32 0x3F000000#32) := by
  refine ⟨1 / 2, ?_⟩
  simp [Ideal.ofBits, Ideal.ieee, -EReal.coe_mul]; norm_num

section

variable (x g y : Fin 1024 → EReal) (w : Fin 1024 → Fin 5632 → EReal) (wd : Fin 2816 → Fin 1024 → EReal)

/-- The two halves of the hidden row. -/
def hid (c : Fin 5632) : EReal := ∑ i, nrow x g i * w i c

/-- The gate's half. -/
def gate (j : Fin 2816) : EReal := hid x g w ⟨j.val, by omega⟩
/-- The other half. -/
def up (j : Fin 2816) : EReal := hid x g w ⟨2816 + j.val, by omega⟩

/-- The gradient of the gated row. -/
def da (j : Fin 2816) : EReal := ∑ k, Ideal.ofBits .f32 0x3F000000#32 * y k * wd j k

/-- The gated row. -/
def act (j : Fin 2816) : EReal := sil (gate x g w j) * up x g w j

/-- The gradient of the gate's half. -/
def dgate (j : Fin 2816) : EReal := da y wd j * up x g w j * dsil (gate x g w j)
/-- The gradient of the other half. -/
def dup (j : Fin 2816) : EReal := da y wd j * sil (gate x g w j)

/-- The gradient of the hidden row. -/
def dhid (c : Fin 5632) : EReal := if h : c.val < 2816 then dgate x g y w wd ⟨c.val, h⟩ else dup x g y w wd ⟨c.val - 2816, by omega⟩

/-- The gradient of the normed row. -/
def dnrow (i : Fin 1024) : EReal := ∑ c, dhid x g y w wd c * w i c

theorem dhid_lo (j : Fin 2816) : dhid x g y w wd ⟨j.val, by omega⟩ = dgate x g y w wd j := dif_pos j.isLt

theorem dhid_hi (j : Fin 2816) : dhid x g y w wd ⟨2816 + j.val, by omega⟩ = dup x g y w wd j := by
  rw [dhid, dif_neg (by simp)]
  exact congrArg _ (Fin.ext (by simp))

/-- A sum over the hidden row's columns, quarter by quarter, the way the shards are met. -/
theorem sum_quarters (f : Fin 5632 → EReal) : ∑ c, f c = ∑ x : Fin 1408, f ⟨x.val, by omega⟩ + ∑ x : Fin 1408, f ⟨2816 + x.val, by omega⟩
    + ∑ x : Fin 1408, f ⟨1408 + x.val, by omega⟩ + ∑ x : Fin 1408, f ⟨4224 + x.val, by omega⟩ := by
  rw [Fin.sum_univ_two_halves 2816 2816 rfl f, Fin.sum_univ_two_halves 1408 1408 rfl, Fin.sum_univ_two_halves 1408 1408 rfl (fun x : Fin 2816 => f ⟨2816 + x.val, _⟩),
    add_add_add_comm, ← add_assoc]
  simp only [← Nat.add_assoc]

/-- The half-step's output row. -/
def outrow (i : Fin 1024) : EReal := x i + Ideal.ofBits .f32 0x3F000000#32 * ∑ j, act x g w j * wd j i

/-- The final norm's error against the target row. -/
def err (f t : Fin 1024 → EReal) (i : Fin 1024) : EReal := nrow (outrow x g w wd) f i - t i

/-- The mean's share of the error, as the loss's gradient takes it. -/
theorem half_grad (e : EReal) : Ideal.div (Ideal.ofBits .f32 0x3F000000#32 * 1) (Ideal.ofBits .f32 0x44800000#32) * (Ideal.ofBits .f32 0x40000000#32 * e)
    = e * Ideal.ofBits .f32 0x3A800000#32 := by
  have h2 : Ideal.ofBits .f32 0x40000000#32 = ((2 : ℝ) : EReal) := by simp [Ideal.ofBits, Ideal.ieee, -EReal.coe_mul]; norm_num
  have hh : Ideal.ofBits .f32 0x3F000000#32 = ((1 / 2 : ℝ) : EReal) := by simp [Ideal.ofBits, Ideal.ieee, -EReal.coe_mul]; norm_num
  have hm : Ideal.ofBits .f32 0x3A800000#32 = ((1 / 1024 : ℝ) : EReal) := by simp [Ideal.ofBits, Ideal.ieee, -EReal.coe_mul]; norm_num
  rw [h2, hh, hm, c1024, mul_one, div_real (by norm_num), ← mul_assoc, ← EReal.coe_mul, mul_comm]
  norm_num

variable {x g y w wd} (hx : ∀ i, IsReal (x i)) (hg : ∀ i, IsReal (g i)) (hy : ∀ i, IsReal (y i)) (hw : ∀ i c, IsReal (w i c)) (hd : ∀ j k, IsReal (wd j k))

include hx hg hw in
theorem real_hid (c : Fin 5632) : IsReal (hid x g w c) := IsReal.sum _ fun i => (real_nrow hx hg i).mul (hw i c)

include hy hd in
theorem real_da (j : Fin 2816) : IsReal (da y wd j) := IsReal.sum _ fun k => (real_half.mul (hy k)).mul (hd j k)

include hx hg hy hw hd in
theorem real_dhid (c : Fin 5632) : IsReal (dhid x g y w wd c) := by
  unfold dhid
  split
  · exact ((real_da hy hd _).mul (real_hid hx hg hw _)).mul (real_dsil (real_hid hx hg hw _))
  · exact (real_da hy hd _).mul (real_sil (real_hid hx hg hw _))

include hx hg hw hd in
theorem real_outrow (i : Fin 1024) : IsReal (outrow x g w wd i) :=
  (hx i).add (real_half.mul (IsReal.sum _ fun j => ((real_sil (real_hid hx hg hw _)).mul (real_hid hx hg hw _)).mul (hd j i)))

include hx hg hy hw hd in
theorem real_dnrow (i : Fin 1024) : IsReal (dnrow x g y w wd i) := IsReal.sum _ fun c => (real_dhid hx hg hy hw hd c).mul (hw i c)

end

end Cert.Swiglu

end
-- ==== Proof.FfnRef.lean ====
/- The reference of the half-step's gradient, read at an index. -/
module

public import proofs.«01_k».proof.Proof.Gen.FfnBwdRefIdeal.Read
public import proofs.«01_k».proof.Proof.Swiglu
public import Idealize.ShloMosaic.Lib.Claim

@[expose] public section

set_option maxRecDepth 16384

noncomputable section

open Idealize.ShloMosaic Idealize.ShloMosaic.TcCoe Idealize.SL.Sem Cert.Reals Cert.Attention Cert.Swiglu

namespace Cert.FfnBwdRefIdeal.Read

open Cert.FfnBwdRefIdeal

/-- A row of an array of rows. -/
def rowOf (H : FVec Ideal S16384x1024 .f32) (s : Fin 16384) (i : Fin 1024) : EReal := H (ix2 s i)
/-- The norm's weight. -/
def gain (G : FVec Ideal S1x1024 .f32) (i : Fin 1024) : EReal := G (ix2 0 i)
/-- The first weight without its layer axis. -/
def wgu (W : FVec Ideal S1x1024x5632 .f32) (i : Fin 1024) (c : Fin 5632) : EReal := W (ix3 0 i c)
/-- The second weight without its layer axis. -/
def wdn (W : FVec Ideal S1x2816x1024 .f32) (j : Fin 2816) (k : Fin 1024) : EReal := W (ix3 0 j k)

section

variable (H DH : FVec Ideal S16384x1024 .f32) (G : FVec Ideal S1x1024 .f32) (W : FVec Ideal S1x1024x5632 .f32) (WD : FVec Ideal S1x2816x1024 .f32)

theorem rinv_ref (s : Fin 16384) : val_main_v8 (F := Ideal) H (ix2 s 0) = rinv (rowOf H s) := by
  pointwise [val_main_v1, val_main_cst, val_main_v2, val_main_v3, val_main_cst_0, val_main_v4, val_main_v5, val_main_cst_1, val_main_v6, val_main_v7, val_main_v8]
  rfl

theorem n_ref (s : Fin 16384) (i : Fin 1024) : val_main_v13 (F := Ideal) H G (ix2 s i) = nrow (rowOf H s) (gain G) i := by
  pointwise [val_main_v0, val_main_v9, val_main_v10, val_main_v11, val_main_v12, val_main_v13]
  simp only [rinv_ref]
  rfl

theorem n_ref' (s : Fin 16384) (i : Fin 1024) : val_main_v49 (F := Ideal) H G (ix2 s i) = nrow (rowOf H s) (gain G) i := n_ref H G s i

theorem hid_ref (s : Fin 16384) (c : Fin 5632) : val_main_v15 (F := Ideal) H G W (ix2 s c) = hid (rowOf H s) (gain G) (wgu W) c := by
  pointwise [val_main_v15, val_main_v14]
  simp only [n_ref]
  rfl

theorem gate_ref (s : Fin 16384) (j : Fin 2816) : val_main_v16 (F := Ideal) H G W (ix2 s j) = gate (rowOf H s) (gain G) (wgu W) j := by
  pointwise [val_main_v16]
  exact hid_ref H G W s _

theorem up_ref (s : Fin 16384) (j : Fin 2816) : val_main_v18 (F := Ideal) H G W (ix2 s j) = up (rowOf H s) (gain G) (wgu W) j := by
  pointwise [val_main_v18]
  exact hid_ref H G W s _

theorem sig_ref (s : Fin 16384) (j : Fin 2816) : val_main_v17_2 (F := Ideal) H G W (ix2 s j) = lgs (gate (rowOf H s) (gain G) (wgu W) j) := by
  pointwise [val_main_call0_v0, val_main_call0_v1, val_main_call0_cst, val_main_call0_v2, val_main_call0_v3, val_main_call0_cst_0, val_main_call0_v4, val_main_v17_2]
  simp only [gate_ref]
  rfl

theorem da_ref (s : Fin 16384) (j : Fin 2816) : val_main_v26 (F := Ideal) DH WD (ix2 s j) = da (rowOf DH s) (wdn WD) j := by
  pointwise [val_main_cst_3, val_main_v24, val_main_v25, val_main_v20, val_main_v26]
  rfl

theorem da_ref' (s : Fin 16384) (j : Fin 2816) : val_main_v64 (F := Ideal) DH WD (ix2 s j) = da (rowOf DH s) (wdn WD) j := by
  pointwise [val_main_cst_11, val_main_v61, val_main_v62, val_main_v63, val_main_v51, val_main_v64]
  rfl

/-- The gated rows. -/
theorem act_ref (s : Fin 16384) (j : Fin 2816) : val_main_v93 (F := Ideal) H G W (ix2 s j) = act (rowOf H s) (gain G) (wgu W) j := by
  pointwise [val_main_v93, val_main_v19, val_main_v17_0]
  simp only [gate_ref, up_ref, sig_ref]
  rfl

/-- The normed rows, as the result holds them. -/
theorem n_out (s : Fin 16384) (i : Fin 1024) : val_main_v92 (F := Ideal) H G (ix2 s i) = nrow (rowOf H s) (gain G) i := by
  pointwise [val_main_v92]
  exact n_ref H G s i

/-- Half the output's gradient, as the result holds it. -/
theorem dh_out (s : Fin 16384) (i : Fin 1024) : val_main_v97 (F := Ideal) DH (ix2 s i) = Ideal.ofBits .f32 0x3F000000#32 * rowOf DH s i := by
  pointwise [val_main_v97, val_main_v96, val_main_v95, val_main_cst_17]
  rfl

section

variable (hH : ∀ i, IsReal (H i)) (hDH : ∀ i, IsReal (DH i)) (hG : ∀ i, IsReal (G i)) (hW : ∀ i, IsReal (W i)) (hWD : ∀ i, IsReal (WD i))

include hH hDH hG hW hWD

theorem dgate_ref (s : Fin 16384) (j : Fin 2816) : val_main_v30 (F := Ideal) H DH G W WD (ix2 s j) = dgate (rowOf H s) (gain G) (rowOf DH s) (wgu W) (wdn WD) j := by
  refine Eq.trans ?_ (sil_grad (real_hid (fun _ => hH _) (fun _ => hG _) (fun _ _ => hW _) _)
    ((real_da (fun _ => hDH _) (fun _ _ => hWD _) j).mul (real_hid (x := rowOf H s) (g := gain G) (w := wgu W) (fun _ => hH _) (fun _ => hG _) (fun _ _ => hW _) _)))
  pointwise [val_main_v28, val_main_call0_cst_1, val_main_call0_v6, val_main_call0_v7, val_main_v17_1, val_main_call1_v0, val_main_call1_v1, val_main_call1_v2, val_main_v30]
  simp only [gate_ref, up_ref, sig_ref, da_ref]

theorem dup_ref (s : Fin 16384) (j : Fin 2816) : val_main_v27 (F := Ideal) H DH G W WD (ix2 s j) = dup (rowOf H s) (gain G) (rowOf DH s) (wgu W) (wdn WD) j := by
  pointwise [val_main_v17_0, val_main_v27]
  simp only [gate_ref, sig_ref, da_ref]
  exact mul_comm (sil (gate (rowOf H s) (gain G) (wgu W) j)) (da (rowOf DH s) (wdn WD) j)

/-- The gradient of the hidden rows, as the result holds it. -/
theorem dhid_out (s : Fin 16384) (c : Fin 5632) : val_main_v94 (F := Ideal) H DH G W WD (ix2 s c) = dhid (rowOf H s) (gain G) (rowOf DH s) (wgu W) (wdn WD) c := by
  pointwise [val_main_v94, val_main_v32, val_main_v31, val_main_v29, val_main_cst_4, val_main_cst_5]
  unfold dhid
  split_ifs with h1 h2 h2
  · omega
  · rw [add_zero, dup_ref H DH G W WD hH hDH hG hW hWD]
  · rw [zero_add, dgate_ref H DH G W WD hH hDH hG hW hWD]
  · omega

/-- The same gradient where the chain rule goes on from it. -/
theorem dhid_ref (s : Fin 16384) (c : Fin 5632) : val_main_v68 (F := Ideal) H DH G W WD (ix2 s c) = dhid (rowOf H s) (gain G) (rowOf DH s) (wgu W) (wdn WD) c := by
  have e1 : ∀ j, val_main_v67 (F := Ideal) H DH G W WD (ix2 s j) = val_main_v30 (F := Ideal) H DH G W WD (ix2 s j) := fun j => by
    pointwise [val_main_v67, val_main_v30, val_main_call3_v0, val_main_call3_v1, val_main_call3_v2, val_main_call1_v0, val_main_call1_v1, val_main_call1_v2, val_main_v66, val_main_v28, da_ref', da_ref]
    rfl
  have e2 : ∀ j, val_main_v65 (F := Ideal) H DH G W WD (ix2 s j) = val_main_v27 (F := Ideal) H DH G W WD (ix2 s j) := fun j => by
    pointwise [val_main_v65, val_main_v27, da_ref', da_ref]
    rfl
  pointwise [val_main_v68]
  unfold dhid
  split_ifs
  · exact (e1 _).trans (dgate_ref H DH G W WD hH hDH hG hW hWD _ _)
  · exact (e2 _).trans (dup_ref H DH G W WD hH hDH hG hW hWD _ _)
  · exact absurd rfl ‹¬_›

theorem dn_ref (s : Fin 16384) (i : Fin 1024) : val_main_v69 (F := Ideal) H DH G W WD (ix2 s i) = dnrow (rowOf H s) (gain G) (rowOf DH s) (wgu W) (wdn WD) i := by
  pointwise [val_main_v69, val_main_v50]
  simp only [dhid_ref H DH G W WD hH hDH hG hW hWD]
  rfl

/-- The gradient of the half-step's input, in the kernel's closed form. -/
theorem dx_ref (s : Fin 16384) (i : Fin 1024) : val_main_v90 (F := Ideal) H DH G W WD (ix2 s i)
    = rowOf DH s i + rinv (rowOf H s) * (dnrow (rowOf H s) (gain G) (rowOf DH s) (wgu W) (wdn WD) i * gain G i - rowOf H s i * rinv (rowOf H s)
      * Ideal.div (∑ k, dnrow (rowOf H s) (gain G) (rowOf DH s) (wgu W) (wdn WD) k * gain G k * (rowOf H s k * rinv (rowOf H s))) (Ideal.ofBits .f32 0x44800000#32)) := by
  refine Eq.trans ?_ (rms_grad (rowOf H s) (fun k => dnrow (rowOf H s) (gain G) (rowOf DH s) (wgu W) (wdn WD) k * gain G k) (rowOf DH s i) (fun _ => hH _)
    (fun k => (real_dnrow (fun _ => hH _) (fun _ => hG _) (fun _ => hDH _) (fun _ _ => hW _) (fun _ _ => hWD _) k).mul (hG _)) i rfl rfl).symm
  pointwise [val_main_v33, val_main_v34, val_main_cst_6, val_main_v35, val_main_v36, val_main_cst_7, val_main_v37, val_main_v38, val_main_cst_8, val_main_v39, val_main_v40, val_main_v41, val_main_v42, val_main_cst_9, val_main_v43, val_main_v44, val_main_v47, val_main_v73, val_main_v74, val_main_v76, val_main_cst_14, val_main_v77, val_main_v78, val_main_v79, val_main_v80, val_main_v81, val_main_v82, val_main_cst_15, val_main_v83, val_main_v84, val_main_cst_16, val_main_v85, val_main_v86, val_main_v87, val_main_v88, val_main_v89, val_main_v90]
  simp only [Finset.univ_unique, Finset.sum_singleton, dn_ref H DH G W WD hH hDH hG hW hWD]
  rfl

/-- The gradient of the norm's weight. -/
theorem dg_ref (i : Fin 1024) : val_main_v91 (F := Ideal) H DH G W WD (ix2 0 i)
    = ∑ s : Fin 16384, dnrow (rowOf H s) (gain G) (rowOf DH s) (wgu W) (wdn WD) i * (rowOf H s i * rinv (rowOf H s)) := by
  pointwise [val_main_v34, val_main_cst_6, val_main_v35, val_main_v36, val_main_cst_7, val_main_v37, val_main_v38, val_main_cst_8, val_main_v39, val_main_v40, val_main_v41, val_main_v45, val_main_v46, val_main_v70, val_main_cst_12, val_main_v71, val_main_v72, val_main_cst_13, val_main_v75, val_main_v91]
  simp only [Finset.univ_unique, Finset.sum_singleton, dn_ref H DH G W WD hH hDH hG hW hWD]
  exact Finset.sum_congr rfl fun s _ => mul_comm _ _

end

end

end Cert.FfnBwdRefIdeal.Read

end
-- ==== Proof.FfnValue.lean ====
/- The value of the half-step's gradient call. -/
module

public import proofs.«01_k».proof.Proof.Gen.FfnBwdIdeal.Value
public import proofs.«01_k».proof.Proof.FfnRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem Cert.Reals Cert.Attention Cert.Swiglu
open Idealize.ShloMosaic.Pipeline (Dat)

namespace Cert.FfnBwdIdeal.Value

open Cert.FfnBwdIdeal Cert.FfnBwdIdeal.Gen Cert.FfnBwdRefIdeal.Read

variable (m : (ℓ : Loc nD τ sig) → Buf (Elt Ideal) ℓ)

/-- Block `t` of the rows is rows `256 t` to `256 t + 255`; every other window is its whole array. -/
theorem idx : ∀ t : Fin cfg0.N, win0_0.index t = ![t.val, 0] ∧ win0_1.index t = ![t.val, 0] ∧ win0_2.index t = ![t.val, 0] ∧ win0_3.index t = ![0, 0] ∧ win0_4.index t = ![0, 0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

/-- Row `a` of block `t` among all the rows. -/
def row (t : Fin cfg0.N) (a : Fin 256) : Fin 16384 := ⟨t.val * 256 + a.val, by have := lt_of_lt_of_eq t.isLt N_0; omega⟩

section

variable (c : Dev nD)

/-- The arguments, as the reference takes them. -/
def aH : FVec Ideal S16384x1024 .f32 := m ((c : Thread nD τ).loc main_arg0)
def aDH : FVec Ideal S16384x1024 .f32 := m ((c : Thread nD τ).loc main_arg1)
def aG : FVec Ideal S1x1024 .f32 := m ((c : Thread nD τ).loc main_arg2)
def aW : FVec Ideal S1x1024x5632 .f32 := m ((c : Thread nD τ).loc main_arg3)
def aWD : FVec Ideal S1x2816x1024 .f32 := m ((c : Thread nD τ).loc main_arg4)

end

theorem h_at (c : Dev nD) (t : Fin cfg0.N) (a : Fin 256) (k : Fin 1024) :
    (show FVec Ideal S256x1024 .f32 from iblk m c 0 t) (ix2 a k) = rowOf (aH m c) (row t a) k := by
  simp only [rowOf, aH]
  blk_point [iblk, V, idx t, row]

/-- The hidden rows the host prepares. -/
theorem gu_at (c : Dev nD) (t : Fin cfg0.N) (a : Fin 256) (k : Fin 5632) :
    (show FVec Ideal S256x5632 .bf16 from iblk m c 1 t) (ix2 a k) = hid (rowOf (aH m c) (row t a)) (gain (aG m c)) (wgu (aW m c)) k := by
  have e : (((cfg0.win 1).blk t).view.emb (ix2 a k : S256x5632.Idx) : S16384x5632.Idx) = ix2 (row t a) k := by blk_ext [idx t, row]
  blk_simp [iblk, idx t]
  entry_read
  rw [e]
  pointwise
  rfl

theorem dh_at (c : Dev nD) (t : Fin cfg0.N) (a : Fin 256) (k : Fin 1024) :
    (show FVec Ideal S256x1024 .f32 from iblk m c 2 t) (ix2 a k) = rowOf (aDH m c) (row t a) k := by
  simp only [rowOf, aDH]
  blk_point [iblk, V, idx t, row]

theorem g_at (c : Dev nD) (t : Fin cfg0.N) (k : Fin 1024) :
    (show FVec Ideal S1x1024 .f32 from iblk m c 3 t) (ix2 0 k) = gain (aG m c) k := by
  simp only [gain, aG]
  blk_point [iblk, V, idx t]

/-- Shard `q` of the first weight holds its columns `1408 q` to `1408 q + 1407`. -/
theorem w_at (c : Dev nD) (t : Fin cfg0.N) (q : Fin 4) (i : Fin 1024) (k : Fin 1408) :
    (show FVec Ideal S4x1024x1408 .bf16 from iblk m c 4 t) (ix3 q i k) = wgu (aW m c) i ⟨q.val * 1408 + k.val, by omega⟩ := by
  simp only [wgu, aW]
  blk_simp [iblk, idx t]
  entry_read
  pointwise
  blk_ext [idx t]

theorem wd_at (c : Dev nD) (t : Fin cfg0.N) (j : Fin 2816) (k : Fin 1024) :
    (show FVec Ideal S2816x1024 .bf16 from iblk m c 5 t) (ix2 j k) = wdn (aWD m c) j k := by
  simp only [wdn, aWD]
  blk_simp [iblk, idx t]
  entry_read
  pointwise
  blk_ext [idx t]

/-! The body's terms at a row, from what their blocks hold there. -/

section

variable {x g y : Fin 1024 → EReal} {w : Fin 1024 → Fin 5632 → EReal} {wd : Fin 2816 → Fin 1024 → EReal} {a : Fin 256}
variable {D : FVec Ideal S256x1024 .f32} (hD : ∀ k, D (ix2 a k) = y k)
variable {G0 U0 G1 U1 : FVec Ideal S256x1408 .bf16} {A0 A1 : FVec Ideal S1408x1024 .bf16} {W0 W1 W2 W3 : FVec Ideal S1x1024x1408 .bf16}
variable (hG0 : ∀ j : Fin 1408, G0 (ix2 a j) = hid x g w ⟨j.val, by omega⟩) (hU0 : ∀ j : Fin 1408, U0 (ix2 a j) = hid x g w ⟨2816 + j.val, by omega⟩)
variable (hG1 : ∀ j : Fin 1408, G1 (ix2 a j) = hid x g w ⟨1408 + j.val, by omega⟩) (hU1 : ∀ j : Fin 1408, U1 (ix2 a j) = hid x g w ⟨4224 + j.val, by omega⟩)
variable (hA0 : ∀ (j : Fin 1408) k, A0 (ix2 j k) = wd ⟨j.val, by omega⟩ k) (hA1 : ∀ (j : Fin 1408) k, A1 (ix2 j k) = wd ⟨1408 + j.val, by omega⟩ k)
variable (hW0 : ∀ i (j : Fin 1408), W0 (ix3 0 i j) = w i ⟨j.val, by omega⟩) (hW1 : ∀ i (j : Fin 1408), W1 (ix3 0 i j) = w i ⟨1408 + j.val, by omega⟩)
variable (hW2 : ∀ i (j : Fin 1408), W2 (ix3 0 i j) = w i ⟨2816 + j.val, by omega⟩) (hW3 : ∀ i (j : Fin 1408), W3 (ix3 0 i j) = w i ⟨4224 + j.val, by omega⟩)

/-- The last quarter's columns are the second half of the half's. -/
theorem up_hi (j : Fin 1408) : hid x g w ⟨4224 + j.val, by omega⟩ = up x g w ⟨1408 + j.val, by omega⟩ :=
  congrArg (hid x g w) (Fin.ext (by simp; omega))

theorem dhid_hi' (j : Fin 1408) : dhid x g y w wd ⟨4224 + j.val, by omega⟩ = dup x g y w wd ⟨1408 + j.val, by omega⟩ :=
  (congrArg (dhid x g y w wd) (Fin.ext (by simp; omega))).trans (dhid_hi _ _ _ _ _ ⟨1408 + j.val, by omega⟩)

include hG0 hU0 in
theorem act_lo (j : Fin 1408) : k0_pay15 (F := Ideal) (k0_pay10 G0) (k0_pay11 U0) (k0_pay12 G0) (ix2 a j) = act x g w ⟨j.val, by omega⟩ := by
  pointwise [k0_pay15, k0_pay14, k0_pay13, k0_pay12, k0_pay11, k0_pay10]
  simp only [hG0, hU0, zero_sub]
  rfl

include hG1 hU1 in
theorem act_hi (j : Fin 1408) : k0_pay25 (F := Ideal) (k0_pay20 G1) U1 (ix2 a j) = act x g w ⟨1408 + j.val, by omega⟩ := by
  pointwise [k0_pay25, k0_pay24, k0_pay23, k0_pay22, k0_pay21, k0_pay20]
  simp only [hG1, hU1, zero_sub, up_hi]
  rfl

include hD hG0 hU0 hA0 in
theorem dgate_lo (j : Fin 1408) : k0_pay17 (F := Ideal) (k0_pay8 D) (k0_pay10 G0) (k0_pay11 U0) (k0_pay12 G0) A0 (ix2 a j) = dgate x g y w wd ⟨j.val, by omega⟩ := by
  pointwise [k0_pay17, k0_pay16, k0_pay13, k0_pay12, k0_pay11, k0_pay10, k0_pay8]
  simp only [hG0, hU0, hD, hA0, zero_sub]
  rfl

include hD hG0 hA0 in
theorem dup_lo (j : Fin 1408) : k0_pay18 (F := Ideal) (k0_pay8 D) (k0_pay10 G0) (k0_pay12 G0) A0 (ix2 a j) = dup x g y w wd ⟨j.val, by omega⟩ := by
  pointwise [k0_pay18, k0_pay16, k0_pay14, k0_pay13, k0_pay12, k0_pay10, k0_pay8]
  simp only [hG0, hD, hA0, zero_sub]
  rfl

include hD hG1 hU1 hA1 in
theorem dgate_hi (j : Fin 1408) : k0_pay27 (F := Ideal) (k0_pay8 D) (k0_pay20 G1) U1 A1 (ix2 a j) = dgate x g y w wd ⟨1408 + j.val, by omega⟩ := by
  pointwise [k0_pay27, k0_pay26, k0_pay23, k0_pay22, k0_pay21, k0_pay20, k0_pay8]
  simp only [hG1, hU1, hD, hA1, zero_sub, up_hi]
  rfl

include hD hG1 hA1 in
theorem dup_hi (j : Fin 1408) : k0_pay28 (F := Ideal) (k0_pay8 D) (k0_pay20 G1) A1 (ix2 a j) = dup x g y w wd ⟨1408 + j.val, by omega⟩ := by
  pointwise [k0_pay28, k0_pay26, k0_pay24, k0_pay23, k0_pay21, k0_pay20, k0_pay8]
  simp only [hG1, hD, hA1, zero_sub]
  rfl

include hD hG0 hU0 hG1 hU1 hA0 hA1 hW0 hW1 hW2 hW3

/-- The gradient of the normed row, quarter by quarter. -/
theorem dn_gen (i : Fin 1024) : k0_pay1 (F := Ideal) (k0_pay28 (k0_pay8 D) (k0_pay20 G1) A1)
    (k0_pay29 (k0_pay8 D) (k0_pay19 (k0_pay8 D) k0_pay9 (k0_pay10 G0) (k0_pay11 U0) (k0_pay12 G0) A0 W0 W2) (k0_pay20 G1) U1 A1 W1) W3 (ix2 a i) = dnrow x g y w wd i := by
  refine Eq.trans ?_ (sum_quarters _).symm
  pointwise [k0_pay1, k0_pay29, k0_pay19, k0_pay9]
  simp only [dup_hi hD hG1 hA1, dgate_hi hD hG1 hU1 hA1, dup_lo hD hG0 hA0, dgate_lo hD hG0 hU0 hA0, hW0, hW1, hW2, hW3, dhid_hi', zero_add,
    fun j : Fin 1408 => dhid_lo x g y w wd ⟨j.val, by omega⟩, fun j : Fin 1408 => dhid_lo x g y w wd ⟨1408 + j.val, by omega⟩, fun j : Fin 1408 => dhid_hi x g y w wd ⟨j.val, by omega⟩]

variable {H : FVec Ideal S256x1024 .f32} {N : FVec Ideal S1x1024 .f32} (hH : ∀ k, H (ix2 a k) = x k) (hN : ∀ k, N (ix2 0 k) = g k)

include hH hN in
/-- The gradient of the input's row. -/
theorem dx_gen (i : Fin 1024) : k0_pay3 (F := Ideal) D N (k0_pay5 H) (k0_pay6 H) (k0_pay28 (k0_pay8 D) (k0_pay20 G1) A1)
    (k0_pay29 (k0_pay8 D) (k0_pay19 (k0_pay8 D) k0_pay9 (k0_pay10 G0) (k0_pay11 U0) (k0_pay12 G0) A0 W0 W2) (k0_pay20 G1) U1 A1 W1) W3 (ix2 a i)
    = y i + rinv x * (dnrow x g y w wd i * g i - x i * rinv x * Ideal.div (∑ k, dnrow x g y w wd k * g k * (x k * rinv x)) (Ideal.ofBits .f32 0x44800000#32)) := by
  pointwise [k0_pay3, k0_pay5, k0_pay6]
  simp only [dn_gen hD hG0 hU0 hG1 hU1 hA0 hA1 hW0 hW1 hW2 hW3, hH, hN, hD]
  rfl

end

section

variable {x y : Fin 256 → Fin 1024 → EReal} {g : Fin 1024 → EReal} {w : Fin 1024 → Fin 5632 → EReal} {wd : Fin 2816 → Fin 1024 → EReal}
variable {D : FVec Ideal S256x1024 .f32} (hD : ∀ a k, D (ix2 a k) = y a k)
variable {G0 U0 G1 U1 : FVec Ideal S256x1408 .bf16} {A0 A1 : FVec Ideal S1408x1024 .bf16} {W0 W1 W2 W3 : FVec Ideal S1x1024x1408 .bf16}
variable (hG0 : ∀ a (j : Fin 1408), G0 (ix2 a j) = hid (x a) g w ⟨j.val, by omega⟩) (hU0 : ∀ a (j : Fin 1408), U0 (ix2 a j) = hid (x a) g w ⟨2816 + j.val, by omega⟩)
variable (hG1 : ∀ a (j : Fin 1408), G1 (ix2 a j) = hid (x a) g w ⟨1408 + j.val, by omega⟩) (hU1 : ∀ a (j : Fin 1408), U1 (ix2 a j) = hid (x a) g w ⟨4224 + j.val, by omega⟩)
variable (hA0 : ∀ (j : Fin 1408) k, A0 (ix2 j k) = wd ⟨j.val, by omega⟩ k) (hA1 : ∀ (j : Fin 1408) k, A1 (ix2 j k) = wd ⟨1408 + j.val, by omega⟩ k)
variable (hW0 : ∀ i (j : Fin 1408), W0 (ix3 0 i j) = w i ⟨j.val, by omega⟩) (hW1 : ∀ i (j : Fin 1408), W1 (ix3 0 i j) = w i ⟨1408 + j.val, by omega⟩)
variable (hW2 : ∀ i (j : Fin 1408), W2 (ix3 0 i j) = w i ⟨2816 + j.val, by omega⟩) (hW3 : ∀ i (j : Fin 1408), W3 (ix3 0 i j) = w i ⟨4224 + j.val, by omega⟩)
variable {H : FVec Ideal S256x1024 .f32} (hH : ∀ a k, H (ix2 a k) = x a k) (P : FVec Ideal S1x1024 .f32)

include hD hG0 hU0 hG1 hU1 hA0 hA1 hW0 hW1 hW2 hW3 hH in
/-- The block's part of the gradient of the norm's weight, added to what came before. -/
theorem dg_gen (i : Fin 1024) : k0_pay2 (F := Ideal) (k0_pay6 H) (k0_pay28 (k0_pay8 D) (k0_pay20 G1) A1)
    (k0_pay29 (k0_pay8 D) (k0_pay19 (k0_pay8 D) k0_pay9 (k0_pay10 G0) (k0_pay11 U0) (k0_pay12 G0) A0 W0 W2) (k0_pay20 G1) U1 A1 W1) W3 P (ix2 0 i)
    = P (ix2 0 i) + ∑ a, dnrow (x a) g (y a) w wd i * (x a i * rinv (x a)) := by
  pointwise [k0_pay2, k0_pay5, k0_pay6]
  simp only [fun a => dn_gen (hD a) (hG0 a) (hU0 a) (hG1 a) (hU1 a) hA0 hA1 hW0 hW1 hW2 hW3 i, hH]
  rfl

end

set_option maxHeartbeats 1600000 in
/-- The gradient of the hidden rows, whole block. -/
theorem dgu_at (c : Dev nD) (t : Fin cfg0.N) (a : Fin 256) (i : Fin 5632) :
    (outsAt0 m c t.val t.isLt).2.2.2.1 (ix2 a i) = dhid (rowOf (aH m c) (row t a)) (gain (aG m c)) (rowOf (aDH m c) (row t a)) (wgu (aW m c)) (wdn (aWD m c)) i := by
  by_cases h0 : t.val % 64 = 0
  all_goals
    first | rw [outsAt0_A m c t h0] | rw [outsAt0_B m c t h0]
    frame_out
    canon_tiles x q
    case piece0 =>
      idx_vars x
      obtain rfl : a = x0 := Fin.ext q0
      rw [show i = ⟨4224 + x1.val, by omega⟩ from Fin.ext q1]
      refine (dup_hi (dh_at m c t a) (fun j => ?_) (fun j k => ?_) x1).trans (dhid_hi' x1).symm
      · pointwise
        exact gu_at m c t a _
      · pointwise
        exact wd_at m c t _ _
    case piece1 =>
      idx_vars x
      obtain rfl : a = x0 := Fin.ext q0
      rw [show i = ⟨1408 + x1.val, by omega⟩ from Fin.ext q1]
      refine (dgate_hi (dh_at m c t a) (fun j => ?_) (fun j => ?_) (fun j k => ?_) x1).trans (dhid_lo _ _ _ _ _ ⟨1408 + x1.val, by omega⟩).symm
      · pointwise
        exact gu_at m c t a _
      · pointwise
        exact gu_at m c t a _
      · pointwise
        exact wd_at m c t _ _
    case piece2 =>
      idx_vars x
      obtain rfl : a = x0 := Fin.ext q0
      rw [show i = ⟨2816 + x1.val, by omega⟩ from Fin.ext q1]
      refine (dup_lo (dh_at m c t a) (fun j => ?_) (fun j k => ?_) x1).trans (dhid_hi _ _ _ _ _ ⟨x1.val, by omega⟩).symm
      · pointwise
        exact gu_at m c t a _
      · pointwise
        exact wd_at m c t _ _
    case piece3 =>
      idx_vars x
      obtain rfl : a = x0 := Fin.ext q0
      rw [show i = ⟨x1.val, by omega⟩ from Fin.ext (by simpa using q1)]
      refine (dgate_lo (dh_at m c t a) (fun j => ?_) (fun j => ?_) (fun j k => ?_) x1).trans (dhid_lo _ _ _ _ _ ⟨x1.val, by omega⟩).symm
      · pointwise
        exact gu_at m c t a _
      · pointwise
        exact gu_at m c t a _
      · pointwise
        exact wd_at m c t _ _

set_option maxHeartbeats 1600000 in
/-- The gated rows, whole block. -/
theorem act_at (c : Dev nD) (t : Fin cfg0.N) (a : Fin 256) (i : Fin 2816) :
    (outsAt0 m c t.val t.isLt).2.2.1 (ix2 a i) = act (rowOf (aH m c) (row t a)) (gain (aG m c)) (wgu (aW m c)) i := by
  by_cases h0 : t.val % 64 = 0
  all_goals
    first | rw [outsAt0_A m c t h0] | rw [outsAt0_B m c t h0]
    frame_out
    canon_tiles x q
    case piece0 =>
      idx_vars x
      obtain rfl : a = x0 := Fin.ext q0
      rw [show i = ⟨1408 + x1.val, by omega⟩ from Fin.ext q1]
      refine act_hi (fun j => ?_) (fun j => ?_) x1
      all_goals
        pointwise
        exact gu_at m c t a _
    case piece1 =>
      idx_vars x
      obtain rfl : a = x0 := Fin.ext q0
      rw [show i = ⟨x1.val, by omega⟩ from Fin.ext (by simpa using q1)]
      refine act_lo (fun j => ?_) (fun j => ?_) x1
      all_goals
        pointwise
        exact gu_at m c t a _

set_option maxHeartbeats 1600000 in
/-- The gradient of the half-step's input, whole block. -/
theorem dx_at (c : Dev nD) (t : Fin cfg0.N) (a : Fin 256) (i : Fin 1024) :
    (outsAt0 m c t.val t.isLt).1 (ix2 a i) = rowOf (aDH m c) (row t a) i + rinv (rowOf (aH m c) (row t a)) *
      (dnrow (rowOf (aH m c) (row t a)) (gain (aG m c)) (rowOf (aDH m c) (row t a)) (wgu (aW m c)) (wdn (aWD m c)) i * gain (aG m c) i - rowOf (aH m c) (row t a) i * rinv (rowOf (aH m c) (row t a))
      * Ideal.div (∑ k, dnrow (rowOf (aH m c) (row t a)) (gain (aG m c)) (rowOf (aDH m c) (row t a)) (wgu (aW m c)) (wdn (aWD m c)) k * gain (aG m c) k * (rowOf (aH m c) (row t a) k * rinv (rowOf (aH m c) (row t a)))) (Ideal.ofBits .f32 0x44800000#32)) := by
  by_cases h0 : t.val % 64 = 0
  all_goals
    first | rw [outsAt0_A m c t h0] | rw [outsAt0_B m c t h0]
    frame_out
    refine dx_gen (dh_at m c t a) (fun j => ?_) (fun j => ?_) (fun j => ?_) (fun j => ?_) (fun j k => ?_) (fun j k => ?_) (fun i j => ?_) (fun i j => ?_) (fun i j => ?_) (fun i j => ?_) (h_at m c t a) (g_at m c t) i
    all_goals pointwise
    all_goals first | exact gu_at m c t a _ | exact wd_at m c t _ _ | exact (w_at m c t _ _ _).trans (congrArg (wgu (aW m c) _) (Fin.ext (by simp)))

section Finals

variable (c : Dev nD)

set_option maxHeartbeats 1600000 in
/-- The gradient of the half-step's input. -/
theorem final6 (hH : ∀ i, IsReal (aH m c i)) (hDH : ∀ i, IsReal (aDH m c i)) (hG : ∀ i, IsReal (aG m c i)) (hW : ∀ i, IsReal (aW m c i)) (hWD : ∀ i, IsReal (aWD m c i)) :
    (dats m 0 c).arrAt 6 (cfgs 0).N = val_main_v90 (aH m c) (aDH m c) (aG m c) (aW m c) (aWD m c) := by
  refine (dats m 0 c).arrAt_eq_of_covers 6 _ (by decide +kernel) fun t _ (y : S256x1024.Idx) => ?_
  idx_vars y
  have hy : (((cfg0.win 6).blk t).view.emb (ix2 y0 y1 : S256x1024.Idx) : S16384x1024.Idx) = ix2 (row t y0) y1 := by blk_ext [idx t, row]
  refine Eq.trans ?_ ((congrArg (val_main_v90 (F := Ideal) _ _ _ _ _) hy).trans (dx_ref _ _ _ _ _ hH hDH hG hW hWD _ _)).symm
  blk_simp [idx t]
  rw [after0_6]
  exact dx_at m c t y0 y1

set_option maxHeartbeats 1600000 in
/-- The normed rows. -/
theorem final7 : (dats m 0 c).arrAt 7 (cfgs 0).N = val_main_v92 (aH m c) (aG m c) := by
  refine (dats m 0 c).arrAt_eq_of_covers 7 _ (by decide +kernel) fun t _ (y : S256x1024.Idx) => ?_
  idx_vars y
  have hy : (((cfg0.win 7).blk t).view.emb (ix2 y0 y1 : S256x1024.Idx) : S16384x1024.Idx) = ix2 (row t y0) y1 := by blk_ext [idx t, row]
  refine Eq.trans ?_ ((congrArg (val_main_v92 (F := Ideal) _ _) hy).trans (n_out _ _ _ _)).symm
  blk_simp [idx t]
  rw [after0_7]
  by_cases h0 : t.val % 64 = 0
  all_goals
    first | rw [outsAt0_A m c t h0] | rw [outsAt0_B m c t h0]
    frame_out
    pointwise [k0_pay7, k0_pay6, k0_pay5]
    simp only [h_at m c t, g_at m c t]
    rfl

set_option maxHeartbeats 1600000 in
/-- The gated rows. -/
theorem final8 : (dats m 0 c).arrAt 8 (cfgs 0).N = val_main_v93 (aH m c) (aG m c) (aW m c) := by
  refine (dats m 0 c).arrAt_eq_of_covers 8 _ (by decide +kernel) fun t _ (y : S256x2816.Idx) => ?_
  idx_vars y
  have hy : (((cfg0.win 8).blk t).view.emb (ix2 y0 y1 : S256x2816.Idx) : S16384x2816.Idx) = ix2 (row t y0) y1 := by blk_ext [idx t, row]
  refine Eq.trans ?_ ((congrArg (val_main_v93 (F := Ideal) _ _ _) hy).trans (act_ref _ _ _ _ _)).symm
  blk_simp [idx t]
  rw [after0_8]
  exact act_at m c t y0 y1

set_option maxHeartbeats 1600000 in
/-- The gradient of the hidden rows. -/
theorem final9 (hH : ∀ i, IsReal (aH m c i)) (hDH : ∀ i, IsReal (aDH m c i)) (hG : ∀ i, IsReal (aG m c i)) (hW : ∀ i, IsReal (aW m c i)) (hWD : ∀ i, IsReal (aWD m c i)) :
    (dats m 0 c).arrAt 9 (cfgs 0).N = val_main_v94 (aH m c) (aDH m c) (aG m c) (aW m c) (aWD m c) := by
  refine (dats m 0 c).arrAt_eq_of_covers 9 _ (by decide +kernel) fun t _ (y : S256x5632.Idx) => ?_
  idx_vars y
  have hy : (((cfg0.win 9).blk t).view.emb (ix2 y0 y1 : S256x5632.Idx) : S16384x5632.Idx) = ix2 (row t y0) y1 := by blk_ext [idx t, row]
  refine Eq.trans ?_ ((congrArg (val_main_v94 (F := Ideal) _ _ _ _ _) hy).trans (dhid_out _ _ _ _ _ hH hDH hG hW hWD _ _)).symm
  blk_simp [idx t]
  rw [after0_9]
  exact dgu_at m c t y0 y1

set_option maxHeartbeats 1600000 in
/-- Half the output's gradient. -/
theorem final10 : (dats m 0 c).arrAt 10 (cfgs 0).N = val_main_v97 (aDH m c) := by
  refine (dats m 0 c).arrAt_eq_of_covers 10 _ (by decide +kernel) fun t _ (y : S256x1024.Idx) => ?_
  idx_vars y
  have hy : (((cfg0.win 10).blk t).view.emb (ix2 y0 y1 : S256x1024.Idx) : S16384x1024.Idx) = ix2 (row t y0) y1 := by blk_ext [idx t, row]
  refine Eq.trans ?_ ((congrArg (val_main_v97 (F := Ideal) _) hy).trans (dh_out _ _ _)).symm
  blk_simp [idx t]
  rw [after0_10]
  by_cases h0 : t.val % 64 = 0
  all_goals
    first | rw [outsAt0_A m c t h0] | rw [outsAt0_B m c t h0]
    frame_out
    pointwise [k0_pay8]
    simp only [dh_at m c t]

/-- A sum over all rows, block by block. -/
theorem sum_rows (f : Fin 16384 → EReal) (t : Fin cfg0.N) (hf : t.val % 64 = 63) :
    ∑ s : Fin 64, ∑ a : Fin 256, f (row ⟨_, Pipeline.run_point_lt_of_flush t hf s⟩ a) = ∑ k, f k := by
  refine Fin.sum_mul_add_congr fun s k hl => congrArg f (Fin.ext ?_)
  have := lt_of_lt_of_eq t.isLt N_0
  simp only [row]
  omega

/-- One row's part of the gradient of the norm's weight. -/
def dgTerm (s : Fin 16384) (i : Fin 1024) : EReal :=
  dnrow (rowOf (aH m c) s) (gain (aG m c)) (rowOf (aDH m c) s) (wgu (aW m c)) (wdn (aWD m c)) i * (rowOf (aH m c) s i * rinv (rowOf (aH m c) s))

set_option maxHeartbeats 1600000 in
/-- The gradient of the norm's weight. -/
theorem final11 (hH : ∀ i, IsReal (aH m c i)) (hDH : ∀ i, IsReal (aDH m c i)) (hG : ∀ i, IsReal (aG m c i)) (hW : ∀ i, IsReal (aW m c i)) (hWD : ∀ i, IsReal (aWD m c i)) :
    (dats m 0 c).arrAt 11 (cfgs 0).N = val_main_v91 (aH m c) (aDH m c) (aG m c) (aW m c) (aWD m c) := by
  refine (dats m 0 c).arrAt_eq_of_covers 11 _ (by decide +kernel) fun t hf (y : S1x1024.Idx) => ?_
  have hf' := (flush0_11 t).mp hf
  have hy : (((cfg0.win 11).blk t).view.emb y : S1x1024.Idx) = ix2 0 (y 1) := by blk_ext [idx t]
  refine Eq.trans ?_ ((congrArg (val_main_v91 (F := Ideal) _ _ _ _ _) hy).trans (dg_ref _ _ _ _ _ hH hDH hG hW hWD _)).symm
  refine Eq.trans ?_ (sum_rows (fun s => dgTerm m c s (y 1)) t hf')
  blk_simp [idx t]
  rw [after0_11, Pipeline.eq_sum_fin_of_reset_step_apply_of_flush (fun n h => (outsAt0 m c n h).2.2.2.2.2) 64 (fun _ => 0)
    (fun p j => ∑ a : Fin 256, dgTerm m c (row p a) (j 1))
    (fun t h j => ?_) (fun t h j => ?_) t hf' _, zero_add]
  all_goals
    idx_vars j
    obtain rfl : j0 = 0 := Subsingleton.elim _ _
    first | rw [outsAt0_A m c t h] | rw [outsAt0_B m c t h]
    frame_out
    refine (dg_gen (g := gain (aG m c)) (w := wgu (aW m c)) (wd := wdn (aWD m c)) (fun a => dh_at m c t a) (fun a j => ?_) (fun a j => ?_) (fun a j => ?_) (fun a j => ?_) (fun j k => ?_) (fun j k => ?_) (fun i j => ?_) (fun i j => ?_) (fun i j => ?_) (fun i j => ?_)
      (fun a => h_at m c t a) _ j1).trans ?_
    all_goals
      pointwise [k0_pay4]
      first
        | exact gu_at m c t a _
        | exact wd_at m c t _ _
        | exact (w_at m c t _ _ _).trans (congrArg (wgu (aW m c) _) (Fin.ext (by simp)))
        | rfl

end Finals

end Cert.FfnBwdIdeal.Value

end
-- ==== Proof.FfnClaim.lean ====
/- The value claim of the half-step's gradient call. -/
module

public import proofs.«01_k».proof.Defs
public import proofs.«01_k».proof.Proof.FfnValue
public import proofs.«01_k».proof.Proof.Gen.FfnBwdRefIdeal.Run
public import proofs.«01_k».proof.Proof.Gen.Pre_finite_ffn
public import Idealize.ShloMosaic.Lib.Claim

@[expose] public section

set_option maxRecDepth 1000000
set_option maxHeartbeats 4000000

noncomputable section

namespace Cert.Proof

open Idealize.ShloMosaic Idealize.SL.Sem Cert.Reals

attribute [local instance] Cert.FfnBwdIdeal.Gen.facts Cert.FfnBwdRefIdeal.Gen.facts Cert.Pre_finite_ffn.Gen.facts

/-- The reference of the half-step's gradient call leaves its arguments as they were. -/
theorem frame_ffn_ref : Cert.quiescent_FfnBwdRefIdeal := fun m ρ _ =>
  (θ_run Cert.FfnBwdRefIdeal.defs _ _).mono (fun r h => ⟨fun c => (h c).2.2.2.2.2.2, sem_eq_zero_of_no_sems (by decide) r.2⟩)
    (Cert.FfnBwdRefIdeal.Value.run m ρ)

/-- The entries of the five arrays the precondition is about are real. -/
theorem finite_ffn_real (a b : FVec Ideal Cert.Pre_finite_ffn.S16384x1024 .f32) (g : FVec Ideal Cert.Pre_finite_ffn.S1x1024 .f32)
    (w : FVec Ideal Cert.Pre_finite_ffn.S1x1024x5632 .f32) (v : FVec Ideal Cert.Pre_finite_ffn.S1x2816x1024 .f32)
    (h : Cert.Pre_finite_ffn.fn (F := Ideal) a b g w v = fun _ => 1#1) :
    (∀ i, IsReal (a i)) ∧ (∀ i, IsReal (b i)) ∧ (∀ i, IsReal (g i)) ∧ (∀ i, IsReal (w i)) ∧ (∀ i, IsReal (v i)) := by
  have h' := congrFun h (fun a => a.elim0)
  obtain ⟨h4', h5⟩ := IntOp.andi_eq_one.mp h'
  obtain ⟨h3', h4⟩ := IntOp.andi_eq_one.mp h4'
  obtain ⟨h2', h3⟩ := IntOp.andi_eq_one.mp h3'
  obtain ⟨h1, h2⟩ := IntOp.andi_eq_one.mp h2'
  exact ⟨real_of_finite _ _ _ _ _ h1, real_of_finite _ _ _ _ _ h2, real_of_finite _ _ _ _ _ h3, real_of_finite _ _ _ _ _ h4, real_of_finite _ _ _ _ _ h5⟩

/-- The half-step's gradient call computes the derivative of the reference's half-step. -/
theorem algebraic_ffn : Cert.algebraic_FfnBwdIdeal_FfnBwdRefIdeal_pre_finite_ffn := by
  pair_intro
  · run_from Cert.FfnBwdIdeal.Value.run_blocks m g
  · run_from Cert.FfnBwdRefIdeal.Value.run m' g'
    all_goals obtain ⟨h0, h1, h2, h3, h4⟩ := hagree c
    all_goals obtain ⟨hH, hDH, hG, hW, hWD⟩ := finite_ffn_real _ _ _ _ _ (hpre c)
    · refine (Cert.FfnBwdRefIdeal.Read.val_main_v90_eq m' c).trans ?_
      rw [h0, h1, h2, h3, h4]
      exact (Cert.FfnBwdIdeal.Value.final6 m c hH hDH hG hW hWD).symm
    · refine (Cert.FfnBwdRefIdeal.Read.val_main_v92_eq _ _).trans ?_
      exact (Cert.FfnBwdIdeal.Value.final7 m c).symm
    · refine (Cert.FfnBwdRefIdeal.Read.val_main_v93_eq _ _ _).trans ?_
      exact (Cert.FfnBwdIdeal.Value.final8 m c).symm
    · refine (Cert.FfnBwdRefIdeal.Read.val_main_v94_eq m' c).trans ?_
      rw [h0, h1, h2, h3, h4]
      exact (Cert.FfnBwdIdeal.Value.final9 m c hH hDH hG hW hWD).symm
    · refine (Cert.FfnBwdRefIdeal.Read.val_main_v97_eq _).trans ?_
      exact (Cert.FfnBwdIdeal.Value.final10 m c).symm
    · refine (Cert.FfnBwdRefIdeal.Read.val_main_v91_eq m' c).trans ?_
      rw [h0, h1, h2, h3, h4]
      exact (Cert.FfnBwdIdeal.Value.final11 m c hH hDH hG hW hWD).symm

end Cert.Proof

end
-- ==== Proof.LossRef.lean ====
/- The reference of the loss and its gradient, read at an index. -/
module

public import proofs.«01_k».proof.Proof.Gen.FfnLossRefIdeal.Read
public import proofs.«01_k».proof.Proof.Swiglu
public import Idealize.ShloMosaic.Lib.Claim

@[expose] public section

set_option maxRecDepth 16384

noncomputable section

open Idealize.ShloMosaic Idealize.ShloMosaic.TcCoe Idealize.SL.Sem Cert.Reals Cert.Attention Cert.Swiglu

namespace Cert.FfnLossRefIdeal.Read

open Cert.FfnLossRefIdeal

/-- A row of an array of rows. -/
def rowOf (H : FVec Ideal S16384x1024 .f32) (s : Fin 16384) (i : Fin 1024) : EReal := H (ix2 s i)
/-- The norm's weight. -/
def gain (G : FVec Ideal S1x1024 .f32) (i : Fin 1024) : EReal := G (ix2 0 i)
/-- The first weight without its layer axis. -/
def wgu (W : FVec Ideal S1x1024x5632 .f32) (i : Fin 1024) (c : Fin 5632) : EReal := W (ix3 0 i c)
/-- The second weight without its layer axis. -/
def wdn (W : FVec Ideal S1x2816x1024 .f32) (j : Fin 2816) (k : Fin 1024) : EReal := W (ix3 0 j k)

/-- The final norm's weight. -/
def fin (F : FVec Ideal S1024 .f32) (i : Fin 1024) : EReal := F (ix1 i)

section

variable (H : FVec Ideal S16384x1024 .f32) (G : FVec Ideal S1x1024 .f32) (W : FVec Ideal S1x1024x5632 .f32) (WD : FVec Ideal S1x2816x1024 .f32)
variable (GF : FVec Ideal S1024 .f32) (T : FVec Ideal S16384x1024 .f32)

theorem rinv_ref (s : Fin 16384) : val_main_v8 (F := Ideal) H (ix2 s 0) = rinv (rowOf H s) := by
  pointwise [val_main_v1, val_main_cst, val_main_v2, val_main_v3, val_main_cst_0, val_main_v4, val_main_v5, val_main_cst_1, val_main_v6, val_main_v7, val_main_v8]
  rfl

theorem n_ref (s : Fin 16384) (i : Fin 1024) : val_main_v13 (F := Ideal) H G (ix2 s i) = nrow (rowOf H s) (gain G) i := by
  pointwise [val_main_v0, val_main_v9, val_main_v10, val_main_v11, val_main_v12, val_main_v13]
  simp only [rinv_ref]
  rfl

theorem hid_ref (s : Fin 16384) (c : Fin 5632) : val_main_v15 (F := Ideal) H G W (ix2 s c) = hid (rowOf H s) (gain G) (wgu W) c := by
  pointwise [val_main_v15, val_main_v14]
  simp only [n_ref]
  rfl

/-- The hidden rows, as the result holds them. -/
theorem hid_out (s : Fin 16384) (c : Fin 5632) : val_main_v92 (F := Ideal) H G W (ix2 s c) = hid (rowOf H s) (gain G) (wgu W) c := by
  pointwise [val_main_v92]
  exact hid_ref H G W s c

theorem gate_ref (s : Fin 16384) (j : Fin 2816) : val_main_v16 (F := Ideal) H G W (ix2 s j) = gate (rowOf H s) (gain G) (wgu W) j := by
  pointwise [val_main_v16]
  exact hid_ref H G W s _

theorem up_ref (s : Fin 16384) (j : Fin 2816) : val_main_v17 (F := Ideal) H G W (ix2 s j) = up (rowOf H s) (gain G) (wgu W) j := by
  pointwise [val_main_v17]
  exact hid_ref H G W s _

theorem act_ref (s : Fin 16384) (j : Fin 2816) : val_main_v19 (F := Ideal) H G W (ix2 s j) = act (rowOf H s) (gain G) (wgu W) j := by
  pointwise [val_main_call0_v0, val_main_call0_v1, val_main_call0_cst, val_main_call0_v2, val_main_call0_v3, val_main_call0_cst_0, val_main_call0_v4, val_main_call0_v5, val_main_v18, val_main_v19]
  simp only [gate_ref, up_ref]
  rfl

/-- The half-step's output. -/
theorem out_ref (s : Fin 16384) (i : Fin 1024) : val_main_v24 (F := Ideal) H G W WD (ix2 s i) = outrow (rowOf H s) (gain G) (wgu W) (wdn WD) i := by
  pointwise [val_main_v20, val_main_v21, val_main_cst_2, val_main_v22, val_main_v23, val_main_v24]
  simp only [act_ref]
  rfl

/-- The final norm's reciprocal. -/
theorem rf_ref (s : Fin 16384) : val_main_v32 (F := Ideal) H G W WD (ix2 s 0) = rinv (outrow (rowOf H s) (gain G) (wgu W) (wdn WD)) := by
  pointwise [val_main_v25, val_main_cst_3, val_main_v26, val_main_v27, val_main_cst_4, val_main_v28, val_main_v29, val_main_cst_5, val_main_v30, val_main_v31, val_main_v32]
  simp only [out_ref]
  rfl

theorem rf_ref' (s : Fin 16384) : val_main_v83 (F := Ideal) H G W WD (ix2 s 0) = rinv (outrow (rowOf H s) (gain G) (wgu W) (wdn WD)) := rf_ref H G W WD s

theorem err_ref (s : Fin 16384) (i : Fin 1024) : val_main_v41 (F := Ideal) H G W WD GF T (ix2 s i) = err (rowOf H s) (gain G) (wgu W) (wdn WD) (fin GF) (rowOf T s) i := by
  pointwise [val_main_v36, val_main_v37, val_main_v38, val_main_v39, val_main_v40, val_main_v41]
  simp only [out_ref, rf_ref]
  rfl

theorem err_ref' (s : Fin 16384) (i : Fin 1024) : val_main_v89 (F := Ideal) H G W WD GF T (ix2 s i) = err (rowOf H s) (gain G) (wgu W) (wdn WD) (fin GF) (rowOf T s) i := by
  pointwise [val_main_v84, val_main_v85, val_main_v86, val_main_v87, val_main_v88, val_main_v89]
  simp only [out_ref, rf_ref']
  rfl

/-- The squared errors, summed over the rows. -/
theorem lanes_ref (i : Fin 1024) : val_main_v93 (F := Ideal) H G W WD GF T (ix2 0 i)
    = ∑ s : Fin 16384, err (rowOf H s) (gain G) (wgu W) (wdn WD) (fin GF) (rowOf T s) i * err (rowOf H s) (gain G) (wgu W) (wdn WD) (fin GF) (rowOf T s) i := by
  pointwise [val_main_v90, val_main_cst_23, val_main_v91, val_main_v93]
  simp only [err_ref']

/-- The gradient of the final norm's output. -/
theorem dy_ref (s : Fin 16384) (i : Fin 1024) : val_main_v55 (F := Ideal) H G W WD GF T (ix2 s i)
    = err (rowOf H s) (gain G) (wgu W) (wdn WD) (fin GF) (rowOf T s) i * Ideal.ofBits .f32 0x3A800000#32 := by
  refine Eq.trans ?_ (half_grad _)
  pointwise [val_main_cst_7, val_main_v43, val_main_v44, val_main_cst_12, val_main_cst_13, val_main_v50, val_main_v51, val_main_cst_14, val_main_v52, val_main_v53, val_main_v54, val_main_v55]
  simp only [err_ref]

/-- The gradient of the final norm's weight. -/
theorem dg_ref (i : Fin 1024) : val_main_v94 (F := Ideal) H G W WD GF T (ix2 0 i)
    = ∑ s : Fin 16384, err (rowOf H s) (gain G) (wgu W) (wdn WD) (fin GF) (rowOf T s) i * Ideal.ofBits .f32 0x3A800000#32
      * (outrow (rowOf H s) (gain G) (wgu W) (wdn WD) i * rinv (outrow (rowOf H s) (gain G) (wgu W) (wdn WD))) := by
  pointwise [val_main_v36, val_main_v37, val_main_v56, val_main_cst_15, val_main_v57, val_main_v58, val_main_cst_16, val_main_v61, val_main_v94]
  simp only [Finset.univ_unique, Finset.sum_singleton, dy_ref, out_ref, rf_ref]
  exact Finset.sum_congr rfl fun s _ => mul_comm _ _

variable (hH : ∀ i, IsReal (H i)) (hG : ∀ i, IsReal (G i)) (hW : ∀ i, IsReal (W i)) (hWD : ∀ i, IsReal (WD i)) (hGF : ∀ i, IsReal (GF i)) (hT : ∀ i, IsReal (T i))

include hH hG hW hWD hGF hT

set_option maxRecDepth 1000000 in
/-- The gradient of the half-step's output, in the kernel's closed form. -/
theorem dh_ref (s : Fin 16384) (i : Fin 1024) : val_main_v75 (F := Ideal) H G W WD GF T (ix2 s i)
    = rinv (outrow (rowOf H s) (gain G) (wgu W) (wdn WD)) * (err (rowOf H s) (gain G) (wgu W) (wdn WD) (fin GF) (rowOf T s) i * Ideal.ofBits .f32 0x3A800000#32 * fin GF i
      - outrow (rowOf H s) (gain G) (wgu W) (wdn WD) i * rinv (outrow (rowOf H s) (gain G) (wgu W) (wdn WD))
        * Ideal.div (∑ k, err (rowOf H s) (gain G) (wgu W) (wdn WD) (fin GF) (rowOf T s) k * Ideal.ofBits .f32 0x3A800000#32 * fin GF k
          * (outrow (rowOf H s) (gain G) (wgu W) (wdn WD) k * rinv (outrow (rowOf H s) (gain G) (wgu W) (wdn WD)))) (Ideal.ofBits .f32 0x44800000#32)) := by
  have hc : IsReal (Ideal.ofBits .f32 0x3A800000#32) := ⟨1 / 1024, by simp [Ideal.ofBits, Ideal.ieee, -EReal.coe_mul]; norm_num⟩
  have ho : ∀ i, IsReal (outrow (rowOf H s) (gain G) (wgu W) (wdn WD) i) := real_outrow (fun _ => hH _) (fun _ => hG _) (fun _ _ => hW _) (fun _ _ => hWD _)
  have e := rms_grad (outrow (rowOf H s) (gain G) (wgu W) (wdn WD))
    (fun k => err (rowOf H s) (gain G) (wgu W) (wdn WD) (fin GF) (rowOf T s) k * Ideal.ofBits .f32 0x3A800000#32 * fin GF k) 0 ho
    (fun k => ((((real_nrow ho (fun _ => hGF _) k).sub (hT _)).mul hc).mul (hGF _))) i rfl rfl
  rw [zero_add, zero_add] at e
  refine Eq.trans ?_ e.symm
  pointwise [val_main_v25, val_main_cst_3, val_main_v26, val_main_v27, val_main_cst_4, val_main_v28, val_main_v29, val_main_cst_5, val_main_v30, val_main_v31, val_main_v33, val_main_cst_6, val_main_v34, val_main_v35, val_main_v38, val_main_v59, val_main_v60, val_main_v62, val_main_cst_17, val_main_v63, val_main_v64, val_main_v65, val_main_v66, val_main_v67, val_main_cst_18, val_main_v68, val_main_v69, val_main_cst_19, val_main_v70, val_main_v71, val_main_v72, val_main_v73, val_main_v74, val_main_v75]
  simp only [Finset.univ_unique, Finset.sum_singleton, Fin.default_eq_zero, dy_ref, out_ref, rf_ref, fin, rinv]

end

end Cert.FfnLossRefIdeal.Read

end
-- ==== Proof.LossValue.lean ====
/- The value of the loss call. -/
module

public import proofs.«01_k».proof.Proof.Gen.FfnLossIdeal.Value
public import proofs.«01_k».proof.Proof.LossRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem Cert.Reals Cert.Attention Cert.Swiglu
open Idealize.ShloMosaic.Pipeline (Dat)

namespace Cert.FfnLossIdeal.Value

open Cert.FfnLossIdeal Cert.FfnLossIdeal.Gen Cert.FfnLossRefIdeal.Read

variable (m : (ℓ : Loc nD τ sig) → Buf (Elt Ideal) ℓ)

/-- Block `t` of the rows is rows `512 t` to `512 t + 511`; every other window is its whole array. -/
theorem idx : ∀ t : Fin cfg0.N, win0_0.index t = ![t.val, 0] ∧ win0_1.index t = ![0, 0] ∧ win0_2.index t = ![0, 0, 0] ∧ win0_3.index t = ![0, 0] ∧ win0_4.index t = ![0, 0] ∧ win0_5.index t = ![t.val, 0] ∧ win0_6.index t = ![t.val, 0] ∧ win0_7.index t = ![t.val, 0] ∧ win0_8.index t = ![0, 0] ∧ win0_9.index t = ![0, 0] :=
  (by decide +kernel : ∀ t : Fin grid0.N, _)

/-- Row `a` of block `t` among all the rows. -/
def row (t : Fin cfg0.N) (a : Fin 512) : Fin 16384 := ⟨t.val * 512 + a.val, by have := lt_of_lt_of_eq t.isLt N_0; omega⟩

section

variable (c : Dev nD)

/-- The arguments, as the reference takes them. -/
def aH : FVec Ideal S16384x1024 .f32 := m ((c : Thread nD τ).loc main_arg0)
def aG : FVec Ideal S1x1024 .f32 := m ((c : Thread nD τ).loc main_arg1)
def aW : FVec Ideal S1x1024x5632 .f32 := m ((c : Thread nD τ).loc main_arg2)
def aWD : FVec Ideal S1x2816x1024 .f32 := m ((c : Thread nD τ).loc main_arg3)
def aGF : FVec Ideal S1024 .f32 := m ((c : Thread nD τ).loc main_arg4)
def aT : FVec Ideal S16384x1024 .f32 := m ((c : Thread nD τ).loc main_arg5)

end

theorem h_at (c : Dev nD) (t : Fin cfg0.N) (a : Fin 512) (k : Fin 1024) :
    (show FVec Ideal S512x1024 .f32 from iblk m c 0 t) (ix2 a k) = rowOf (aH m c) (row t a) k := by
  simp only [rowOf, aH]
  blk_point [iblk, V, idx t, row]

theorem g_at (c : Dev nD) (t : Fin cfg0.N) (k : Fin 1024) :
    (show FVec Ideal S1x1024 .f32 from iblk m c 1 t) (ix2 0 k) = gain (aG m c) k := by
  simp only [gain, aG]
  blk_point [iblk, V, idx t]

/-- Shard `q` of the first weight holds its columns `1408 q` to `1408 q + 1407`. -/
theorem w_at (c : Dev nD) (t : Fin cfg0.N) (q : Fin 4) (i : Fin 1024) (k : Fin 1408) :
    (show FVec Ideal S4x1024x1408 .bf16 from iblk m c 2 t) (ix3 q i k) = wgu (aW m c) i ⟨q.val * 1408 + k.val, by omega⟩ := by
  simp only [wgu, aW]
  blk_simp [iblk, idx t]
  entry_read
  pointwise
  blk_ext [idx t]

theorem wd_at (c : Dev nD) (t : Fin cfg0.N) (j : Fin 2816) (k : Fin 1024) :
    (show FVec Ideal S2816x1024 .bf16 from iblk m c 3 t) (ix2 j k) = wdn (aWD m c) j k := by
  simp only [wdn, aWD]
  blk_simp [iblk, idx t]
  entry_read
  pointwise
  blk_ext [idx t]

theorem gf_at (c : Dev nD) (t : Fin cfg0.N) (k : Fin 1024) :
    (show FVec Ideal S1x1024 .f32 from iblk m c 4 t) (ix2 0 k) = Cert.FfnLossRefIdeal.Read.fin (aGF m c) k := by
  simp only [Cert.FfnLossRefIdeal.Read.fin, aGF]
  blk_simp [iblk, idx t]
  entry_read
  pointwise
  blk_ext [idx t]

theorem t_at (c : Dev nD) (t : Fin cfg0.N) (a : Fin 512) (k : Fin 1024) :
    (show FVec Ideal S512x1024 .f32 from iblk m c 5 t) (ix2 a k) = rowOf (aT m c) (row t a) k := by
  simp only [rowOf, aT]
  blk_point [iblk, V, idx t, row]

/-! The body's terms at a row, from what their blocks hold there. -/

section

variable {x g f u : Fin 1024 → EReal} {w : Fin 1024 → Fin 5632 → EReal} {wd : Fin 2816 → Fin 1024 → EReal} {a : Fin 512}
variable {H : FVec Ideal S512x1024 .f32} (hH : ∀ k, H (ix2 a k) = x k) {N : FVec Ideal S1x1024 .f32} (hN : ∀ k, N (ix2 0 k) = g k)
variable {A0 A1 : FVec Ideal S1408x1024 .bf16} {W0 W1 W2 W3 : FVec Ideal S1x1024x1408 .bf16}
variable (hA0 : ∀ (j : Fin 1408) k, A0 (ix2 j k) = wd ⟨j.val, by omega⟩ k) (hA1 : ∀ (j : Fin 1408) k, A1 (ix2 j k) = wd ⟨1408 + j.val, by omega⟩ k)
variable (hW0 : ∀ i (j : Fin 1408), W0 (ix3 0 i j) = w i ⟨j.val, by omega⟩) (hW1 : ∀ i (j : Fin 1408), W1 (ix3 0 i j) = w i ⟨1408 + j.val, by omega⟩)
variable (hW2 : ∀ i (j : Fin 1408), W2 (ix3 0 i j) = w i ⟨2816 + j.val, by omega⟩) (hW3 : ∀ i (j : Fin 1408), W3 (ix3 0 i j) = w i ⟨4224 + j.val, by omega⟩)

include hH hN in
theorem n_gen (i : Fin 1024) : k0_pay4 (F := Ideal) H N (ix2 a i) = nrow x g i := by
  pointwise [k0_pay4]
  simp only [hH, hN]
  rfl

include hH hN hW0 in
theorem g0_gen (j : Fin 1408) : k0_pay6 (F := Ideal) H N W0 (ix2 a j) = hid x g w ⟨j.val, by omega⟩ := by
  pointwise [k0_pay6]
  simp only [n_gen hH hN, hW0]
  rfl

include hH hN hW2 in
theorem u0_gen (j : Fin 1408) : k0_pay7 (F := Ideal) H N W2 (ix2 a j) = hid x g w ⟨2816 + j.val, by omega⟩ := by
  pointwise [k0_pay7]
  simp only [n_gen hH hN, hW2]
  rfl

include hH hN hW1 in
theorem g1_gen (j : Fin 1408) : k0_pay11 (F := Ideal) (k0_pay4 H N) W1 (ix2 a j) = hid x g w ⟨1408 + j.val, by omega⟩ := by
  pointwise [k0_pay11]
  simp only [n_gen hH hN, hW1]
  rfl

include hH hN hW3 in
theorem u1_gen (j : Fin 1408) : k0_pay12 (F := Ideal) (k0_pay4 H N) W3 (ix2 a j) = hid x g w ⟨4224 + j.val, by omega⟩ := by
  pointwise [k0_pay12]
  simp only [n_gen hH hN, hW3]
  rfl

include hH hN hW0 in
theorem g0_out (j : Fin 1408) : k0_pay8 (F := Ideal) H N W0 (ix2 a j) = hid x g w ⟨j.val, by omega⟩ := by
  pointwise [k0_pay8]
  exact g0_gen hH hN hW0 j

include hH hN hW2 in
theorem u0_out (j : Fin 1408) : k0_pay9 (F := Ideal) H N W2 (ix2 a j) = hid x g w ⟨2816 + j.val, by omega⟩ := by
  pointwise [k0_pay9]
  exact u0_gen hH hN hW2 j

include hH hN hW1 in
theorem g1_out (j : Fin 1408) : k0_pay13 (F := Ideal) (k0_pay4 H N) W1 (ix2 a j) = hid x g w ⟨1408 + j.val, by omega⟩ := by
  pointwise [k0_pay13]
  exact g1_gen hH hN hW1 j

include hH hN hW3 in
theorem u1_out (j : Fin 1408) : k0_pay14 (F := Ideal) (k0_pay4 H N) W3 (ix2 a j) = hid x g w ⟨4224 + j.val, by omega⟩ := by
  pointwise [k0_pay14]
  exact u1_gen hH hN hW3 j

include hH in
/-- The half-step's output row, from the product. -/
theorem out_of {Q : FVec Ideal S512x1024 .f32} (hQ : ∀ i, Q (ix2 a i) = ∑ j, act x g w j * wd j i) (i : Fin 1024) :
    k0_pay16 (F := Ideal) H Q (Scalar.ofBits .f32 0x3F000000#32) (ix2 a i) = outrow x g w wd i := by
  pointwise [k0_pay16]
  simp only [hQ, hH]
  rfl

/-- The last quarter's columns are the second half of the half's. -/
theorem up_hi (j : Fin 1408) : hid x g w ⟨4224 + j.val, by omega⟩ = up x g w ⟨1408 + j.val, by omega⟩ :=
  congrArg (hid x g w) (Fin.ext (by simp; omega))

include hH hN hA0 hA1 hW0 hW1 hW2 hW3

/-- The gated row times the second weight, half by half. -/
theorem dot_gen (i : Fin 1024) : k0_pay15 (F := Ideal) (k0_pay4 H N) k0_pay5 (k0_pay6 H N W0) (k0_pay7 H N W2) (k0_pay10 H N W0) (Scalar.ofBits .f32 0x3F800000#32) A0 W1 W3 A1 (ix2 a i)
    = ∑ j, act x g w j * wd j i := by
  refine Eq.trans ?_ (Fin.sum_univ_two_halves 1408 1408 rfl _).symm
  pointwise [k0_pay15, k0_pay10, k0_pay5]
  simp only [g0_gen hH hN hW0, u0_gen hH hN hW2, g1_gen hH hN hW1, u1_gen hH hN hW3, hA0, hA1, zero_sub, zero_add, up_hi]
  rfl

/-- The half-step's output row. -/
theorem out_gen (i : Fin 1024) : k0_pay16 (F := Ideal) H (k0_pay15 (F := Ideal) (k0_pay4 H N) k0_pay5 (k0_pay6 H N W0) (k0_pay7 H N W2) (k0_pay10 H N W0) (Scalar.ofBits .f32 0x3F800000#32) A0 W1 W3 A1) (Scalar.ofBits .f32 0x3F000000#32) (ix2 a i)
    = outrow x g w wd i := out_of hH (dot_gen hH hN hA0 hA1 hW0 hW1 hW2 hW3) i

end

/-! The loss's terms at a row, from the output row. -/

section

variable {o x f u : Fin 1024 → EReal} {a : Fin 512} {cst : Ideal .f32} {H Q U : FVec Ideal S512x1024 .f32} {E : FVec Ideal S1x1024 .f32}
variable (hQ : ∀ i, k0_pay16 (F := Ideal) H Q cst (ix2 a i) = o i) (hE : ∀ k, E (ix2 0 k) = f k) (hU : ∀ k, U (ix2 a k) = u k)

include hQ

theorem r_gen : k0_pay17 (F := Ideal) H Q cst (ix2 a 0) = rinv o := by
  pointwise [k0_pay17]
  simp only [hQ]
  rfl

theorem y_gen (i : Fin 1024) : k0_pay18 (F := Ideal) H Q cst (ix2 a i) = o i * rinv o := by
  pointwise [k0_pay18]
  simp only [hQ, r_gen hQ]

include hE hU

theorem e_gen (i : Fin 1024) : k0_pay20 (F := Ideal) H Q cst E U (ix2 a i) = nrow o f i - u i := by
  pointwise [k0_pay20, k0_pay19]
  simp only [y_gen hQ, hE, hU]
  rfl

theorem d_gen (i : Fin 1024) : k0_pay22 (F := Ideal) H Q cst E U (ix2 a i) = (nrow o f i - u i) * Ideal.ofBits .f32 0x3A800000#32 := by
  pointwise [k0_pay22]
  simp only [e_gen hQ hE hU]

theorem dh_gen (i : Fin 1024) : k0_pay1 (F := Ideal) (k0_pay17 H Q cst) (k0_pay18 H Q cst) (k0_pay24 H Q cst E U) (k0_pay25 H Q cst E U) (ix2 a i)
    = rinv o * ((nrow o f i - u i) * Ideal.ofBits .f32 0x3A800000#32 * f i - o i * rinv o
      * Ideal.div (∑ k, (nrow o f k - u k) * Ideal.ofBits .f32 0x3A800000#32 * f k * (o k * rinv o)) (Ideal.ofBits .f32 0x44800000#32)) := by
  pointwise [k0_pay1, k0_pay24, k0_pay25, k0_pay19]
  simp only [d_gen hQ hE hU, y_gen hQ, r_gen hQ, hE]

end

section

variable {o u : Fin 512 → Fin 1024 → EReal} {f : Fin 1024 → EReal} {cst : Ideal .f32} {H Q U : FVec Ideal S512x1024 .f32} {E : FVec Ideal S1x1024 .f32} (P : FVec Ideal S1x1024 .f32)
variable (hQ : ∀ a i, k0_pay16 (F := Ideal) H Q cst (ix2 a i) = o a i) (hE : ∀ k, E (ix2 0 k) = f k) (hU : ∀ a k, U (ix2 a k) = u a k)

include hQ hE hU

theorem lanes_gen (i : Fin 1024) : k0_pay21 (F := Ideal) H Q cst E U P (ix2 0 i) = P (ix2 0 i) + ∑ a, (nrow (o a) f i - u a i) * (nrow (o a) f i - u a i) := by
  pointwise [k0_pay21]
  simp only [fun a => e_gen (hQ a) hE (hU a)]

theorem dgf_gen (i : Fin 1024) : k0_pay23 (F := Ideal) H Q cst E U P (ix2 0 i)
    = P (ix2 0 i) + ∑ a, (nrow (o a) f i - u a i) * Ideal.ofBits .f32 0x3A800000#32 * (o a i * rinv (o a)) := by
  pointwise [k0_pay23]
  simp only [fun a => d_gen (hQ a) hE (hU a), fun a => y_gen (hQ a)]

end

set_option maxHeartbeats 1600000 in
/-- The hidden rows, whole block. -/
theorem gu_at (c : Dev nD) (t : Fin cfg0.N) (a : Fin 512) (i : Fin 5632) :
    (outsAt0 m c t.val t.isLt).2.1 (ix2 a i) = hid (rowOf (aH m c) (row t a)) (gain (aG m c)) (wgu (aW m c)) i := by
  by_cases h0 : t.val % 32 = 0
  all_goals
    first | rw [outsAt0_A m c t h0] | rw [outsAt0_B m c t h0]
    frame_out
    canon_tiles x q
    case piece0 =>
      idx_vars x
      obtain rfl : a = x0 := Fin.ext q0
      rw [show i = ⟨4224 + x1.val, by omega⟩ from Fin.ext q1]
      refine u1_out (h_at m c t a) (g_at m c t) (fun i j => ?_) x1
      pointwise
      exact (w_at m c t _ _ _).trans (congrArg (wgu (aW m c) _) (Fin.ext (by simp)))
    case piece1 =>
      idx_vars x
      obtain rfl : a = x0 := Fin.ext q0
      rw [show i = ⟨1408 + x1.val, by omega⟩ from Fin.ext q1]
      refine g1_out (h_at m c t a) (g_at m c t) (fun i j => ?_) x1
      pointwise
      exact (w_at m c t _ _ _).trans (congrArg (wgu (aW m c) _) (Fin.ext (by simp)))
    case piece2 =>
      idx_vars x
      obtain rfl : a = x0 := Fin.ext q0
      rw [show i = ⟨2816 + x1.val, by omega⟩ from Fin.ext q1]
      refine u0_out (h_at m c t a) (g_at m c t) (fun i j => ?_) x1
      pointwise
      exact (w_at m c t _ _ _).trans (congrArg (wgu (aW m c) _) (Fin.ext (by simp)))
    case piece3 =>
      idx_vars x
      obtain rfl : a = x0 := Fin.ext q0
      rw [show i = ⟨x1.val, by omega⟩ from Fin.ext (by simpa using q1)]
      refine g0_out (h_at m c t a) (g_at m c t) (fun i j => ?_) x1
      pointwise
      exact (w_at m c t _ _ _).trans (congrArg (wgu (aW m c) _) (Fin.ext (by simp)))

section Finals

variable (c : Dev nD)

/-- The output row of a block's row. -/
def oRow (s : Fin 16384) : Fin 1024 → EReal := outrow (rowOf (aH m c) s) (gain (aG m c)) (wgu (aW m c)) (wdn (aWD m c))

set_option maxHeartbeats 1600000 in
/-- The gradient of the half-step's output. -/
theorem final6 (hH : ∀ i, IsReal (aH m c i)) (hG : ∀ i, IsReal (aG m c i)) (hW : ∀ i, IsReal (aW m c i)) (hWD : ∀ i, IsReal (aWD m c i)) (hGF : ∀ i, IsReal (aGF m c i)) (hT : ∀ i, IsReal (aT m c i)) :
    (dats m 0 c).arrAt 6 (cfgs 0).N = val_main_v75 (aH m c) (aG m c) (aW m c) (aWD m c) (aGF m c) (aT m c) := by
  refine (dats m 0 c).arrAt_eq_of_covers 6 _ (by decide +kernel) fun t _ (y : S512x1024.Idx) => ?_
  idx_vars y
  have hy : (((cfg0.win 6).blk t).view.emb (ix2 y0 y1 : S512x1024.Idx) : S16384x1024.Idx) = ix2 (row t y0) y1 := by blk_ext [idx t, row]
  refine Eq.trans ?_ ((congrArg (val_main_v75 (F := Ideal) _ _ _ _ _ _) hy).trans (dh_ref _ _ _ _ _ _ hH hG hW hWD hGF hT _ _)).symm
  blk_simp [idx t]
  rw [after0_6]
  by_cases h0 : t.val % 32 = 0
  all_goals
    first | rw [outsAt0_A m c t h0] | rw [outsAt0_B m c t h0]
    frame_out
    refine dh_gen (o := oRow m c (row t y0)) (fun i => ?_) (gf_at m c t) (t_at m c t y0) y1
    refine out_gen (h_at m c t y0) (g_at m c t) (fun j k => ?_) (fun j k => ?_) (fun i j => ?_) (fun i j => ?_) (fun i j => ?_) (fun i j => ?_) i
    all_goals pointwise
    all_goals first | exact wd_at m c t _ _ | exact (w_at m c t _ _ _).trans (congrArg (wgu (aW m c) _) (Fin.ext (by simp)))

set_option maxHeartbeats 1600000 in
/-- The hidden rows. -/
theorem final7 : (dats m 0 c).arrAt 7 (cfgs 0).N = val_main_v92 (aH m c) (aG m c) (aW m c) := by
  refine (dats m 0 c).arrAt_eq_of_covers 7 _ (by decide +kernel) fun t _ (y : S512x5632.Idx) => ?_
  idx_vars y
  have hy : (((cfg0.win 7).blk t).view.emb (ix2 y0 y1 : S512x5632.Idx) : S16384x5632.Idx) = ix2 (row t y0) y1 := by blk_ext [idx t, row]
  refine Eq.trans ?_ ((congrArg (val_main_v92 (F := Ideal) _ _ _) hy).trans (hid_out _ _ _ _ _)).symm
  blk_simp [idx t]
  rw [after0_7]
  exact gu_at m c t y0 y1

/-- A sum over all rows, block by block. -/
theorem sum_rows (f : Fin 16384 → EReal) (t : Fin cfg0.N) (hf : t.val % 32 = 31) :
    ∑ s : Fin 32, ∑ a : Fin 512, f (row ⟨_, Pipeline.run_point_lt_of_flush t hf s⟩ a) = ∑ k, f k := by
  refine Fin.sum_mul_add_congr fun s k hl => congrArg f (Fin.ext ?_)
  have := lt_of_lt_of_eq t.isLt N_0
  simp only [row]
  omega

/-- One row's error. -/
def eRow (s : Fin 16384) (i : Fin 1024) : EReal := nrow (oRow m c s) (Cert.FfnLossRefIdeal.Read.fin (aGF m c)) i - rowOf (aT m c) s i

/-- One row's squared error. -/
def lTerm (s : Fin 16384) (i : Fin 1024) : EReal := eRow m c s i * eRow m c s i

/-- One row's part of the gradient of the final norm's weight. -/
def gTerm (s : Fin 16384) (i : Fin 1024) : EReal := eRow m c s i * Ideal.ofBits .f32 0x3A800000#32 * (oRow m c s i * rinv (oRow m c s))

set_option maxHeartbeats 1600000 in
/-- The squared errors, summed over the rows. -/
theorem final8 : (dats m 0 c).arrAt 8 (cfgs 0).N = val_main_v93 (aH m c) (aG m c) (aW m c) (aWD m c) (aGF m c) (aT m c) := by
  refine (dats m 0 c).arrAt_eq_of_covers 8 _ (by decide +kernel) fun t hf (y : S1x1024.Idx) => ?_
  have hf' := (flush0_8 t).mp hf
  have hy : (((cfg0.win 8).blk t).view.emb y : S1x1024.Idx) = ix2 0 (y 1) := by blk_ext [idx t]
  refine Eq.trans ?_ ((congrArg (val_main_v93 (F := Ideal) _ _ _ _ _ _) hy).trans (lanes_ref _ _ _ _ _ _ _)).symm
  refine Eq.trans ?_ (sum_rows (fun s => lTerm m c s (y 1)) t hf')
  blk_simp [idx t]
  rw [after0_8, Pipeline.eq_sum_fin_of_reset_step_apply_of_flush (fun n h => (outsAt0 m c n h).2.2.1) 32 (fun _ => 0)
    (fun p j => ∑ a : Fin 512, lTerm m c (row p a) (j 1))
    (fun t h j => ?_) (fun t h j => ?_) t hf' _, zero_add]
  all_goals
    idx_vars j
    obtain rfl : j0 = 0 := Subsingleton.elim _ _
    first | rw [outsAt0_A m c t h] | rw [outsAt0_B m c t h]
    frame_out
    refine (lanes_gen _ (o := fun a => oRow m c (row t a)) (fun a i => ?_) (gf_at m c t) (fun a => t_at m c t a) j1).trans ?_
    · refine out_gen (h_at m c t a) (g_at m c t) (fun j k => ?_) (fun j k => ?_) (fun i j => ?_) (fun i j => ?_) (fun i j => ?_) (fun i j => ?_) i
      all_goals pointwise
      all_goals first | exact wd_at m c t _ _ | exact (w_at m c t _ _ _).trans (congrArg (wgu (aW m c) _) (Fin.ext (by simp)))
    · pointwise [k0_pay2, k0_pay3]
      rfl

set_option maxHeartbeats 1600000 in
/-- The gradient of the final norm's weight. -/
theorem final9 : (dats m 0 c).arrAt 9 (cfgs 0).N = val_main_v94 (aH m c) (aG m c) (aW m c) (aWD m c) (aGF m c) (aT m c) := by
  refine (dats m 0 c).arrAt_eq_of_covers 9 _ (by decide +kernel) fun t hf (y : S1x1024.Idx) => ?_
  have hf' := (flush0_9 t).mp hf
  have hy : (((cfg0.win 9).blk t).view.emb y : S1x1024.Idx) = ix2 0 (y 1) := by blk_ext [idx t]
  refine Eq.trans ?_ ((congrArg (val_main_v94 (F := Ideal) _ _ _ _ _ _) hy).trans (dg_ref _ _ _ _ _ _ _)).symm
  refine Eq.trans ?_ (sum_rows (fun s => gTerm m c s (y 1)) t hf')
  blk_simp [idx t]
  rw [after0_9, Pipeline.eq_sum_fin_of_reset_step_apply_of_flush (fun n h => (outsAt0 m c n h).2.2.2) 32 (fun _ => 0)
    (fun p j => ∑ a : Fin 512, gTerm m c (row p a) (j 1))
    (fun t h j => ?_) (fun t h j => ?_) t hf' _, zero_add]
  all_goals
    idx_vars j
    obtain rfl : j0 = 0 := Subsingleton.elim _ _
    first | rw [outsAt0_A m c t h] | rw [outsAt0_B m c t h]
    frame_out
    refine (dgf_gen _ (o := fun a => oRow m c (row t a)) (fun a i => ?_) (gf_at m c t) (fun a => t_at m c t a) j1).trans ?_
    · refine out_gen (h_at m c t a) (g_at m c t) (fun j k => ?_) (fun j k => ?_) (fun i j => ?_) (fun i j => ?_) (fun i j => ?_) (fun i j => ?_) i
      all_goals pointwise
      all_goals first | exact wd_at m c t _ _ | exact (w_at m c t _ _ _).trans (congrArg (wgu (aW m c) _) (Fin.ext (by simp)))
    · pointwise [k0_pay2, k0_pay3]
      rfl

end Finals

end Cert.FfnLossIdeal.Value

end
-- ==== Proof.LossClaim.lean ====
/- The value claim of the loss call. -/
module

public import proofs.«01_k».proof.Defs
public import proofs.«01_k».proof.Proof.LossValue
public import proofs.«01_k».proof.Proof.Gen.FfnLossRefIdeal.Run
public import proofs.«01_k».proof.Proof.Gen.Pre_finite_loss
public import Idealize.ShloMosaic.Lib.Claim

@[expose] public section

set_option maxRecDepth 1000000
set_option maxHeartbeats 400000

noncomputable section

namespace Cert.Proof

open Idealize.ShloMosaic Idealize.SL.Sem Cert.Reals

attribute [local instance] Cert.FfnLossIdeal.Gen.facts Cert.FfnLossRefIdeal.Gen.facts Cert.Pre_finite_loss.Gen.facts

/-- The reference of the loss call leaves its arguments as they were. -/
theorem frame_loss_ref : Cert.quiescent_FfnLossRefIdeal := fun m ρ _ =>
  (θ_run Cert.FfnLossRefIdeal.defs _ _).mono (fun r h => ⟨fun c => (h c).2.2.2.2, sem_eq_zero_of_no_sems (by decide) r.2⟩)
    (Cert.FfnLossRefIdeal.Value.run m ρ)

/-- The entries of the six arrays the precondition is about are real. -/
theorem finite_loss_real (a : FVec Ideal Cert.Pre_finite_loss.S16384x1024 .f32) (g : FVec Ideal Cert.Pre_finite_loss.S1x1024 .f32)
    (w : FVec Ideal Cert.Pre_finite_loss.S1x1024x5632 .f32) (v : FVec Ideal Cert.Pre_finite_loss.S1x2816x1024 .f32)
    (f : FVec Ideal Cert.Pre_finite_loss.S1024 .f32) (b : FVec Ideal Cert.Pre_finite_loss.S16384x1024 .f32)
    (h : Cert.Pre_finite_loss.fn (F := Ideal) a g w v f b = fun _ => 1#1) :
    (∀ i, IsReal (a i)) ∧ (∀ i, IsReal (g i)) ∧ (∀ i, IsReal (w i)) ∧ (∀ i, IsReal (v i)) ∧ (∀ i, IsReal (f i)) ∧ (∀ i, IsReal (b i)) := by
  have h' := congrFun h (fun a => a.elim0)
  obtain ⟨h5', h6⟩ := IntOp.andi_eq_one.mp h'
  obtain ⟨h4', h5⟩ := IntOp.andi_eq_one.mp h5'
  obtain ⟨h3', h4⟩ := IntOp.andi_eq_one.mp h4'
  obtain ⟨h2', h3⟩ := IntOp.andi_eq_one.mp h3'
  obtain ⟨h1, h2⟩ := IntOp.andi_eq_one.mp h2'
  exact ⟨real_of_finite _ _ _ _ _ h1, real_of_finite _ _ _ _ _ h2, real_of_finite _ _ _ _ _ h3, real_of_finite _ _ _ _ _ h4, real_of_finite _ _ _ _ _ h5,
    real_of_finite _ _ _ _ _ h6⟩

/-- The loss call computes the reference's squared errors and the derivative of its loss. -/
theorem algebraic_loss : Cert.algebraic_FfnLossIdeal_FfnLossRefIdeal_pre_finite_loss := by
  pair_intro
  · run_from Cert.FfnLossIdeal.Value.run_blocks m g
  · refine (θ_run Cert.FfnLossRefIdeal.defs _ _).mono (fun r h c => ?_) (Cert.FfnLossRefIdeal.Value.run m' g')
    obtain ⟨r0, r1, r2, r3, hk⟩ := h c
    obtain ⟨h0, h1, h2, h3, h4, h5⟩ := hagree c
    obtain ⟨hH, hG, hW, hWD, hGF, hT⟩ := finite_loss_real _ _ _ _ _ _ (hpre c)
    refine ⟨?_, ?_, ?_, ?_, hk⟩
    · rw [r0, Cert.FfnLossRefIdeal.Read.val_main_v75_eq m' c, h0, h1, h2, h3, h4, h5]
      exact (Cert.FfnLossIdeal.Value.final6 m c hH hG hW hWD hGF hT).symm
    · rw [r1, Cert.FfnLossRefIdeal.Read.val_main_v92_eq, h0, h1, h2]
      exact (Cert.FfnLossIdeal.Value.final7 m c).symm
    · rw [r2, Cert.FfnLossRefIdeal.Read.val_main_v93_eq m' c, h0, h1, h2, h3, h4, h5]
      exact (Cert.FfnLossIdeal.Value.final8 m c).symm
    · rw [r3, Cert.FfnLossRefIdeal.Read.val_main_v94_eq m' c, h0, h1, h2, h3, h4, h5]
      exact (Cert.FfnLossIdeal.Value.final9 m c).symm

end Cert.Proof

end
-- ==== Proof.XattnFwdRef.lean ====
/- The reference of the attention layer, read at an index. -/
module

public import proofs.«01_k».proof.Proof.Gen.XattnFwdRefIdeal.Read
public import proofs.«01_k».proof.Proof.Attention
public import Idealize.ShloMosaic.Lib.Claim

@[expose] public section

set_option maxRecDepth 16384

noncomputable section

open Idealize.ShloMosaic Idealize.ShloMosaic.TcCoe Idealize.SL.Sem Cert.Reals Cert.Attention

namespace Cert.XattnFwdRefIdeal.Read

open Cert.XattnFwdRefIdeal

/-- A row of the layer's input. -/
def rowOf (H : FVec Ideal S16384x1024 .f32) (s : Fin 16384) (i : Fin 1024) : EReal := H (ix2 s i)
/-- The norm's weight. -/
def gain (G : FVec Ideal S1x1024 .f32) (i : Fin 1024) : EReal := G (ix2 0 i)
/-- A weight without its layer axis. -/
def mat (W : FVec Ideal S1x1024x1024 .f32) (i c : Fin 1024) : EReal := W (ix3 0 i c)
/-- The keys or the values. -/
def mem (K : FVec Ideal S256x1024 .f32) (m : Fin 256) (c : Fin 1024) : EReal := K (ix2 m c)

/-- The layer's output: the row and the projected attention. -/
def layer (x q : Fin 1024 → EReal) (k v : Fin 256 → Fin 1024 → EReal) (wo : Fin 1024 → Fin 1024 → EReal) (i : Fin 1024) : EReal :=
  x i + ∑ c, att q k v c * wo c i

/-- The greatest entry of each row, of any array. -/
theorem reduce_max {hr : S4x16384x256.ReducesTo [2] S4x16384} {hu : 0 < S_.numel} (x : FVec Ideal S4x16384x256 .f32) (init : FVec Ideal S_ .f32)
    (h : Fin 4) (s : Fin 16384) :
    Host.reduce FloatOps.maximumf x init hr hu (ix2 h s) = Finset.univ.fold max (init (Shape.Idx.first hu)) (fun m => x (ix3 h s m)) := by
  pointwise

variable (H : FVec Ideal S16384x1024 .f32) (G : FVec Ideal S1x1024 .f32) (WQ : FVec Ideal S1x1024x1024 .f32) (K V : FVec Ideal S256x1024 .f32)
  (WO : FVec Ideal S1x1024x1024 .f32)

/-- Row `s` of the queries. -/
abbrev qOf (s : Fin 16384) : Fin 1024 → EReal := qrow (rowOf H s) (gain G) (mat WQ)
/-- The scores of row `s` and head `h`. -/
abbrev zOf (s : Fin 16384) (h : Fin 4) : Fin 256 → EReal := score (qOf H G WQ s) (mem K) h

theorem n_ref (s : Fin 16384) (i : Fin 1024) : val_main_v13 (F := Ideal) H G (ix2 s i) = nrow (rowOf H s) (gain G) i := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem q_ref (s : Fin 16384) (c : Fin 1024) : val_main_v15 (F := Ideal) H G WQ (ix2 s c) = qOf H G WQ s c := by
  pointwise [val_main_v15, val_main_v14]
  simp only [n_ref]
  rfl

theorem z_ref (h : Fin 4) (s : Fin 16384) (m : Fin 256) : val_main_v21 (F := Ideal) H G WQ K (ix3 h s m) = zOf H G WQ K s h m := by
  pointwise [val_main_v21, val_main_v20, val_main_cst_2, val_main_v19, val_main_v17, val_main_v16]
  simp only [q_ref]
  rfl

theorem top_ref (h : Fin 4) (s : Fin 16384) : val_main_v24 (F := Ideal) H G WQ K (ix2 h s) = top (zOf H G WQ K s h) := by
  have h22 : val_main_v22 (F := Ideal) H G WQ K (ix2 h s) = top (zOf H G WQ K s h) := by
    unfold val_main_v22
    refine (reduce_max _ _ h s).trans ?_
    simp only [z_ref]
    rfl
  rw [val_main_v24_apply, h22, val_main_v23_apply]
  exact max_top _

theorem ex_ref (h : Fin 4) (s : Fin 16384) (m : Fin 256) : val_main_v28 (F := Ideal) H G WQ K (ix3 h s m) = ex (zOf H G WQ K s h) m := by
  pointwise [val_main_v28, val_main_v27, val_main_v26, val_main_v25]
  simp only [z_ref, top_ref]
  rfl

theorem den_ref (h : Fin 4) (s : Fin 16384) : val_main_v29 (F := Ideal) H G WQ K (ix2 h s) = den (zOf H G WQ K s h) := by
  pointwise [val_main_v29, val_main_cst_5]
  simp only [ex_ref]
  rfl

theorem prob_ref (h : Fin 4) (s : Fin 16384) (m : Fin 256) : val_main_v32 (F := Ideal) H G WQ K (ix3 h s m) = prob (zOf H G WQ K s h) m := by
  pointwise [val_main_v32, val_main_v31, val_main_v30]
  simp only [ex_ref, den_ref]
  rfl

theorem v_ref (m : Fin 256) (h : Fin 4) (d : Fin 256) : val_main_v18 (F := Ideal) V (ix3 m h d) = mem V m (col h d) := by
  pointwise [val_main_v18]
  rfl

/-- The attention. -/
theorem att_ref (s : Fin 16384) (c : Fin 1024) : val_main_v35 (F := Ideal) H G WQ K V (ix2 s c) = att (qOf H G WQ s) (mem K) (mem V) c := by
  have h : val_main_v35 (F := Ideal) H G WQ K V (ix2 s c) = val_main_v33 (F := Ideal) H G WQ K V (ix3 (head c) (sub c) s) := by
    pointwise [val_main_v35, val_main_v34]
    rfl
  rw [h]
  pointwise [val_main_v33]
  simp only [v_ref, prob_ref, col_head]
  exact Finset.sum_congr rfl fun m _ => mul_comm _ _

/-- The layer's output. -/
theorem out_ref (s : Fin 16384) (i : Fin 1024) :
    val_main_v38 (F := Ideal) H G WQ K V WO (ix2 s i) = layer (rowOf H s) (qOf H G WQ s) (mem K) (mem V) (mat WO) i := by
  pointwise [val_main_v38, val_main_v37, val_main_v36]
  simp only [att_ref]
  rfl

end Cert.XattnFwdRefIdeal.Read

end
-- ==== Proof.XattnFwdValue.lean ====
/- The value of the attention layer's forward call. -/
module

public import proofs.«01_k».proof.Proof.Gen.XattnFwdIdeal.Value
public import proofs.«01_k».proof.Proof.XattnFwdRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Reals Cert.Attention
open Idealize.ShloMosaic.Pipeline (Dat)

namespace Cert.XattnFwdIdeal.Value

open Cert.XattnFwdIdeal Cert.XattnFwdIdeal.Gen Cert.XattnFwdRefIdeal.Read

section Pieces

variable {Q : FVec Ideal S1024x1024 .bf16} {kb vb : FVec Ideal S256x256 .bf16} {q : Fin 1024 → EReal} {k v : Fin 256 → Fin 1024 → EReal} {r : Fin 1024}

/-- The maximum of each row of a block of scores. -/
theorem block_max (z : FVec Ideal S1024x256 .f32) {hr : S1024x256.Reduces [1] S1024} {h1 h2} (r : Fin 1024) :
    multiReduction .maximumf [1] S1024 z 0xFF800000#32 hr h1 h2 (ix1 r) = top (fun m => z (ix2 r m)) := by
  pointwise
  rfl

/-- The query of a row, from a block of rows. -/
theorem q_pay {X : FVec Ideal S1024x1024 .f32} {G : FVec Ideal S1x1024 .f32} {W : FVec Ideal S1024x1024 .bf16} {x g : Fin 1024 → EReal} {w : Fin 1024 → Fin 1024 → EReal}
    (hx : ∀ i, X (ix2 r i) = x i) (hg : ∀ i, G (ix2 0 i) = g i) (hw : ∀ i c, W (ix2 i c) = w i c) (c : Fin 1024) :
    k0_pay1 (F := Ideal) X G W (ix2 r c) = qrow x g w c := by
  pointwise [k0_pay1]
  simp only [hx, hg, hw]
  rfl

/-- The attention of the second head. -/
theorem att_1 (hq : ∀ c, Q (ix2 r c) = q c) (hk : ∀ m d, kb (ix2 m d) = k m (col 1 d)) (hv : ∀ m d, vb (ix2 m d) = v m (col 1 d)) (d : Fin 256) :
    k0_pay4 Q kb vb (ix2 r d) = att q k v (col 1 d) := by
  pointwise [k0_pay4]
  simp only [← col_1, hq, hk, hv, att, head_col]
  rfl

/-- The attention of the third head. -/
theorem att_2 (hq : ∀ c, Q (ix2 r c) = q c) (hk : ∀ m d, kb (ix2 m d) = k m (col 2 d)) (hv : ∀ m d, vb (ix2 m d) = v m (col 2 d)) (d : Fin 256) :
    k0_pay7 (k0_pay5 Q kb) (k0_pay6 Q kb) vb (ix2 r d) = att q k v (col 2 d) := by
  pointwise [k0_pay7, k0_pay6, k0_pay5]
  simp only [← col_2, hq, hk, hv, att, head_col]
  rfl

/-- The attention of the last head. -/
theorem att_3 (hq : ∀ c, Q (ix2 r c) = q c) (hk : ∀ m d, kb (ix2 m d) = k m (col 3 d)) (hv : ∀ m d, vb (ix2 m d) = v m (col 3 d)) (d : Fin 256) :
    k0_pay8 Q kb vb (ix2 r d) = att q k v (col 3 d) := by
  pointwise [k0_pay8]
  simp only [← col_3, hq, hk, hv, att, head_col]
  rfl

/-- The attention of the first head. -/
theorem att_0 {X : FVec Ideal S1024x1024 .f32} {G : FVec Ideal S1x1024 .f32} {W : FVec Ideal S1024x1024 .bf16}
    (hq : ∀ c, k0_pay1 (F := Ideal) X G W (ix2 r c) = q c) (hk : ∀ m d, kb (ix2 m d) = k m (col 0 d)) (hv : ∀ m d, vb (ix2 m d) = v m (col 0 d)) (d : Fin 256) :
    k0_pay3 (F := Ideal) (k0_pay2 X G W kb vb) (ix2 r d) = att q k v (col 0 d) := by
  pointwise [k0_pay3, k0_pay2]
  simp only [← col_0, hq, hk, hv, att, head_col]
  rfl

/-- The output's row, from the attention's. -/
theorem out_pay {X : FVec Ideal S1024x1024 .f32} {A W : FVec Ideal S1024x1024 .bf16} {x a : Fin 1024 → EReal} {w : Fin 1024 → Fin 1024 → EReal}
    (hx : ∀ i, X (ix2 r i) = x i) (ha : ∀ c, A (ix2 r c) = a c) (hw : ∀ c i, W (ix2 c i) = w c i) (i : Fin 1024) :
    k0_pay9 (F := Ideal) X A W (ix2 r i) = x i + ∑ c, a c * w c i := by
  pointwise [k0_pay9]
  simp only [hx, ha, hw]

end Pieces

variable (m : (ℓ : Loc nD τ sig) → Buf (Elt Ideal) ℓ)

/-- Block `t` of the rows is rows `1024 t` to `1024 t + 1023`; every other window is its whole array. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- Row `a` of block `t` among all the rows. -/
def row (t : Fin cfg0.N) (a : Fin 1024) : Fin 16384 := ⟨t.val * 1024 + a.val, by have := lt_of_lt_of_eq t.isLt N_0; omega⟩

variable (c : Dev nD)

/-- The arguments. -/
abbrev aH : FVec Ideal S16384x1024 .f32 := m ((c : Thread nD τ).loc main_arg0)
abbrev aG : FVec Ideal S1x1024 .f32 := m ((c : Thread nD τ).loc main_arg1)
abbrev aWQ : FVec Ideal S1x1024x1024 .f32 := m ((c : Thread nD τ).loc main_arg2)
abbrev aK : FVec Ideal S256x1024 .f32 := m ((c : Thread nD τ).loc main_arg3)
abbrev aV : FVec Ideal S256x1024 .f32 := m ((c : Thread nD τ).loc main_arg4)
abbrev aWO : FVec Ideal S1x1024x1024 .f32 := m ((c : Thread nD τ).loc main_arg5)

theorem h_at (t : Fin cfg0.N) (a k : Fin 1024) :
    (show FVec Ideal S1024x1024 .f32 from iblk m c 0 t) (ix2 a k) = rowOf (aH m c) (row t a) k := by
  blk_point [iblk, V, idx t, row, rowOf]

theorem g_at (t : Fin cfg0.N) (k : Fin 1024) :
    (show FVec Ideal S1x1024 .f32 from iblk m c 1 t) (ix2 0 k) = gain (aG m c) k := by
  blk_point [iblk, V, idx t, gain]

theorem wq_at (t : Fin cfg0.N) (i k : Fin 1024) :
    (show FVec Ideal S1024x1024 .bf16 from iblk m c 2 t) (ix2 i k) = mat (aWQ m c) i k := by
  blk_simp [iblk, idx t]
  entry_read
  pointwise [mat]
  blk_ext [idx t]

theorem k_at (t : Fin cfg0.N) (i : Fin 256) (k : Fin 1024) :
    (show FVec Ideal S256x1024 .bf16 from iblk m c 3 t) (ix2 i k) = mem (aK m c) i k := by
  blk_simp [iblk, idx t]
  entry_read
  pointwise [mem]
  blk_ext [idx t]

theorem v_at (t : Fin cfg0.N) (i : Fin 256) (k : Fin 1024) :
    (show FVec Ideal S256x1024 .bf16 from iblk m c 4 t) (ix2 i k) = mem (aV m c) i k := by
  blk_simp [iblk, idx t]
  entry_read
  pointwise [mem]
  blk_ext [idx t]

theorem wo_at (t : Fin cfg0.N) (i k : Fin 1024) :
    (show FVec Ideal S1024x1024 .bf16 from iblk m c 5 t) (ix2 i k) = mat (aWO m c) i k := by
  blk_simp [iblk, idx t]
  entry_read
  pointwise [mat]
  blk_ext [idx t]

/-- Row `a` of block `t` of the queries. -/
abbrev qAt (t : Fin cfg0.N) (a : Fin 1024) : Fin 1024 → EReal := qOf (aH m c) (aG m c) (aWQ m c) (row t a)

theorem q_at (t : Fin cfg0.N) (a : Fin 1024) (i : Fin 1024) :
    k0_pay1 (F := Ideal) (iblk m c 0 t) (iblk m c 1 t) (iblk m c 2 t) (ix2 a i) = qAt m c t a i :=
  q_pay (h_at m c t a) (g_at m c t) (wq_at m c t) i

set_option maxHeartbeats 1600000 in
/-- The layer's output. -/
theorem final6 : (dats m 0 c).arrAt 6 (cfgs 0).N = val_main_v38 (aH m c) (aG m c) (aWQ m c) (aK m c) (aV m c) (aWO m c) := by
  refine (dats m 0 c).arrAt_eq_of_covers 6 _ (by decide +kernel) fun t _ (y : S1024x1024.Idx) => ?_
  idx_vars y
  have hy : (((cfg0.win 6).blk t).view.emb (ix2 y0 y1 : S1024x1024.Idx) : S16384x1024.Idx) = ix2 (row t y0) y1 := by blk_ext [idx t, row]
  refine Eq.trans ?_ ((congrArg (val_main_v38 (F := Ideal) _ _ _ _ _ _) hy).trans (out_ref _ _ _ _ _ _ _ _)).symm
  blk_simp [idx t]
  rw [after0_6]
  unfold outsAt0
  frame_out
  refine out_pay (a := att (qAt m c t y0) (mem (aK m c)) (mem (aV m c))) (h_at m c t y0) (fun i => ?_) (fun i j => ?_) y1
  · rw [View.readCov_eq_canon']
    refine (congrFun (View.ld_unit_lit' (S := S1024x1024) _ _ (by decide)) (ix2 y0 i)).trans ?_
    canon_tiles x q
    case piece0 =>
      idx_vars x
      obtain rfl : y0 = x0 := Fin.ext q0
      obtain rfl : i = col 3 x1 := (Fin.ext q1 : i = ⟨768 + x1.val, by omega⟩).trans (col_3 x1).symm
      refine att_3 (q_at m c t y0) (fun i d => ?_) (fun i d => ?_) x1
      · pointwise [col_3]
        exact k_at m c t i _
      · pointwise [col_3]
        exact v_at m c t i _
    case piece1 =>
      idx_vars x
      obtain rfl : y0 = x0 := Fin.ext q0
      obtain rfl : i = col 2 x1 := (Fin.ext q1 : i = ⟨512 + x1.val, by omega⟩).trans (col_2 x1).symm
      refine att_2 (q_at m c t y0) (fun i d => ?_) (fun i d => ?_) x1
      · pointwise [col_2]
        exact k_at m c t i _
      · pointwise [col_2]
        exact v_at m c t i _
    case piece2 =>
      idx_vars x
      obtain rfl : y0 = x0 := Fin.ext q0
      obtain rfl : i = col 1 x1 := (Fin.ext q1 : i = ⟨256 + x1.val, by omega⟩).trans (col_1 x1).symm
      refine att_1 (q_at m c t y0) (fun i d => ?_) (fun i d => ?_) x1
      · pointwise [col_1]
        exact k_at m c t i _
      · pointwise [col_1]
        exact v_at m c t i _
    case piece3 =>
      idx_vars x
      obtain rfl : y0 = x0 := Fin.ext q0
      obtain rfl : i = col 0 x1 := (Fin.ext (by simpa using q1) : i = ⟨x1.val, by omega⟩).trans (col_0 x1).symm
      refine att_0 (q_at m c t y0) (fun i d => ?_) (fun i d => ?_) x1
      · pointwise [col_0]
        exact k_at m c t i _
      · pointwise [col_0]
        exact v_at m c t i _
  · pointwise
    exact wo_at m c t i j

end Cert.XattnFwdIdeal.Value

end
-- ==== Proof.XattnFwdClaim.lean ====
/- The value claim of the attention layer's forward call. -/
module

public import proofs.«01_k».proof.Defs
public import proofs.«01_k».proof.Proof.XattnFwdValue
public import proofs.«01_k».proof.Proof.Gen.XattnFwdRefIdeal.Run
public import Idealize.ShloMosaic.Lib.Claim

@[expose] public section

set_option maxRecDepth 1000000
set_option maxHeartbeats 400000

noncomputable section

namespace Cert.Proof

open Idealize.ShloMosaic Idealize.SL.Sem Cert.Reals

attribute [local instance] Cert.XattnFwdIdeal.Gen.facts Cert.XattnFwdRefIdeal.Gen.facts

/-- The reference of the attention layer leaves its arguments as they were. -/
theorem frame_xfwd_ref : Cert.quiescent_XattnFwdRefIdeal := fun m ρ _ =>
  (θ_run Cert.XattnFwdRefIdeal.defs _ _).mono (fun r h => ⟨fun c => (h c).2, sem_eq_zero_of_no_sems (by decide) r.2⟩)
    (Cert.XattnFwdRefIdeal.Value.run m ρ)

/-- The attention call computes the reference's attention layer. -/
theorem algebraic_xfwd : Cert.algebraic_XattnFwdIdeal_XattnFwdRefIdeal := by
  pair_intro
  · run_from Cert.XattnFwdIdeal.Value.run_blocks m g
  · refine (θ_run Cert.XattnFwdRefIdeal.defs _ _).mono (fun r h c => ?_) (Cert.XattnFwdRefIdeal.Value.run m' g')
    obtain ⟨r0, hk⟩ := h c
    obtain ⟨h0, h1, h2, h3, h4, h5⟩ := hagree c
    refine ⟨?_, hk⟩
    rw [r0, Cert.XattnFwdRefIdeal.Read.val_main_v38_eq m' c, h0, h1, h2, h3, h4, h5]
    exact (Cert.XattnFwdIdeal.Value.final6 m c).symm

end Cert.Proof

end
-- ==== Proof.KvProjValue.lean ====
/- The value of the memory projection's forward call: the keys, the values and the normed memory. -/
module

public import proofs.«01_k».proof.Proof.Gen.KvProjIdeal.Value
public import proofs.«01_k».proof.Proof.Gen.KvProjRefIdeal.Read
public import proofs.«01_k».proof.Proof.Attention
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Attention
open Idealize.ShloMosaic.Pipeline (Dat)

namespace Cert.KvProjRefIdeal.Read

open Cert.KvProjRefIdeal

/-- A row of the memory. -/
def rowOf (X : FVec Ideal S256x1024 .f32) (a : Fin 256) (i : Fin 1024) : EReal := X (ix2 a i)
/-- The norm's weight. -/
def gain (G : FVec Ideal S1x1024 .f32) (i : Fin 1024) : EReal := G (ix2 0 i)
/-- The projection's weight without its layer axis. -/
def wkv (W : FVec Ideal S1x1024x2048 .f32) (i : Fin 1024) (c : Fin 2048) : EReal := W (ix3 0 i c)

/-- A projected row. -/
def proj (x g : Fin 1024 → EReal) (w : Fin 1024 → Fin 2048 → EReal) (c : Fin 2048) : EReal := ∑ i, nrow x g i * w i c

variable (X : FVec Ideal S256x1024 .f32) (G : FVec Ideal S1x1024 .f32) (W : FVec Ideal S1x1024x2048 .f32)

/-- The normed memory. -/
theorem n_ref (a : Fin 256) (i : Fin 1024) : val_main_v13 (F := Ideal) X G (ix2 a i) = nrow (rowOf X a) (gain G) i := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem proj_ref (a : Fin 256) (c : Fin 2048) : val_main_v15 (F := Ideal) X G W (ix2 a c) = proj (rowOf X a) (gain G) (wkv W) c := by
  pointwise [val_main_v15, val_main_v14]
  simp only [n_ref]
  rfl

/-- The keys. -/
theorem k_ref (a : Fin 256) (c : Fin 1024) : val_main_v18 (F := Ideal) X G W (ix2 a c) = proj (rowOf X a) (gain G) (wkv W) ⟨c.val, by omega⟩ := by
  pointwise [val_main_v18, val_main_v16]
  exact proj_ref X G W a _

/-- The values. -/
theorem v_ref (a : Fin 256) (c : Fin 1024) : val_main_v19 (F := Ideal) X G W (ix2 a c) = proj (rowOf X a) (gain G) (wkv W) ⟨1024 + c.val, by omega⟩ := by
  pointwise [val_main_v19, val_main_v17]
  exact proj_ref X G W a _

/-- The normed memory, as the result holds it. -/
theorem n_out (a : Fin 256) (i : Fin 1024) : val_main_v20 (F := Ideal) X G (ix2 a i) = nrow (rowOf X a) (gain G) i := by
  pointwise [val_main_v20]
  exact n_ref X G a i

end Cert.KvProjRefIdeal.Read

namespace Cert.KvProjIdeal.Value

open Cert.KvProjIdeal Cert.KvProjIdeal.Gen Cert.KvProjRefIdeal.Read

section Pieces

variable {X : FVec Ideal S256x1024 .f32} {G : FVec Ideal S1x1024 .f32} {W : FVec Ideal S1x1024x512 .bf16} {a : Fin 256} {x g : Fin 1024 → EReal}
variable (hX : ∀ i, X (ix2 a i) = x i) (hG : ∀ i, G (ix2 0 i) = g i)

include hX hG

theorem n_pay (i : Fin 1024) : k0_pay2 (F := Ideal) X G (ix2 a i) = nrow x g i := by
  pointwise [k0_pay2]
  simp only [hX, hG]
  rfl

variable {w : Fin 1024 → Fin 2048 → EReal} {l : Fin 2048} {b : Fin 512} (hW : ∀ i, W (ix3 0 i b) = w i l)

include hW

/-- A column of a shard's product. -/
theorem proj_pay : k0_pay1 (F := Ideal) (k0_pay2 X G) W (ix2 a b) = proj x g w l := by
  pointwise [k0_pay1]
  simp only [n_pay hX hG, hW]
  rfl

end Pieces

variable (m : (ℓ : Loc nD τ sig) → Buf (Elt Ideal) ℓ)

/-- Every window of the one grid point is its whole array. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0] :=
  (by decide +kernel : ∀ t : Fin grid0.N, _)

variable (c : Dev nD)

/-- The arguments. -/
abbrev aX : FVec Ideal S256x1024 .f32 := m ((c : Thread nD τ).loc main_arg0)
abbrev aG : FVec Ideal S1x1024 .f32 := m ((c : Thread nD τ).loc main_arg1)
abbrev aW : FVec Ideal S1x1024x2048 .f32 := m ((c : Thread nD τ).loc main_arg2)

theorem x_at (t : Fin cfg0.N) (a : Fin 256) (i : Fin 1024) : (show FVec Ideal S256x1024 .f32 from iblk m c 0 t) (ix2 a i) = rowOf (aX m c) a i := by
  blk_point [iblk, V, idx t, rowOf]

theorem g_at (t : Fin cfg0.N) (i : Fin 1024) : (show FVec Ideal S1x1024 .f32 from iblk m c 1 t) (ix2 0 i) = gain (aG m c) i := by
  blk_point [iblk, V, idx t, gain]

/-- Shard `s` of the weight holds its columns `512 s` to `512 s + 511`. -/
theorem w_at (t : Fin cfg0.N) (s : Fin 4) (i : Fin 1024) (b : Fin 512) :
    (show FVec Ideal S4x1024x512 .bf16 from iblk m c 2 t) (ix3 s i b) = wkv (aW m c) i ⟨s.val * 512 + b.val, by omega⟩ := by
  blk_simp [iblk, idx t]
  entry_read
  pointwise [wkv]
  blk_ext [idx t]

set_option maxHeartbeats 1600000 in
/-- The keys. -/
theorem final3 : (dats m 0 c).arrAt 3 (cfgs 0).N = val_main_v18 (aX m c) (aG m c) (aW m c) := by
  refine (dats m 0 c).arrAt_eq_of_covers 3 _ (by decide +kernel) fun t _ (y : S256x1024.Idx) => ?_
  idx_vars y
  have hy : (((cfg0.win 3).blk t).view.emb (ix2 y0 y1 : S256x1024.Idx) : S256x1024.Idx) = ix2 y0 y1 := by blk_ext [idx t]
  refine Eq.trans ?_ ((congrArg (val_main_v18 (F := Ideal) _ _ _) hy).trans (k_ref _ _ _ _ _)).symm
  blk_simp [idx t]
  rw [after0_3]
  frame_out
  canon_tiles x q
  case piece0 =>
    idx_vars x
    obtain rfl : y0 = x0 := Fin.ext q0
    rw [show y1 = ⟨512 + x1.val, by omega⟩ from Fin.ext q1]
    refine proj_pay (x_at m c t y0) (g_at m c t) fun i => ?_
    pointwise
    exact w_at m c t _ _ _
  case piece1 =>
    idx_vars x
    obtain rfl : y0 = x0 := Fin.ext q0
    rw [show y1 = ⟨x1.val, by omega⟩ from Fin.ext (by simpa using q1)]
    refine proj_pay (x_at m c t y0) (g_at m c t) fun i => ?_
    pointwise
    exact (w_at m c t _ _ _).trans (congrArg (wkv (aW m c) i) (Fin.ext (by simp)))

set_option maxHeartbeats 1600000 in
/-- The values. -/
theorem final4 : (dats m 0 c).arrAt 4 (cfgs 0).N = val_main_v19 (aX m c) (aG m c) (aW m c) := by
  refine (dats m 0 c).arrAt_eq_of_covers 4 _ (by decide +kernel) fun t _ (y : S256x1024.Idx) => ?_
  idx_vars y
  have hy : (((cfg0.win 4).blk t).view.emb (ix2 y0 y1 : S256x1024.Idx) : S256x1024.Idx) = ix2 y0 y1 := by blk_ext [idx t]
  refine Eq.trans ?_ ((congrArg (val_main_v19 (F := Ideal) _ _ _) hy).trans (v_ref _ _ _ _ _)).symm
  blk_simp [idx t]
  rw [after0_4]
  frame_out
  canon_tiles x q
  case piece0 =>
    idx_vars x
    obtain rfl : y0 = x0 := Fin.ext q0
    rw [show y1 = ⟨512 + x1.val, by omega⟩ from Fin.ext q1]
    refine proj_pay (x_at m c t y0) (g_at m c t) fun i => ?_
    pointwise
    exact (w_at m c t _ _ _).trans (congrArg (wkv (aW m c) i) (Fin.ext (by simp <;> omega)))
  case piece1 =>
    idx_vars x
    obtain rfl : y0 = x0 := Fin.ext q0
    rw [show y1 = ⟨x1.val, by omega⟩ from Fin.ext (by simpa using q1)]
    refine proj_pay (x_at m c t y0) (g_at m c t) fun i => ?_
    pointwise
    exact (w_at m c t _ _ _).trans (congrArg (wkv (aW m c) i) (Fin.ext (by simp)))

set_option maxHeartbeats 1600000 in
/-- The normed memory. -/
theorem final5 : (dats m 0 c).arrAt 5 (cfgs 0).N = val_main_v20 (aX m c) (aG m c) := by
  refine (dats m 0 c).arrAt_eq_of_covers 5 _ (by decide +kernel) fun t _ (y : S256x1024.Idx) => ?_
  idx_vars y
  have hy : (((cfg0.win 5).blk t).view.emb (ix2 y0 y1 : S256x1024.Idx) : S256x1024.Idx) = ix2 y0 y1 := by blk_ext [idx t]
  refine Eq.trans ?_ ((congrArg (val_main_v20 (F := Ideal) _ _) hy).trans (n_out _ _ _ _)).symm
  blk_simp [idx t]
  rw [after0_5]
  frame_out
  exact n_pay (x_at m c t y0) (g_at m c t) y1

end Cert.KvProjIdeal.Value

end
-- ==== Proof.KvProjClaim.lean ====
/- The value claim of the memory projection's forward call. -/
module

public import proofs.«01_k».proof.Defs
public import proofs.«01_k».proof.Proof.KvProjValue
public import proofs.«01_k».proof.Proof.Gen.KvProjRefIdeal.Run
public import Idealize.ShloMosaic.Lib.Claim

@[expose] public section

set_option maxRecDepth 1000000
set_option maxHeartbeats 400000

noncomputable section

namespace Cert.Proof

open Idealize.ShloMosaic Idealize.SL.Sem

attribute [local instance] Cert.KvProjIdeal.Gen.facts Cert.KvProjRefIdeal.Gen.facts

/-- The reference of the memory projection leaves its arguments as they were. -/
theorem frame_kvp_ref : Cert.quiescent_KvProjRefIdeal := fun m ρ _ =>
  (θ_run Cert.KvProjRefIdeal.defs _ _).mono (fun r h => ⟨fun c => (h c).2.2.2, sem_eq_zero_of_no_sems (by decide) r.2⟩)
    (Cert.KvProjRefIdeal.Value.run m ρ)

/-- The memory projection's call computes the reference's keys, values and normed memory. -/
theorem algebraic_kvp : Cert.algebraic_KvProjIdeal_KvProjRefIdeal := by
  pair_intro
  · run_from Cert.KvProjIdeal.Value.run_blocks m g
  · refine (θ_run Cert.KvProjRefIdeal.defs _ _).mono (fun r h c => ?_) (Cert.KvProjRefIdeal.Value.run m' g')
    obtain ⟨r0, r1, r2, hk⟩ := h c
    obtain ⟨h0, h1, h2⟩ := hagree c
    refine ⟨?_, ?_, ?_, hk⟩
    · rw [r0, Cert.KvProjRefIdeal.Read.val_main_v18_eq, h0, h1, h2]
      exact (Cert.KvProjIdeal.Value.final3 m c).symm
    · rw [r1, Cert.KvProjRefIdeal.Read.val_main_v19_eq, h0, h1, h2]
      exact (Cert.KvProjIdeal.Value.final4 m c).symm
    · rw [r2, Cert.KvProjRefIdeal.Read.val_main_v20_eq, h0, h1]
      exact (Cert.KvProjIdeal.Value.final5 m c).symm

end Cert.Proof

end
-- ==== Proof.HiddenValue.lean ====
/- The value of the half-step's hidden call: the hidden rows and the gated rows. -/
module

public import proofs.«01_k».proof.Proof.Gen.FfnHiddenIdeal.Value
public import proofs.«01_k».proof.Proof.Gen.FfnHiddenRefIdeal.Read
public import proofs.«01_k».proof.Proof.Swiglu
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Attention Cert.Swiglu
open Idealize.ShloMosaic.Pipeline (Dat)

namespace Cert.FfnHiddenRefIdeal.Read

open Cert.FfnHiddenRefIdeal

/-- A row of the stream. -/
def rowOf (H : FVec Ideal S16384x1024 .f32) (s : Fin 16384) (i : Fin 1024) : EReal := H (ix2 s i)
/-- The norm's weight. -/
def gain (G : FVec Ideal S1x1024 .f32) (i : Fin 1024) : EReal := G (ix2 0 i)
/-- The weight without its layer axis. -/
def wgu (W : FVec Ideal S1x1024x5632 .f32) (i : Fin 1024) (c : Fin 5632) : EReal := W (ix3 0 i c)

variable (H : FVec Ideal S16384x1024 .f32) (G : FVec Ideal S1x1024 .f32) (W : FVec Ideal S1x1024x5632 .f32)

theorem n_ref (s : Fin 16384) (i : Fin 1024) : val_main_v13 (F := Ideal) H G (ix2 s i) = nrow (rowOf H s) (gain G) i := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem hid_ref (s : Fin 16384) (c : Fin 5632) : val_main_v15 (F := Ideal) H G W (ix2 s c) = hid (rowOf H s) (gain G) (wgu W) c := by
  pointwise [val_main_v15, val_main_v14]
  simp only [n_ref]
  rfl

/-- The hidden rows. -/
theorem hid_out (s : Fin 16384) (c : Fin 5632) : val_main_v18 (F := Ideal) H G W (ix2 s c) = hid (rowOf H s) (gain G) (wgu W) c := by
  pointwise [val_main_v18]
  exact hid_ref H G W s c

/-- The gated rows. -/
theorem act_out (s : Fin 16384) (j : Fin 2816) : val_main_v21 (F := Ideal) H G W (ix2 s j) = act (rowOf H s) (gain G) (wgu W) j := by
  pointwise [val_main_call0_v0, val_main_call0_v1, val_main_call0_cst, val_main_call0_v2, val_main_call0_v3, val_main_call0_cst_0, val_main_call0_v4, val_main_call0_v5, val_main_v16, val_main_v17, val_main_v19, val_main_v20, val_main_v21]
  simp only [hid_ref]
  rfl

end Cert.FfnHiddenRefIdeal.Read

namespace Cert.FfnHiddenIdeal.Value

open Cert.FfnHiddenIdeal Cert.FfnHiddenIdeal.Gen Cert.FfnHiddenRefIdeal.Read

section Pieces

variable {X : FVec Ideal S512x1024 .f32} {G : FVec Ideal S1x1024 .f32} {U V : FVec Ideal S1x1024x1408 .bf16} {a : Fin 512} {x g : Fin 1024 → EReal}
variable (hX : ∀ i, X (ix2 a i) = x i) (hG : ∀ i, G (ix2 0 i) = g i)

include hX hG

theorem n_pay (i : Fin 1024) : k0_pay6 (F := Ideal) X G (ix2 a i) = nrow x g i := by
  pointwise [k0_pay6]
  simp only [hX, hG]
  rfl

variable {w : Fin 1024 → Fin 5632 → EReal} {l : Fin 5632} {b : Fin 1408} (hU : ∀ i, U (ix3 0 i b) = w i l)

include hU

/-- A column of a shard's product. -/
theorem prod_pay : k0_pay1 (F := Ideal) (k0_pay6 X G) U (ix2 a b) = hid x g w l := by
  pointwise [k0_pay1]
  simp only [n_pay hX hG, hU]
  rfl

theorem prod_pay' : k0_pay7 (F := Ideal) X G U (ix2 a b) = hid x g w l := prod_pay hX hG hU

/-- The same as each of the four stores has it. -/
theorem pay3 : k0_pay3 (F := Ideal) (k0_pay6 X G) U (ix2 a b) = hid x g w l := by
  pointwise [k0_pay3]
  exact prod_pay hX hG hU

theorem pay4 : k0_pay4 (F := Ideal) (k0_pay6 X G) U (ix2 a b) = hid x g w l := by
  pointwise [k0_pay4]
  exact prod_pay hX hG hU

theorem pay9 : k0_pay9 (F := Ideal) X G U (ix2 a b) = hid x g w l := by
  pointwise [k0_pay9]
  exact prod_pay' hX hG hU

theorem pay10 : k0_pay10 (F := Ideal) X G U (ix2 a b) = hid x g w l := by
  pointwise [k0_pay10]
  exact prod_pay' hX hG hU

variable {r : Fin 5632} (hV : ∀ i, V (ix3 0 i b) = w i r)

include hV

/-- A gated column, from the shards of its two halves. -/
theorem pay5 : k0_pay5 (F := Ideal) (k0_pay6 X G) U V (ix2 a b) = sil (hid x g w l) * hid x g w r := by
  have e1 := prod_pay hX hG hU
  have e2 : k0_pay2 (F := Ideal) (k0_pay6 X G) V (ix2 a b) = hid x g w r := prod_pay hX hG hV
  pointwise [k0_pay5]
  rw [e1, e2, zero_sub]
  rfl

theorem pay11 : k0_pay11 (F := Ideal) X G U V (ix2 a b) = sil (hid x g w l) * hid x g w r := by
  have e1 := prod_pay' hX hG hU
  have e2 : k0_pay8 (F := Ideal) X G V (ix2 a b) = hid x g w r := prod_pay' hX hG hV
  pointwise [k0_pay11]
  rw [e1, e2, zero_sub]
  rfl

end Pieces

variable (m : (ℓ : Loc nD τ sig) → Buf (Elt Ideal) ℓ)

/-- Block `t` of the rows is rows `512 t` to `512 t + 511`; every other window is its whole array. -/
theorem idx : ∀ t : Fin cfg0.N, win0_0.index t = ![t.val, 0] ∧ win0_1.index t = ![0, 0] ∧ win0_2.index t = ![0, 0, 0] ∧ win0_3.index t = ![t.val, 0] ∧ win0_4.index t = ![t.val, 0] :=
  (by decide +kernel : ∀ t : Fin grid0.N, _)

/-- Row `a` of block `t` among all the rows. -/
def row (t : Fin cfg0.N) (a : Fin 512) : Fin 16384 := ⟨t.val * 512 + a.val, by have := lt_of_lt_of_eq t.isLt N_0; omega⟩

variable (c : Dev nD)

/-- The arguments. -/
abbrev aH : FVec Ideal S16384x1024 .f32 := m ((c : Thread nD τ).loc main_arg0)
abbrev aG : FVec Ideal S1x1024 .f32 := m ((c : Thread nD τ).loc main_arg1)
abbrev aW : FVec Ideal S1x1024x5632 .f32 := m ((c : Thread nD τ).loc main_arg2)

theorem h_at (t : Fin cfg0.N) (a : Fin 512) (i : Fin 1024) : (show FVec Ideal S512x1024 .f32 from iblk m c 0 t) (ix2 a i) = rowOf (aH m c) (row t a) i := by
  blk_point [iblk, V, idx t, row, rowOf]

theorem g_at (t : Fin cfg0.N) (i : Fin 1024) : (show FVec Ideal S1x1024 .f32 from iblk m c 1 t) (ix2 0 i) = gain (aG m c) i := by
  blk_point [iblk, V, idx t, gain]

/-- Shard `q` of the weight holds its columns `1408 q` to `1408 q + 1407`. -/
theorem w_at (t : Fin cfg0.N) (q : Fin 4) (i : Fin 1024) (b : Fin 1408) :
    (show FVec Ideal S4x1024x1408 .bf16 from iblk m c 2 t) (ix3 q i b) = wgu (aW m c) i ⟨q.val * 1408 + b.val, by omega⟩ := by
  blk_simp [iblk, idx t]
  entry_read
  pointwise [wgu]
  blk_ext [idx t]

/-- The same at any spelling of the column. -/
theorem w_col (t : Fin cfg0.N) (q : Fin 4) (i : Fin 1024) (b : Fin 1408) (l : Fin 5632) (hl : q.val * 1408 + b.val = l.val) :
    (show FVec Ideal S4x1024x1408 .bf16 from iblk m c 2 t) (ix3 q i b) = wgu (aW m c) i l :=
  (w_at m c t q i b).trans (congrArg (wgu (aW m c) i) (Fin.ext hl))

set_option maxHeartbeats 1600000 in
/-- The hidden rows. -/
theorem final3 : (dats m 0 c).arrAt 3 (cfgs 0).N = val_main_v18 (aH m c) (aG m c) (aW m c) := by
  refine (dats m 0 c).arrAt_eq_of_covers 3 _ (by decide +kernel) fun t _ (y : S512x5632.Idx) => ?_
  idx_vars y
  have hy : (((cfg0.win 3).blk t).view.emb (ix2 y0 y1 : S512x5632.Idx) : S16384x5632.Idx) = ix2 (row t y0) y1 := by blk_ext [idx t, row]
  refine Eq.trans ?_ ((congrArg (val_main_v18 (F := Ideal) _ _ _) hy).trans (hid_out _ _ _ _ _)).symm
  blk_simp [idx t]
  rw [after0_3]
  unfold_out out0_3
  frame_out
  canon_tiles x q
  case piece0 =>
    idx_vars x
    obtain rfl : y0 = x0 := Fin.ext q0
    rw [show y1 = ⟨4224 + x1.val, by omega⟩ from Fin.ext q1]
    refine pay4 (h_at m c t y0) (g_at m c t) fun i => ?_
    pointwise
    exact w_col m c t 3 i x1 _ (by simp)
  case piece1 =>
    idx_vars x
    obtain rfl : y0 = x0 := Fin.ext q0
    rw [show y1 = ⟨1408 + x1.val, by omega⟩ from Fin.ext q1]
    refine pay3 (h_at m c t y0) (g_at m c t) fun i => ?_
    pointwise
    exact w_col m c t 1 i x1 _ (by simp)
  case piece2 =>
    idx_vars x
    obtain rfl : y0 = x0 := Fin.ext q0
    rw [show y1 = ⟨2816 + x1.val, by omega⟩ from Fin.ext q1]
    refine pay10 (h_at m c t y0) (g_at m c t) fun i => ?_
    pointwise
    exact w_col m c t 2 i x1 _ (by simp)
  case piece3 =>
    idx_vars x
    obtain rfl : y0 = x0 := Fin.ext q0
    rw [show y1 = ⟨x1.val, by omega⟩ from Fin.ext (by simpa using q1)]
    refine pay9 (h_at m c t y0) (g_at m c t) fun i => ?_
    pointwise
    exact w_col m c t 0 i x1 _ (by simp)

set_option maxHeartbeats 1600000 in
/-- The gated rows. -/
theorem final4 : (dats m 0 c).arrAt 4 (cfgs 0).N = val_main_v21 (aH m c) (aG m c) (aW m c) := by
  refine (dats m 0 c).arrAt_eq_of_covers 4 _ (by decide +kernel) fun t _ (y : S512x2816.Idx) => ?_
  idx_vars y
  have hy : (((cfg0.win 4).blk t).view.emb (ix2 y0 y1 : S512x2816.Idx) : S16384x2816.Idx) = ix2 (row t y0) y1 := by blk_ext [idx t, row]
  refine Eq.trans ?_ ((congrArg (val_main_v21 (F := Ideal) _ _ _) hy).trans (act_out _ _ _ _ _)).symm
  blk_simp [idx t]
  rw [after0_4]
  unfold_out out0_4
  frame_out
  canon_tiles x q
  case piece0 =>
    idx_vars x
    obtain rfl : y0 = x0 := Fin.ext q0
    rw [show y1 = ⟨1408 + x1.val, by omega⟩ from Fin.ext q1]
    refine pay5 (l := _) (r := _) (h_at m c t y0) (g_at m c t) (fun i => ?_) (fun i => ?_)
    · pointwise
      exact w_col m c t 1 i x1 _ (by simp)
    · pointwise
      exact w_col m c t 3 i x1 _ (by simp <;> omega)
  case piece1 =>
    idx_vars x
    obtain rfl : y0 = x0 := Fin.ext q0
    rw [show y1 = ⟨x1.val, by omega⟩ from Fin.ext (by simpa using q1)]
    refine pay11 (l := _) (r := _) (h_at m c t y0) (g_at m c t) (fun i => ?_) (fun i => ?_)
    · pointwise
      exact w_col m c t 0 i x1 _ (by simp)
    · pointwise
      exact w_col m c t 2 i x1 _ (by simp <;> omega)

end Cert.FfnHiddenIdeal.Value

end
-- ==== Proof.HiddenClaim.lean ====
/- The value claim of the half-step's hidden call. -/
module

public import proofs.«01_k».proof.Defs
public import proofs.«01_k».proof.Proof.HiddenValue
public import proofs.«01_k».proof.Proof.Gen.FfnHiddenRefIdeal.Run
public import Idealize.ShloMosaic.Lib.Claim

@[expose] public section

set_option maxRecDepth 1000000
set_option maxHeartbeats 400000

noncomputable section

namespace Cert.Proof

open Idealize.ShloMosaic Idealize.SL.Sem

attribute [local instance] Cert.FfnHiddenIdeal.Gen.facts Cert.FfnHiddenRefIdeal.Gen.facts

/-- The reference of the hidden call leaves its arguments as they were. -/
theorem frame_hid_ref : Cert.quiescent_FfnHiddenRefIdeal := fun m ρ _ =>
  (θ_run Cert.FfnHiddenRefIdeal.defs _ _).mono (fun r h => ⟨fun c => (h c).2.2, sem_eq_zero_of_no_sems (by decide) r.2⟩)
    (Cert.FfnHiddenRefIdeal.Value.run m ρ)

/-- The hidden call computes the reference's hidden rows and gated rows. -/
theorem algebraic_hid : Cert.algebraic_FfnHiddenIdeal_FfnHiddenRefIdeal := by
  pair_intro
  · run_from Cert.FfnHiddenIdeal.Value.run_blocks m g
  · refine (θ_run Cert.FfnHiddenRefIdeal.defs _ _).mono (fun r h c => ?_) (Cert.FfnHiddenRefIdeal.Value.run m' g')
    obtain ⟨r0, r1, hk⟩ := h c
    obtain ⟨h0, h1, h2⟩ := hagree c
    refine ⟨?_, ?_, hk⟩
    · rw [r0, Cert.FfnHiddenRefIdeal.Read.val_main_v18_eq, h0, h1, h2]
      exact (Cert.FfnHiddenIdeal.Value.final3 m c).symm
    · rw [r1, Cert.FfnHiddenRefIdeal.Read.val_main_v21_eq, h0, h1, h2]
      exact (Cert.FfnHiddenIdeal.Value.final4 m c).symm

end Cert.Proof

end
-- ==== Proof.MixRow.lean ====
/- The mathematics of the mixing layer, row by row: the gated convolution, the spatial gating and the merge of both. -/
module

public import proofs.«01_k».proof.Proof.Swiglu

@[expose] public section

noncomputable section

open Idealize.ShloMosaic Cert.Attention Cert.Swiglu

namespace Cert.MixRow

/-- Column `l` of part `j` of the input projection. -/
def part (j : Fin 6) (l : Fin 1024) : Fin 6144 := ⟨j.val * 1024 + l.val, by omega⟩

/-- A row of the input projection. -/
def prow (n : Fin 1024 → EReal) (w : Fin 1024 → Fin 6144 → EReal) (b : Fin 6144 → EReal) (c : Fin 6144) : EReal := (∑ i, n i * w i c) + b c

/-- The gated value that the convolution runs over. -/
def glu (p : Fin 6144 → EReal) (l : Fin 1024) : EReal := p (part 0 l) * lgs (p (part 1 l))

/-- The rows `a` below 32 rows of zeros, and zeros after them. -/
def pad (a : Fin 16384 → Fin 1024 → EReal) (q : ℕ) (l : Fin 1024) : EReal :=
  if h : 32 ≤ q ∧ q < 16416 then a ⟨q - 32, by omega⟩ l else 0

theorem pad_row (a : Fin 16384 → Fin 1024 → EReal) (q : ℕ) (l : Fin 1024) (s : Fin 16384) (h : q = s.val + 32) : pad a q l = a s l := by
  subst h
  simp only [pad]
  rw [dif_pos (by omega)]
  exact congrArg (a · l) (Fin.ext (by simp))

theorem pad_top (a : Fin 16384 → Fin 1024 → EReal) (q : ℕ) (l : Fin 1024) (h : q < 32) : pad a q l = 0 := by
  simp only [pad]
  rw [dif_neg (by omega)]

/-- The causal convolution at row `s`: the last 31 rows up to `s`, weighted, and the bias. -/
def conv (a : Fin 16384 → Fin 1024 → EReal) (w : Fin 31 → Fin 1024 → EReal) (b : Fin 1024 → EReal) (s : ℕ) (l : Fin 1024) : EReal :=
  (∑ k : Fin 31, w k l * pad a (k.val + s + 2) l) + b l

/-- The mean of a row. -/
def mean (z : Fin 1024 → EReal) : EReal := Ideal.div (∑ i, z i) (Ideal.ofBits .f32 0x44800000#32)

/-- The layer norm of a row. -/
def lnorm (z g b : Fin 1024 → EReal) (i : Fin 1024) : EReal :=
  (z i - mean z) * Ideal.rsqrt (mean (fun j => (z j - mean z) * (z j - mean z)) + Ideal.ofBits .f32 0x3727C5AC#32) * g i + b i

/-- The gelu in its approximation by tanh. -/
def gel (x : EReal) : EReal :=
  x * (Ideal.ofBits .f32 0x3F000000#32 * (1 + Ideal.tanh (Ideal.ofBits .f32 0x3F4C422A#32 * (x + Ideal.ofBits .f32 0x3D372713#32 * (x * x * x)))))

/-- A masked weight against the rows of its chunk, and the bias. -/
def mixed (w v : Fin 128 → EReal) (b : EReal) (r : Fin 128) : EReal := (∑ u : Fin 128, (if u.val ≤ r.val then w u else 0) * v u) + b

/-- A row against the columns of a square weight. -/
def mrow (z : Fin 1024 → EReal) (w : Fin 1024 → Fin 1024 → EReal) (l : Fin 1024) : EReal := ∑ i, z i * w i l

/-- The row that both branches merge to. -/
def merged (p : Fin 6144 → EReal) (ya yb : Fin 1024 → EReal) (l : Fin 1024) : EReal := lgs (p (part 4 l)) * ya l + lgs (p (part 5 l)) * yb l

/-- The place of row `s` in its chunk, and row `u` of the same chunk. -/
def place (s : Fin 16384) : Fin 128 := ⟨s.val % 128, by omega⟩
def inChunk (s : Fin 16384) (u : Fin 128) : Fin 16384 := ⟨s.val / 128 * 128 + u.val, by omega⟩

/-- A sum of 31 terms from the left. -/
theorem sum31 (f : Fin 31 → EReal) : ∑ k, f k = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  iterate 31 rw [Fin.sum_univ_castSucc]
  rw [Fin.sum_univ_zero]
  rfl

/-- The same with the bias first, each term given by itself. -/
theorem sum31_bias {b b' t0 t1 t2 t3 t4 t5 t6 t7 t8 t9 t10 t11 t12 t13 t14 t15 t16 t17 t18 t19 t20 t21 t22 t23 t24 t25 t26 t27 t28 t29 t30 : EReal} {f : Fin 31 → EReal} (hb : b = b')
    (h0 : t0 = f 0) (h1 : t1 = f 1) (h2 : t2 = f 2) (h3 : t3 = f 3) (h4 : t4 = f 4) (h5 : t5 = f 5) (h6 : t6 = f 6) (h7 : t7 = f 7) (h8 : t8 = f 8) (h9 : t9 = f 9) (h10 : t10 = f 10) (h11 : t11 = f 11) (h12 : t12 = f 12) (h13 : t13 = f 13) (h14 : t14 = f 14) (h15 : t15 = f 15) (h16 : t16 = f 16) (h17 : t17 = f 17) (h18 : t18 = f 18) (h19 : t19 = f 19) (h20 : t20 = f 20) (h21 : t21 = f 21) (h22 : t22 = f 22) (h23 : t23 = f 23) (h24 : t24 = f 24) (h25 : t25 = f 25) (h26 : t26 = f 26) (h27 : t27 = f 27) (h28 : t28 = f 28) (h29 : t29 = f 29) (h30 : t30 = f 30) :
    b + t0 + t1 + t2 + t3 + t4 + t5 + t6 + t7 + t8 + t9 + t10 + t11 + t12 + t13 + t14 + t15 + t16 + t17 + t18 + t19 + t20 + t21 + t22 + t23 + t24 + t25 + t26 + t27 + t28 + t29 + t30 = (∑ k, f k) + b' := by
  subst hb h0 h1 h2 h3 h4 h5 h6 h7 h8 h9 h10 h11 h12 h13 h14 h15 h16 h17 h18 h19 h20 h21 h22 h23 h24 h25 h26 h27 h28 h29 h30
  rw [sum31]
  simp only [zero_add, add_assoc, add_comm, add_left_comm]

end Cert.MixRow

end
-- ==== Proof.MixFwdRef.lean ====
/- The reference of the mixing layer's forward call, read row by row. -/
module

public import proofs.«01_k».proof.Proof.Gen.MixFwdRefIdeal.Read
public import proofs.«01_k».proof.Proof.MixRow
public import Idealize.ShloMosaic.Lib.Pointwise

@[expose] public section

set_option maxRecDepth 16384

noncomputable section

open Idealize.ShloMosaic Idealize.ShloMosaic.TcCoe Idealize.SL.Sem Cert.Attention Cert.Swiglu Cert.MixRow

namespace Cert.MixFwdRefIdeal.Read

open Cert.MixFwdRefIdeal

/-- A row of the stream. -/
def rowOf (H : FVec Ideal S16384x1024 .f32) (s : Fin 16384) (i : Fin 1024) : EReal := H (ix2 s i)
/-- A vector with its layer axis dropped. -/
def vec (G : FVec Ideal S1x1024 .f32) (i : Fin 1024) : EReal := G (ix2 0 i)
/-- The weights with their layer axis dropped. -/
def win (W : FVec Ideal S1x1024x6144 .f32) (i : Fin 1024) (c : Fin 6144) : EReal := W (ix3 0 i c)
def bin (B : FVec Ideal S1x6144 .f32) (c : Fin 6144) : EReal := B (ix2 0 c)
def taps (C : FVec Ideal S1x31x1024 .f32) (k : Fin 31) (l : Fin 1024) : EReal := C (ix3 0 k l)
def sq (W : FVec Ideal S1x1024x1024 .f32) (i l : Fin 1024) : EReal := W (ix3 0 i l)
def sgw (W : FVec Ideal S1x4x128x128 .f32) (g : Fin 4) (r u : Fin 128) : EReal := W (ix4 0 g r u)
def sgb (B : FVec Ideal S1x4x128 .f32) (g : Fin 4) (r : Fin 128) : EReal := B (ix3 0 g r)

variable (H : FVec Ideal S16384x1024 .f32) (G : FVec Ideal S1x1024 .f32) (W : FVec Ideal S1x1024x6144 .f32) (B : FVec Ideal S1x6144 .f32)

/-- A row of the projection. -/
def pOf (s : Fin 16384) : Fin 6144 → EReal := prow (nrow (rowOf H s) (vec G)) (win W) (bin B)
/-- A gated row. -/
def gluOf (s : Fin 16384) : Fin 1024 → EReal := glu (pOf H G W B s)
/-- A normed value row of the spatial gating. -/
def vOf (lg lb : FVec Ideal S1x1024 .f32) (s : Fin 16384) : Fin 1024 → EReal := lnorm (fun l => gel (pOf H G W B s (part 3 l))) (vec lg) (vec lb)

theorem n_ref (s : Fin 16384) (i : Fin 1024) : val_main_v13 (F := Ideal) H G (ix2 s i) = nrow (rowOf H s) (vec G) i := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem p_ref (s : Fin 16384) (c : Fin 6144) : val_main_v19 (F := Ideal) H G W B (ix2 s c) = pOf H G W B s c := by
  pointwise [val_main_v14, val_main_v15, val_main_v16, val_main_v17, val_main_v18, val_main_v19]
  simp only [n_ref]
  rfl

theorem n_out (s : Fin 16384) (i : Fin 1024) : val_main_v371 (F := Ideal) H G (ix2 s i) = nrow (rowOf H s) (vec G) i := by
  pointwise [val_main_v371]
  exact n_ref H G s i

theorem p_out (s : Fin 16384) (c : Fin 6144) : val_main_v370 (F := Ideal) H G W B (ix2 s c) = pOf H G W B s c := by
  pointwise [val_main_v370]
  exact p_ref H G W B s c

/-- The six parts of the projection. -/
theorem p0_ref (s : Fin 16384) (l : Fin 1024) : val_main_v20 (F := Ideal) H G W B (ix2 s l) = pOf H G W B s (part 0 l) := by
  pointwise [val_main_v20]
  exact (p_ref H G W B s _).trans (congrArg _ (Fin.ext (by simp [part])))

theorem p1_ref (s : Fin 16384) (l : Fin 1024) : val_main_v21 (F := Ideal) H G W B (ix2 s l) = pOf H G W B s (part 1 l) := by
  pointwise [val_main_v21]
  exact (p_ref H G W B s _).trans (congrArg _ (Fin.ext (by simp [part])))

theorem p2_ref (s : Fin 16384) (l : Fin 1024) : val_main_v22 (F := Ideal) H G W B (ix2 s l) = pOf H G W B s (part 2 l) := by
  pointwise [val_main_v22]
  exact (p_ref H G W B s _).trans (congrArg _ (Fin.ext (by simp [part])))

theorem p3_ref (s : Fin 16384) (l : Fin 1024) : val_main_v23 (F := Ideal) H G W B (ix2 s l) = pOf H G W B s (part 3 l) := by
  pointwise [val_main_v23]
  exact (p_ref H G W B s _).trans (congrArg _ (Fin.ext (by simp [part])))

theorem p4_ref (s : Fin 16384) (l : Fin 1024) : val_main_v24 (F := Ideal) H G W B (ix2 s l) = pOf H G W B s (part 4 l) := by
  pointwise [val_main_v24]
  exact (p_ref H G W B s _).trans (congrArg _ (Fin.ext (by simp [part])))

theorem p5_ref (s : Fin 16384) (l : Fin 1024) : val_main_v25 (F := Ideal) H G W B (ix2 s l) = pOf H G W B s (part 5 l) := by
  pointwise [val_main_v25]
  exact (p_ref H G W B s _).trans (congrArg _ (Fin.ext (by simp [part])))

theorem glu_ref (s : Fin 16384) (l : Fin 1024) : val_main_v32 (F := Ideal) H G W B (ix2 s l) = gluOf H G W B s l := by
  pointwise [val_main_v26, val_main_v27, val_main_cst_2, val_main_v28, val_main_v29, val_main_cst_3, val_main_v30, val_main_v31, val_main_v32]
  simp only [p0_ref, p1_ref]
  rfl

/-- The rows with zeros before them. -/
theorem ext_ref (q : Fin 16414) (l : Fin 1024) : val_main_v36 (F := Ideal) H G W B (ix2 q l) = pad (gluOf H G W B) (q.val + 2) l := by
  by_cases h : q.val < 30
  · rw [pad_top _ _ _ (by omega)]
    obtain ⟨r, rfl⟩ : ∃ r : Fin 30, q = ⟨r.val, Nat.lt_trans r.isLt (by decide)⟩ := ⟨⟨q.val, h⟩, rfl⟩
    pointwise [val_main_cst_4, val_main_v35, val_main_v36]
  · obtain ⟨r, rfl⟩ : ∃ r : Fin 16384, q = ⟨30 + r.val, Nat.add_lt_add_left r.isLt 30⟩ := ⟨⟨q.val - 30, by omega⟩, Fin.ext (by simp; omega)⟩
    rw [pad_row _ _ _ r (by simp; omega)]
    pointwise [val_main_v36]
    simp [glu_ref]

variable (C : FVec Ideal S1x31x1024 .f32) (cb : FVec Ideal S1x1024 .f32)

set_option maxHeartbeats 1600000 in
/-- The convolution. -/
theorem c_ref (s : Fin 16384) (l : Fin 1024) : val_main_v257 (F := Ideal) H G W B C cb (ix2 s l) = conv (gluOf H G W B) (taps C) (vec cb) s.val l := by
  pointwise [val_main_v33, val_main_v34, val_main_v37, val_main_v38, val_main_v39, val_main_v40, val_main_v41, val_main_v42, val_main_cst_5, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257]
  simp only [ext_ref]
  rw [conv, sum31]
  refine congrArg₂ (· + ·) ?_ rfl
  iterate 30 refine congrArg₂ (· + ·) ?_ rfl
  simp [taps]

variable (lg lb : FVec Ideal S1x1024 .f32) (wa wb wo : FVec Ideal S1x1024x1024 .f32) (vg vb : FVec Ideal S1x1024 .f32) (ws : FVec Ideal S1x4x128x128 .f32) (bs : FVec Ideal S1x4x128 .f32)

/-- The row that the first branch multiplies with its weight. -/
def zaOf (s : Fin 16384) (l : Fin 1024) : EReal :=
  let r := lnorm (fun l => conv (gluOf H G W B) (taps C) (vec cb) s.val l) (vec lg) (vec lb)
  r l * lgs (r l)

theorem la_ref (s : Fin 16384) (l : Fin 1024) : val_main_v281 (F := Ideal) H G W B C cb lg lb (ix2 s l) = lnorm (fun l => conv (gluOf H G W B) (taps C) (vec cb) s.val l) (vec lg) (vec lb) l := by
  pointwise [val_main_v258, val_main_v259, val_main_cst_6, val_main_v260, val_main_v261, val_main_cst_7, val_main_v262, val_main_v263, val_main_v264, val_main_v265, val_main_v266, val_main_cst_8, val_main_v267, val_main_v268, val_main_cst_9, val_main_v269, val_main_v270, val_main_cst_10, val_main_v271, val_main_v272, val_main_v273, val_main_v274, val_main_v275, val_main_v276, val_main_v277, val_main_v278, val_main_v279, val_main_v280, val_main_v281]
  simp only [c_ref]
  rfl

theorem za_ref (s : Fin 16384) (l : Fin 1024) : val_main_v282 (F := Ideal) H G W B C cb lg lb (ix2 s l) = zaOf H G W B C cb lg lb s l := by
  pointwise [val_main_call0_v0, val_main_call0_v1, val_main_call0_cst, val_main_call0_v2, val_main_call0_v3, val_main_call0_cst_0, val_main_call0_v4, val_main_call0_v5, val_main_v282]
  simp only [la_ref]
  rfl

theorem ya_ref (s : Fin 16384) (l : Fin 1024) : val_main_v284 (F := Ideal) H G W B C cb lg lb wa (ix2 s l) = mrow (zaOf H G W B C cb lg lb s) (sq wa) l := by
  pointwise [val_main_v283, val_main_v284]
  simp only [za_ref]
  rfl

theorem gu_ref (s : Fin 16384) (l : Fin 1024) : val_main_v301 (F := Ideal) H G W B (ix2 s l) = gel (pOf H G W B s (part 2 l)) := by
  pointwise [val_main_v289, val_main_v290, val_main_cst_11, val_main_v291, val_main_v292, val_main_v293, val_main_cst_12, val_main_v294, val_main_v295, val_main_v296, val_main_cst_13, val_main_v297, val_main_v298, val_main_cst_14, val_main_v299, val_main_v300, val_main_v301]
  simp only [p2_ref]
  rfl

theorem gv_ref (s : Fin 16384) (l : Fin 1024) : val_main_v314 (F := Ideal) H G W B (ix2 s l) = gel (pOf H G W B s (part 3 l)) := by
  pointwise [val_main_v302, val_main_v303, val_main_cst_15, val_main_v304, val_main_v305, val_main_v306, val_main_cst_16, val_main_v307, val_main_v308, val_main_v309, val_main_cst_17, val_main_v310, val_main_v311, val_main_cst_18, val_main_v312, val_main_v313, val_main_v314]
  simp only [p3_ref]
  rfl

theorem vn_ref (s : Fin 16384) (l : Fin 1024) : val_main_v336 (F := Ideal) H G W B vg vb (ix2 s l) = vOf H G W B vg vb s l := by
  pointwise [val_main_v285, val_main_v286, val_main_cst_19, val_main_v315, val_main_v316, val_main_cst_20, val_main_v317, val_main_v318, val_main_v319, val_main_v320, val_main_v321, val_main_cst_21, val_main_v322, val_main_v323, val_main_cst_22, val_main_v324, val_main_v325, val_main_cst_23, val_main_v326, val_main_v327, val_main_v328, val_main_v329, val_main_v330, val_main_v331, val_main_v332, val_main_v333, val_main_v334, val_main_v335, val_main_v336]
  simp only [gv_ref]
  rfl

/-- The mask of the lower triangle. -/
theorem mask : ∀ r u : Fin 128, Scalar.select (IntOp.cmpi CmpIPredicate.sge (IntOp.addi (BitVec.ofNat 32 r.val) 0#32) (BitVec.ofNat 32 u.val)) 1#1 0#1 = if u.val ≤ r.val then 1#1 else 0#1 := by
  decide +kernel

/-- The masked weight. -/
theorem ws_ref (g : Fin 4) (r u : Fin 128) : val_main_v341 (F := Ideal) ws (ix3 g r u) = if u.val ≤ r.val then sgw ws g r u else 0 := by
  pointwise [val_main_v287, val_main_c, val_main_v338, val_main_call1_v0, val_main_call1_c, val_main_call1_v1, val_main_call1_v2, val_main_call1_v3, val_main_call1_v4, val_main_call1_c_0, val_main_call1_v5, val_main_v339, val_main_v340, val_main_cst_24, val_main_call2_v0, val_main_call2_v1, val_main_call2_v2, val_main_v341]
  rw [mask r u, Scalar.select]
  by_cases h : u.val ≤ r.val
  · rw [if_pos h, if_pos h]
    rfl
  · rw [if_neg h, if_neg h]
    simp [constant, Ideal.ofBits_zero]

/-- The rows mixed over their chunk. -/
theorem mix_ref (s : Fin 16384) (l : Fin 1024) : val_main_v348 (F := Ideal) H G W B vg vb ws bs (ix2 s l) = mixed (sgw ws (head l) (place s)) (fun u => vOf H G W B vg vb (inChunk s u) l) (sgb bs (head l) (place s)) (place s) := by
  pointwise [val_main_v288, val_main_v337, val_main_v342, val_main_v343, val_main_v344, val_main_v345, val_main_v346, val_main_v347, val_main_v348]
  simp only [vn_ref, ws_ref]
  exact congrArg₂ (· + ·) (Finset.sum_congr rfl fun u _ => mul_comm _ _) rfl

/-- The row that the second branch multiplies with its weight. -/
def zbOf (s : Fin 16384) (l : Fin 1024) : EReal :=
  gel (pOf H G W B s (part 2 l)) * mixed (sgw ws (head l) (place s)) (fun u => vOf H G W B vg vb (inChunk s u) l) (sgb bs (head l) (place s)) (place s)

theorem yb_ref (s : Fin 16384) (l : Fin 1024) : val_main_v351 (F := Ideal) H G W B vg vb ws bs wb (ix2 s l) = mrow (zbOf H G W B vg vb ws bs s) (sq wb) l := by
  pointwise [val_main_v349, val_main_v350, val_main_v351]
  simp only [gu_ref, mix_ref]
  rfl

/-- The merged row. -/
def mOf (s : Fin 16384) : Fin 1024 → EReal :=
  merged (pOf H G W B s) (mrow (zaOf H G W B C cb lg lb s) (sq wa)) (mrow (zbOf H G W B vg vb ws bs s) (sq wb))

theorem m_ref (s : Fin 16384) (l : Fin 1024) : val_main_v366 (F := Ideal) H G W B C cb lg lb wa vg vb ws bs wb (ix2 s l) = mOf H G W B C cb lg lb wa wb vg vb ws bs s l := by
  pointwise [val_main_v352, val_main_v353, val_main_cst_25, val_main_v354, val_main_v355, val_main_cst_26, val_main_v356, val_main_v357, val_main_v358, val_main_v359, val_main_v360, val_main_cst_27, val_main_v361, val_main_v362, val_main_cst_28, val_main_v363, val_main_v364, val_main_v365, val_main_v366]
  simp only [p4_ref, p5_ref, ya_ref, yb_ref]
  rfl

/-- The row that the layer hands on. -/
theorem o_ref (s : Fin 16384) (l : Fin 1024) : val_main_v369 (F := Ideal) H G W B C cb lg lb wa vg vb ws bs wb wo (ix2 s l) = rowOf H s l + mrow (mOf H G W B C cb lg lb wa wb vg vb ws bs s) (sq wo) l := by
  pointwise [val_main_v367, val_main_v368, val_main_v369]
  simp only [m_ref]
  rfl

end Cert.MixFwdRefIdeal.Read

end
-- ==== Proof.MixPay.lean ====
/- What the mixing kernel computes from the blocks of one grid point. -/
module

public import proofs.«01_k».proof.Proof.Gen.MixFwdIdeal.Skeleton
public import proofs.«01_k».proof.Proof.MixRow
public import Idealize.ShloMosaic.Lib.Pointwise

@[expose] public section

set_option maxRecDepth 16384

noncomputable section

open Idealize.ShloMosaic Idealize.ShloMosaic.TcCoe Idealize.SL.Sem Cert.Attention Cert.Swiglu Cert.MixRow

namespace Cert.MixFwdIdeal.Pay

open Cert.MixFwdIdeal Cert.MixFwdIdeal.Gen

variable {X : FVec Ideal S256x1024 .f32} {G : FVec Ideal S1x1024 .f32} {B : FVec Ideal S1x6144 .f32} {U₀ U₁ U₂ U₃ : FVec Ideal S1x1024x1536 .bf16}
variable {a : Fin 256} {x g : Fin 1024 → EReal} {w : Fin 1024 → Fin 6144 → EReal} {b : Fin 6144 → EReal}

/-- Column `c` of shard `q` of the weight. -/
def shard (q : Fin 4) (c : Fin 1536) : Fin 6144 := ⟨q.val * 1536 + c.val, by omega⟩

variable (hX : ∀ i, X (ix2 a i) = x i) (hG : ∀ i, G (ix2 0 i) = g i)

include hX hG

theorem n_pay (i : Fin 1024) : k0_pay2 (F := Ideal) X G (ix2 a i) = nrow x g i := by
  pointwise [k0_pay2]
  simp only [hX, hG]
  rfl

/-- The products with the four shards. -/
theorem prod0 (hU : ∀ i c, U₀ (ix3 0 i c) = w i (shard 0 c)) (c : Fin 1536) : k0_pay3 (F := Ideal) X G U₀ (ix2 a c) = ∑ i, nrow x g i * w i (shard 0 c) := by
  pointwise [k0_pay3]
  simp only [n_pay hX hG, hU]

theorem prod1 (hU : ∀ i c, U₁ (ix3 0 i c) = w i (shard 1 c)) (c : Fin 1536) : k0_pay5 (F := Ideal) X G U₁ (ix2 a c) = ∑ i, nrow x g i * w i (shard 1 c) := by
  pointwise [k0_pay5]
  simp only [n_pay hX hG, hU]

theorem prod2 (hU : ∀ i c, U₂ (ix3 0 i c) = w i (shard 2 c)) (c : Fin 1536) : k0_pay8 (F := Ideal) (k0_pay2 X G) U₂ (ix2 a c) = ∑ i, nrow x g i * w i (shard 2 c) := by
  pointwise [k0_pay8]
  simp only [n_pay hX hG, hU]

theorem prod3 (hU : ∀ i c, U₃ (ix3 0 i c) = w i (shard 3 c)) (c : Fin 1536) : k0_pay10 (F := Ideal) (k0_pay2 X G) U₃ (ix2 a c) = ∑ i, nrow x g i * w i (shard 3 c) := by
  pointwise [k0_pay10]
  simp only [n_pay hX hG, hU]

variable (hB : ∀ c, B (ix2 0 c) = b c)

include hB

/-- The projection as the kernel stores it. -/
theorem store0 (hU : ∀ i c, U₀ (ix3 0 i c) = w i (shard 0 c)) (c : Fin 1536) : k0_pay4 (F := Ideal) X G B U₀ (ix2 a c) = prow (nrow x g) w b (shard 0 c) := by
  pointwise [k0_pay4]
  rw [prod0 hX hG hU, hB]
  exact congrArg₂ (· + ·) rfl (congrArg b (Fin.ext (by simp [shard])))

theorem store1 (hU : ∀ i c, U₁ (ix3 0 i c) = w i (shard 1 c)) (c : Fin 1536) : k0_pay7 (F := Ideal) (k0_pay5 X G U₁) (k0_pay6 B) (ix2 a c) = prow (nrow x g) w b (shard 1 c) := by
  pointwise [k0_pay7, k0_pay6]
  rw [prod1 hX hG hU, hB]
  exact congrArg₂ (· + ·) rfl (congrArg b (Fin.ext (by simp [shard])))

theorem store2 (hU : ∀ i c, U₂ (ix3 0 i c) = w i (shard 2 c)) (c : Fin 1536) : k0_pay9 (F := Ideal) (k0_pay2 X G) B U₂ (ix2 a c) = prow (nrow x g) w b (shard 2 c) := by
  pointwise [k0_pay9]
  rw [prod2 hX hG hU, hB]
  exact congrArg₂ (· + ·) rfl (congrArg b (Fin.ext (by simp [shard])))

theorem store3 (hU : ∀ i c, U₃ (ix3 0 i c) = w i (shard 3 c)) (c : Fin 1536) : k0_pay11 (F := Ideal) (k0_pay2 X G) B U₃ (ix2 a c) = prow (nrow x g) w b (shard 3 c) := by
  pointwise [k0_pay11]
  rw [prod3 hX hG hU, hB]
  exact congrArg₂ (· + ·) rfl (congrArg b (Fin.ext (by simp [shard])))

/-- A column of the projection from the product of a shard and the bias. -/
theorem col_eq {q : Fin 4} {c : Fin 1536} {d : Fin 6144} {j : Fin 6} {l : Fin 1024} (h : (shard q c).val = (part j l).val) (hd : d.val = (part j l).val) :
    (∑ i, nrow x g i * w i (shard q c)) + b d = prow (nrow x g) w b (part j l) := by
  rw [Fin.ext h, Fin.ext hd]
  rfl

theorem part0 (h0 : ∀ i c, U₀ (ix3 0 i c) = w i (shard 0 c)) (l : Fin 1024) : k0_pay12 (F := Ideal) B (k0_pay3 X G U₀) (ix2 a l) = prow (nrow x g) w b (part 0 l) := by
  pointwise [k0_pay12]
  rw [prod0 hX hG h0, hB]
  exact col_eq hX hG hB (by simp [shard, part]) (by simp [part])

theorem part1 (h0 : ∀ i c, U₀ (ix3 0 i c) = w i (shard 0 c)) (h1 : ∀ i c, U₁ (ix3 0 i c) = w i (shard 1 c)) (l : Fin 1024) :
    k0_pay13 (F := Ideal) B (k0_pay3 X G U₀) (k0_pay5 X G U₁) (ix2 a l) = prow (nrow x g) w b (part 1 l) := by
  by_cases h : l.val < 512
  · obtain ⟨r, rfl⟩ : ∃ r : Fin 512, l = ⟨r.val, Nat.lt_trans r.isLt (by decide)⟩ := ⟨⟨l.val, h⟩, rfl⟩
    pointwise [k0_pay13]
    rw [prod0 hX hG h0, hB]
    exact col_eq hX hG hB (by simp [shard, part] <;> omega) (by simp [part] <;> omega)
  · obtain ⟨r, rfl⟩ : ∃ r : Fin 512, l = ⟨512 + r.val, Nat.add_lt_add_left r.isLt 512⟩ := ⟨⟨l.val - 512, by omega⟩, Fin.ext (by simp; omega)⟩
    pointwise [k0_pay13]
    rw [prod1 hX hG h1, hB]
    exact col_eq hX hG hB (by simp [shard, part] <;> omega) (by simp [part] <;> omega)

theorem part2 (h1 : ∀ i c, U₁ (ix3 0 i c) = w i (shard 1 c)) (l : Fin 1024) : k0_pay14 (F := Ideal) B (k0_pay5 X G U₁) (ix2 a l) = prow (nrow x g) w b (part 2 l) := by
  pointwise [k0_pay14]
  rw [prod1 hX hG h1, hB]
  exact col_eq hX hG hB (by simp [shard, part] <;> omega) (by simp [part] <;> omega)

theorem part3 (h2 : ∀ i c, U₂ (ix3 0 i c) = w i (shard 2 c)) (l : Fin 1024) : k0_pay15 (F := Ideal) (k0_pay2 X G) B U₂ (ix2 a l) = prow (nrow x g) w b (part 3 l) := by
  pointwise [k0_pay15]
  rw [prod2 hX hG h2, hB]
  exact col_eq hX hG hB (by simp [shard, part] <;> omega) (by simp [part] <;> omega)

theorem part4 (h2 : ∀ i c, U₂ (ix3 0 i c) = w i (shard 2 c)) (h3 : ∀ i c, U₃ (ix3 0 i c) = w i (shard 3 c)) (l : Fin 1024) :
    k0_pay16 (F := Ideal) (k0_pay2 X G) B U₂ U₃ (ix2 a l) = prow (nrow x g) w b (part 4 l) := by
  by_cases h : l.val < 512
  · obtain ⟨r, rfl⟩ : ∃ r : Fin 512, l = ⟨r.val, Nat.lt_trans r.isLt (by decide)⟩ := ⟨⟨l.val, h⟩, rfl⟩
    pointwise [k0_pay16]
    rw [prod2 hX hG h2, hB]
    exact col_eq hX hG hB (by simp [shard, part] <;> omega) (by simp [part] <;> omega)
  · obtain ⟨r, rfl⟩ : ∃ r : Fin 512, l = ⟨512 + r.val, Nat.add_lt_add_left r.isLt 512⟩ := ⟨⟨l.val - 512, by omega⟩, Fin.ext (by simp; omega)⟩
    pointwise [k0_pay16]
    rw [prod3 hX hG h3, hB]
    exact col_eq hX hG hB (by simp [shard, part] <;> omega) (by simp [part] <;> omega)

theorem part5 (h3 : ∀ i c, U₃ (ix3 0 i c) = w i (shard 3 c)) (l : Fin 1024) : k0_pay17 (F := Ideal) B (k0_pay10 (k0_pay2 X G) U₃) (ix2 a l) = prow (nrow x g) w b (part 5 l) := by
  pointwise [k0_pay17]
  rw [prod3 hX hG h3, hB]
  exact col_eq hX hG hB (by simp [shard, part] <;> omega) (by simp [part] <;> omega)

/-- The new rows of the convolution's argument. -/
theorem glu_pay (h0 : ∀ i c, U₀ (ix3 0 i c) = w i (shard 0 c)) (h1 : ∀ i c, U₁ (ix3 0 i c) = w i (shard 1 c)) (l : Fin 1024) :
    k0_pay18 (F := Ideal) (k0_pay12 B (k0_pay3 X G U₀)) (k0_pay13 B (k0_pay3 X G U₀) (k0_pay5 X G U₁)) (ix2 a l) = glu (prow (nrow x g) w b) l := by
  pointwise [k0_pay18]
  rw [part0 hX hG hB h0, part1 hX hG hB h0 h1, zero_sub]
  rfl

end Cert.MixFwdIdeal.Pay

end
-- ==== Proof.MixRead.lean ====
/- What the mixing kernel's loads find in its scratch: the new rows below the last 32 rows of the block before, and the seven copies of a lane group that start one row apart. -/
module

public import proofs.«01_k».proof.Proof.Gen.MixFwdIdeal
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.MixRead

open Cert.MixFwdIdeal

variable {sig' : RefSig} {κ : Kind} {sp : Space}

/-- The newest piece, read at one of its indices. -/
theorem canon_unit_of_mem {s : Shape} {e : EltTy} {Val : EltTy → Type} [∀ e, Nonempty (Val e)] {off size : Fin s.rank → ℕ} (inb : ∀ a, off a + size a ≤ s.size a)
    (w : (Rect.unit (s := s) off size inb).shape.Idx → Val e) (L : List (View.Piece Val s e)) (y : s.Idx) (x : (Rect.unit (s := s) off size inb).shape.Idx) (hx : ∀ a, (y a).val = off a + (x a).val) :
    View.canon (⟨Rect.unit (s := s) off size inb, w⟩ :: L) y = w x := by
  have hy : (Rect.unit (s := s) off size inb).emb x = y := funext fun a => Fin.ext (by
    show off a + 1 * (x a).val = (y a).val
    rw [hx a, Nat.one_mul])
  exact (congrArg (View.canon (⟨Rect.unit (s := s) off size inb, w⟩ :: L)) hy.symm).trans (View.canon_cons_emb _ w L x)

/-- `A` below the first 32 rows of `P`. -/
def stack (P : FVec Ideal S288x1024 .f32) (A : FVec Ideal S256x1024 .f32) : FVec Ideal S288x1024 .f32 :=
  fun y => if h : 32 ≤ (y 0).val then A (ix2 ⟨(y 0).val - 32, by have : (y 0).val < 288 := (y 0).isLt; omega⟩ (y 1)) else P y

theorem read_stack (v : View sig' κ sp S288x1024 .f32) (f : v.ty.Contents (Elt Ideal)) (inb : ∀ a, (![32, 0] : Fin 2 → ℕ) a + (![256, 1024] : Fin 2 → ℕ) a ≤ S288x1024.size a) (A : FVec Ideal S256x1024 .f32) :
    v.read (Elt Ideal) (v.writes (Elt Ideal) f [⟨Rect.unit (s := S288x1024) ![32, 0] ![256, 1024] inb, A⟩]) = stack (v.read (Elt Ideal) f) A := by
  funext y
  by_cases h : 32 ≤ (y 0).val
  · have hy : (y 0).val < 288 := (y 0).isLt
    rw [stack, dif_pos h]
    exact View.read_writes_cons_unit_of_mem v f inb A [] y (ix2 ⟨(y 0).val - 32, by omega⟩ (y 1)) rfl
      (Fin.forall_fin_two.mpr ⟨(by show (y 0).val = 32 + ((y 0).val - 32); omega), (by show (y 1).val = 0 + (y 1).val; omega)⟩)
  · rw [stack, dif_neg h, View.read_writes_cons_unit_of_not_mem v f inb A [] y rfl 0 (Or.inl (by show (y 0).val < 32; omega))]
    rfl

/-- The rows from 32 on are the new ones, whatever was written before; -/
theorem canon_new (P : FVec Ideal S288x1024 .f32) (inb : ∀ a, (![32, 0] : Fin 2 → ℕ) a + (![256, 1024] : Fin 2 → ℕ) a ≤ S288x1024.size a) (A : FVec Ideal S256x1024 .f32)
    (L : List (View.Piece (Elt Ideal) S288x1024 .f32)) (y : S288x1024.Idx) (h : 32 ≤ (y 0).val) :
    View.canon (⟨Rect.unit (s := S288x1024) ![32, 0] ![256, 1024] inb, A⟩ :: L) y = stack P A y := by
  have hlt : (y 0).val < 288 := (y 0).isLt
  rw [stack, dif_pos h]
  exact canon_unit_of_mem inb A L y (ix2 ⟨(y 0).val - 32, by omega⟩ (y 1))
    (Fin.forall_fin_two.mpr ⟨(by show (y 0).val = 32 + ((y 0).val - 32); omega), (by show (y 1).val = 0 + (y 1).val; omega)⟩)

/-- the rows before them what was written before. -/
theorem canon_old (inb : ∀ a, (![32, 0] : Fin 2 → ℕ) a + (![256, 1024] : Fin 2 → ℕ) a ≤ S288x1024.size a) (A : FVec Ideal S256x1024 .f32)
    (L : List (View.Piece (Elt Ideal) S288x1024 .f32)) (y : S288x1024.Idx) (h : ¬32 ≤ (y 0).val) :
    View.canon (⟨Rect.unit (s := S288x1024) ![32, 0] ![256, 1024] inb, A⟩ :: L) y = stack (View.canon L) A y := by
  rw [stack, dif_neg h]
  refine View.canon_cons_of_not_mem (⟨Rect.unit (s := S288x1024) ![32, 0] ![256, 1024] inb, A⟩ : View.Piece (Elt Ideal) S288x1024 .f32) L fun hm => ?_
  have e := ((Rect.mem_set_unit (s := S288x1024) (off := ![32, 0]) (size := ![256, 1024]) (inb := inb)).mp hm 0).1
  exact h (by simpa using e)

/-- A load of new rows alone. -/
theorem readCov_new (P : FVec Ideal S288x1024 .f32) (v : View sig' κ sp S288x1024 .f32) (inb : ∀ a, (![32, 0] : Fin 2 → ℕ) a + (![256, 1024] : Fin 2 → ℕ) a ≤ S288x1024.size a)
    (A : FVec Ideal S256x1024 .f32) (L : List (View.Piece (Elt Ideal) S288x1024 .f32)) {off size : Fin 2 → ℕ} (inb' : ∀ a, off a + size a ≤ S288x1024.size a) (h : 32 ≤ off 0) :
    v.readCov (⟨Rect.unit (s := S288x1024) ![32, 0] ![256, 1024] inb, A⟩ :: L) (Rect.unit (s := S288x1024) off size inb').toLoadRect = View.ld (stack P A) (Rect.unit (s := S288x1024) off size inb') := by
  rw [View.readCov_eq_canon']
  funext j
  exact canon_new P inb A L _ (Nat.le_trans h (Nat.le_add_right _ _))

/-- A load of any rows once all were written. -/
theorem readCov_first (v : View sig' κ sp S288x1024 .f32) (inb : ∀ a, (![32, 0] : Fin 2 → ℕ) a + (![256, 1024] : Fin 2 → ℕ) a ≤ S288x1024.size a) (A : FVec Ideal S256x1024 .f32)
    (L : List (View.Piece (Elt Ideal) S288x1024 .f32)) {off size : Fin 2 → ℕ} (inb' : ∀ a, off a + size a ≤ S288x1024.size a) :
    v.readCov (⟨Rect.unit (s := S288x1024) ![32, 0] ![256, 1024] inb, A⟩ :: L) (Rect.unit (s := S288x1024) off size inb').toLoadRect = View.ld (stack (View.canon L) A) (Rect.unit (s := S288x1024) off size inb') := by
  rw [View.readCov_eq_canon']
  funext j
  by_cases h : 32 ≤ ((Rect.unit (s := S288x1024) off size inb').toLoadRect.idx j 0).val
  · exact canon_new _ inb A L _ h
  · exact canon_old inb A L _ h

theorem stack_is {P : FVec Ideal S288x1024 .f32} {A : FVec Ideal S256x1024 .f32} {X : ℕ → Fin 1024 → EReal}
    (hP : ∀ (r : Fin 288) (l : Fin 1024), r.val < 32 → P (ix2 r l) = X r.val l) (hA : ∀ (a : Fin 256) (l : Fin 1024), A (ix2 a l) = X (32 + a.val) l) :
    stack P A = fun y => X (y 0).val (y 1) := by
  funext y
  idx_vars y
  simp only [stack]
  split_ifs with h
  · refine (hA _ _).trans (congrArg (X · y1) ?_)
    show 32 + (y0.val - 32) = y0.val
    have : 32 ≤ y0.val := h
    omega
  · exact hP y0 y1 (by simpa using h)

/-- The newest plane, or an older one. -/
theorem canon_plane (k : ℕ) (inb : ∀ a, (![k, 0, 0] : Fin 3 → ℕ) a + (![1, 280, 128] : Fin 3 → ℕ) a ≤ S7x280x128.size a) (w : FVec Ideal S1x280x128 .f32)
    (L : List (View.Piece (Elt Ideal) S7x280x128 .f32)) (p : Fin 7) (a : Fin 280) (b : Fin 128) (G : EReal) (hw : p.val = k → w (ix3 0 a b) = G)
    (hL : p.val ≠ k → View.canon (Val := Elt Ideal) L (ix3 p a b) = G) :
    View.canon (⟨Rect.unit (s := S7x280x128) ![k, 0, 0] ![1, 280, 128] inb, w⟩ :: L) (ix3 p a b) = G := by
  by_cases h : p.val = k
  · refine (canon_unit_of_mem inb w L (ix3 p a b) (ix3 0 a b) ?_).trans (hw h)
    intro x
    fin_cases x
    · show p.val = k + 0
      omega
    · show a.val = 0 + a.val
      omega
    · show b.val = 0 + b.val
      omega
  · refine (View.canon_cons_of_not_mem (⟨Rect.unit (s := S7x280x128) ![k, 0, 0] ![1, 280, 128] inb, w⟩ : View.Piece (Elt Ideal) S7x280x128 .f32) L fun hm => ?_).trans (hL h)
    have e := ((Rect.mem_set_unit (s := S7x280x128) (off := ![k, 0, 0]) (size := ![1, 280, 128]) (inb := inb)).mp hm 0)
    have e1 : k ≤ p.val := e.1
    have e2 : p.val < k + 1 := e.2
    omega

theorem plane_cast (w : FVec Ideal S280x128 .f32) (hs : S280x128.ShapeCasts S1x280x128) (a : Fin 280) (b : Fin 128) : shapeCast S1x280x128 w hs (ix3 0 a b) = w (ix2 a b) := by
  pointwise

/-- Rows of a lane group as a plane. -/
theorem plane_at (X : ℕ → Fin 1024 → EReal) (k o : ℕ) (j : ∀ a, (![k, o] : Fin 2 → ℕ) a + (![280, 128] : Fin 2 → ℕ) a ≤ S288x1024.size a) (hs : S280x128.ShapeCasts S1x280x128) (a : Fin 280) (b : Fin 128) (h : o + b.val < 1024) :
    shapeCast S1x280x128 (View.ld (Val := Elt Ideal) (e' := .f32) (fun y : S288x1024.Idx => X (y 0).val (y 1)) (Rect.unit (s := S288x1024) ![k, o] ![280, 128] j)) hs (ix3 0 a b) = X (k + a.val) ⟨o + b.val, h⟩ := by
  refine (plane_cast _ hs a b).trans ?_
  show X (k + 1 * a.val) ⟨o + 1 * b.val, _⟩ = X (k + a.val) ⟨o + b.val, h⟩
  simp only [Nat.one_mul]

/-- Copy `s` of the lane group at `o` starts at row `1 + s`. -/
theorem copies_at (X : ℕ → Fin 1024 → EReal) (o : ℕ)
    (i0 : ∀ a, (![0, 0, 0] : Fin 3 → ℕ) a + (![1, 280, 128] : Fin 3 → ℕ) a ≤ S7x280x128.size a) (j0 : ∀ a, (![1, o] : Fin 2 → ℕ) a + (![280, 128] : Fin 2 → ℕ) a ≤ S288x1024.size a)
    (i1 : ∀ a, (![1, 0, 0] : Fin 3 → ℕ) a + (![1, 280, 128] : Fin 3 → ℕ) a ≤ S7x280x128.size a) (j1 : ∀ a, (![2, o] : Fin 2 → ℕ) a + (![280, 128] : Fin 2 → ℕ) a ≤ S288x1024.size a)
    (i2 : ∀ a, (![2, 0, 0] : Fin 3 → ℕ) a + (![1, 280, 128] : Fin 3 → ℕ) a ≤ S7x280x128.size a) (j2 : ∀ a, (![3, o] : Fin 2 → ℕ) a + (![280, 128] : Fin 2 → ℕ) a ≤ S288x1024.size a)
    (i3 : ∀ a, (![3, 0, 0] : Fin 3 → ℕ) a + (![1, 280, 128] : Fin 3 → ℕ) a ≤ S7x280x128.size a) (j3 : ∀ a, (![4, o] : Fin 2 → ℕ) a + (![280, 128] : Fin 2 → ℕ) a ≤ S288x1024.size a)
    (i4 : ∀ a, (![4, 0, 0] : Fin 3 → ℕ) a + (![1, 280, 128] : Fin 3 → ℕ) a ≤ S7x280x128.size a) (j4 : ∀ a, (![5, o] : Fin 2 → ℕ) a + (![280, 128] : Fin 2 → ℕ) a ≤ S288x1024.size a)
    (i5 : ∀ a, (![5, 0, 0] : Fin 3 → ℕ) a + (![1, 280, 128] : Fin 3 → ℕ) a ≤ S7x280x128.size a) (j5 : ∀ a, (![6, o] : Fin 2 → ℕ) a + (![280, 128] : Fin 2 → ℕ) a ≤ S288x1024.size a)
    (i6 : ∀ a, (![6, 0, 0] : Fin 3 → ℕ) a + (![1, 280, 128] : Fin 3 → ℕ) a ≤ S7x280x128.size a) (j6 : ∀ a, (![7, o] : Fin 2 → ℕ) a + (![280, 128] : Fin 2 → ℕ) a ≤ S288x1024.size a)
    (hs : S280x128.ShapeCasts S1x280x128) (L : List (View.Piece (Elt Ideal) S7x280x128 .f32)) (p : Fin 7) (a : Fin 280) (b : Fin 128) (h : o + b.val < 1024) :
    View.canon (⟨Rect.unit (s := S7x280x128) ![6, 0, 0] ![1, 280, 128] i6, shapeCast S1x280x128 (View.ld (Val := Elt Ideal) (e' := .f32) (fun y : S288x1024.Idx => X (y 0).val (y 1)) (Rect.unit (s := S288x1024) ![7, o] ![280, 128] j6)) hs⟩
      :: ⟨Rect.unit (s := S7x280x128) ![5, 0, 0] ![1, 280, 128] i5, shapeCast S1x280x128 (View.ld (Val := Elt Ideal) (e' := .f32) (fun y : S288x1024.Idx => X (y 0).val (y 1)) (Rect.unit (s := S288x1024) ![6, o] ![280, 128] j5)) hs⟩
      :: ⟨Rect.unit (s := S7x280x128) ![4, 0, 0] ![1, 280, 128] i4, shapeCast S1x280x128 (View.ld (Val := Elt Ideal) (e' := .f32) (fun y : S288x1024.Idx => X (y 0).val (y 1)) (Rect.unit (s := S288x1024) ![5, o] ![280, 128] j4)) hs⟩
      :: ⟨Rect.unit (s := S7x280x128) ![3, 0, 0] ![1, 280, 128] i3, shapeCast S1x280x128 (View.ld (Val := Elt Ideal) (e' := .f32) (fun y : S288x1024.Idx => X (y 0).val (y 1)) (Rect.unit (s := S288x1024) ![4, o] ![280, 128] j3)) hs⟩
      :: ⟨Rect.unit (s := S7x280x128) ![2, 0, 0] ![1, 280, 128] i2, shapeCast S1x280x128 (View.ld (Val := Elt Ideal) (e' := .f32) (fun y : S288x1024.Idx => X (y 0).val (y 1)) (Rect.unit (s := S288x1024) ![3, o] ![280, 128] j2)) hs⟩
      :: ⟨Rect.unit (s := S7x280x128) ![1, 0, 0] ![1, 280, 128] i1, shapeCast S1x280x128 (View.ld (Val := Elt Ideal) (e' := .f32) (fun y : S288x1024.Idx => X (y 0).val (y 1)) (Rect.unit (s := S288x1024) ![2, o] ![280, 128] j1)) hs⟩
      :: ⟨Rect.unit (s := S7x280x128) ![0, 0, 0] ![1, 280, 128] i0, shapeCast S1x280x128 (View.ld (Val := Elt Ideal) (e' := .f32) (fun y : S288x1024.Idx => X (y 0).val (y 1)) (Rect.unit (s := S288x1024) ![1, o] ![280, 128] j0)) hs⟩ :: L) (ix3 p a b) = X (1 + p.val + a.val) ⟨o + b.val, h⟩ := by
  refine canon_plane 6 i6 _ _ p a b _ (fun e => (plane_at X 7 o j6 hs a b h).trans (by rw [e])) fun e6 => ?_
  refine canon_plane 5 i5 _ _ p a b _ (fun e => (plane_at X 6 o j5 hs a b h).trans (by rw [e])) fun e5 => ?_
  refine canon_plane 4 i4 _ _ p a b _ (fun e => (plane_at X 5 o j4 hs a b h).trans (by rw [e])) fun e4 => ?_
  refine canon_plane 3 i3 _ _ p a b _ (fun e => (plane_at X 4 o j3 hs a b h).trans (by rw [e])) fun e3 => ?_
  refine canon_plane 2 i2 _ _ p a b _ (fun e => (plane_at X 3 o j2 hs a b h).trans (by rw [e])) fun e2 => ?_
  refine canon_plane 1 i1 _ _ p a b _ (fun e => (plane_at X 2 o j1 hs a b h).trans (by rw [e])) fun e1 => ?_
  refine canon_plane 0 i0 _ _ p a b _ (fun e => (plane_at X 1 o j0 hs a b h).trans (by rw [e])) fun e0 => ?_
  omega

theorem copies_read (v : View sig' κ sp S7x280x128 .f32) (X : ℕ → Fin 1024 → EReal) (o : ℕ)
    (i0 : ∀ a, (![0, 0, 0] : Fin 3 → ℕ) a + (![1, 280, 128] : Fin 3 → ℕ) a ≤ S7x280x128.size a) (j0 : ∀ a, (![1, o] : Fin 2 → ℕ) a + (![280, 128] : Fin 2 → ℕ) a ≤ S288x1024.size a)
    (i1 : ∀ a, (![1, 0, 0] : Fin 3 → ℕ) a + (![1, 280, 128] : Fin 3 → ℕ) a ≤ S7x280x128.size a) (j1 : ∀ a, (![2, o] : Fin 2 → ℕ) a + (![280, 128] : Fin 2 → ℕ) a ≤ S288x1024.size a)
    (i2 : ∀ a, (![2, 0, 0] : Fin 3 → ℕ) a + (![1, 280, 128] : Fin 3 → ℕ) a ≤ S7x280x128.size a) (j2 : ∀ a, (![3, o] : Fin 2 → ℕ) a + (![280, 128] : Fin 2 → ℕ) a ≤ S288x1024.size a)
    (i3 : ∀ a, (![3, 0, 0] : Fin 3 → ℕ) a + (![1, 280, 128] : Fin 3 → ℕ) a ≤ S7x280x128.size a) (j3 : ∀ a, (![4, o] : Fin 2 → ℕ) a + (![280, 128] : Fin 2 → ℕ) a ≤ S288x1024.size a)
    (i4 : ∀ a, (![4, 0, 0] : Fin 3 → ℕ) a + (![1, 280, 128] : Fin 3 → ℕ) a ≤ S7x280x128.size a) (j4 : ∀ a, (![5, o] : Fin 2 → ℕ) a + (![280, 128] : Fin 2 → ℕ) a ≤ S288x1024.size a)
    (i5 : ∀ a, (![5, 0, 0] : Fin 3 → ℕ) a + (![1, 280, 128] : Fin 3 → ℕ) a ≤ S7x280x128.size a) (j5 : ∀ a, (![6, o] : Fin 2 → ℕ) a + (![280, 128] : Fin 2 → ℕ) a ≤ S288x1024.size a)
    (i6 : ∀ a, (![6, 0, 0] : Fin 3 → ℕ) a + (![1, 280, 128] : Fin 3 → ℕ) a ≤ S7x280x128.size a) (j6 : ∀ a, (![7, o] : Fin 2 → ℕ) a + (![280, 128] : Fin 2 → ℕ) a ≤ S288x1024.size a)
    (hs : S280x128.ShapeCasts S1x280x128) (L : List (View.Piece (Elt Ideal) S7x280x128 .f32)) (p q : ℕ) (i : ∀ a, (![p, q, 0] : Fin 3 → ℕ) a + (![1, 128, 128] : Fin 3 → ℕ) a ≤ S7x280x128.size a) (ho : o + 128 ≤ 1024) :
    v.readCov (⟨Rect.unit (s := S7x280x128) ![6, 0, 0] ![1, 280, 128] i6, shapeCast S1x280x128 (View.ld (Val := Elt Ideal) (e' := .f32) (fun y : S288x1024.Idx => X (y 0).val (y 1)) (Rect.unit (s := S288x1024) ![7, o] ![280, 128] j6)) hs⟩
      :: ⟨Rect.unit (s := S7x280x128) ![5, 0, 0] ![1, 280, 128] i5, shapeCast S1x280x128 (View.ld (Val := Elt Ideal) (e' := .f32) (fun y : S288x1024.Idx => X (y 0).val (y 1)) (Rect.unit (s := S288x1024) ![6, o] ![280, 128] j5)) hs⟩
      :: ⟨Rect.unit (s := S7x280x128) ![4, 0, 0] ![1, 280, 128] i4, shapeCast S1x280x128 (View.ld (Val := Elt Ideal) (e' := .f32) (fun y : S288x1024.Idx => X (y 0).val (y 1)) (Rect.unit (s := S288x1024) ![5, o] ![280, 128] j4)) hs⟩
      :: ⟨Rect.unit (s := S7x280x128) ![3, 0, 0] ![1, 280, 128] i3, shapeCast S1x280x128 (View.ld (Val := Elt Ideal) (e' := .f32) (fun y : S288x1024.Idx => X (y 0).val (y 1)) (Rect.unit (s := S288x1024) ![4, o] ![280, 128] j3)) hs⟩
      :: ⟨Rect.unit (s := S7x280x128) ![2, 0, 0] ![1, 280, 128] i2, shapeCast S1x280x128 (View.ld (Val := Elt Ideal) (e' := .f32) (fun y : S288x1024.Idx => X (y 0).val (y 1)) (Rect.unit (s := S288x1024) ![3, o] ![280, 128] j2)) hs⟩
      :: ⟨Rect.unit (s := S7x280x128) ![1, 0, 0] ![1, 280, 128] i1, shapeCast S1x280x128 (View.ld (Val := Elt Ideal) (e' := .f32) (fun y : S288x1024.Idx => X (y 0).val (y 1)) (Rect.unit (s := S288x1024) ![2, o] ![280, 128] j1)) hs⟩
      :: ⟨Rect.unit (s := S7x280x128) ![0, 0, 0] ![1, 280, 128] i0, shapeCast S1x280x128 (View.ld (Val := Elt Ideal) (e' := .f32) (fun y : S288x1024.Idx => X (y 0).val (y 1)) (Rect.unit (s := S288x1024) ![1, o] ![280, 128] j0)) hs⟩ :: L) (Rect.unit (s := S7x280x128) ![p, q, 0] ![1, 128, 128] i).toLoadRect
      = fun j => X (1 + p + q + (j 1).val) ⟨o + (j 2).val, Nat.lt_of_lt_of_le (Nat.add_lt_add_left (j 2).isLt o) ho⟩ := by
  rw [View.readCov_eq_canon']
  funext j
  have hp : p + 1 ≤ 7 := i 0
  have hq : q + 128 ≤ 280 := i 1
  have h0 : (j 0).val < 1 := (j 0).isLt
  have h1 : (j 1).val < 128 := (j 1).isLt
  have h2 : (j 2).val < 128 := (j 2).isLt
  have e : ((Rect.unit (s := S7x280x128) ![p, q, 0] ![1, 128, 128] i).toLoadRect.idx j : S7x280x128.Idx) = ix3 ⟨p, by omega⟩ ⟨q + (j 1).val, by omega⟩ ⟨(j 2).val, by omega⟩ := by
    funext x
    fin_cases x
    · exact Fin.ext (by show p + 1 * (j 0).val = p; omega)
    · exact Fin.ext (by show q + 1 * (j 1).val = q + (j 1).val; omega)
    · exact Fin.ext (by show 0 + 1 * (j 2).val = (j 2).val; omega)
  rw [e]
  refine (copies_at X o i0 j0 i1 j1 i2 j2 i3 j3 i4 j4 i5 j5 i6 j6 hs L _ _ _ (by show o + (j 2).val < 1024; omega)).trans ?_
  simp only [Nat.add_assoc]

end Cert.MixRead

end
-- ==== Proof.MixFwdWin.lean ====
/- The value of the mixing layer's forward call: windows, the projection and the normed rows. -/
module

public import proofs.«01_k».proof.Proof.Gen.MixFwdIdeal.Value
public import proofs.«01_k».proof.Proof.MixFwdRef
public import proofs.«01_k».proof.Proof.MixPay
public import proofs.«01_k».proof.Proof.MixRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow Cert.MixRead
open Idealize.ShloMosaic.Pipeline (Dat)

namespace Cert.MixFwdIdeal.Value

open Cert.MixFwdIdeal Cert.MixFwdIdeal.Gen Cert.MixFwdIdeal.Pay Cert.MixFwdRefIdeal.Read

variable (m : (ℓ : Loc nD τ sig) → Buf (Elt Ideal) ℓ)

/-- Block `t` of the rows is rows `256 t` to `256 t + 255`; every other window is its whole array. -/
theorem idx : ∀ t : Fin cfg0.N, win0_0.index t = ![t.val, 0] ∧ win0_1.index t = ![0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0, 0] ∧ win0_12.index t = ![0, 0] ∧ win0_13.index t = ![0, 0] ∧ win0_14.index t = ![0, 0] ∧ win0_15.index t = ![t.val, 0] ∧ win0_16.index t = ![t.val, 0] ∧ win0_17.index t = ![t.val, 0] ∧ win0_18.index t = ![t.val, 0] :=
  (by decide +kernel : ∀ t : Fin grid0.N, _)

/-- Row `a` of block `t` among all the rows. -/
def row (t : Fin cfg0.N) (a : Fin 256) : Fin 16384 := ⟨t.val * 256 + a.val, by have := lt_of_lt_of_eq t.isLt N_0; omega⟩

variable (c : Dev nD)

/-- The arguments. -/
abbrev aH : FVec Ideal S16384x1024 .f32 := m ((c : Thread nD τ).loc main_arg0)
abbrev aG : FVec Ideal S1x1024 .f32 := m ((c : Thread nD τ).loc main_arg1)
abbrev aW : FVec Ideal S1x1024x6144 .f32 := m ((c : Thread nD τ).loc main_arg2)
abbrev aB : FVec Ideal S1x6144 .f32 := m ((c : Thread nD τ).loc main_arg3)
abbrev aC : FVec Ideal S1x31x1024 .f32 := m ((c : Thread nD τ).loc main_arg4)
abbrev aCb : FVec Ideal S1x1024 .f32 := m ((c : Thread nD τ).loc main_arg5)
abbrev aLg : FVec Ideal S1x1024 .f32 := m ((c : Thread nD τ).loc main_arg6)
abbrev aLb : FVec Ideal S1x1024 .f32 := m ((c : Thread nD τ).loc main_arg7)
abbrev aWa : FVec Ideal S1x1024x1024 .f32 := m ((c : Thread nD τ).loc main_arg8)
abbrev aVg : FVec Ideal S1x1024 .f32 := m ((c : Thread nD τ).loc main_arg9)
abbrev aVb : FVec Ideal S1x1024 .f32 := m ((c : Thread nD τ).loc main_arg10)
abbrev aWs : FVec Ideal S1x4x128x128 .f32 := m ((c : Thread nD τ).loc main_arg11)
abbrev aBs : FVec Ideal S1x4x128 .f32 := m ((c : Thread nD τ).loc main_arg12)
abbrev aWb : FVec Ideal S1x1024x1024 .f32 := m ((c : Thread nD τ).loc main_arg13)
abbrev aWo : FVec Ideal S1x1024x1024 .f32 := m ((c : Thread nD τ).loc main_arg14)

theorem h_at (t : Fin cfg0.N) (a : Fin 256) (i : Fin 1024) : (show FVec Ideal S256x1024 .f32 from iblk m c 0 t) (ix2 a i) = rowOf (aH m c) (row t a) i := by
  blk_point [iblk, V, idx t, row, rowOf]

theorem g_at (t : Fin cfg0.N) (i : Fin 1024) : (show FVec Ideal S1x1024 .f32 from iblk m c 1 t) (ix2 0 i) = vec (aG m c) i := by
  blk_point [iblk, V, idx t, vec]

theorem cb_at (t : Fin cfg0.N) (i : Fin 1024) : (show FVec Ideal S1x1024 .f32 from iblk m c 5 t) (ix2 0 i) = vec (aCb m c) i := by
  blk_point [iblk, V, idx t, vec]

theorem lg_at (t : Fin cfg0.N) (i : Fin 1024) : (show FVec Ideal S1x1024 .f32 from iblk m c 6 t) (ix2 0 i) = vec (aLg m c) i := by
  blk_point [iblk, V, idx t, vec]

theorem lb_at (t : Fin cfg0.N) (i : Fin 1024) : (show FVec Ideal S1x1024 .f32 from iblk m c 7 t) (ix2 0 i) = vec (aLb m c) i := by
  blk_point [iblk, V, idx t, vec]

theorem vg_at (t : Fin cfg0.N) (i : Fin 1024) : (show FVec Ideal S1x1024 .f32 from iblk m c 9 t) (ix2 0 i) = vec (aVg m c) i := by
  blk_point [iblk, V, idx t, vec]

theorem vb_at (t : Fin cfg0.N) (i : Fin 1024) : (show FVec Ideal S1x1024 .f32 from iblk m c 10 t) (ix2 0 i) = vec (aVb m c) i := by
  blk_point [iblk, V, idx t, vec]

theorem b_at (t : Fin cfg0.N) (i : Fin 6144) : (show FVec Ideal S1x6144 .f32 from iblk m c 3 t) (ix2 0 i) = bin (aB m c) i := by
  blk_point [iblk, V, idx t, bin]

theorem w_at (t : Fin cfg0.N) (q : Fin 4) (i : Fin 1024) (b : Fin 1536) :
    (show FVec Ideal S4x1024x1536 .bf16 from iblk m c 2 t) (ix3 q i b) = win (aW m c) i (shard q b) := by
  blk_simp [iblk, V, idx t]
  simp only [hostOps0, hostOps0_1, hostOps0_2, hostOps0_3, hostOps0_4, hostOps0_5, hostOps0_6, List.flatten_cons, List.flatten_nil, List.append_nil, List.cons_append, List.nil_append]
  entry_read
  pointwise [win]
  blk_ext [idx t, shard]

theorem tap_at (t : Fin cfg0.N) (k : Fin 31) (l : Fin 1024) : (show FVec Ideal S32x1024 .f32 from iblk m c 4 t) (ix2 ⟨k.val, by omega⟩ l) = taps (aC m c) k l := by
  refine (congrArg (V m c main_v11) (show (((cfg0.win 4).blk t).view.emb (ix2 ⟨k.val, by omega⟩ l : S32x1024.Idx) : S32x1024.Idx) = ix2 ⟨k.val, by omega⟩ l from by blk_ext [idx t])).trans ?_
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rfl

theorem ws_at (t : Fin cfg0.N) (g : Fin 4) (r u : Fin 128) : (show FVec Ideal S4x128x128 .bf16 from iblk m c 11 t) (ix3 g r u) = if u.val ≤ r.val then sgw (aWs m c) g r u else 0 := by
  refine (congrArg (V m c main_v5) (show (((cfg0.win 11).blk t).view.emb (ix3 g r u : S4x128x128.Idx) : S4x128x128.Idx) = ix3 g r u from by blk_ext [idx t])).trans ?_
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [mask r u, Scalar.select]
  by_cases h : u.val ≤ r.val
  · rw [if_pos h, if_pos h]
    rfl
  · rw [if_neg h, if_neg h]
    simp [constant, Ideal.ofBits_zero]

theorem bs_at (t : Fin cfg0.N) (r : Fin 128) (l : Fin 1024) : (show FVec Ideal S128x1024 .f32 from iblk m c 12 t) (ix2 r l) = sgb (aBs m c) (head l) r := by
  refine (congrArg (V m c main_v9) (show (((cfg0.win 12).blk t).view.emb (ix2 r l : S128x1024.Idx) : S128x1024.Idx) = ix2 r l from by blk_ext [idx t])).trans ?_
  simp only [V, hostOps0, hostOps0_1, hostOps0_2, hostOps0_3, hostOps0_4, hostOps0_5, hostOps0_6, List.flatten_cons, List.flatten_nil, List.append_nil, List.cons_append, List.nil_append]
  entry_read
  pointwise
  rfl

theorem wa_at (t : Fin cfg0.N) (i l : Fin 1024) : (show FVec Ideal S1024x1024 .bf16 from iblk m c 8 t) (ix2 i l) = MixFwdRefIdeal.Read.sq (aWa m c) i l := by
  blk_simp [iblk, V, idx t]
  simp only [hostOps0, hostOps0_1, hostOps0_2, hostOps0_3, hostOps0_4, hostOps0_5, hostOps0_6, List.flatten_cons, List.flatten_nil, List.append_nil, List.cons_append, List.nil_append]
  entry_read
  pointwise [MixFwdRefIdeal.Read.sq]
  blk_ext [idx t]

theorem wb_at (t : Fin cfg0.N) (i l : Fin 1024) : (show FVec Ideal S1024x1024 .bf16 from iblk m c 13 t) (ix2 i l) = MixFwdRefIdeal.Read.sq (aWb m c) i l := by
  blk_simp [iblk, V, idx t]
  simp only [hostOps0, hostOps0_1, hostOps0_2, hostOps0_3, hostOps0_4, hostOps0_5, hostOps0_6, List.flatten_cons, List.flatten_nil, List.append_nil, List.cons_append, List.nil_append]
  entry_read
  pointwise [MixFwdRefIdeal.Read.sq]
  blk_ext [idx t]

theorem wo_at (t : Fin cfg0.N) (i l : Fin 1024) : (show FVec Ideal S1024x1024 .bf16 from iblk m c 14 t) (ix2 i l) = MixFwdRefIdeal.Read.sq (aWo m c) i l := by
  blk_simp [iblk, V, idx t]
  simp only [hostOps0, hostOps0_1, hostOps0_2, hostOps0_3, hostOps0_4, hostOps0_5, hostOps0_6, List.flatten_cons, List.flatten_nil, List.append_nil, List.cons_append, List.nil_append]
  entry_read
  pointwise [MixFwdRefIdeal.Read.sq]
  blk_ext [idx t]

end Cert.MixFwdIdeal.Value

end
-- ==== Proof.MixFwdRows.lean ====
/- The value of the mixing layer's forward call: the projection, the normed rows and the rows kept for the next block. -/
module

public import proofs.«01_k».proof.Proof.MixFwdWin
public import proofs.«01_k».proof.Proof.MixRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow Cert.MixRead
open Idealize.ShloMosaic.Pipeline (Dat)

namespace Cert.MixFwdIdeal.Value

open Cert.MixFwdIdeal Cert.MixFwdIdeal.Gen Cert.MixFwdIdeal.Pay Cert.MixFwdRefIdeal.Read

variable (m : (ℓ : Loc nD τ sig) → Buf (Elt Ideal) ℓ)

variable (c : Dev nD)

/-- Plane `q` of the weight's shards. -/
theorem shard_at (t : Fin cfg0.N) (q : Fin 4) (inb : ∀ a, (![q.val, 0, 0] : Fin 3 → ℕ) a + (![1, 1024, 1536] : Fin 3 → ℕ) a ≤ S4x1024x1536.size a) (i : Fin 1024) (b : Fin 1536) :
    View.ld (Val := Elt Ideal) (e' := .bf16) (show FVec Ideal S4x1024x1536 .bf16 from iblk m c 2 t) (Rect.unit (s := S4x1024x1536) ![q.val, 0, 0] ![1, 1024, 1536] inb) (ix3 0 i b) = win (aW m c) i (shard q b) := by
  refine (congrArg (show FVec Ideal S4x1024x1536 .bf16 from iblk m c 2 t) (funext fun x => ?_)).trans (w_at m c t q i b)
  fin_cases x
  · exact Fin.ext (by show q.val + 1 * 0 = q.val; omega)
  · exact Fin.ext (by show 0 + 1 * i.val = i.val; omega)
  · exact Fin.ext (by show 0 + 1 * b.val = b.val; omega)

set_option maxHeartbeats 1600000 in
/-- The projection of a block's rows. -/
theorem p_at (t : Fin cfg0.N) (a : Fin 256) (l : Fin 6144) : (show FVec Ideal S256x6144 .bf16 from (outsAt0 m c t.val t.isLt).2.1) (ix2 a l) = pOf (aH m c) (aG m c) (aW m c) (aB m c) (row t a) l := by
  by_cases h : t.val % 64 = 0
  all_goals
    first | rw [outsAt0_A m c t h] | rw [outsAt0_B m c t h]
    frame_out
    canon_tiles x q
  iterate 2
    case piece0 =>
      idx_vars x
      obtain rfl : a = x0 := Fin.ext q0
      rw [show l = shard 3 x1 from Fin.ext q1]
      exact store3 (h_at m c t a) (g_at m c t) (b_at m c t) (shard_at m c t 3 _) x1
    case piece1 =>
      idx_vars x
      obtain rfl : a = x0 := Fin.ext q0
      rw [show l = shard 2 x1 from Fin.ext q1]
      exact store2 (h_at m c t a) (g_at m c t) (b_at m c t) (shard_at m c t 2 _) x1
    case piece2 =>
      idx_vars x
      obtain rfl : a = x0 := Fin.ext q0
      rw [show l = shard 1 x1 from Fin.ext q1]
      exact store1 (h_at m c t a) (g_at m c t) (b_at m c t) (shard_at m c t 1 _) x1
    case piece3 =>
      idx_vars x
      obtain rfl : a = x0 := Fin.ext q0
      rw [show l = shard 0 x1 from Fin.ext (by simpa [shard] using q1)]
      exact store0 (h_at m c t a) (g_at m c t) (b_at m c t) (shard_at m c t 0 _) x1

/-- The normed rows of a block. -/
theorem n_at (t : Fin cfg0.N) (a : Fin 256) (i : Fin 1024) : (show FVec Ideal S256x1024 .bf16 from (outsAt0 m c t.val t.isLt).2.2.1) (ix2 a i) = nrow (rowOf (aH m c) (row t a)) (vec (aG m c)) i := by
  by_cases h : t.val % 64 = 0
  all_goals
    first | rw [outsAt0_A m c t h] | rw [outsAt0_B m c t h]
    frame_out
    exact n_pay (h_at m c t a) (g_at m c t) i

/-- The rows that the kernel keeps are the last of the new rows. -/
theorem kept_read {sig' : RefSig} {κ : Kind} {sp : Space} (v : View sig' κ sp S288x1024 .f32) (inb : ∀ a, (![32, 0] : Fin 2 → ℕ) a + (![256, 1024] : Fin 2 → ℕ) a ≤ S288x1024.size a) (A : FVec Ideal S256x1024 .f32)
    (L : List (View.Piece (Elt Ideal) S288x1024 .f32)) (inb' : ∀ a, (![256, 0] : Fin 2 → ℕ) a + (![32, 1024] : Fin 2 → ℕ) a ≤ S288x1024.size a) (x : Fin 32) (l : Fin 1024) :
    k0_pay265 (F := Ideal) (v.readCov (⟨Rect.unit (s := S288x1024) ![32, 0] ![256, 1024] inb, A⟩ :: L) (Rect.unit (s := S288x1024) ![256, 0] ![32, 1024] inb').toLoadRect) (ix2 x l) = A (ix2 ⟨224 + x.val, by omega⟩ l) := by
  rw [readCov_new (fun _ => 0) v inb A L inb' (by decide)]
  pointwise [k0_pay265]
  rw [stack, dif_pos (by simp <;> omega)]
  exact congrArg A (by congr 1 <;> exact Fin.ext (by simp <;> omega))

/-- What a block leaves above the next one. -/
theorem kept_at (t : Fin cfg0.N) (r : Fin 288) (l : Fin 1024) (hr : r.val < 32) :
    (show FVec Ideal S288x1024 .f32 from (outsAt0 m c t.val t.isLt).2.2.2.2) (ix2 r l) = pad (gluOf (aH m c) (aG m c) (aW m c) (aB m c)) (256 * (t.val + 1) + r.val) l := by
  rw [pad_row _ _ _ (row t ⟨224 + r.val, by omega⟩) (by simp [row]; omega)]
  by_cases h : t.val % 64 = 0
  all_goals
    first | rw [outsAt0_A m c t h] | rw [outsAt0_B m c t h]
    frame_out
    refine (canon_unit_of_mem (s := S288x1024) _ _ _ (ix2 r l) (ix2 ⟨r.val, hr⟩ l) (Fin.forall_fin_two.mpr ⟨by show r.val = 0 + r.val; omega, by show l.val = 0 + l.val; omega⟩)).trans ?_
    refine (kept_read _ _ _ _ _ ⟨r.val, hr⟩ l).trans ?_
    exact glu_pay (h_at m c t _) (g_at m c t) (b_at m c t) (shard_at m c t 0 _) (shard_at m c t 1 _) l

/-- The projection. -/
theorem p_final : (dats m 0 c).arrAt 16 (cfgs 0).N = val_main_v370 (aH m c) (aG m c) (aW m c) (aB m c) := by
  refine (dats m 0 c).arrAt_eq_of_covers 16 _ (by decide +kernel) fun t _ (y : S256x6144.Idx) => ?_
  idx_vars y
  have hy : (((cfg0.win 16).blk t).view.emb (ix2 y0 y1 : S256x6144.Idx) : S16384x6144.Idx) = ix2 (row t y0) y1 := by blk_ext [idx t, row]
  refine Eq.trans ?_ ((congrArg (val_main_v370 (F := Ideal) _ _ _ _) hy).trans (p_out _ _ _ _ _ _)).symm
  blk_simp [idx t]
  rw [after0_16]
  exact p_at m c t y0 y1

/-- The normed rows. -/
theorem n_final : (dats m 0 c).arrAt 17 (cfgs 0).N = val_main_v371 (aH m c) (aG m c) := by
  refine (dats m 0 c).arrAt_eq_of_covers 17 _ (by decide +kernel) fun t _ (y : S256x1024.Idx) => ?_
  idx_vars y
  have hy : (((cfg0.win 17).blk t).view.emb (ix2 y0 y1 : S256x1024.Idx) : S16384x1024.Idx) = ix2 (row t y0) y1 := by blk_ext [idx t, row]
  refine Eq.trans ?_ ((congrArg (val_main_v371 (F := Ideal) _ _) hy).trans (n_out _ _ _ _)).symm
  blk_simp [idx t]
  rw [after0_17]
  exact n_at m c t y0 y1

end Cert.MixFwdIdeal.Value

end
-- ==== Proof.MixFwdConv.lean ====
/- The value of the mixing layer's forward call: the convolution. -/
module

public import proofs.«01_k».proof.Proof.MixFwdRows
public import proofs.«01_k».proof.Proof.MixRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow Cert.MixRead
open Idealize.ShloMosaic.Pipeline (Dat)

namespace Cert.MixFwdIdeal.Value

open Cert.MixFwdIdeal Cert.MixFwdIdeal.Gen Cert.MixFwdIdeal.Pay Cert.MixFwdRefIdeal.Read

variable (m : (ℓ : Loc nD τ sig) → Buf (Elt Ideal) ℓ)

variable (c : Dev nD)

/-- The rows from the 32 before block `t` on. -/
def ext (t : Fin cfg0.N) (q : ℕ) (l : Fin 1024) : EReal := pad (gluOf (aH m c) (aG m c) (aW m c) (aB m c)) (256 * t.val + q) l

/-- A load of new rows alone. -/
theorem readCov_at (P : FVec Ideal S288x1024 .f32) {sig' : RefSig} {κ : Kind} {sp : Space} (v : View sig' κ sp S288x1024 .f32) (inb : ∀ a, (![32, 0] : Fin 2 → ℕ) a + (![256, 1024] : Fin 2 → ℕ) a ≤ S288x1024.size a)
    (A : FVec Ideal S256x1024 .f32) (L : List (View.Piece (Elt Ideal) S288x1024 .f32)) {p o : ℕ} {size : Fin 2 → ℕ} (inb' : ∀ a, (![p, o] : Fin 2 → ℕ) a + size a ≤ S288x1024.size a) (h : 32 ≤ p) :
    v.readCov (⟨Rect.unit (s := S288x1024) ![32, 0] ![256, 1024] inb, A⟩ :: L) (Rect.unit (s := S288x1024) ![p, o] size inb').toLoadRect = View.ld (stack P A) (Rect.unit (s := S288x1024) ![p, o] size inb') :=
  readCov_new P v inb A L inb' h

theorem cb_col (t : Fin cfg0.N) {l l' : Fin 1024} (hl : l'.val = l.val) : (show FVec Ideal S1x1024 .f32 from iblk m c 5 t) (ix2 0 l') = vec (aCb m c) l :=
  (cb_at m c t l').trans (congrArg _ (Fin.ext hl))

/-- One tap's product. -/
theorem term_at (t : Fin cfg0.N) {k : Fin 31} {k' : Fin 32} {l l' : Fin 1024} {q s : ℕ} (hk : k'.val = k.val) (hl : l'.val = l.val) (hq : 256 * t.val + q = k.val + s + 2) :
    (show FVec Ideal S32x1024 .f32 from iblk m c 4 t) (ix2 k' l') * ext m c t q l' = taps (aC m c) k l * pad (gluOf (aH m c) (aG m c) (aW m c) (aB m c)) (k.val + s + 2) l := by
  obtain rfl : l' = l := Fin.ext hl
  have e : k' = ⟨k.val, Nat.lt_trans k.isLt (by decide)⟩ := Fin.ext hk
  subst e
  rw [tap_at m c t k, ext, hq]

set_option maxHeartbeats 12800000 in
/-- The convolved rows of a block. -/
theorem c_at (t : Fin cfg0.N) (a : Fin 256) (l : Fin 1024) : (show FVec Ideal S256x1024 .f32 from (outsAt0 m c t.val t.isLt).2.2.2.1) (ix2 a l) = conv (gluOf (aH m c) (aG m c) (aW m c) (aB m c)) (taps (aC m c)) (vec (aCb m c)) (row t a).val l := by
  have hA : ∀ (a : Fin 256) (l : Fin 1024), gluOf (aH m c) (aG m c) (aW m c) (aB m c) (row t a) l = ext m c t (32 + a.val) l := fun a l => (pad_row _ (256 * t.val + (32 + a.val)) l (row t a) (by simp only [row]; omega)).symm
  by_cases h : t.val % 64 = 0
  · rw [outsAt0_A m c t h]
    frame_out
    simp only [readCov_first]
    rw [stack_is (X := ext m c t) (hP := fun r l hr => ?_) (hA := fun a l => ?_)]
    rotate_left
    · have ht : t.val = 0 := by have := lt_of_lt_of_eq t.isLt N_0; omega
      rw [ext, pad_top _ _ _ (by omega)]
      refine (canon_unit_of_mem (s := S288x1024) _ _ _ (ix2 r l) (ix2 ⟨r.val, hr⟩ l) (Fin.forall_fin_two.mpr ⟨by show r.val = 0 + r.val; omega, by show l.val = 0 + l.val; omega⟩)).trans ?_
      pointwise [k0_pay1]
    · exact (glu_pay (h_at m c t a) (g_at m c t) (b_at m c t) (shard_at m c t 0 _) (shard_at m c t 1 _) l).trans (hA a l)
    simp only [k0_pay19, k0_pay20, k0_pay21, k0_pay22, k0_pay23, k0_pay24, k0_pay25, k0_pay49, k0_pay50, k0_pay51, k0_pay52, k0_pay53, k0_pay54, k0_pay55, k0_pay81, k0_pay82, k0_pay83, k0_pay84, k0_pay85, k0_pay86, k0_pay87, k0_pay111, k0_pay112, k0_pay113, k0_pay114, k0_pay115, k0_pay116, k0_pay117, k0_pay141, k0_pay142, k0_pay143, k0_pay144, k0_pay145, k0_pay146, k0_pay147, k0_pay173, k0_pay174, k0_pay175, k0_pay176, k0_pay177, k0_pay178, k0_pay179, k0_pay203, k0_pay204, k0_pay205, k0_pay206, k0_pay207, k0_pay208, k0_pay209, k0_pay233, k0_pay234, k0_pay235, k0_pay236, k0_pay237, k0_pay238, k0_pay239]
    simp only [copies_read _ (ext m c t), Nat.reduceAdd, Nat.reduceLeDiff]
    canon_tiles x q
    all_goals
      idx_vars x
      pointwise [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264]
      refine sum31_bias (cb_col m c t q1.symm) ?_ ?_ ?_ ?_ ?_ ?_ ?_ ?_ ?_ ?_ ?_ ?_ ?_ ?_ ?_ ?_ ?_ ?_ ?_ ?_ ?_ ?_ ?_ ?_ ?_ ?_ ?_ ?_ ?_ ?_ ?_
      all_goals exact term_at m c t rfl q1.symm (by simp only [row]; omega)
  · rw [outsAt0_B m c t h]
    frame_out
    have h1 : t.val - 1 < cfg0.N := Nat.lt_of_le_of_lt (Nat.sub_le _ _) t.isLt
    simp only [read_stack, read_unread_whole, readCov_at (show FVec Ideal S288x1024 .f32 from (outsAt0 m c (t.val - 1) h1).2.2.2.2), Nat.reduceLeDiff, Nat.le_refl]
    rw [stack_is (X := ext m c t) (hP := fun r l hr => ?_) (hA := fun a l => ?_)]
    rotate_left
    · refine (kept_at m c ⟨t.val - 1, h1⟩ r l hr).trans ?_
      simp only [ext]
      congr 1
      show 256 * (t.val - 1 + 1) + r.val = _
      omega
    · exact (glu_pay (h_at m c t a) (g_at m c t) (b_at m c t) (shard_at m c t 0 _) (shard_at m c t 1 _) l).trans (hA a l)
    simp only [k0_pay19, k0_pay20, k0_pay21, k0_pay22, k0_pay23, k0_pay24, k0_pay25, k0_pay49, k0_pay50, k0_pay51, k0_pay52, k0_pay53, k0_pay54, k0_pay55, k0_pay81, k0_pay82, k0_pay83, k0_pay84, k0_pay85, k0_pay86, k0_pay87, k0_pay111, k0_pay112, k0_pay113, k0_pay114, k0_pay115, k0_pay116, k0_pay117, k0_pay141, k0_pay142, k0_pay143, k0_pay144, k0_pay145, k0_pay146, k0_pay147, k0_pay173, k0_pay174, k0_pay175, k0_pay176, k0_pay177, k0_pay178, k0_pay179, k0_pay203, k0_pay204, k0_pay205, k0_pay206, k0_pay207, k0_pay208, k0_pay209, k0_pay233, k0_pay234, k0_pay235, k0_pay236, k0_pay237, k0_pay238, k0_pay239]
    simp only [copies_read _ (ext m c t), Nat.reduceAdd, Nat.reduceLeDiff]
    canon_tiles x q
    all_goals
      idx_vars x
      pointwise [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264]
      refine sum31_bias (cb_col m c t q1.symm) ?_ ?_ ?_ ?_ ?_ ?_ ?_ ?_ ?_ ?_ ?_ ?_ ?_ ?_ ?_ ?_ ?_ ?_ ?_ ?_ ?_ ?_ ?_ ?_ ?_ ?_ ?_ ?_ ?_ ?_ ?_
      all_goals exact term_at m c t rfl q1.symm (by simp only [row]; omega)

/-- The convolution. -/
theorem c_final : (dats m 0 c).arrAt 18 (cfgs 0).N = val_main_v257 (aH m c) (aG m c) (aW m c) (aB m c) (aC m c) (aCb m c) := by
  refine (dats m 0 c).arrAt_eq_of_covers 18 _ (by decide +kernel) fun t _ (y : S256x1024.Idx) => ?_
  idx_vars y
  have hy : (((cfg0.win 18).blk t).view.emb (ix2 y0 y1 : S256x1024.Idx) : S16384x1024.Idx) = ix2 (row t y0) y1 := by blk_ext [idx t, row]
  refine Eq.trans ?_ ((congrArg (val_main_v257 (F := Ideal) _ _ _ _ _ _) hy).trans (c_ref _ _ _ _ _ _ _ _)).symm
  blk_simp [idx t]
  rw [after0_18]
  exact c_at m c t y0 y1

end Cert.MixFwdIdeal.Value

end
-- ==== Proof.MixMerge.lean ====
/- What the mixing kernel makes of its convolved rows, its gated values and its mixed rows. -/
module

public import proofs.«01_k».proof.Proof.Gen.MixFwdIdeal.Skeleton
public import proofs.«01_k».proof.Proof.MixRow
public import Idealize.ShloMosaic.Lib.Pointwise

@[expose] public section

set_option maxRecDepth 16384

noncomputable section

open Idealize.ShloMosaic Idealize.ShloMosaic.TcCoe Idealize.SL.Sem Cert.Attention Cert.Swiglu Cert.MixRow

namespace Cert.MixFwdIdeal.Pay

open Cert.MixFwdIdeal Cert.MixFwdIdeal.Gen

/-- The gelu with its half first. -/
theorem gel_eq (x : EReal) :
    Ideal.ofBits .f32 0x3F000000#32 * x * (1 + Ideal.tanh (Ideal.ofBits .f32 0x3F4C422A#32 * (x + Ideal.ofBits .f32 0x3D372713#32 * (x * x * x)))) = gel x := by
  rw [gel, mul_comm (Ideal.ofBits .f32 0x3F000000#32) x, mul_assoc]

variable {a : Fin 256} {z g b : Fin 1024 → EReal} {w : Fin 1024 → Fin 1024 → EReal}

/-- The first branch: the layer norm of a convolved row, its silu, and the product with the weight. -/
theorem ya_pay {C : FVec Ideal S256x1024 .f32} {G B : FVec Ideal S1x1024 .f32} {W : FVec Ideal S1024x1024 .bf16} (hC : ∀ l, C (ix2 a l) = z l) (hG : ∀ l, G (ix2 0 l) = g l) (hB : ∀ l, B (ix2 0 l) = b l)
    (hW : ∀ i l, W (ix2 i l) = w i l) (l : Fin 1024) :
    k0_pay268 (F := Ideal) (k0_pay266 C) (k0_pay267 C) G B W (ix2 a l) = mrow (fun l => lnorm z g b l * lgs (lnorm z g b l)) w l := by
  pointwise [k0_pay266, k0_pay267, k0_pay268]
  simp only [hC, hG, hB, hW, zero_sub]
  rfl

theorem gel_pay {P : FVec Ideal S256x1024 .f32} (hP : ∀ l, P (ix2 a l) = z l) (l : Fin 1024) : k0_pay269 (F := Ideal) P (ix2 a l) = gel (z l) := by
  pointwise [k0_pay269]
  simp only [hP]
  exact gel_eq _

/-- The value rows of the spatial gating: the layer norm of a row's gelu. -/
theorem v_pay {P : FVec Ideal S256x1024 .f32} {G B : FVec Ideal S1x1024 .f32} (hP : ∀ l, P (ix2 a l) = z l) (hG : ∀ l, G (ix2 0 l) = g l) (hB : ∀ l, B (ix2 0 l) = b l) (l : Fin 1024) :
    k0_pay270 (F := Ideal) P G B (ix2 a l) = lnorm (fun l => gel (z l)) g b l := by
  pointwise [k0_pay270]
  simp only [hP, hG, hB]
  simp only [gel_eq]
  rfl

/-- The merge of both branches. -/
theorem m_pay {P₄ P₅ Y Q M : FVec Ideal S256x1024 .f32} {W : FVec Ideal S1024x1024 .bf16} {p : Fin 6144 → EReal} {y q m : Fin 1024 → EReal} (h₄ : ∀ l, P₄ (ix2 a l) = p (part 4 l)) (h₅ : ∀ l, P₅ (ix2 a l) = p (part 5 l))
    (hY : ∀ l, Y (ix2 a l) = y l) (hQ : ∀ l, Q (ix2 a l) = q l) (hM : ∀ l, M (ix2 a l) = m l) (hW : ∀ i l, W (ix2 i l) = w i l) (l : Fin 1024) :
    k0_pay282 (F := Ideal) P₄ P₅ Y Q M W (ix2 a l) = merged p y (mrow (fun l => q l * m l) w) l := by
  pointwise [k0_pay282]
  simp only [h₄, h₅, hY, hQ, hM, hW, zero_sub]
  rfl

theorem o_pay {H : FVec Ideal S256x1024 .f32} {M : FVec Ideal S256x1024 .bf16} {W : FVec Ideal S1024x1024 .bf16} {h m : Fin 1024 → EReal} (hH : ∀ l, H (ix2 a l) = h l) (hM : ∀ l, M (ix2 a l) = m l) (hW : ∀ i l, W (ix2 i l) = w i l) (l : Fin 1024) :
    k0_pay284 (F := Ideal) H M (k0_pay283 W) (ix2 a l) = h l + mrow m w l := by
  pointwise [k0_pay284, k0_pay283]
  simp only [hH, hM, hW]
  rfl

end Cert.MixFwdIdeal.Pay

end
-- ==== Proof.MixFwdOut.lean ====
/- The value of the mixing layer's forward call: the row that the layer hands on. -/
module

public import proofs.«01_k».proof.Proof.MixFwdConv
public import proofs.«01_k».proof.Proof.MixMerge
public import proofs.«01_k».proof.Proof.MixRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow Cert.MixRead
open Idealize.ShloMosaic.Pipeline (Dat)

namespace Cert.MixFwdIdeal.Value

open Cert.MixFwdIdeal Cert.MixFwdIdeal.Gen Cert.MixFwdIdeal.Pay Cert.MixFwdRefIdeal.Read

variable (m : (ℓ : Loc nD τ sig) → Buf (Elt Ideal) ℓ)

variable (c : Dev nD)

/-- One product of the mixing over a chunk. -/
theorem mix_term (t : Fin cfg0.N) {g : Fin 4} {r u : Fin 128} {a a' : Fin 256} {l l' : Fin 1024} {V : EReal} (hV : V = vOf (aH m c) (aG m c) (aW m c) (aB m c) (aVg m c) (aVb m c) (row t a') l') (hl : l'.val = l.val) (hg : g.val = l.val / 256) (hr : r.val = a.val % 128) (ha : a'.val = a.val / 128 * 128 + u.val) :
    (show FVec Ideal S4x128x128 .bf16 from iblk m c 11 t) (ix3 g r u) * V = (if u.val ≤ (place (row t a)).val then sgw (aWs m c) (head l) (place (row t a)) u else 0) * vOf (aH m c) (aG m c) (aW m c) (aB m c) (aVg m c) (aVb m c) (inChunk (row t a) u) l := by
  subst hV
  have e1 : l' = l := Fin.ext hl
  have e2 : g = head l := Fin.ext hg
  have e3 : r = place (row t a) := Fin.ext (by simp only [place, row]; omega)
  have e4 : row t a' = inChunk (row t a) u := Fin.ext (by simp only [inChunk, row]; omega)
  rw [e1, e2, e3, e4, ws_at]

theorem mix_bias (t : Fin cfg0.N) {r : Fin 128} {a : Fin 256} {l l' : Fin 1024} (hl : l'.val = l.val) (hr : r.val = a.val % 128) :
    (show FVec Ideal S128x1024 .f32 from iblk m c 12 t) (ix2 r l') = sgb (aBs m c) (head l) (place (row t a)) := by
  have e1 : l' = l := Fin.ext hl
  have e3 : r = place (row t a) := Fin.ext (by simp only [place, row]; omega)
  rw [e1, e3, bs_at, ← e3]

set_option maxHeartbeats 6400000 in
/-- The row that the layer hands on. -/
theorem o_at (t : Fin cfg0.N) (a : Fin 256) (l : Fin 1024) : (show FVec Ideal S256x1024 .f32 from (outsAt0 m c t.val t.isLt).1) (ix2 a l)
    = rowOf (aH m c) (row t a) l + mrow (mOf (aH m c) (aG m c) (aW m c) (aB m c) (aC m c) (aCb m c) (aLg m c) (aLb m c) (aWa m c) (aWb m c) (aVg m c) (aVb m c) (aWs m c) (aBs m c) (row t a)) (MixFwdRefIdeal.Read.sq (aWo m c)) l := by
  by_cases h : t.val % 64 = 0
  all_goals
    first | rw [outsAt0_A m c t h] | rw [outsAt0_B m c t h]
    frame_out
    refine o_pay (h_at m c t a) (fun l => ?_) (wo_at m c t) l
    refine m_pay (p := pOf (aH m c) (aG m c) (aW m c) (aB m c) (row t a)) (part4 (h_at m c t a) (g_at m c t) (b_at m c t) (shard_at m c t 2 _) (shard_at m c t 3 _))
      (part5 (h_at m c t a) (g_at m c t) (b_at m c t) (shard_at m c t 3 _)) (ya_pay (fun l => ?_) (lg_at m c t) (lb_at m c t) (wa_at m c t))
      (gel_pay (part2 (h_at m c t a) (g_at m c t) (b_at m c t) (shard_at m c t 1 _))) (fun l => ?_) (wb_at m c t) l
    · refine Eq.trans ?_ (c_at m c t a l)
      first | rw [outsAt0_A m c t h] | rw [outsAt0_B m c t h]
      rw [View.readCov_eq_canon']
      frame_out
      exact congrFun (View.ld_unit_lit' (S := S256x1024) _ _ (by decide)) (ix2 a l)
    · rw [View.readCov_eq_canon']
      refine (congrFun (View.ld_unit_lit' (S := S256x1024) _ _ (by decide)) (ix2 a l)).trans ?_
      canon_tiles x q
      all_goals
        idx_vars x
        pointwise [k0_pay271, k0_pay272, k0_pay273, k0_pay274, k0_pay275, k0_pay276, k0_pay277, k0_pay278, k0_pay279, k0_pay280, k0_pay281]
        refine congrArg₂ (· + ·) (Finset.sum_congr rfl fun u _ => mix_term m c t (v_pay (part3 (h_at m c t _) (g_at m c t) (b_at m c t) (shard_at m c t 2 _)) (vg_at m c t) (vb_at m c t) _) q1.symm ?_ ?_ ?_) (mix_bias m c t q1.symm ?_)
        all_goals first | omega | (simp; omega) | (simp only [Nat.zero_add, Nat.add_zero]; omega)

/-- The rows that the layer hands on. -/
theorem o_final : (dats m 0 c).arrAt 15 (cfgs 0).N = val_main_v369 (aH m c) (aG m c) (aW m c) (aB m c) (aC m c) (aCb m c) (aLg m c) (aLb m c) (aWa m c) (aVg m c) (aVb m c) (aWs m c) (aBs m c) (aWb m c) (aWo m c) := by
  refine (dats m 0 c).arrAt_eq_of_covers 15 _ (by decide +kernel) fun t _ (y : S256x1024.Idx) => ?_
  idx_vars y
  have hy : (((cfg0.win 15).blk t).view.emb (ix2 y0 y1 : S256x1024.Idx) : S16384x1024.Idx) = ix2 (row t y0) y1 := by blk_ext [idx t, row]
  refine Eq.trans ?_ ((congrArg (val_main_v369 (F := Ideal) _ _ _ _ _ _ _ _ _ _ _ _ _ _ _) hy).trans (o_ref _ _ _ _ _ _ _ _ _ _ _ _ _ _ _ _ _)).symm
  blk_simp [idx t]
  rw [after0_15]
  exact o_at m c t y0 y1

end Cert.MixFwdIdeal.Value

end
-- ==== Proof.MixFwdClaim.lean ====
/- The value claim of the mixer layer's forward call. -/
module

public import proofs.«01_k».proof.Defs
public import proofs.«01_k».proof.Proof.MixFwdOut
public import proofs.«01_k».proof.Proof.Gen.MixFwdRefIdeal.Run
public import Idealize.ShloMosaic.Lib.Claim

@[expose] public section

set_option maxRecDepth 1000000
set_option maxHeartbeats 1000000

noncomputable section

namespace Cert.Proof

open Idealize.ShloMosaic Idealize.SL.Sem

attribute [local instance] Cert.MixFwdIdeal.Gen.facts Cert.MixFwdRefIdeal.Gen.facts

/-- The reference of the mixer layer leaves its arguments as they were. -/
theorem frame_mfwd_ref : Cert.quiescent_MixFwdRefIdeal := fun m ρ _ =>
  (θ_run Cert.MixFwdRefIdeal.defs _ _).mono (fun r h => ⟨fun c => (h c).2.2.2.2, sem_eq_zero_of_no_sems (by decide) r.2⟩)
    (Cert.MixFwdRefIdeal.Value.run m ρ)

/-- The mixer call computes the reference's mixer layer: its output rows, and the projection, the normed rows and the
    convolution which it saves for the backward pass. -/
theorem algebraic_mfwd : Cert.algebraic_MixFwdIdeal_MixFwdRefIdeal := by
  pair_intro
  · run_from Cert.MixFwdIdeal.Value.run_blocks m g
  · refine (θ_run Cert.MixFwdRefIdeal.defs _ _).mono (fun r h c => ?_) (Cert.MixFwdRefIdeal.Value.run m' g')
    obtain ⟨r0, r1, r2, r3, hk⟩ := h c
    obtain ⟨h0, h1, h2, h3, h4, h5, h6, h7, h8, h9, h10, h11, h12, h13, h14⟩ := hagree c
    have at0 : StableHlo.launchContents m' c (Proc.tc.devRef Cert.MixFwdRefIdeal.main_arg0) = m ((c.tc : Thread Cert.MixFwdIdeal.nD Cert.MixFwdIdeal.τ).loc Cert.MixFwdIdeal.main_arg0) := h0
    have at1 : StableHlo.launchContents m' c (Proc.tc.devRef Cert.MixFwdRefIdeal.main_arg1) = m ((c.tc : Thread Cert.MixFwdIdeal.nD Cert.MixFwdIdeal.τ).loc Cert.MixFwdIdeal.main_arg1) := h1
    have at2 : StableHlo.launchContents m' c (Proc.tc.devRef Cert.MixFwdRefIdeal.main_arg2) = m ((c.tc : Thread Cert.MixFwdIdeal.nD Cert.MixFwdIdeal.τ).loc Cert.MixFwdIdeal.main_arg2) := h2
    have at3 : StableHlo.launchContents m' c (Proc.tc.devRef Cert.MixFwdRefIdeal.main_arg3) = m ((c.tc : Thread Cert.MixFwdIdeal.nD Cert.MixFwdIdeal.τ).loc Cert.MixFwdIdeal.main_arg3) := h3
    have at4 : StableHlo.launchContents m' c (Proc.tc.devRef Cert.MixFwdRefIdeal.main_arg4) = m ((c.tc : Thread Cert.MixFwdIdeal.nD Cert.MixFwdIdeal.τ).loc Cert.MixFwdIdeal.main_arg4) := h4
    have at5 : StableHlo.launchContents m' c (Proc.tc.devRef Cert.MixFwdRefIdeal.main_arg5) = m ((c.tc : Thread Cert.MixFwdIdeal.nD Cert.MixFwdIdeal.τ).loc Cert.MixFwdIdeal.main_arg5) := h5
    have at6 : StableHlo.launchContents m' c (Proc.tc.devRef Cert.MixFwdRefIdeal.main_arg6) = m ((c.tc : Thread Cert.MixFwdIdeal.nD Cert.MixFwdIdeal.τ).loc Cert.MixFwdIdeal.main_arg6) := h6
    have at7 : StableHlo.launchContents m' c (Proc.tc.devRef Cert.MixFwdRefIdeal.main_arg7) = m ((c.tc : Thread Cert.MixFwdIdeal.nD Cert.MixFwdIdeal.τ).loc Cert.MixFwdIdeal.main_arg7) := h7
    have at8 : StableHlo.launchContents m' c (Proc.tc.devRef Cert.MixFwdRefIdeal.main_arg8) = m ((c.tc : Thread Cert.MixFwdIdeal.nD Cert.MixFwdIdeal.τ).loc Cert.MixFwdIdeal.main_arg8) := h8
    have at9 : StableHlo.launchContents m' c (Proc.tc.devRef Cert.MixFwdRefIdeal.main_arg9) = m ((c.tc : Thread Cert.MixFwdIdeal.nD Cert.MixFwdIdeal.τ).loc Cert.MixFwdIdeal.main_arg9) := h9
    have at10 : StableHlo.launchContents m' c (Proc.tc.devRef Cert.MixFwdRefIdeal.main_arg10) = m ((c.tc : Thread Cert.MixFwdIdeal.nD Cert.MixFwdIdeal.τ).loc Cert.MixFwdIdeal.main_arg10) := h10
    have at11 : StableHlo.launchContents m' c (Proc.tc.devRef Cert.MixFwdRefIdeal.main_arg11) = m ((c.tc : Thread Cert.MixFwdIdeal.nD Cert.MixFwdIdeal.τ).loc Cert.MixFwdIdeal.main_arg11) := h11
    have at12 : StableHlo.launchContents m' c (Proc.tc.devRef Cert.MixFwdRefIdeal.main_arg12) = m ((c.tc : Thread Cert.MixFwdIdeal.nD Cert.MixFwdIdeal.τ).loc Cert.MixFwdIdeal.main_arg12) := h12
    have at13 : StableHlo.launchContents m' c (Proc.tc.devRef Cert.MixFwdRefIdeal.main_arg13) = m ((c.tc : Thread Cert.MixFwdIdeal.nD Cert.MixFwdIdeal.τ).loc Cert.MixFwdIdeal.main_arg13) := h13
    have at14 : StableHlo.launchContents m' c (Proc.tc.devRef Cert.MixFwdRefIdeal.main_arg14) = m ((c.tc : Thread Cert.MixFwdIdeal.nD Cert.MixFwdIdeal.τ).loc Cert.MixFwdIdeal.main_arg14) := h14
    refine ⟨r0.trans ((Cert.MixFwdRefIdeal.Read.val_main_v369_eq _).trans ?_), r1.trans ((Cert.MixFwdRefIdeal.Read.val_main_v370_eq _).trans ?_),
      r2.trans ((Cert.MixFwdRefIdeal.Read.val_main_v371_eq _).trans ?_), r3.trans ((Cert.MixFwdRefIdeal.Read.val_main_v257_eq _).trans ?_), hk⟩
    · rw [at0, at1, at2, at3, at4, at5, at6, at7, at8, at9, at10, at11, at12, at13, at14]
      exact (Cert.MixFwdIdeal.Value.o_final m c).symm
    · rw [at0, at1, at2, at3]
      exact (Cert.MixFwdIdeal.Value.p_final m c).symm
    · rw [at0, at1]
      exact (Cert.MixFwdIdeal.Value.n_final m c).symm
    · rw [at0, at1, at2, at3, at4, at5]
      exact (Cert.MixFwdIdeal.Value.c_final m c).symm

end Cert.Proof

end
-- ==== Proof.GateRef.lean ====
/- The reference of the mixing layer's backward call, read row by row. -/
module

public import proofs.«01_k».proof.Proof.Gen.MixBwdRefIdeal.Read
public import proofs.«01_k».proof.Proof.MixRow
public import Idealize.ShloMosaic.Lib.Pointwise

@[expose] public section

set_option maxRecDepth 16384

noncomputable section

open Idealize.ShloMosaic Idealize.ShloMosaic.TcCoe Idealize.SL.Sem Cert.Attention Cert.Swiglu Cert.MixRow

namespace Cert.MixBwdRefIdeal.Read

open Cert.MixBwdRefIdeal

/-- A row of a stream, and of the input projection. -/
def rowOf (H : FVec Ideal S16384x1024 .f32) (s : Fin 16384) (i : Fin 1024) : EReal := H (ix2 s i)
def pOf (P : FVec Ideal S16384x6144 .f32) (s : Fin 16384) (c : Fin 6144) : EReal := P (ix2 s c)
/-- A vector with its layer axis dropped. -/
def vec (G : FVec Ideal S1x1024 .f32) (i : Fin 1024) : EReal := G (ix2 0 i)
/-- The weights with their layer axis dropped. -/
def sq (W : FVec Ideal S1x1024x1024 .f32) (i l : Fin 1024) : EReal := W (ix3 0 i l)
def sgw (W : FVec Ideal S1x4x128x128 .f32) (g : Fin 4) (r u : Fin 128) : EReal := W (ix4 0 g r u)
def sgb (B : FVec Ideal S1x4x128 .f32) (g : Fin 4) (r : Fin 128) : EReal := B (ix3 0 g r)

variable (P : FVec Ideal S16384x6144 .f32) (C D : FVec Ideal S16384x1024 .f32) (lg lb vg vb : FVec Ideal S1x1024 .f32) (wa wb wo : FVec Ideal S1x1024x1024 .f32) (ws : FVec Ideal S1x4x128x128 .f32) (bs : FVec Ideal S1x4x128 .f32)

/-- A normed row of the convolution, and the row that the first branch multiplies with its weight. -/
def lOf (s : Fin 16384) : Fin 1024 → EReal := lnorm (rowOf C s) (vec lg) (vec lb)
def zaOf (s : Fin 16384) (l : Fin 1024) : EReal := lOf C lg lb s l * lgs (lOf C lg lb s l)
/-- A normed value row of the spatial gating. -/
def vOf (s : Fin 16384) : Fin 1024 → EReal := lnorm (fun l => gel (pOf P s (part 3 l))) (vec vg) (vec vb)
/-- The row that the second branch multiplies with its weight. -/
def zbOf (s : Fin 16384) (l : Fin 1024) : EReal :=
  gel (pOf P s (part 2 l)) * mixed (sgw ws (head l) (place s)) (fun u => vOf P vg vb (inChunk s u) l) (sgb bs (head l) (place s)) (place s)
/-- The merged row. -/
def mOf (s : Fin 16384) : Fin 1024 → EReal := merged (pOf P s) (mrow (zaOf C lg lb s) (sq wa)) (mrow (zbOf P vg vb ws bs s) (sq wb))
/-- The gradient of the merged row: the incoming gradient against the rows of the weight. -/
def dmOf (s : Fin 16384) : Fin 1024 → EReal := mrow (rowOf D s) (fun l i => sq wo i l)

variable (h : FVec Ideal S16384x1024 .f32) (n : FVec Ideal S1x1024 .f32) (wi : FVec Ideal S1x1024x6144 .f32) (bi : FVec Ideal S1x6144 .f32) (cw : FVec Ideal S1x31x1024 .f32) (cb : FVec Ideal S1x1024 .f32)

/-- The projection and the convolution that the forward pass makes of the arguments. -/
abbrev prj : FVec Ideal S16384x6144 .f32 := val_main_v19 (F := Ideal) h n wi bi
abbrev cnv : FVec Ideal S16384x1024 .f32 := val_main_v253 (F := Ideal) h n wi bi cw cb

/-- The parts of the projection. -/
theorem p2_ref (s : Fin 16384) (l : Fin 1024) : val_main_v256 (F := Ideal) h n wi bi (ix2 s l) = pOf (prj h n wi bi) s (part 2 l) := by
  pointwise [val_main_v256]
  exact congrArg (prj h n wi bi) (congrArg (ix2 s) (Fin.ext (by simp [part])))

theorem p3_ref (s : Fin 16384) (l : Fin 1024) : val_main_v257 (F := Ideal) h n wi bi (ix2 s l) = pOf (prj h n wi bi) s (part 3 l) := by
  pointwise [val_main_v257]
  exact congrArg (prj h n wi bi) (congrArg (ix2 s) (Fin.ext (by simp [part])))

theorem p4_ref (s : Fin 16384) (l : Fin 1024) : val_main_v354 (F := Ideal) h n wi bi (ix2 s l) = pOf (prj h n wi bi) s (part 4 l) := by
  pointwise [val_main_v354]
  exact congrArg (prj h n wi bi) (congrArg (ix2 s) (Fin.ext (by simp [part])))

theorem p5_ref (s : Fin 16384) (l : Fin 1024) : val_main_v362 (F := Ideal) h n wi bi (ix2 s l) = pOf (prj h n wi bi) s (part 5 l) := by
  pointwise [val_main_v362]
  exact congrArg (prj h n wi bi) (congrArg (ix2 s) (Fin.ext (by simp [part])))

theorem la_ref (s : Fin 16384) (l : Fin 1024) : val_main_v283 (F := Ideal) h n wi bi cw cb lg lb (ix2 s l) = lOf (cnv h n wi bi cw cb) lg lb s l := by
  pointwise [val_main_v260, val_main_v261, val_main_cst_6, val_main_v262, val_main_v263, val_main_cst_7, val_main_v264, val_main_v265, val_main_v266, val_main_v267, val_main_v268, val_main_cst_8, val_main_v269, val_main_v270, val_main_cst_9, val_main_v271, val_main_v272, val_main_cst_10, val_main_v273, val_main_v274, val_main_v275, val_main_v276, val_main_v277, val_main_v278, val_main_v279, val_main_v280, val_main_v281, val_main_v282, val_main_v283]
  rfl

theorem za_ref (s : Fin 16384) (l : Fin 1024) : val_main_v284 (F := Ideal) h n wi bi cw cb lg lb (ix2 s l) = zaOf (cnv h n wi bi cw cb) lg lb s l := by
  pointwise [val_main_call0_v0, val_main_call0_v1, val_main_call0_cst, val_main_call0_v2, val_main_call0_v3, val_main_call0_cst_0, val_main_call0_v4, val_main_call0_v5, val_main_v284]
  simp only [la_ref]
  rfl

theorem gu_ref (s : Fin 16384) (l : Fin 1024) : val_main_v301 (F := Ideal) h n wi bi (ix2 s l) = gel (pOf (prj h n wi bi) s (part 2 l)) := by
  pointwise [val_main_v289, val_main_v290, val_main_cst_11, val_main_v291, val_main_v292, val_main_v293, val_main_cst_12, val_main_v294, val_main_v295, val_main_v296, val_main_cst_13, val_main_v297, val_main_v298, val_main_cst_14, val_main_v299, val_main_v300, val_main_v301]
  simp only [p2_ref]
  rfl

theorem gv_ref (s : Fin 16384) (l : Fin 1024) : val_main_v314 (F := Ideal) h n wi bi (ix2 s l) = gel (pOf (prj h n wi bi) s (part 3 l)) := by
  pointwise [val_main_v302, val_main_v303, val_main_cst_15, val_main_v304, val_main_v305, val_main_v306, val_main_cst_16, val_main_v307, val_main_v308, val_main_v309, val_main_cst_17, val_main_v310, val_main_v311, val_main_cst_18, val_main_v312, val_main_v313, val_main_v314]
  simp only [p3_ref]
  rfl

theorem vn_ref (s : Fin 16384) (l : Fin 1024) : val_main_v336 (F := Ideal) h n wi bi vg vb (ix2 s l) = vOf (prj h n wi bi) vg vb s l := by
  pointwise [val_main_v285, val_main_v286, val_main_cst_19, val_main_v315, val_main_v316, val_main_cst_20, val_main_v317, val_main_v318, val_main_v319, val_main_v320, val_main_v321, val_main_cst_21, val_main_v322, val_main_v323, val_main_cst_22, val_main_v324, val_main_v325, val_main_cst_23, val_main_v326, val_main_v327, val_main_v328, val_main_v329, val_main_v330, val_main_v331, val_main_v332, val_main_v333, val_main_v334, val_main_v335, val_main_v336]
  simp only [gv_ref]
  rfl

/-- The mask of the lower triangle. -/
theorem mask : ∀ r u : Fin 128, Scalar.select (IntOp.cmpi CmpIPredicate.sge (IntOp.addi (BitVec.ofNat 32 r.val) 0#32) (BitVec.ofNat 32 u.val)) 1#1 0#1 = if u.val ≤ r.val then 1#1 else 0#1 := by
  decide +kernel

/-- The masked weight. -/
theorem ws_ref (g : Fin 4) (r u : Fin 128) : val_main_v341 (F := Ideal) ws (ix3 g r u) = if u.val ≤ r.val then sgw ws g r u else 0 := by
  pointwise [val_main_v287, val_main_c, val_main_v338, val_main_call1_v0, val_main_call1_c, val_main_call1_v1, val_main_call1_v2, val_main_call1_v3, val_main_call1_v4, val_main_call1_c_0, val_main_call1_v5, val_main_v339, val_main_v340, val_main_cst_24, val_main_call2_v0, val_main_call2_v1, val_main_call2_v2, val_main_v341]
  rw [mask r u, Scalar.select]
  by_cases e : u.val ≤ r.val
  · rw [if_pos e, if_pos e]
    rfl
  · rw [if_neg e, if_neg e]
    simp [constant, Ideal.ofBits_zero]

/-- The second branch's row. -/
theorem zb_ref (s : Fin 16384) (l : Fin 1024) : val_main_v349 (F := Ideal) h n wi bi vg vb ws bs (ix2 s l) = zbOf (prj h n wi bi) vg vb ws bs s l := by
  pointwise [val_main_v288, val_main_v337, val_main_v342, val_main_v343, val_main_v344, val_main_v345, val_main_v346, val_main_v347, val_main_v348, val_main_v349]
  simp only [gu_ref, vn_ref, ws_ref]
  exact congrArg₂ (· * ·) rfl (congrArg₂ (· + ·) (Finset.sum_congr rfl fun u _ => mul_comm _ _) rfl)

/-- The two gates. -/
theorem ga_ref (s : Fin 16384) (l : Fin 1024) : val_main_v360 (F := Ideal) h n wi bi (ix2 s l) = lgs (pOf (prj h n wi bi) s (part 4 l)) := by
  pointwise [val_main_v355, val_main_v356, val_main_cst_25, val_main_v357, val_main_v358, val_main_cst_26, val_main_v359, val_main_v360]
  simp only [p4_ref]
  rfl

theorem gb_ref (s : Fin 16384) (l : Fin 1024) : val_main_v368 (F := Ideal) h n wi bi (ix2 s l) = lgs (pOf (prj h n wi bi) s (part 5 l)) := by
  pointwise [val_main_v363, val_main_v364, val_main_cst_27, val_main_v365, val_main_v366, val_main_cst_28, val_main_v367, val_main_v368]
  simp only [p5_ref]
  rfl

theorem dm_ref (s : Fin 16384) (l : Fin 1024) : val_main_v373 (F := Ideal) D wo (ix2 s l) = dmOf D wo s l := by
  pointwise [val_main_v371, val_main_v373]
  rfl

/-- The six results. -/
theorem a_ref (s : Fin 16384) (l : Fin 1024) : val_main_v376 (F := Ideal) h n wi bi cw cb lg lb (ix2 s l) = zaOf (cnv h n wi bi cw cb) lg lb s l := by
  pointwise [val_main_v376]
  exact za_ref _ _ _ _ _ _ _ _ s l

theorem dya_ref (s : Fin 16384) (l : Fin 1024) : val_main_v377 (F := Ideal) h D n wi bi wo (ix2 s l) = lgs (pOf (prj h n wi bi) s (part 4 l)) * dmOf D wo s l := by
  pointwise [val_main_v375, val_main_v377]
  rw [ga_ref, dm_ref]

theorem b_ref (s : Fin 16384) (l : Fin 1024) : val_main_v378 (F := Ideal) h n wi bi vg vb ws bs (ix2 s l) = zbOf (prj h n wi bi) vg vb ws bs s l := by
  pointwise [val_main_v378]
  exact zb_ref _ _ _ _ _ _ _ _ s l

theorem dyb_ref (s : Fin 16384) (l : Fin 1024) : val_main_v379 (F := Ideal) h D n wi bi wo (ix2 s l) = lgs (pOf (prj h n wi bi) s (part 5 l)) * dmOf D wo s l := by
  pointwise [val_main_v374, val_main_v379]
  rw [gb_ref, dm_ref]

theorem m_ref (s : Fin 16384) (l : Fin 1024) : val_main_v380 (F := Ideal) h n wi bi cw cb lg lb wa vg vb ws bs wb (ix2 s l) = mOf (prj h n wi bi) (cnv h n wi bi cw cb) lg lb vg vb wa wb ws bs s l := by
  pointwise [val_main_v350, val_main_v351, val_main_v352, val_main_v353, val_main_v361, val_main_v369, val_main_v370, val_main_v380]
  simp only [ga_ref, gb_ref, za_ref, zb_ref]
  rfl

theorem dh_ref (s : Fin 16384) (l : Fin 1024) : val_main_v381 (F := Ideal) D (ix2 s l) = rowOf D s l := by
  pointwise [val_main_v381]
  rfl

end Cert.MixBwdRefIdeal.Read

end
-- ==== Proof.GateHost.lean ====
/- What the host operations before the mixing layer's backward call leave: the projection and the convolution that the
   forward pass makes of the arguments, as the reference makes them. -/
module

public import proofs.«01_k».proof.Proof.Gen.MixBwdIdeal.Frame.Runs
public import proofs.«01_k».proof.Proof.GateRef
public import Idealize.ShloMosaic.Lib.StableHlo.RunRead

@[expose] public section

set_option maxRecDepth 16384
set_option maxHeartbeats 4000000

noncomputable section

open Idealize.ShloMosaic Idealize.ShloMosaic.TcCoe Idealize.ShloMosaic.StableHlo Idealize.SL.Sem

namespace Cert.MixBwdIdeal.Host

open Cert.MixBwdIdeal Cert.MixBwdIdeal.Gen Cert.MixBwdRefIdeal.Read

/-- The operations before the call. -/
abbrev host : List (HloOp τ sig (Elt Ideal)) := List.flatten [hostOps0, hostOps0_1, hostOps0_2, hostOps0_3, hostOps0_4]

variable (V0 : Valuation τ sig (Elt Ideal))

/-- The arguments that the projection and the convolution are made of. -/
abbrev eH : FVec Ideal S16384x1024 .f32 := V0 (Proc.devRef .tc main_arg0)
abbrev eN : FVec Ideal S1x1024 .f32 := V0 (Proc.devRef .tc main_arg2)
abbrev eWi : FVec Ideal S1x1024x6144 .f32 := V0 (Proc.devRef .tc main_arg3)
abbrev eBi : FVec Ideal S1x6144 .f32 := V0 (Proc.devRef .tc main_arg4)
abbrev eCw : FVec Ideal S1x31x1024 .f32 := V0 (Proc.devRef .tc main_arg5)
abbrev eCb : FVec Ideal S1x1024 .f32 := V0 (Proc.devRef .tc main_arg6)

/-- The projection, as the slices read it, and the gated projection, as the convolution's window reads it. -/
theorem proj_low : upto host V0 23 (no_index (Proc.devRef .tc main_v19)) = val_main_v19 (F := Ideal) (eH V0) (eN V0) (eWi V0) (eBi V0) := by
  after_reads_simp
  rfl

theorem proj_high : upto host V0 24 (no_index (Proc.devRef .tc main_v19)) = val_main_v19 (F := Ideal) (eH V0) (eN V0) (eWi V0) (eBi V0) := by
  after_reads_simp
  rfl

theorem gated : upto host V0 38 (no_index (Proc.devRef .tc main_v28)) = val_main_v28 (F := Ideal) (eH V0) (eN V0) (eWi V0) (eBi V0) := by
  after_reads_simp [proj_low, proj_high]
  rfl

/-- The sums of the first taps. -/
theorem sum75 : upto host V0 89 (no_index (Proc.devRef .tc main_v75)) = val_main_v75 (F := Ideal) (eH V0) (eN V0) (eWi V0) (eBi V0) (eCw V0) := by
  after_reads_simp [gated]
  rfl

theorem sum110 : upto host V0 124 (no_index (Proc.devRef .tc main_v110)) = val_main_v110 (F := Ideal) (eH V0) (eN V0) (eWi V0) (eBi V0) (eCw V0) := by
  after_reads_simp [gated, sum75]
  rfl

theorem sum145 : upto host V0 159 (no_index (Proc.devRef .tc main_v145)) = val_main_v145 (F := Ideal) (eH V0) (eN V0) (eWi V0) (eBi V0) (eCw V0) := by
  after_reads_simp [gated, sum110]
  rfl

theorem sum180 : upto host V0 194 (no_index (Proc.devRef .tc main_v180)) = val_main_v180 (F := Ideal) (eH V0) (eN V0) (eWi V0) (eBi V0) (eCw V0) := by
  after_reads_simp [gated, sum145]
  rfl

theorem sum215 : upto host V0 229 (no_index (Proc.devRef .tc main_v215)) = val_main_v215 (F := Ideal) (eH V0) (eN V0) (eWi V0) (eBi V0) (eCw V0) := by
  after_reads_simp [gated, sum180]
  rfl

theorem sum250 : upto host V0 260 (no_index (Proc.devRef .tc main_v250)) = val_main_v250 (F := Ideal) (eH V0) (eN V0) (eWi V0) (eBi V0) (eCw V0) := by
  after_reads_simp [gated, sum215]
  rfl

/-- The convolution, when the call starts. -/
theorem conv_read : after host V0 (Proc.devRef .tc main_v253) = val_main_v253 (F := Ideal) (eH V0) (eN V0) (eWi V0) (eBi V0) (eCw V0) (eCb V0) := by
  after_reads_simp [sum250]
  rfl

/-- The projection in the kernel's format, when the call starts. -/
theorem proj_read : after host V0 (Proc.devRef .tc main_v265) = (truncf .bf16 (val_main_v19 (F := Ideal) (eH V0) (eN V0) (eWi V0) (eBi V0) : FVec Ideal S16384x6144 .f32) bitsLt_bf16_f32 : FVec Ideal S16384x6144 .bf16) := by
  after_reads_simp
  rfl

end Cert.MixBwdIdeal.Host

end
-- ==== Proof.GateWin.lean ====
/- The value of the mixing layer's backward call: what the windows hold. -/
module

public import proofs.«01_k».proof.Proof.Gen.MixBwdIdeal.Frame.Runs
public import proofs.«01_k».proof.Proof.GateHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow
open Idealize.ShloMosaic.Pipeline (Dat)

namespace Cert.MixBwdIdeal.Value

open Cert.MixBwdIdeal Cert.MixBwdIdeal.Gen Cert.MixBwdIdeal.Host Cert.MixBwdRefIdeal.Read

variable (m : (ℓ : Loc nD τ sig) → Buf (Elt Ideal) ℓ)

/-- Block `t` of the rows is rows `256 t` to `256 t + 255`; every other window is its whole array. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0, 0] ∧ win0_10.index t = ![0, 0] ∧ win0_11.index t = ![0, 0] ∧ win0_12.index t = ![0, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- Row `a` of block `t` among all the rows. -/
def row (t : Fin cfg0.N) (a : Fin 256) : Fin 16384 := ⟨t.val * 256 + a.val, by have := lt_of_lt_of_eq t.isLt N_0; omega⟩

variable (c : Dev nD)

/-- The arguments. -/
abbrev aH : FVec Ideal S16384x1024 .f32 := m ((c : Thread nD τ).loc main_arg0)
abbrev aN : FVec Ideal S1x1024 .f32 := m ((c : Thread nD τ).loc main_arg2)
abbrev aWi : FVec Ideal S1x1024x6144 .f32 := m ((c : Thread nD τ).loc main_arg3)
abbrev aBi : FVec Ideal S1x6144 .f32 := m ((c : Thread nD τ).loc main_arg4)
abbrev aCw : FVec Ideal S1x31x1024 .f32 := m ((c : Thread nD τ).loc main_arg5)
abbrev aCb : FVec Ideal S1x1024 .f32 := m ((c : Thread nD τ).loc main_arg6)
abbrev aD : FVec Ideal S16384x1024 .f32 := m ((c : Thread nD τ).loc main_arg1)
abbrev aLg : FVec Ideal S1x1024 .f32 := m ((c : Thread nD τ).loc main_arg7)
abbrev aLb : FVec Ideal S1x1024 .f32 := m ((c : Thread nD τ).loc main_arg8)
abbrev aWa : FVec Ideal S1x1024x1024 .f32 := m ((c : Thread nD τ).loc main_arg9)
abbrev aVg : FVec Ideal S1x1024 .f32 := m ((c : Thread nD τ).loc main_arg10)
abbrev aVb : FVec Ideal S1x1024 .f32 := m ((c : Thread nD τ).loc main_arg11)
abbrev aWs : FVec Ideal S1x4x128x128 .f32 := m ((c : Thread nD τ).loc main_arg12)
abbrev aBs : FVec Ideal S1x4x128 .f32 := m ((c : Thread nD τ).loc main_arg13)
abbrev aWb : FVec Ideal S1x1024x1024 .f32 := m ((c : Thread nD τ).loc main_arg14)
abbrev aWo : FVec Ideal S1x1024x1024 .f32 := m ((c : Thread nD τ).loc main_arg15)

/-- The projection and the convolution that the forward pass makes of them. -/
abbrev aP : FVec Ideal S16384x6144 .f32 := prj (aH m c) (aN m c) (aWi m c) (aBi m c)
abbrev aC : FVec Ideal S16384x1024 .f32 := cnv (aH m c) (aN m c) (aWi m c) (aBi m c) (aCw m c) (aCb m c)

theorem c_at (t : Fin cfg0.N) (a : Fin 256) (i : Fin 1024) : (show FVec Ideal S256x1024 .f32 from iblk m c 1 t) (ix2 a i) = rowOf (aC m c) (row t a) i := by
  refine (congrArg (V m c main_v253) (show (((cfg0.win 1).blk t).view.emb (ix2 a i : S256x1024.Idx) : S16384x1024.Idx) = ix2 (row t a) i from by blk_ext [idx t, row])).trans ?_
  exact congrFun (conv_read fun b => m (c, b)) (ix2 (row t a) i)

theorem d_at (t : Fin cfg0.N) (a : Fin 256) (i : Fin 1024) : (show FVec Ideal S256x1024 .f32 from iblk m c 2 t) (ix2 a i) = rowOf (aD m c) (row t a) i := by
  blk_point [iblk, V, idx t, row, rowOf]

theorem lg_at (t : Fin cfg0.N) (i : Fin 1024) : (show FVec Ideal S1x1024 .f32 from iblk m c 3 t) (ix2 0 i) = vec (aLg m c) i := by
  blk_point [iblk, V, idx t, vec]

theorem lb_at (t : Fin cfg0.N) (i : Fin 1024) : (show FVec Ideal S1x1024 .f32 from iblk m c 4 t) (ix2 0 i) = vec (aLb m c) i := by
  blk_point [iblk, V, idx t, vec]

theorem vg_at (t : Fin cfg0.N) (i : Fin 1024) : (show FVec Ideal S1x1024 .f32 from iblk m c 6 t) (ix2 0 i) = vec (aVg m c) i := by
  blk_point [iblk, V, idx t, vec]

theorem vb_at (t : Fin cfg0.N) (i : Fin 1024) : (show FVec Ideal S1x1024 .f32 from iblk m c 7 t) (ix2 0 i) = vec (aVb m c) i := by
  blk_point [iblk, V, idx t, vec]

theorem p_at (t : Fin cfg0.N) (a : Fin 256) (l : Fin 6144) : (show FVec Ideal S256x6144 .bf16 from iblk m c 0 t) (ix2 a l) = pOf (aP m c) (row t a) l := by
  refine (congrArg (V m c main_v265) (show (((cfg0.win 0).blk t).view.emb (ix2 a l : S256x6144.Idx) : S16384x6144.Idx) = ix2 (row t a) l from by blk_ext [idx t, row])).trans ?_
  exact congrFun (proj_read fun b => m (c, b)) (ix2 (row t a) l)

/-- A part of the projection, as the kernel loads it. -/
theorem part_at (t : Fin cfg0.N) (j : Fin 6) (inb : ∀ a, (![0, j.val * 1024] : Fin 2 → ℕ) a + (![256, 1024] : Fin 2 → ℕ) a ≤ S256x6144.size a) (a : Fin 256) (l : Fin 1024) :
    View.ld (Val := Elt Ideal) (e' := .bf16) (show FVec Ideal S256x6144 .bf16 from iblk m c 0 t) (Rect.unit (s := S256x6144) ![0, j.val * 1024] ![256, 1024] inb) (ix2 a l) = pOf (aP m c) (row t a) (part j l) := by
  refine (congrArg (show FVec Ideal S256x6144 .bf16 from iblk m c 0 t) (funext fun x => ?_)).trans (p_at m c t a (part j l))
  fin_cases x
  · exact Fin.ext (by show 0 + 1 * a.val = a.val; omega)
  · exact Fin.ext (by show j.val * 1024 + 1 * l.val = j.val * 1024 + l.val; omega)

set_option maxHeartbeats 4000000 in
theorem ws_at (t : Fin cfg0.N) (g : Fin 4) (r u : Fin 128) : (show FVec Ideal S4x128x128 .bf16 from iblk m c 8 t) (ix3 g r u) = if u.val ≤ r.val then sgw (aWs m c) g r u else 0 := by
  refine (congrArg (V m c main_v259) (show (((cfg0.win 8).blk t).view.emb (ix3 g r u : S4x128x128.Idx) : S4x128x128.Idx) = ix3 g r u from by blk_ext [idx t])).trans ?_
  after_reads_simp
  simp -implicitDefEqProofs only [StableHlo.TRef.toBuf, StableHlo.TRef.ofBuf, cast_cast, cast_eq]
  pointwise
  rw [mask r u, Scalar.select]
  by_cases h : u.val ≤ r.val
  · rw [if_pos h, if_pos h]
    rfl
  · rw [if_neg h, if_neg h]
    simp [constant, Ideal.ofBits_zero]

theorem bs_at (t : Fin cfg0.N) (r : Fin 128) (l : Fin 1024) : (show FVec Ideal S128x1024 .f32 from iblk m c 10 t) (ix2 r l) = sgb (aBs m c) (head l) r := by
  refine (congrArg (V m c main_v264) (show (((cfg0.win 10).blk t).view.emb (ix2 r l : S128x1024.Idx) : S128x1024.Idx) = ix2 r l from by blk_ext [idx t])).trans ?_
  after_reads_simp
  pointwise
  rfl

theorem wa_at (t : Fin cfg0.N) (i l : Fin 1024) : (show FVec Ideal S1024x1024 .bf16 from iblk m c 5 t) (ix2 i l) = Cert.MixBwdRefIdeal.Read.sq (aWa m c) i l := by
  blk_simp [iblk, V, idx t]
  after_reads_simp
  pointwise [Cert.MixBwdRefIdeal.Read.sq]
  blk_ext [idx t]

theorem wb_at (t : Fin cfg0.N) (i l : Fin 1024) : (show FVec Ideal S1024x1024 .bf16 from iblk m c 11 t) (ix2 i l) = Cert.MixBwdRefIdeal.Read.sq (aWb m c) i l := by
  blk_simp [iblk, V, idx t]
  after_reads_simp
  pointwise [Cert.MixBwdRefIdeal.Read.sq]
  blk_ext [idx t]

theorem wo_at (t : Fin cfg0.N) (i l : Fin 1024) : (show FVec Ideal S1024x1024 .bf16 from iblk m c 12 t) (ix2 i l) = Cert.MixBwdRefIdeal.Read.sq (aWo m c) i l := by
  blk_simp [iblk, V, idx t]
  after_reads_simp
  pointwise [Cert.MixBwdRefIdeal.Read.sq]
  blk_ext [idx t]

end Cert.MixBwdIdeal.Value

end
-- ==== Proof.GatePay.lean ====
/- What the gating backward kernel makes of the blocks of one grid point: the rows that it computes again and hands on, and the gradients of both branches' products. -/
module

public import proofs.«01_k».proof.Proof.Gen.MixBwdIdeal.Skeleton
public import proofs.«01_k».proof.Proof.MixRow
public import Idealize.ShloMosaic.Lib.Pointwise

@[expose] public section

set_option maxRecDepth 16384

noncomputable section

open Idealize.ShloMosaic Idealize.ShloMosaic.TcCoe Idealize.SL.Sem Cert.Attention Cert.Swiglu Cert.MixRow

namespace Cert.MixBwdIdeal.Pay

open Cert.MixBwdIdeal Cert.MixBwdIdeal.Gen

/-- The gelu with its half first. -/
theorem gel_half (x : EReal) :
    Ideal.ofBits .f32 0x3F000000#32 * x * (1 + Ideal.tanh (Ideal.ofBits .f32 0x3F4C422A#32 * (x + Ideal.ofBits .f32 0x3D372713#32 * (x * x * x)))) = gel x := by
  rw [gel, mul_comm (Ideal.ofBits .f32 0x3F000000#32) x, mul_assoc]

variable {a : Fin 256} {z g b : Fin 1024 → EReal} {w : Fin 1024 → Fin 1024 → EReal}

/-- The layer norm of a convolved row, -/
theorem l_pay {C : FVec Ideal S256x1024 .f32} {G B : FVec Ideal S1x1024 .f32} (hC : ∀ l, C (ix2 a l) = z l) (hG : ∀ l, G (ix2 0 l) = g l) (hB : ∀ l, B (ix2 0 l) = b l) (l : Fin 1024) :
    k0_pay25 (F := Ideal) G (k0_pay20 C) (k0_pay21 C) B (ix2 a l) = lnorm z g b l := by
  pointwise [k0_pay20, k0_pay21, k0_pay22, k0_pay23, k0_pay24, k0_pay25]
  simp only [hC, hG, hB]
  rfl

/-- its silu, -/
theorem za_pay {C : FVec Ideal S256x1024 .f32} {G B : FVec Ideal S1x1024 .f32} (hC : ∀ l, C (ix2 a l) = z l) (hG : ∀ l, G (ix2 0 l) = g l) (hB : ∀ l, B (ix2 0 l) = b l) (l : Fin 1024) :
    k0_pay27 (F := Ideal) G (k0_pay20 C) (k0_pay21 C) B (ix2 a l) = lnorm z g b l * lgs (lnorm z g b l) := by
  pointwise [k0_pay26, k0_pay27]
  rw [l_pay hC hG hB, zero_sub]
  rfl

/-- and the product with the weight. -/
theorem ya_pay {C : FVec Ideal S256x1024 .f32} {G B : FVec Ideal S1x1024 .f32} {W : FVec Ideal S1024x1024 .bf16} (hC : ∀ l, C (ix2 a l) = z l) (hG : ∀ l, G (ix2 0 l) = g l) (hB : ∀ l, B (ix2 0 l) = b l)
    (hW : ∀ i l, W (ix2 i l) = w i l) (l : Fin 1024) :
    k0_pay28 (F := Ideal) G (k0_pay20 C) (k0_pay21 C) B W (ix2 a l) = mrow (fun l => lnorm z g b l * lgs (lnorm z g b l)) w l := by
  pointwise [k0_pay28]
  simp only [za_pay hC hG hB, hW]
  rfl

/-- The gelu of a row. -/
theorem gu_pay {P : FVec Ideal S256x1024 .bf16} (hP : ∀ l, P (ix2 a l) = z l) (l : Fin 1024) :
    k0_pay34 (F := Ideal) (k0_pay16 P) (k0_pay31 (k0_pay16 P)) (ix2 a l) = gel (z l) := by
  pointwise [k0_pay16, k0_pay29, k0_pay30, k0_pay31, k0_pay32, k0_pay34]
  simp only [hP]
  exact gel_half _

/-- The value rows of the spatial gating: the layer norm of a row's gelu. -/
theorem v_pay {P : FVec Ideal S256x1024 .bf16} {G B : FVec Ideal S1x1024 .f32} (hP : ∀ l, P (ix2 a l) = z l) (hG : ∀ l, G (ix2 0 l) = g l) (hB : ∀ l, B (ix2 0 l) = b l) (l : Fin 1024) :
    k0_pay45 (F := Ideal) G (k0_pay40 (k0_pay17 P)) (k0_pay41 (k0_pay17 P)) B (ix2 a l) = lnorm (fun l => gel (z l)) g b l := by
  pointwise [k0_pay17, k0_pay35, k0_pay36, k0_pay37, k0_pay38, k0_pay40, k0_pay41, k0_pay42, k0_pay43, k0_pay44, k0_pay45]
  simp only [hP, hG, hB]
  simp only [gel_half]
  rfl

/-- The gates. -/
theorem ga_pay {P : FVec Ideal S256x1024 .bf16} (hP : ∀ l, P (ix2 a l) = z l) (l : Fin 1024) : k0_pay18 (F := Ideal) P (ix2 a l) = lgs (z l) := by
  pointwise [k0_pay18]
  rw [hP, zero_sub]
  rfl

theorem gb_pay {P : FVec Ideal S256x1024 .bf16} (hP : ∀ l, P (ix2 a l) = z l) (l : Fin 1024) : k0_pay19 (F := Ideal) P (ix2 a l) = lgs (z l) := by
  pointwise [k0_pay19]
  rw [hP, zero_sub]
  rfl

/-- The second branch's row. -/
theorem zb_pay {U M : FVec Ideal S256x1024 .f32} {u n : Fin 1024 → EReal} (hU : ∀ l, U (ix2 a l) = u l) (hM : ∀ l, M (ix2 a l) = n l) (l : Fin 1024) : k0_pay54 (F := Ideal) U M (ix2 a l) = u l * n l := by
  pointwise [k0_pay54]
  rw [hU, hM]

/-- The merge of both branches. -/
theorem m_pay {S₄ S₅ Y : FVec Ideal S256x1024 .f32} {Q : FVec Ideal S256x1024 .bf16} {W : FVec Ideal S1024x1024 .bf16} {p : Fin 6144 → EReal} {y q : Fin 1024 → EReal} (h₄ : ∀ l, S₄ (ix2 a l) = lgs (p (part 4 l))) (h₅ : ∀ l, S₅ (ix2 a l) = lgs (p (part 5 l)))
    (hY : ∀ l, Y (ix2 a l) = y l) (hQ : ∀ l, Q (ix2 a l) = q l) (hW : ∀ i l, W (ix2 i l) = w i l) (l : Fin 1024) :
    k0_pay56 (F := Ideal) S₄ S₅ Y Q W (ix2 a l) = merged p y (mrow q w) l := by
  pointwise [k0_pay55, k0_pay56]
  simp only [h₄, h₅, hY, hQ, hW]
  rfl

/-- The incoming gradient, and the merged row's gradient. -/
theorem dh_pay {D : FVec Ideal S256x1024 .f32} (hD : ∀ l, D (ix2 a l) = z l) (l : Fin 1024) : k0_pay57 (F := Ideal) D (ix2 a l) = z l := by
  pointwise [k0_pay57]
  exact hD l

theorem dm_pay {D : FVec Ideal S256x1024 .f32} {W : FVec Ideal S1024x1024 .bf16} (hD : ∀ l, D (ix2 a l) = z l) (hW : ∀ i l, W (ix2 i l) = w i l) (l : Fin 1024) :
    k0_pay58 (F := Ideal) D W (ix2 a l) = mrow z (fun i l => w l i) l := by
  pointwise [k0_pay57, k0_pay58]
  simp only [hD, hW]
  rfl

/-- The gradients of both branches' products. -/
theorem dya_pay {S D : FVec Ideal S256x1024 .f32} {W : FVec Ideal S1024x1024 .bf16} {s : EReal} {l : Fin 1024} (hS : S (ix2 a l) = s) (hD : ∀ l, D (ix2 a l) = z l) (hW : ∀ i l, W (ix2 i l) = w i l) :
    k0_pay63 (F := Ideal) (k0_pay62 S D W) (ix2 a l) = s * mrow z (fun i l => w l i) l := by
  pointwise [k0_pay62, k0_pay63]
  rw [dm_pay hD hW, hS, mul_comm]

theorem dyb_pay {S D : FVec Ideal S256x1024 .f32} {W : FVec Ideal S1024x1024 .bf16} {s : EReal} {l : Fin 1024} (hS : S (ix2 a l) = s) (hD : ∀ l, D (ix2 a l) = z l) (hW : ∀ i l, W (ix2 i l) = w i l) :
    k0_pay64 (F := Ideal) S (k0_pay58 D W) (ix2 a l) = s * mrow z (fun i l => w l i) l := by
  pointwise [k0_pay64]
  rw [dm_pay hD hW, hS, mul_comm]

end Cert.MixBwdIdeal.Pay

end
-- ==== Proof.GateOut.lean ====
/- The value of the mixing layer's backward call: the rows that each point leaves in the six outputs that the weights' gradients are made of. -/
module

public import proofs.«01_k».proof.Proof.GateRows
public import proofs.«01_k».proof.Proof.GateWin
public import proofs.«01_k».proof.Proof.GatePay
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Attention Cert.Swiglu Cert.MixRow
open Idealize.ShloMosaic.Pipeline (Dat)

namespace Cert.MixBwdIdeal.Value

open Cert.MixBwdIdeal Cert.MixBwdIdeal.Gen Cert.MixBwdIdeal.Pay Cert.MixBwdIdeal.Gate Cert.MixBwdRefIdeal.Read

variable (m : (ℓ : Loc nD τ sig) → Buf (Elt Ideal) ℓ) (c : Dev nD)

/-- One product of the mixing over a chunk. -/
theorem mix_term (t : Fin cfg0.N) {g : Fin 4} {r u : Fin 128} {a a' : Fin 256} {l l' : Fin 1024} {V : EReal} (hV : V = vOf (aP m c) (aVg m c) (aVb m c) (row t a') l') (hl : l'.val = l.val) (hg : g.val = l.val / 256) (hr : r.val = a.val % 128) (ha : a'.val = a.val / 128 * 128 + u.val) :
    (show FVec Ideal S4x128x128 .bf16 from iblk m c 8 t) (ix3 g r u) * V = (if u.val ≤ (place (row t a)).val then sgw (aWs m c) (head l) (place (row t a)) u else 0) * vOf (aP m c) (aVg m c) (aVb m c) (inChunk (row t a) u) l := by
  subst hV
  have e1 : l' = l := Fin.ext hl
  have e2 : g = head l := Fin.ext hg
  have e3 : r = place (row t a) := Fin.ext (by simp only [place, row]; omega)
  have e4 : row t a' = inChunk (row t a) u := Fin.ext (by simp only [inChunk, row]; omega)
  rw [e1, e2, e3, e4, ws_at]

theorem mix_bias (t : Fin cfg0.N) {r : Fin 128} {a : Fin 256} {l l' : Fin 1024} (hl : l'.val = l.val) (hr : r.val = a.val % 128) :
    (show FVec Ideal S128x1024 .f32 from iblk m c 10 t) (ix2 r l') = sgb (aBs m c) (head l) (place (row t a)) := by
  have e1 : l' = l := Fin.ext hl
  have e3 : r = place (row t a) := Fin.ext (by simp only [place, row]; omega)
  rw [e1, e3, bs_at, ← e3]

/-- The first branch's row. -/
theorem a_at (t : Fin cfg0.N) (a : Fin 256) (l : Fin 1024) : (show FVec Ideal S256x1024 .bf16 from out15 m c t) (ix2 a l) = zaOf (aC m c) (aLg m c) (aLb m c) (row t a) l := by
  unfold out15 run_at rows_run
  frame_out
  exact za_pay (c_at m c t a) (lg_at m c t) (lb_at m c t) l

/-- The gradient of its product. -/
theorem dya_at (t : Fin cfg0.N) (a : Fin 256) (l : Fin 1024) : (show FVec Ideal S256x1024 .bf16 from out16 m c t) (ix2 a l) = lgs (pOf (aP m c) (row t a) (part 4 l)) * dmOf (aD m c) (aWo m c) (row t a) l := by
  unfold out16 run_at rows_run
  frame_out
  exact dya_pay (ga_pay (part_at m c t 4 _ a) l) (d_at m c t a) (wo_at m c t)

/-- The second branch's row. -/
theorem b_at (t : Fin cfg0.N) (a : Fin 256) (l : Fin 1024) : (show FVec Ideal S256x1024 .bf16 from out17 m c t) (ix2 a l) = zbOf (aP m c) (aVg m c) (aVb m c) (aWs m c) (aBs m c) (row t a) l := by
  unfold out17 run_at rows_run
  frame_out
  refine zb_pay (u := fun l => gel (pOf (aP m c) (row t a) (part 2 l))) (n := fun l => mixed (sgw (aWs m c) (head l) (place (row t a))) (fun u => vOf (aP m c) (aVg m c) (aVb m c) (inChunk (row t a) u) l) (sgb (aBs m c) (head l) (place (row t a))) (place (row t a)))
    (gu_pay (part_at m c t 2 _ a)) (fun l => ?_) l
  rw [View.readCov_eq_canon']
  refine (congrFun (View.ld_unit_lit' (S := S256x1024) _ _ (by decide)) (ix2 a l)).trans ?_
  canon_tiles x q
  all_goals
    idx_vars x
    pointwise [k0_pay46, k0_pay47, k0_pay48, k0_pay49, k0_pay50, k0_pay51, k0_pay52, k0_pay53]
    refine congrArg₂ (· + ·) (Finset.sum_congr rfl fun u _ => mix_term m c t (v_pay (part_at m c t 3 _ _) (vg_at m c t) (vb_at m c t) _) q1.symm ?_ ?_ ?_) (mix_bias m c t q1.symm ?_)
    all_goals first | omega | (simp; omega) | (simp only [Nat.zero_add, Nat.add_zero]; omega)

/-- The gradient of its product. -/
theorem dyb_at (t : Fin cfg0.N) (a : Fin 256) (l : Fin 1024) : (show FVec Ideal S256x1024 .bf16 from out18 m c t) (ix2 a l) = lgs (pOf (aP m c) (row t a) (part 5 l)) * dmOf (aD m c) (aWo m c) (row t a) l := by
  unfold out18 run_at rows_run
  frame_out
  exact dyb_pay (gb_pay (part_at m c t 5 _ a) l) (d_at m c t a) (wo_at m c t)

/-- The merged row. -/
theorem m_at (t : Fin cfg0.N) (a : Fin 256) (l : Fin 1024) : (show FVec Ideal S256x1024 .bf16 from out19 m c t) (ix2 a l) = mOf (aP m c) (aC m c) (aLg m c) (aLb m c) (aVg m c) (aVb m c) (aWa m c) (aWb m c) (aWs m c) (aBs m c) (row t a) l := by
  have hb := b_at m c t a
  unfold out17 run_at rows_run at hb
  unfold out19 run_at rows_run
  frame_out
  refine m_pay (ga_pay (part_at m c t 4 _ a)) (gb_pay (part_at m c t 5 _ a)) (ya_pay (c_at m c t a) (lg_at m c t) (lb_at m c t) (wa_at m c t)) (fun l => ?_) (wb_at m c t) l
  refine Eq.trans ?_ (hb l)
  frame_out

/-- The incoming gradient. -/
theorem dh_at (t : Fin cfg0.N) (a : Fin 256) (l : Fin 1024) : (show FVec Ideal S256x1024 .bf16 from out20 m c t) (ix2 a l) = rowOf (aD m c) (row t a) l := by
  unfold out20 run_at rows_run
  frame_out
  exact dh_pay (d_at m c t a) l

theorem a_final : (dats m 0 c).arrAt 15 (cfgs 0).N = val_main_v376 (aH m c) (aN m c) (aWi m c) (aBi m c) (aCw m c) (aCb m c) (aLg m c) (aLb m c) := by
  refine (dats m 0 c).arrAt_eq_of_covers 15 _ (by decide +kernel) fun t _ (y : S256x1024.Idx) => ?_
  idx_vars y
  have hy : (((cfg0.win 15).blk t).view.emb (ix2 y0 y1 : S256x1024.Idx) : S16384x1024.Idx) = ix2 (row t y0) y1 := by blk_ext [idx t, row]
  refine Eq.trans ?_ ((congrArg (val_main_v376 (F := Ideal) _ _ _ _ _ _ _ _) hy).trans (a_ref _ _ _ _ _ _ _ _ _ _)).symm
  blk_simp [idx t]
  rw [after15]
  exact a_at m c t y0 y1

theorem dya_final : (dats m 0 c).arrAt 16 (cfgs 0).N = val_main_v377 (aH m c) (aD m c) (aN m c) (aWi m c) (aBi m c) (aWo m c) := by
  refine (dats m 0 c).arrAt_eq_of_covers 16 _ (by decide +kernel) fun t _ (y : S256x1024.Idx) => ?_
  idx_vars y
  have hy : (((cfg0.win 16).blk t).view.emb (ix2 y0 y1 : S256x1024.Idx) : S16384x1024.Idx) = ix2 (row t y0) y1 := by blk_ext [idx t, row]
  refine Eq.trans ?_ ((congrArg (val_main_v377 (F := Ideal) _ _ _ _ _ _) hy).trans (dya_ref _ _ _ _ _ _ _ _)).symm
  blk_simp [idx t]
  rw [after16]
  exact dya_at m c t y0 y1

theorem b_final : (dats m 0 c).arrAt 17 (cfgs 0).N = val_main_v378 (aH m c) (aN m c) (aWi m c) (aBi m c) (aVg m c) (aVb m c) (aWs m c) (aBs m c) := by
  refine (dats m 0 c).arrAt_eq_of_covers 17 _ (by decide +kernel) fun t _ (y : S256x1024.Idx) => ?_
  idx_vars y
  have hy : (((cfg0.win 17).blk t).view.emb (ix2 y0 y1 : S256x1024.Idx) : S16384x1024.Idx) = ix2 (row t y0) y1 := by blk_ext [idx t, row]
  refine Eq.trans ?_ ((congrArg (val_main_v378 (F := Ideal) _ _ _ _ _ _ _ _) hy).trans (b_ref _ _ _ _ _ _ _ _ _ _)).symm
  blk_simp [idx t]
  rw [after17]
  exact b_at m c t y0 y1

theorem dyb_final : (dats m 0 c).arrAt 18 (cfgs 0).N = val_main_v379 (aH m c) (aD m c) (aN m c) (aWi m c) (aBi m c) (aWo m c) := by
  refine (dats m 0 c).arrAt_eq_of_covers 18 _ (by decide +kernel) fun t _ (y : S256x1024.Idx) => ?_
  idx_vars y
  have hy : (((cfg0.win 18).blk t).view.emb (ix2 y0 y1 : S256x1024.Idx) : S16384x1024.Idx) = ix2 (row t y0) y1 := by blk_ext [idx t, row]
  refine Eq.trans ?_ ((congrArg (val_main_v379 (F := Ideal) _ _ _ _ _ _) hy).trans (dyb_ref _ _ _ _ _ _ _ _)).symm
  blk_simp [idx t]
  rw [after18]
  exact dyb_at m c t y0 y1

theorem m_final : (dats m 0 c).arrAt 19 (cfgs 0).N = val_main_v380 (aH m c) (aN m c) (aWi m c) (aBi m c) (aCw m c) (aCb m c) (aLg m c) (aLb m c) (aWa m c) (aVg m c) (aVb m c) (aWs m c) (aBs m c) (aWb m c) := by
  refine (dats m 0 c).arrAt_eq_of_covers 19 _ (by decide +kernel) fun t _ (y : S256x1024.Idx) => ?_
  idx_vars y
  have hy : (((cfg0.win 19).blk t).view.emb (ix2 y0 y1 : S256x1024.Idx) : S16384x1024.Idx) = ix2 (row t y0) y1 := by blk_ext [idx t, row]
  refine Eq.trans ?_ ((congrArg (val_main_v380 (F := Ideal) _ _ _ _ _ _ _ _ _ _ _ _ _ _) hy).trans (m_ref _ _ _ _ _ _ _ _ _ _ _ _ _ _ _ _)).symm
  blk_simp [idx t]
  rw [after19]
  exact m_at m c t y0 y1

theorem dh_final : (dats m 0 c).arrAt 20 (cfgs 0).N = val_main_v381 (aD m c) := by
  refine (dats m 0 c).arrAt_eq_of_covers 20 _ (by decide +kernel) fun t _ (y : S256x1024.Idx) => ?_
  idx_vars y
  have hy : (((cfg0.win 20).blk t).view.emb (ix2 y0 y1 : S256x1024.Idx) : S16384x1024.Idx) = ix2 (row t y0) y1 := by blk_ext [idx t, row]
  refine Eq.trans ?_ ((congrArg (val_main_v381 (F := Ideal) _) hy).trans (dh_ref _ _ _)).symm
  blk_simp [idx t]
  rw [after20]
  exact dh_at m c t y0 y1

end Cert.MixBwdIdeal.Value

end
-- ==== Proof.GateClaim.lean ====
/- The value claim of the mixer layer's backward call for the six row results. -/
module

public import proofs.«01_k».proof.Defs
public import proofs.«01_k».proof.Proof.GateOut
public import proofs.«01_k».proof.Proof.Gen.MixBwdRefIdeal.Run
public import Idealize.ShloMosaic.Lib.Claim

@[expose] public section

set_option maxRecDepth 1000000
set_option maxHeartbeats 1000000

noncomputable section

namespace Cert.MixBwdIdeal.Gate

open Idealize.ShloMosaic Idealize.ShloMosaic.TcCoe Idealize.SL.Sem Cert.MixBwdIdeal Cert.MixBwdIdeal.Gen

variable (m : (ℓ : Loc nD τ sig) → Buf (Elt Ideal) ℓ)

/-- A run of the call: the six row results hold what the windows collect, and the arguments are as they were. -/
theorem run_rows (g : Dev nD → PrngReg) : θ_run (defs (F := Ideal)) (onTc (τ := τ) (main (F := Ideal))) ⟨m, fun _ => 0, g⟩ (fun r => ∀ c : Dev nD,
      r.2.mem ((c.tc : Thread nD τ).loc main_v272_2) = (dats m 0 c).arrAt 15 (cfgs 0).N
      ∧ r.2.mem ((c.tc : Thread nD τ).loc main_v272_3) = (dats m 0 c).arrAt 16 (cfgs 0).N
      ∧ r.2.mem ((c.tc : Thread nD τ).loc main_v272_4) = (dats m 0 c).arrAt 17 (cfgs 0).N
      ∧ r.2.mem ((c.tc : Thread nD τ).loc main_v272_5) = (dats m 0 c).arrAt 18 (cfgs 0).N
      ∧ r.2.mem ((c.tc : Thread nD τ).loc main_v272_6) = (dats m 0 c).arrAt 19 (cfgs 0).N
      ∧ r.2.mem ((c.tc : Thread nD τ).loc main_v272_7) = (dats m 0 c).arrAt 20 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((dats m 0 c).toRForget_arrAt_iff (w := 15) rfl _ _).mp ((h.1 c).1 15),
      ((dats m 0 c).toRForget_arrAt_iff (w := 16) rfl _ _).mp ((h.1 c).1 16),
      ((dats m 0 c).toRForget_arrAt_iff (w := 17) rfl _ _).mp ((h.1 c).1 17),
      ((dats m 0 c).toRForget_arrAt_iff (w := 18) rfl _ _).mp ((h.1 c).1 18),
      ((dats m 0 c).toRForget_arrAt_iff (w := 19) rfl _ _).mp ((h.1 c).1 19),
      ((dats m 0 c).toRForget_arrAt_iff (w := 20) rfl _ _).mp ((h.1 c).1 20),
      h.2 c⟩)
    (θ_run_and ((θ_run defs _ _).mono (fun _ h => h.1) (launch m g))
      (args_kept m g (fun c => (dats m 0 c).toRForget forgotten) (A_eq m) ((θ_run defs _ _).mono (fun _ h => h.1) (launch m g))))

end Cert.MixBwdIdeal.Gate

namespace Cert.Proof

open Idealize.ShloMosaic Idealize.SL.Sem

attribute [local instance] Cert.MixBwdIdeal.Gen.facts Cert.MixBwdRefIdeal.Gen.facts

/-- The only rewrite names the constant of the gelu's derivative. -/
theorem preserves_mix : Cert.preserves_MixBwd_MixBwdIdeal :=
  IdealRules.named_const.statement Cert.MixBwdIdeal.κ "gelu_c2" .f32 0x3DDB33B6#32 ((241015141496493 / 2251799813685248 : ℝ) : EReal) rfl

/-- The reference leaves its arguments as they were. -/
theorem frame_mix_ref : Cert.quiescent_MixBwdRefIdeal := fun m ρ _ =>
  (θ_run Cert.MixBwdRefIdeal.defs _ _).mono (fun r h => ⟨fun c => (h c).2.2.2.2.2.2, sem_eq_zero_of_no_sems (by decide) r.2⟩)
    (Cert.MixBwdRefIdeal.Value.run m ρ)

/-- The call computes what the reference's derivative computes: the rows of both branches, the merged rows, the incoming
    gradient, and the gradients of both branches' products. -/
theorem algebraic_mix : Cert.algebraic_MixBwdIdeal_MixBwdRefIdeal := by
  pair_intro
  · run_from Cert.MixBwdIdeal.Gate.run_rows m g
  · refine (θ_run Cert.MixBwdRefIdeal.defs _ _).mono (fun r h c => ?_) (Cert.MixBwdRefIdeal.Value.run m' g')
    obtain ⟨r0, r1, r2, r3, r4, r5, hk⟩ := h c
    obtain ⟨h0, h1, h2, h3, h4, h5, h6, h7, h8, h9, h10, h11, h12, h13, h14, h15⟩ := hagree c
    replace h0 : StableHlo.launchContents m' c (Proc.tc.devRef Cert.MixBwdRefIdeal.main_arg0) = m ((c.tc : Thread Cert.MixBwdIdeal.nD Cert.MixBwdIdeal.τ).loc Cert.MixBwdIdeal.main_arg0) := h0
    replace h1 : StableHlo.launchContents m' c (Proc.tc.devRef Cert.MixBwdRefIdeal.main_arg1) = m ((c.tc : Thread Cert.MixBwdIdeal.nD Cert.MixBwdIdeal.τ).loc Cert.MixBwdIdeal.main_arg1) := h1
    replace h2 : StableHlo.launchContents m' c (Proc.tc.devRef Cert.MixBwdRefIdeal.main_arg2) = m ((c.tc : Thread Cert.MixBwdIdeal.nD Cert.MixBwdIdeal.τ).loc Cert.MixBwdIdeal.main_arg2) := h2
    replace h3 : StableHlo.launchContents m' c (Proc.tc.devRef Cert.MixBwdRefIdeal.main_arg3) = m ((c.tc : Thread Cert.MixBwdIdeal.nD Cert.MixBwdIdeal.τ).loc Cert.MixBwdIdeal.main_arg3) := h3
    replace h4 : StableHlo.launchContents m' c (Proc.tc.devRef Cert.MixBwdRefIdeal.main_arg4) = m ((c.tc : Thread Cert.MixBwdIdeal.nD Cert.MixBwdIdeal.τ).loc Cert.MixBwdIdeal.main_arg4) := h4
    replace h5 : StableHlo.launchContents m' c (Proc.tc.devRef Cert.MixBwdRefIdeal.main_arg5) = m ((c.tc : Thread Cert.MixBwdIdeal.nD Cert.MixBwdIdeal.τ).loc Cert.MixBwdIdeal.main_arg5) := h5
    replace h6 : StableHlo.launchContents m' c (Proc.tc.devRef Cert.MixBwdRefIdeal.main_arg6) = m ((c.tc : Thread Cert.MixBwdIdeal.nD Cert.MixBwdIdeal.τ).loc Cert.MixBwdIdeal.main_arg6) := h6
    replace h7 : StableHlo.launchContents m' c (Proc.tc.devRef Cert.MixBwdRefIdeal.main_arg7) = m ((c.tc : Thread Cert.MixBwdIdeal.nD Cert.MixBwdIdeal.τ).loc Cert.MixBwdIdeal.main_arg7) := h7
    replace h8 : StableHlo.launchContents m' c (Proc.tc.devRef Cert.MixBwdRefIdeal.main_arg8) = m ((c.tc : Thread Cert.MixBwdIdeal.nD Cert.MixBwdIdeal.τ).loc Cert.MixBwdIdeal.main_arg8) := h8
    replace h9 : StableHlo.launchContents m' c (Proc.tc.devRef Cert.MixBwdRefIdeal.main_arg9) = m ((c.tc : Thread Cert.MixBwdIdeal.nD Cert.MixBwdIdeal.τ).loc Cert.MixBwdIdeal.main_arg9) := h9
    replace h10 : StableHlo.launchContents m' c (Proc.tc.devRef Cert.MixBwdRefIdeal.main_arg10) = m ((c.tc : Thread Cert.MixBwdIdeal.nD Cert.MixBwdIdeal.τ).loc Cert.MixBwdIdeal.main_arg10) := h10
    replace h11 : StableHlo.launchContents m' c (Proc.tc.devRef Cert.MixBwdRefIdeal.main_arg11) = m ((c.tc : Thread Cert.MixBwdIdeal.nD Cert.MixBwdIdeal.τ).loc Cert.MixBwdIdeal.main_arg11) := h11
    replace h12 : StableHlo.launchContents m' c (Proc.tc.devRef Cert.MixBwdRefIdeal.main_arg12) = m ((c.tc : Thread Cert.MixBwdIdeal.nD Cert.MixBwdIdeal.τ).loc Cert.MixBwdIdeal.main_arg12) := h12
    replace h13 : StableHlo.launchContents m' c (Proc.tc.devRef Cert.MixBwdRefIdeal.main_arg13) = m ((c.tc : Thread Cert.MixBwdIdeal.nD Cert.MixBwdIdeal.τ).loc Cert.MixBwdIdeal.main_arg13) := h13
    replace h14 : StableHlo.launchContents m' c (Proc.tc.devRef Cert.MixBwdRefIdeal.main_arg14) = m ((c.tc : Thread Cert.MixBwdIdeal.nD Cert.MixBwdIdeal.τ).loc Cert.MixBwdIdeal.main_arg14) := h14
    replace h15 : StableHlo.launchContents m' c (Proc.tc.devRef Cert.MixBwdRefIdeal.main_arg15) = m ((c.tc : Thread Cert.MixBwdIdeal.nD Cert.MixBwdIdeal.τ).loc Cert.MixBwdIdeal.main_arg15) := h15
    refine ⟨r0.trans ((Cert.MixBwdRefIdeal.Read.val_main_v376_eq _).trans ?_), r1.trans ((Cert.MixBwdRefIdeal.Read.val_main_v377_eq _).trans ?_), r2.trans ((Cert.MixBwdRefIdeal.Read.val_main_v378_eq _).trans ?_), r3.trans ((Cert.MixBwdRefIdeal.Read.val_main_v379_eq _).trans ?_), r4.trans ((Cert.MixBwdRefIdeal.Read.val_main_v380_eq _).trans ?_), r5.trans ((Cert.MixBwdRefIdeal.Read.val_main_v381_eq _).trans ?_), hk⟩
    · rw [h0, h2, h3, h4, h5, h6, h7, h8]
      exact (Cert.MixBwdIdeal.Value.a_final m c).symm
    · rw [h0, h1, h2, h3, h4, h15]
      exact (Cert.MixBwdIdeal.Value.dya_final m c).symm
    · rw [h0, h2, h3, h4, h10, h11, h12, h13]
      exact (Cert.MixBwdIdeal.Value.b_final m c).symm
    · rw [h0, h1, h2, h3, h4, h15]
      exact (Cert.MixBwdIdeal.Value.dyb_final m c).symm
    · rw [h0, h2, h3, h4, h5, h6, h7, h8, h9, h10, h11, h12, h13, h14]
      exact (Cert.MixBwdIdeal.Value.m_final m c).symm
    · rw [h1]
      exact (Cert.MixBwdIdeal.Value.dh_final m c).symm

end Cert.Proof

end
-- ==== Proof.lean ====
/- The proof of the certificate's claims: the frames are the generated ones (of the gating backward call: those in
   `GateFrame` and `GateRows`), the values are proved in the modules named `…Claim`. -/
module

public import proofs.«01_k».proof.Defs
public import proofs.«01_k».proof.Proof.Gen.KvBwd
public import proofs.«01_k».proof.Proof.Gen.KvBwd.Frame
public import proofs.«01_k».proof.Proof.Gen.KvBwdIdeal
public import proofs.«01_k».proof.Proof.Gen.KvBwdIdeal.Frame
public import proofs.«01_k».proof.Proof.Gen.KvBwdIdeal.Value
public import proofs.«01_k».proof.Proof.Gen.KvBwdRefIdeal
public import proofs.«01_k».proof.Proof.Gen.KvBwdRefIdeal.Run
public import proofs.«01_k».proof.Proof.Gen.KvBwdRefIdeal.Read
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.XattnBwd
public import proofs.«01_k».proof.Proof.Gen.XattnBwd.Frame
public import proofs.«01_k».proof.Proof.Gen.XattnBwdIdeal
public import proofs.«01_k».proof.Proof.Gen.XattnBwdIdeal.Frame
public import proofs.«01_k».proof.Proof.Gen.XattnBwdIdeal.Value
public import proofs.«01_k».proof.Proof.Gen.XattnBwdRefIdeal
public import proofs.«01_k».proof.Proof.Gen.XattnBwdRefIdeal.Run
public import proofs.«01_k».proof.Proof.Gen.XattnBwdRefIdeal.Read
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.FfnLoss
public import proofs.«01_k».proof.Proof.Gen.FfnLoss.Frame
public import proofs.«01_k».proof.Proof.Gen.FfnLossIdeal
public import proofs.«01_k».proof.Proof.Gen.FfnLossIdeal.Frame
public import proofs.«01_k».proof.Proof.Gen.FfnLossIdeal.Value
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.Gen.XattnFwd
public import proofs.«01_k».proof.Proof.Gen.XattnFwd.Frame
public import proofs.«01_k».proof.Proof.Gen.XattnFwdIdeal
public import proofs.«01_k».proof.Proof.Gen.XattnFwdIdeal.Frame
public import proofs.«01_k».proof.Proof.Gen.XattnFwdIdeal.Value
public import proofs.«01_k».proof.Proof.Gen.XattnFwdRefIdeal
public import proofs.«01_k».proof.Proof.Gen.XattnFwdRefIdeal.Run
public import proofs.«01_k».proof.Proof.Gen.XattnFwdRefIdeal.Read
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.KvProjRefIdeal.Read
public import proofs.«01_k».proof.Proof.Gen.FfnHidden
public import proofs.«01_k».proof.Proof.Gen.FfnHidden.Frame
public import proofs.«01_k».proof.Proof.Gen.FfnHiddenIdeal
public import proofs.«01_k».proof.Proof.Gen.FfnHiddenIdeal.Frame
public import proofs.«01_k».proof.Proof.Gen.FfnHiddenIdeal.Value
public import proofs.«01_k».proof.Proof.Gen.FfnHiddenRefIdeal
public import proofs.«01_k».proof.Proof.Gen.FfnHiddenRefIdeal.Run
public import proofs.«01_k».proof.Proof.Gen.FfnHiddenRefIdeal.Read
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.MixBwd
public import proofs.«01_k».proof.Proof.GateFrame
public import proofs.«01_k».proof.Proof.Gen.MixBwdIdeal
public import proofs.«01_k».proof.Proof.GateRows
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.Gen.Pre_finite_mixin
public import proofs.«01_k».proof.Proof.Gen.Pre_finite_xattn
public import proofs.«01_k».proof.Proof.Gen.Pre_finite_ffn
public import proofs.«01_k».proof.Proof.Gen.Pre_finite_loss
public import proofs.«01_k».proof.Proof.KvClaim
public import proofs.«01_k».proof.Proof.MixInClaim
public import proofs.«01_k».proof.Proof.XattnClaim
public import proofs.«01_k».proof.Proof.FfnClaim
public import proofs.«01_k».proof.Proof.LossClaim
public import proofs.«01_k».proof.Proof.XattnFwdClaim
public import proofs.«01_k».proof.Proof.KvProjClaim
public import proofs.«01_k».proof.Proof.HiddenClaim
public import proofs.«01_k».proof.Proof.MixFwdClaim
public import proofs.«01_k».proof.Proof.GateClaim
public import Idealize.ShloMosaic.Adequacy
public import Idealize.ShloMosaic.Init
public import Idealize.ShloMosaic.Lib.Claim

@[expose] public section

noncomputable section

namespace Cert.Proof

open Idealize.ShloMosaic Idealize.SL.Sem

/-- Every claim of the certificate. -/
theorem claim : Cert.Claim := ⟨
  Cert.KvBwd.Gen.facts, Cert.KvBwdIdeal.Gen.facts, Cert.KvBwdRefIdeal.Gen.facts, Cert.MixIn.Gen.facts, Cert.MixInIdeal.Gen.facts, Cert.MixInRefIdeal.Gen.facts, Cert.XattnBwd.Gen.facts, Cert.XattnBwdIdeal.Gen.facts, Cert.XattnBwdRefIdeal.Gen.facts, Cert.FfnBwd.Gen.facts, Cert.FfnBwdIdeal.Gen.facts, Cert.FfnBwdRefIdeal.Gen.facts, Cert.FfnLoss.Gen.facts, Cert.FfnLossIdeal.Gen.facts, Cert.FfnLossRefIdeal.Gen.facts, Cert.XattnFwd.Gen.facts, Cert.XattnFwdIdeal.Gen.facts, Cert.XattnFwdRefIdeal.Gen.facts, Cert.KvProj.Gen.facts, Cert.KvProjIdeal.Gen.facts, Cert.KvProjRefIdeal.Gen.facts, Cert.FfnHidden.Gen.facts, Cert.FfnHiddenIdeal.Gen.facts, Cert.FfnHiddenRefIdeal.Gen.facts, Cert.MixFwd.Gen.facts, Cert.MixFwdIdeal.Gen.facts, Cert.MixFwdRefIdeal.Gen.facts, Cert.MixBwd.Gen.facts, Cert.MixBwdIdeal.Gen.facts, Cert.MixBwdRefIdeal.Gen.facts, Cert.Pre_finite_mixin.Gen.facts, Cert.Pre_finite_xattn.Gen.facts, Cert.Pre_finite_ffn.Gen.facts, Cert.Pre_finite_loss.Gen.facts,
  fun m ρ _ => Cert.KvBwd.Gen.frame m ρ,
  fun m ρ _ => Cert.KvBwdIdeal.Gen.frame m ρ,
  frame_kv_ref,
  fun m ρ _ => Cert.MixIn.Gen.frame m ρ,
  fun m ρ _ => Cert.MixInIdeal.Gen.frame m ρ,
  fun m ρ _ => Cert.MixInIdeal.Gen.frame m ρ,
  frame_mixin_ref,
  fun m ρ _ => frame_mixin_ref m ρ trivial,
  fun m ρ _ => Cert.XattnBwd.Gen.frame m ρ,
  fun m ρ _ => Cert.XattnBwdIdeal.Gen.frame m ρ,
  fun m ρ _ => Cert.XattnBwdIdeal.Gen.frame m ρ,
  frame_xattn_ref,
  fun m ρ _ => frame_xattn_ref m ρ trivial,
  fun m ρ _ => Cert.FfnBwd.Gen.frame m ρ,
  fun m ρ _ => Cert.FfnBwdIdeal.Gen.frame m ρ,
  fun m ρ _ => Cert.FfnBwdIdeal.Gen.frame m ρ,
  frame_ffn_ref,
  fun m ρ _ => frame_ffn_ref m ρ trivial,
  fun m ρ _ => Cert.FfnLoss.Gen.frame m ρ,
  fun m ρ _ => Cert.FfnLossIdeal.Gen.frame m ρ,
  fun m ρ _ => Cert.FfnLossIdeal.Gen.frame m ρ,
  frame_loss_ref,
  fun m ρ _ => frame_loss_ref m ρ trivial,
  fun m ρ _ => Cert.XattnFwd.Gen.frame m ρ,
  fun m ρ _ => Cert.XattnFwdIdeal.Gen.frame m ρ,
  frame_xfwd_ref,
  fun m ρ _ => Cert.KvProj.Gen.frame m ρ,
  fun m ρ _ => Cert.KvProjIdeal.Gen.frame m ρ,
  frame_kvp_ref,
  fun m ρ _ => Cert.FfnHidden.Gen.frame m ρ,
  fun m ρ _ => Cert.FfnHiddenIdeal.Gen.frame m ρ,
  frame_hid_ref,
  fun m ρ _ => Cert.MixFwd.Gen.frame m ρ,
  fun m ρ _ => Cert.MixFwdIdeal.Gen.frame m ρ,
  frame_mfwd_ref,
  fun m ρ _ => Cert.MixBwd.Gate.frame m ρ,
  fun m ρ _ => Cert.MixBwdIdeal.Gate.frame m ρ,
  frame_mix_ref,
  trivial,
  algebraic_kv,
  trivial,
  algebraic_mixin,
  trivial,
  algebraic_xattn,
  trivial,
  algebraic_ffn,
  trivial,
  algebraic_loss,
  trivial,
  algebraic_xfwd,
  trivial,
  algebraic_kvp,
  trivial,
  algebraic_hid,
  trivial,
  algebraic_mfwd,
  preserves_mix,
  algebraic_mix⟩

end Cert.Proof

end
